-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def Pre_Kernel51 (m : (ℓ : Loc Cert.Kernel51.nD Cert.Kernel51.τ Cert.Kernel51.sig) → Buf (Elt Bits) ℓ) : Prop :=
  True

def Pre_Kernel51Ideal (m : (ℓ : Loc Cert.Kernel51Ideal.nD Cert.Kernel51Ideal.τ Cert.Kernel51Ideal.sig) → Buf (Elt Ideal) ℓ) : Prop :=
  True

def Pre_Reference51Ideal (m : (ℓ : Loc Cert.Reference51Ideal.nD Cert.Reference51Ideal.τ Cert.Reference51Ideal.sig) → Buf (Elt Ideal) ℓ) : Prop :=
  True

def Pre_Kernel52 (m : (ℓ : Loc Cert.Kernel52.nD Cert.Kernel52.τ Cert.Kernel52.sig) → Buf (Elt Bits) ℓ) : Prop :=
  True

def Pre_Kernel52Ideal (m : (ℓ : Loc Cert.Kernel52Ideal.nD Cert.Kernel52Ideal.τ Cert.Kernel52Ideal.sig) → Buf (Elt Ideal) ℓ) : Prop :=
  True

def Pre_Reference52Ideal (m : (ℓ : Loc Cert.Reference52Ideal.nD Cert.Reference52Ideal.τ Cert.Reference52Ideal.sig) → Buf (Elt Ideal) ℓ) : Prop :=
  True

def Pre_Kernel53 (m : (ℓ : Loc Cert.Kernel53.nD Cert.Kernel53.τ Cert.Kernel53.sig) → Buf (Elt Bits) ℓ) : Prop :=
  True

def Pre_Kernel53Ideal (m : (ℓ : Loc Cert.Kernel53Ideal.nD Cert.Kernel53Ideal.τ Cert.Kernel53Ideal.sig) → Buf (Elt Ideal) ℓ) : Prop :=
  True

def Pre_Reference53Ideal (m : (ℓ : Loc Cert.Reference53Ideal.nD Cert.Reference53Ideal.τ Cert.Reference53Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3)
      ∧ r.2.mem ((c.tc : Thread Cert.Kernel43.nD Cert.Kernel43.τ).loc Cert.Kernel43.main_arg4) = m ((c.tc : Thread Cert.Kernel43.nD Cert.Kernel43.τ).loc Cert.Kernel43.main_arg4))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3)
      ∧ r.2.mem ((c.tc : Thread Cert.Kernel43Ideal.nD Cert.Kernel43Ideal.τ).loc Cert.Kernel43Ideal.main_arg4) = m ((c.tc : Thread Cert.Kernel43Ideal.nD Cert.Kernel43Ideal.τ).loc Cert.Kernel43Ideal.main_arg4))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3)
      ∧ r.2.mem ((c.tc : Thread Cert.Reference43Ideal.nD Cert.Reference43Ideal.τ).loc Cert.Reference43Ideal.main_arg4) = m ((c.tc : Thread Cert.Reference43Ideal.nD Cert.Reference43Ideal.τ).loc Cert.Reference43Ideal.main_arg4))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0)
      ∧ r.2.mem ((c.tc : Thread Cert.Kernel49.nD Cert.Kernel49.τ).loc Cert.Kernel49.main_arg1) = m ((c.tc : Thread Cert.Kernel49.nD Cert.Kernel49.τ).loc Cert.Kernel49.main_arg1)
      ∧ r.2.mem ((c.tc : Thread Cert.Kernel49.nD Cert.Kernel49.τ).loc Cert.Kernel49.main_arg2) = m ((c.tc : Thread Cert.Kernel49.nD Cert.Kernel49.τ).loc Cert.Kernel49.main_arg2)
      ∧ r.2.mem ((c.tc : Thread Cert.Kernel49.nD Cert.Kernel49.τ).loc Cert.Kernel49.main_arg3) = m ((c.tc : Thread Cert.Kernel49.nD Cert.Kernel49.τ).loc Cert.Kernel49.main_arg3))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
      ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
      ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
      ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0)
      ∧ r.2.mem ((c.tc : Thread Cert.Reference49Ideal.nD Cert.Reference49Ideal.τ).loc Cert.Reference49Ideal.main_arg1) = m ((c.tc : Thread Cert.Reference49Ideal.nD Cert.Reference49Ideal.τ).loc Cert.Reference49Ideal.main_arg1)
      ∧ r.2.mem ((c.tc : Thread Cert.Reference49Ideal.nD Cert.Reference49Ideal.τ).loc Cert.Reference49Ideal.main_arg2) = m ((c.tc : Thread Cert.Reference49Ideal.nD Cert.Reference49Ideal.τ).loc Cert.Reference49Ideal.main_arg2)
      ∧ r.2.mem ((c.tc : Thread Cert.Reference49Ideal.nD Cert.Reference49Ideal.τ).loc Cert.Reference49Ideal.main_arg3) = m ((c.tc : Thread Cert.Reference49Ideal.nD Cert.Reference49Ideal.τ).loc Cert.Reference49Ideal.main_arg3))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1)
      ∧ r.2.mem ((c.tc : Thread Cert.Kernel50.nD Cert.Kernel50.τ).loc Cert.Kernel50.main_arg2) = m ((c.tc : Thread Cert.Kernel50.nD Cert.Kernel50.τ).loc Cert.Kernel50.main_arg2)
      ∧ r.2.mem ((c.tc : Thread Cert.Kernel50.nD Cert.Kernel50.τ).loc Cert.Kernel50.main_arg3) = m ((c.tc : Thread Cert.Kernel50.nD Cert.Kernel50.τ).loc Cert.Kernel50.main_arg3))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
      ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2)
      ∧ r.2.mem ((c.tc : Thread Cert.Kernel50Ideal.nD Cert.Kernel50Ideal.τ).loc Cert.Kernel50Ideal.main_arg3) = m ((c.tc : Thread Cert.Kernel50Ideal.nD Cert.Kernel50Ideal.τ).loc Cert.Kernel50Ideal.main_arg3))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1)
      ∧ r.2.mem ((c.tc : Thread Cert.Reference50Ideal.nD Cert.Reference50Ideal.τ).loc Cert.Reference50Ideal.main_arg2) = m ((c.tc : Thread Cert.Reference50Ideal.nD Cert.Reference50Ideal.τ).loc Cert.Reference50Ideal.main_arg2)
      ∧ r.2.mem ((c.tc : Thread Cert.Reference50Ideal.nD Cert.Reference50Ideal.τ).loc Cert.Reference50Ideal.main_arg3) = m ((c.tc : Thread Cert.Reference50Ideal.nD Cert.Reference50Ideal.τ).loc Cert.Reference50Ideal.main_arg3))
      ∧ r.2.sem = fun _ => 0)

def quiescent_Kernel51 [hKernel51 : Cert.Kernel51.Facts] : Prop :=
  ∀ (m : (ℓ : Loc Cert.Kernel51.nD Cert.Kernel51.τ Cert.Kernel51.sig) → Buf (Elt Bits) ℓ) (g : Dev Cert.Kernel51.nD → PrngReg), Pre_Kernel51 m →
    θ_run (Cert.Kernel51.defs (F := Bits)) (onTc (τ := Cert.Kernel51.τ) (Cert.Kernel51.main (F := Bits))) ⟨m, fun _ => 0, g⟩ (fun r => (∀ c : Dev Cert.Kernel51.nD,
      r.2.mem ((c.tc : Thread Cert.Kernel51.nD Cert.Kernel51.τ).loc Cert.Kernel51.main_arg0) = m ((c.tc : Thread Cert.Kernel51.nD Cert.Kernel51.τ).loc Cert.Kernel51.main_arg0)
      ∧ r.2.mem ((c.tc : Thread Cert.Kernel51.nD Cert.Kernel51.τ).loc Cert.Kernel51.main_arg1) = m ((c.tc : Thread Cert.Kernel51.nD Cert.Kernel51.τ).loc Cert.Kernel51.main_arg1)
      ∧ r.2.mem ((c.tc : Thread Cert.Kernel51.nD Cert.Kernel51.τ).loc Cert.Kernel51.main_arg2) = m ((c.tc : Thread Cert.Kernel51.nD Cert.Kernel51.τ).loc Cert.Kernel51.main_arg2))
      ∧ r.2.sem = fun _ => 0)

def quiescent_Kernel51Ideal [hKernel51Ideal : Cert.Kernel51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg), Pre_Kernel51Ideal m →
    θ_run (Cert.Kernel51Ideal.defs (F := Ideal)) (onTc (τ := Cert.Kernel51Ideal.τ) (Cert.Kernel51Ideal.main (F := Ideal))) ⟨m, fun _ => 0, g⟩ (fun r => (∀ c : Dev Cert.Kernel51Ideal.nD,
      r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
      ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
      ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2))
      ∧ r.2.sem = fun _ => 0)

def quiescent_Reference51Ideal [hReference51Ideal : Cert.Reference51Ideal.Facts] : Prop :=
  ∀ (m : (ℓ : Loc Cert.Reference51Ideal.nD Cert.Reference51Ideal.τ Cert.Reference51Ideal.sig) → Buf (Elt Ideal) ℓ) (g : Dev Cert.Reference51Ideal.nD → PrngReg), Pre_Reference51Ideal m →
    θ_run (Cert.Reference51Ideal.defs (F := Ideal)) (onTc (τ := Cert.Reference51Ideal.τ) (Cert.Reference51Ideal.main (F := Ideal))) ⟨m, fun _ => 0, g⟩ (fun r => (∀ c : Dev Cert.Reference51Ideal.nD,
      r.2.mem ((c.tc : Thread Cert.Reference51Ideal.nD Cert.Reference51Ideal.τ).loc Cert.Reference51Ideal.main_arg0) = m ((c.tc : Thread Cert.Reference51Ideal.nD Cert.Reference51Ideal.τ).loc Cert.Reference51Ideal.main_arg0)
      ∧ r.2.mem ((c.tc : Thread Cert.Reference51Ideal.nD Cert.Reference51Ideal.τ).loc Cert.Reference51Ideal.main_arg1) = m ((c.tc : Thread Cert.Reference51Ideal.nD Cert.Reference51Ideal.τ).loc Cert.Reference51Ideal.main_arg1)
      ∧ r.2.mem ((c.tc : Thread Cert.Reference51Ideal.nD Cert.Reference51Ideal.τ).loc Cert.Reference51Ideal.main_arg2) = m ((c.tc : Thread Cert.Reference51Ideal.nD Cert.Reference51Ideal.τ).loc Cert.Reference51Ideal.main_arg2))
      ∧ r.2.sem = fun _ => 0)

def quiescent_Kernel52 [hKernel52 : Cert.Kernel52.Facts] : Prop :=
  ∀ (m : (ℓ : Loc Cert.Kernel52.nD Cert.Kernel52.τ Cert.Kernel52.sig) → Buf (Elt Bits) ℓ) (g : Dev Cert.Kernel52.nD → PrngReg), Pre_Kernel52 m →
    θ_run (Cert.Kernel52.defs (F := Bits)) (onTc (τ := Cert.Kernel52.τ) (Cert.Kernel52.main (F := Bits))) ⟨m, fun _ => 0, g⟩ (fun r => (∀ c : Dev Cert.Kernel52.nD,
      r.2.mem ((c.tc : Thread Cert.Kernel52.nD Cert.Kernel52.τ).loc Cert.Kernel52.main_arg0) = m ((c.tc : Thread Cert.Kernel52.nD Cert.Kernel52.τ).loc Cert.Kernel52.main_arg0)
      ∧ r.2.mem ((c.tc : Thread Cert.Kernel52.nD Cert.Kernel52.τ).loc Cert.Kernel52.main_arg1) = m ((c.tc : Thread Cert.Kernel52.nD Cert.Kernel52.τ).loc Cert.Kernel52.main_arg1))
      ∧ r.2.sem = fun _ => 0)

def quiescent_Kernel52Ideal [hKernel52Ideal : Cert.Kernel52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg), Pre_Kernel52Ideal m →
    θ_run (Cert.Kernel52Ideal.defs (F := Ideal)) (onTc (τ := Cert.Kernel52Ideal.τ) (Cert.Kernel52Ideal.main (F := Ideal))) ⟨m, fun _ => 0, g⟩ (fun r => (∀ c : Dev Cert.Kernel52Ideal.nD,
      r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
      ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1))
      ∧ r.2.sem = fun _ => 0)

def quiescent_Reference52Ideal [hReference52Ideal : Cert.Reference52Ideal.Facts] : Prop :=
  ∀ (m : (ℓ : Loc Cert.Reference52Ideal.nD Cert.Reference52Ideal.τ Cert.Reference52Ideal.sig) → Buf (Elt Ideal) ℓ) (g : Dev Cert.Reference52Ideal.nD → PrngReg), Pre_Reference52Ideal m →
    θ_run (Cert.Reference52Ideal.defs (F := Ideal)) (onTc (τ := Cert.Reference52Ideal.τ) (Cert.Reference52Ideal.main (F := Ideal))) ⟨m, fun _ => 0, g⟩ (fun r => (∀ c : Dev Cert.Reference52Ideal.nD,
      r.2.mem ((c.tc : Thread Cert.Reference52Ideal.nD Cert.Reference52Ideal.τ).loc Cert.Reference52Ideal.main_arg0) = m ((c.tc : Thread Cert.Reference52Ideal.nD Cert.Reference52Ideal.τ).loc Cert.Reference52Ideal.main_arg0)
      ∧ r.2.mem ((c.tc : Thread Cert.Reference52Ideal.nD Cert.Reference52Ideal.τ).loc Cert.Reference52Ideal.main_arg1) = m ((c.tc : Thread Cert.Reference52Ideal.nD Cert.Reference52Ideal.τ).loc Cert.Reference52Ideal.main_arg1))
      ∧ r.2.sem = fun _ => 0)

def quiescent_Kernel53 [hKernel53 : Cert.Kernel53.Facts] : Prop :=
  ∀ (m : (ℓ : Loc Cert.Kernel53.nD Cert.Kernel53.τ Cert.Kernel53.sig) → Buf (Elt Bits) ℓ) (g : Dev Cert.Kernel53.nD → PrngReg), Pre_Kernel53 m →
    θ_run (Cert.Kernel53.defs (F := Bits)) (onTc (τ := Cert.Kernel53.τ) (Cert.Kernel53.main (F := Bits))) ⟨m, fun _ => 0, g⟩ (fun r => (∀ c : Dev Cert.Kernel53.nD,
      r.2.mem ((c.tc : Thread Cert.Kernel53.nD Cert.Kernel53.τ).loc Cert.Kernel53.main_arg0) = m ((c.tc : Thread Cert.Kernel53.nD Cert.Kernel53.τ).loc Cert.Kernel53.main_arg0)
      ∧ r.2.mem ((c.tc : Thread Cert.Kernel53.nD Cert.Kernel53.τ).loc Cert.Kernel53.main_arg1) = m ((c.tc : Thread Cert.Kernel53.nD Cert.Kernel53.τ).loc Cert.Kernel53.main_arg1)
      ∧ r.2.mem ((c.tc : Thread Cert.Kernel53.nD Cert.Kernel53.τ).loc Cert.Kernel53.main_arg2) = m ((c.tc : Thread Cert.Kernel53.nD Cert.Kernel53.τ).loc Cert.Kernel53.main_arg2)
      ∧ r.2.mem ((c.tc : Thread Cert.Kernel53.nD Cert.Kernel53.τ).loc Cert.Kernel53.main_arg3) = m ((c.tc : Thread Cert.Kernel53.nD Cert.Kernel53.τ).loc Cert.Kernel53.main_arg3))
      ∧ r.2.sem = fun _ => 0)

def quiescent_Kernel53Ideal [hKernel53Ideal : Cert.Kernel53Ideal.Facts] : Prop :=
  ∀ (m : (ℓ : Loc Cert.Kernel53Ideal.nD Cert.Kernel53Ideal.τ Cert.Kernel53Ideal.sig) → Buf (Elt Ideal) ℓ) (g : Dev Cert.Kernel53Ideal.nD → PrngReg), Pre_Kernel53Ideal m →
    θ_run (Cert.Kernel53Ideal.defs (F := Ideal)) (onTc (τ := Cert.Kernel53Ideal.τ) (Cert.Kernel53Ideal.main (F := Ideal))) ⟨m, fun _ => 0, g⟩ (fun r => (∀ c : Dev Cert.Kernel53Ideal.nD,
      r.2.mem ((c.tc : Thread Cert.Kernel53Ideal.nD Cert.Kernel53Ideal.τ).loc Cert.Kernel53Ideal.main_arg0) = m ((c.tc : Thread Cert.Kernel53Ideal.nD Cert.Kernel53Ideal.τ).loc Cert.Kernel53Ideal.main_arg0)
      ∧ r.2.mem ((c.tc : Thread Cert.Kernel53Ideal.nD Cert.Kernel53Ideal.τ).loc Cert.Kernel53Ideal.main_arg1) = m ((c.tc : Thread Cert.Kernel53Ideal.nD Cert.Kernel53Ideal.τ).loc Cert.Kernel53Ideal.main_arg1)
      ∧ r.2.mem ((c.tc : Thread Cert.Kernel53Ideal.nD Cert.Kernel53Ideal.τ).loc Cert.Kernel53Ideal.main_arg2) = m ((c.tc : Thread Cert.Kernel53Ideal.nD Cert.Kernel53Ideal.τ).loc Cert.Kernel53Ideal.main_arg2)
      ∧ r.2.mem ((c.tc : Thread Cert.Kernel53Ideal.nD Cert.Kernel53Ideal.τ).loc Cert.Kernel53Ideal.main_arg3) = m ((c.tc : Thread Cert.Kernel53Ideal.nD Cert.Kernel53Ideal.τ).loc Cert.Kernel53Ideal.main_arg3))
      ∧ r.2.sem = fun _ => 0)

def quiescent_Reference53Ideal [hReference53Ideal : Cert.Reference53Ideal.Facts] : Prop :=
  ∀ (m : (ℓ : Loc Cert.Reference53Ideal.nD Cert.Reference53Ideal.τ Cert.Reference53Ideal.sig) → Buf (Elt Ideal) ℓ) (g : Dev Cert.Reference53Ideal.nD → PrngReg), Pre_Reference53Ideal m →
    θ_run (Cert.Reference53Ideal.defs (F := Ideal)) (onTc (τ := Cert.Reference53Ideal.τ) (Cert.Reference53Ideal.main (F := Ideal))) ⟨m, fun _ => 0, g⟩ (fun r => (∀ c : Dev Cert.Reference53Ideal.nD,
      r.2.mem ((c.tc : Thread Cert.Reference53Ideal.nD Cert.Reference53Ideal.τ).loc Cert.Reference53Ideal.main_arg0) = m ((c.tc : Thread Cert.Reference53Ideal.nD Cert.Reference53Ideal.τ).loc Cert.Reference53Ideal.main_arg0)
      ∧ r.2.mem ((c.tc : Thread Cert.Reference53Ideal.nD Cert.Reference53Ideal.τ).loc Cert.Reference53Ideal.main_arg1) = m ((c.tc : Thread Cert.Reference53Ideal.nD Cert.Reference53Ideal.τ).loc Cert.Reference53Ideal.main_arg1)
      ∧ r.2.mem ((c.tc : Thread Cert.Reference53Ideal.nD Cert.Reference53Ideal.τ).loc Cert.Reference53Ideal.main_arg2) = m ((c.tc : Thread Cert.Reference53Ideal.nD Cert.Reference53Ideal.τ).loc Cert.Reference53Ideal.main_arg2)
      ∧ r.2.mem ((c.tc : Thread Cert.Reference53Ideal.nD Cert.Reference53Ideal.τ).loc Cert.Reference53Ideal.main_arg3) = m ((c.tc : Thread Cert.Reference53Ideal.nD Cert.Reference53Ideal.τ).loc Cert.Reference53Ideal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v13) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v11) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v25) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v9)) (v2 : (c : Dev Cert.Kernel20Ideal.nD) → Buf (Elt Ideal) ((c.tc : Thread Cert.Kernel20Ideal.nD Cert.Kernel20Ideal.τ).loc Cert.Kernel20Ideal.main_v10)) (v3 : (c : Dev Cert.Kernel20Ideal.nD) → Buf (Elt Ideal) ((c.tc : Thread Cert.Kernel20Ideal.nD Cert.Kernel20Ideal.τ).loc Cert.Kernel20Ideal.main_v13)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v9) = v1 c
          ∧ r.2.mem ((c.tc : Thread Cert.Kernel20Ideal.nD Cert.Kernel20Ideal.τ).loc Cert.Kernel20Ideal.main_v10) = v2 c
          ∧ r.2.mem ((c.tc : Thread Cert.Kernel20Ideal.nD Cert.Kernel20Ideal.τ).loc Cert.Kernel20Ideal.main_v13) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v99) = v0 c
          ∧ r.2.mem ((c.tc : Thread Cert.Reference20Ideal.nD Cert.Reference20Ideal.τ).loc Cert.Reference20Ideal.main_v89) = v1 c
          ∧ r.2.mem ((c.tc : Thread Cert.Reference20Ideal.nD Cert.Reference20Ideal.τ).loc Cert.Reference20Ideal.main_v80) = v2 c
          ∧ r.2.mem ((c.tc : Thread Cert.Reference20Ideal.nD Cert.Reference20Ideal.τ).loc Cert.Reference20Ideal.main_v98) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v37) = v0 c
          ∧ r.2.mem ((c.tc : Thread Cert.Reference21Ideal.nD Cert.Reference21Ideal.τ).loc Cert.Reference21Ideal.main_v22) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v9) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v8) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v1)) (v3 : (c : Dev Cert.Kernel27Ideal.nD) → Buf (Elt Ideal) ((c.tc : Thread Cert.Kernel27Ideal.nD Cert.Kernel27Ideal.τ).loc Cert.Kernel27Ideal.main_v2)) (v4 : (c : Dev Cert.Kernel27Ideal.nD) → Buf (Elt Ideal) ((c.tc : Thread Cert.Kernel27Ideal.nD Cert.Kernel27Ideal.τ).loc Cert.Kernel27Ideal.main_v3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v1) = v2 c
          ∧ r.2.mem ((c.tc : Thread Cert.Kernel27Ideal.nD Cert.Kernel27Ideal.τ).loc Cert.Kernel27Ideal.main_v2) = v3 c
          ∧ r.2.mem ((c.tc : Thread Cert.Kernel27Ideal.nD Cert.Kernel27Ideal.τ).loc Cert.Kernel27Ideal.main_v3) = v4 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v37) = v0 c
          ∧ r.2.mem ((c.tc : Thread Cert.Reference27Ideal.nD Cert.Reference27Ideal.τ).loc Cert.Reference27Ideal.main_v82) = v1 c
          ∧ r.2.mem ((c.tc : Thread Cert.Reference27Ideal.nD Cert.Reference27Ideal.τ).loc Cert.Reference27Ideal.main_v22) = v2 c
          ∧ r.2.mem ((c.tc : Thread Cert.Reference27Ideal.nD Cert.Reference27Ideal.τ).loc Cert.Reference27Ideal.main_v64) = v3 c
          ∧ r.2.mem ((c.tc : Thread Cert.Reference27Ideal.nD Cert.Reference27Ideal.τ).loc Cert.Reference27Ideal.main_v81) = v4 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v5) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v5) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v4) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v5) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v4) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v5) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v4) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v2) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v3) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v2) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v2) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v2) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)) →
    ∃ (v0 : (c : Dev Cert.Kernel42Ideal.nD) → Buf (Elt Ideal) ((c.tc : Thread Cert.Kernel42Ideal.nD Cert.Kernel42Ideal.τ).loc Cert.Kernel42Ideal.main_v0_0)) (v1 : (c : Dev Cert.Kernel42Ideal.nD) → Buf (Elt Ideal) ((c.tc : Thread Cert.Kernel42Ideal.nD Cert.Kernel42Ideal.τ).loc Cert.Kernel42Ideal.main_v0_1)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0_0) = v0 c
          ∧ r.2.mem ((c.tc : Thread Cert.Kernel42Ideal.nD Cert.Kernel42Ideal.τ).loc Cert.Kernel42Ideal.main_v0_1) = v1 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v14) = v0 c
          ∧ r.2.mem ((c.tc : Thread Cert.Reference42Ideal.nD Cert.Reference42Ideal.τ).loc Cert.Reference42Ideal.main_v29) = v1 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)
      ∧ m' ((c.tc : Thread Cert.Reference43Ideal.nD Cert.Reference43Ideal.τ).loc Cert.Reference43Ideal.main_arg4) = m ((c.tc : Thread Cert.Kernel43Ideal.nD Cert.Kernel43Ideal.τ).loc Cert.Kernel43Ideal.main_arg4)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3)
          ∧ r.2.mem ((c.tc : Thread Cert.Kernel43Ideal.nD Cert.Kernel43Ideal.τ).loc Cert.Kernel43Ideal.main_arg4) = m ((c.tc : Thread Cert.Kernel43Ideal.nD Cert.Kernel43Ideal.τ).loc Cert.Kernel43Ideal.main_arg4))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v18) = v0 c
          ∧ r.2.mem ((c.tc : Thread Cert.Reference43Ideal.nD Cert.Reference43Ideal.τ).loc Cert.Reference43Ideal.main_v33) = v1 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3)
          ∧ r.2.mem ((c.tc : Thread Cert.Reference43Ideal.nD Cert.Reference43Ideal.τ).loc Cert.Reference43Ideal.main_arg4) = m' ((c.tc : Thread Cert.Reference43Ideal.nD Cert.Reference43Ideal.τ).loc Cert.Reference43Ideal.main_arg4))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v14) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v14) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)) →
    ∃ (v0 : (c : Dev Cert.Kernel46Ideal.nD) → Buf (Elt Ideal) ((c.tc : Thread Cert.Kernel46Ideal.nD Cert.Kernel46Ideal.τ).loc Cert.Kernel46Ideal.main_v0)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v14) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)) →
    ∃ (v0 : (c : Dev Cert.Kernel47Ideal.nD) → Buf (Elt Ideal) ((c.tc : Thread Cert.Kernel47Ideal.nD Cert.Kernel47Ideal.τ).loc Cert.Kernel47Ideal.main_v0)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v1) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)) →
    ∃ (v0 : (c : Dev Cert.Kernel48Ideal.nD) → Buf (Elt Ideal) ((c.tc : Thread Cert.Kernel48Ideal.nD Cert.Kernel48Ideal.τ).loc Cert.Kernel48Ideal.main_v0)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v0) = v0 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v6) = v0 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0))

def preserves_Kernel49_Kernel49Ideal : Prop :=
  True

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)
      ∧ m' ((c.tc : Thread Cert.Reference49Ideal.nD Cert.Reference49Ideal.τ).loc Cert.Reference49Ideal.main_arg1) = m ((c.tc : Thread Cert.Kernel49Ideal.nD Cert.Kernel49Ideal.τ).loc Cert.Kernel49Ideal.main_arg1)
      ∧ m' ((c.tc : Thread Cert.Reference49Ideal.nD Cert.Reference49Ideal.τ).loc Cert.Reference49Ideal.main_arg2) = m ((c.tc : Thread Cert.Kernel49Ideal.nD Cert.Kernel49Ideal.τ).loc Cert.Kernel49Ideal.main_arg2)
      ∧ m' ((c.tc : Thread Cert.Reference49Ideal.nD Cert.Reference49Ideal.τ).loc Cert.Reference49Ideal.main_arg3) = m ((c.tc : Thread Cert.Kernel49Ideal.nD Cert.Kernel49Ideal.τ).loc Cert.Kernel49Ideal.main_arg3)) →
    ∃ (v0 : (c : Dev Cert.Kernel49Ideal.nD) → Buf (Elt Ideal) ((c.tc : Thread Cert.Kernel49Ideal.nD Cert.Kernel49Ideal.τ).loc Cert.Kernel49Ideal.main_v0_0)) (v1 : (c : Dev Cert.Kernel49Ideal.nD) → Buf (Elt Ideal) ((c.tc : Thread Cert.Kernel49Ideal.nD Cert.Kernel49Ideal.τ).loc Cert.Kernel49Ideal.main_v2)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v0_0) = v0 c
          ∧ r.2.mem ((c.tc : Thread Cert.Kernel49Ideal.nD Cert.Kernel49Ideal.τ).loc Cert.Kernel49Ideal.main_v2) = v1 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
          ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
          ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
          ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v29) = v0 c
          ∧ r.2.mem ((c.tc : Thread Cert.Reference49Ideal.nD Cert.Reference49Ideal.τ).loc Cert.Reference49Ideal.main_v23) = v1 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0)
          ∧ r.2.mem ((c.tc : Thread Cert.Reference49Ideal.nD Cert.Reference49Ideal.τ).loc Cert.Reference49Ideal.main_arg1) = m' ((c.tc : Thread Cert.Reference49Ideal.nD Cert.Reference49Ideal.τ).loc Cert.Reference49Ideal.main_arg1)
          ∧ r.2.mem ((c.tc : Thread Cert.Reference49Ideal.nD Cert.Reference49Ideal.τ).loc Cert.Reference49Ideal.main_arg2) = m' ((c.tc : Thread Cert.Reference49Ideal.nD Cert.Reference49Ideal.τ).loc Cert.Reference49Ideal.main_arg2)
          ∧ r.2.mem ((c.tc : Thread Cert.Reference49Ideal.nD Cert.Reference49Ideal.τ).loc Cert.Reference49Ideal.main_arg3) = m' ((c.tc : Thread Cert.Reference49Ideal.nD Cert.Reference49Ideal.τ).loc Cert.Reference49Ideal.main_arg3))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)
      ∧ m' ((c.tc : Thread Cert.Reference50Ideal.nD Cert.Reference50Ideal.τ).loc Cert.Reference50Ideal.main_arg2) = m ((c.tc : Thread Cert.Kernel50Ideal.nD Cert.Kernel50Ideal.τ).loc Cert.Kernel50Ideal.main_arg2)
      ∧ m' ((c.tc : Thread Cert.Reference50Ideal.nD Cert.Reference50Ideal.τ).loc Cert.Reference50Ideal.main_arg3) = m ((c.tc : Thread Cert.Kernel50Ideal.nD Cert.Kernel50Ideal.τ).loc Cert.Kernel50Ideal.main_arg3)) →
    ∃ (v0 : (c : Dev Cert.Kernel50Ideal.nD) → Buf (Elt Ideal) ((c.tc : Thread Cert.Kernel50Ideal.nD Cert.Kernel50Ideal.τ).loc Cert.Kernel50Ideal.main_v1)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v1) = v0 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1)
          ∧ r.2.mem ((c.tc : Thread Cert.Kernel50Ideal.nD Cert.Kernel50Ideal.τ).loc Cert.Kernel50Ideal.main_arg2) = m ((c.tc : Thread Cert.Kernel50Ideal.nD Cert.Kernel50Ideal.τ).loc Cert.Kernel50Ideal.main_arg2)
          ∧ r.2.mem ((c.tc : Thread Cert.Kernel50Ideal.nD Cert.Kernel50Ideal.τ).loc Cert.Kernel50Ideal.main_arg3) = m ((c.tc : Thread Cert.Kernel50Ideal.nD Cert.Kernel50Ideal.τ).loc Cert.Kernel50Ideal.main_arg3))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v18) = v0 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1)
          ∧ r.2.mem ((c.tc : Thread Cert.Reference50Ideal.nD Cert.Reference50Ideal.τ).loc Cert.Reference50Ideal.main_arg2) = m' ((c.tc : Thread Cert.Reference50Ideal.nD Cert.Reference50Ideal.τ).loc Cert.Reference50Ideal.main_arg2)
          ∧ r.2.mem ((c.tc : Thread Cert.Reference50Ideal.nD Cert.Reference50Ideal.τ).loc Cert.Reference50Ideal.main_arg3) = m' ((c.tc : Thread Cert.Reference50Ideal.nD Cert.Reference50Ideal.τ).loc Cert.Reference50Ideal.main_arg3))

def preserves_Kernel51_Kernel51Ideal : Prop :=
  True

def algebraic_Kernel51Ideal_Reference51Ideal [hKernel51Ideal : Cert.Kernel51Ideal.Facts] [hReference51Ideal : Cert.Reference51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg)
    (m' : (ℓ : Loc Cert.Reference51Ideal.nD Cert.Reference51Ideal.τ Cert.Reference51Ideal.sig) → Buf (Elt Ideal) ℓ) (g' : Dev Cert.Reference51Ideal.nD → PrngReg), Pre_Kernel51Ideal m →
    (∀ c : Dev Cert.Kernel51Ideal.nD,
      m' ((c.tc : Thread Cert.Reference51Ideal.nD Cert.Reference51Ideal.τ).loc Cert.Reference51Ideal.main_arg0) = m ((c.tc : Thread Cert.Kernel51Ideal.nD Cert.Kernel51Ideal.τ).loc Cert.Kernel51Ideal.main_arg0)
      ∧ m' ((c.tc : Thread Cert.Reference51Ideal.nD Cert.Reference51Ideal.τ).loc Cert.Reference51Ideal.main_arg1) = m ((c.tc : Thread Cert.Kernel51Ideal.nD Cert.Kernel51Ideal.τ).loc Cert.Kernel51Ideal.main_arg1)
      ∧ m' ((c.tc : Thread Cert.Reference51Ideal.nD Cert.Reference51Ideal.τ).loc Cert.Reference51Ideal.main_arg2) = m ((c.tc : Thread Cert.Kernel51Ideal.nD Cert.Kernel51Ideal.τ).loc Cert.Kernel51Ideal.main_arg2)) →
    ∃ (v0 : (c : Dev Cert.Kernel51Ideal.nD) → Buf (Elt Ideal) ((c.tc : Thread Cert.Kernel51Ideal.nD Cert.Kernel51Ideal.τ).loc Cert.Kernel51Ideal.main_v0_0)) (v1 : (c : Dev Cert.Kernel51Ideal.nD) → Buf (Elt Ideal) ((c.tc : Thread Cert.Kernel51Ideal.nD Cert.Kernel51Ideal.τ).loc Cert.Kernel51Ideal.main_v1)) (v2 : (c : Dev Cert.Kernel51Ideal.nD) → Buf (Elt Ideal) ((c.tc : Thread Cert.Kernel51Ideal.nD Cert.Kernel51Ideal.τ).loc Cert.Kernel51Ideal.main_v2)),
      θ_run (Cert.Kernel51Ideal.defs (F := Ideal)) (onTc (τ := Cert.Kernel51Ideal.τ) (Cert.Kernel51Ideal.main (F := Ideal))) ⟨m, fun _ => 0, g⟩ (fun r => ∀ c : Dev Cert.Kernel51Ideal.nD,
          r.2.mem ((c.tc : Thread Cert.Kernel51Ideal.nD Cert.Kernel51Ideal.τ).loc Cert.Kernel51Ideal.main_v0_0) = v0 c
          ∧ r.2.mem ((c.tc : Thread Cert.Kernel51Ideal.nD Cert.Kernel51Ideal.τ).loc Cert.Kernel51Ideal.main_v1) = v1 c
          ∧ r.2.mem ((c.tc : Thread Cert.Kernel51Ideal.nD Cert.Kernel51Ideal.τ).loc Cert.Kernel51Ideal.main_v2) = v2 c
          ∧ r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
          ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
          ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2))
      ∧ θ_run (Cert.Reference51Ideal.defs (F := Ideal)) (onTc (τ := Cert.Reference51Ideal.τ) (Cert.Reference51Ideal.main (F := Ideal))) ⟨m', fun _ => 0, g'⟩ (fun r => ∀ c : Dev Cert.Reference51Ideal.nD,
          r.2.mem ((c.tc : Thread Cert.Reference51Ideal.nD Cert.Reference51Ideal.τ).loc Cert.Reference51Ideal.main_v44) = v0 c
          ∧ r.2.mem ((c.tc : Thread Cert.Reference51Ideal.nD Cert.Reference51Ideal.τ).loc Cert.Reference51Ideal.main_v26) = v1 c
          ∧ r.2.mem ((c.tc : Thread Cert.Reference51Ideal.nD Cert.Reference51Ideal.τ).loc Cert.Reference51Ideal.main_v43) = v2 c
          ∧ r.2.mem ((c.tc : Thread Cert.Reference51Ideal.nD Cert.Reference51Ideal.τ).loc Cert.Reference51Ideal.main_arg0) = m' ((c.tc : Thread Cert.Reference51Ideal.nD Cert.Reference51Ideal.τ).loc Cert.Reference51Ideal.main_arg0)
          ∧ r.2.mem ((c.tc : Thread Cert.Reference51Ideal.nD Cert.Reference51Ideal.τ).loc Cert.Reference51Ideal.main_arg1) = m' ((c.tc : Thread Cert.Reference51Ideal.nD Cert.Reference51Ideal.τ).loc Cert.Reference51Ideal.main_arg1)
          ∧ r.2.mem ((c.tc : Thread Cert.Reference51Ideal.nD Cert.Reference51Ideal.τ).loc Cert.Reference51Ideal.main_arg2) = m' ((c.tc : Thread Cert.Reference51Ideal.nD Cert.Reference51Ideal.τ).loc Cert.Reference51Ideal.main_arg2))

def preserves_Kernel52_Kernel52Ideal : Prop :=
  True

def algebraic_Kernel52Ideal_Reference52Ideal [hKernel52Ideal : Cert.Kernel52Ideal.Facts] [hReference52Ideal : Cert.Reference52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg)
    (m' : (ℓ : Loc Cert.Reference52Ideal.nD Cert.Reference52Ideal.τ Cert.Reference52Ideal.sig) → Buf (Elt Ideal) ℓ) (g' : Dev Cert.Reference52Ideal.nD → PrngReg), Pre_Kernel52Ideal m →
    (∀ c : Dev Cert.Kernel52Ideal.nD,
      m' ((c.tc : Thread Cert.Reference52Ideal.nD Cert.Reference52Ideal.τ).loc Cert.Reference52Ideal.main_arg0) = m ((c.tc : Thread Cert.Kernel52Ideal.nD Cert.Kernel52Ideal.τ).loc Cert.Kernel52Ideal.main_arg0)
      ∧ m' ((c.tc : Thread Cert.Reference52Ideal.nD Cert.Reference52Ideal.τ).loc Cert.Reference52Ideal.main_arg1) = m ((c.tc : Thread Cert.Kernel52Ideal.nD Cert.Kernel52Ideal.τ).loc Cert.Kernel52Ideal.main_arg1)) →
    ∃ (v0 : (c : Dev Cert.Kernel52Ideal.nD) → Buf (Elt Ideal) ((c.tc : Thread Cert.Kernel52Ideal.nD Cert.Kernel52Ideal.τ).loc Cert.Kernel52Ideal.main_v7)),
      θ_run (Cert.Kernel52Ideal.defs (F := Ideal)) (onTc (τ := Cert.Kernel52Ideal.τ) (Cert.Kernel52Ideal.main (F := Ideal))) ⟨m, fun _ => 0, g⟩ (fun r => ∀ c : Dev Cert.Kernel52Ideal.nD,
          r.2.mem ((c.tc : Thread Cert.Kernel52Ideal.nD Cert.Kernel52Ideal.τ).loc Cert.Kernel52Ideal.main_v7) = v0 c
          ∧ r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
          ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1))
      ∧ θ_run (Cert.Reference52Ideal.defs (F := Ideal)) (onTc (τ := Cert.Reference52Ideal.τ) (Cert.Reference52Ideal.main (F := Ideal))) ⟨m', fun _ => 0, g'⟩ (fun r => ∀ c : Dev Cert.Reference52Ideal.nD,
          r.2.mem ((c.tc : Thread Cert.Reference52Ideal.nD Cert.Reference52Ideal.τ).loc Cert.Reference52Ideal.main_v10) = v0 c
          ∧ r.2.mem ((c.tc : Thread Cert.Reference52Ideal.nD Cert.Reference52Ideal.τ).loc Cert.Reference52Ideal.main_arg0) = m' ((c.tc : Thread Cert.Reference52Ideal.nD Cert.Reference52Ideal.τ).loc Cert.Reference52Ideal.main_arg0)
          ∧ r.2.mem ((c.tc : Thread Cert.Reference52Ideal.nD Cert.Reference52Ideal.τ).loc Cert.Reference52Ideal.main_arg1) = m' ((c.tc : Thread Cert.Reference52Ideal.nD Cert.Reference52Ideal.τ).loc Cert.Reference52Ideal.main_arg1))

def preserves_Kernel53_Kernel53Ideal : Prop :=
  True

def algebraic_Kernel53Ideal_Reference53Ideal [hKernel53Ideal : Cert.Kernel53Ideal.Facts] [hReference53Ideal : Cert.Reference53Ideal.Facts] : Prop :=
  ∀ (m : (ℓ : Loc Cert.Kernel53Ideal.nD Cert.Kernel53Ideal.τ Cert.Kernel53Ideal.sig) → Buf (Elt Ideal) ℓ) (g : Dev Cert.Kernel53Ideal.nD → PrngReg)
    (m' : (ℓ : Loc Cert.Reference53Ideal.nD Cert.Reference53Ideal.τ Cert.Reference53Ideal.sig) → Buf (Elt Ideal) ℓ) (g' : Dev Cert.Reference53Ideal.nD → PrngReg), Pre_Kernel53Ideal m →
    (∀ c : Dev Cert.Kernel53Ideal.nD,
      m' ((c.tc : Thread Cert.Reference53Ideal.nD Cert.Reference53Ideal.τ).loc Cert.Reference53Ideal.main_arg0) = m ((c.tc : Thread Cert.Kernel53Ideal.nD Cert.Kernel53Ideal.τ).loc Cert.Kernel53Ideal.main_arg0)
      ∧ m' ((c.tc : Thread Cert.Reference53Ideal.nD Cert.Reference53Ideal.τ).loc Cert.Reference53Ideal.main_arg1) = m ((c.tc : Thread Cert.Kernel53Ideal.nD Cert.Kernel53Ideal.τ).loc Cert.Kernel53Ideal.main_arg1)
      ∧ m' ((c.tc : Thread Cert.Reference53Ideal.nD Cert.Reference53Ideal.τ).loc Cert.Reference53Ideal.main_arg2) = m ((c.tc : Thread Cert.Kernel53Ideal.nD Cert.Kernel53Ideal.τ).loc Cert.Kernel53Ideal.main_arg2)
      ∧ m' ((c.tc : Thread Cert.Reference53Ideal.nD Cert.Reference53Ideal.τ).loc Cert.Reference53Ideal.main_arg3) = m ((c.tc : Thread Cert.Kernel53Ideal.nD Cert.Kernel53Ideal.τ).loc Cert.Kernel53Ideal.main_arg3)) →
    ∃ (v0 : (c : Dev Cert.Kernel53Ideal.nD) → Buf (Elt Ideal) ((c.tc : Thread Cert.Kernel53Ideal.nD Cert.Kernel53Ideal.τ).loc Cert.Kernel53Ideal.main_v0)),
      θ_run (Cert.Kernel53Ideal.defs (F := Ideal)) (onTc (τ := Cert.Kernel53Ideal.τ) (Cert.Kernel53Ideal.main (F := Ideal))) ⟨m, fun _ => 0, g⟩ (fun r => ∀ c : Dev Cert.Kernel53Ideal.nD,
          r.2.mem ((c.tc : Thread Cert.Kernel53Ideal.nD Cert.Kernel53Ideal.τ).loc Cert.Kernel53Ideal.main_v0) = v0 c
          ∧ r.2.mem ((c.tc : Thread Cert.Kernel53Ideal.nD Cert.Kernel53Ideal.τ).loc Cert.Kernel53Ideal.main_arg0) = m ((c.tc : Thread Cert.Kernel53Ideal.nD Cert.Kernel53Ideal.τ).loc Cert.Kernel53Ideal.main_arg0)
          ∧ r.2.mem ((c.tc : Thread Cert.Kernel53Ideal.nD Cert.Kernel53Ideal.τ).loc Cert.Kernel53Ideal.main_arg1) = m ((c.tc : Thread Cert.Kernel53Ideal.nD Cert.Kernel53Ideal.τ).loc Cert.Kernel53Ideal.main_arg1)
          ∧ r.2.mem ((c.tc : Thread Cert.Kernel53Ideal.nD Cert.Kernel53Ideal.τ).loc Cert.Kernel53Ideal.main_arg2) = m ((c.tc : Thread Cert.Kernel53Ideal.nD Cert.Kernel53Ideal.τ).loc Cert.Kernel53Ideal.main_arg2)
          ∧ r.2.mem ((c.tc : Thread Cert.Kernel53Ideal.nD Cert.Kernel53Ideal.τ).loc Cert.Kernel53Ideal.main_arg3) = m ((c.tc : Thread Cert.Kernel53Ideal.nD Cert.Kernel53Ideal.τ).loc Cert.Kernel53Ideal.main_arg3))
      ∧ θ_run (Cert.Reference53Ideal.defs (F := Ideal)) (onTc (τ := Cert.Reference53Ideal.τ) (Cert.Reference53Ideal.main (F := Ideal))) ⟨m', fun _ => 0, g'⟩ (fun r => ∀ c : Dev Cert.Reference53Ideal.nD,
          r.2.mem ((c.tc : Thread Cert.Reference53Ideal.nD Cert.Reference53Ideal.τ).loc Cert.Reference53Ideal.main_v42) = v0 c
          ∧ r.2.mem ((c.tc : Thread Cert.Reference53Ideal.nD Cert.Reference53Ideal.τ).loc Cert.Reference53Ideal.main_arg0) = m' ((c.tc : Thread Cert.Reference53Ideal.nD Cert.Reference53Ideal.τ).loc Cert.Reference53Ideal.main_arg0)
          ∧ r.2.mem ((c.tc : Thread Cert.Reference53Ideal.nD Cert.Reference53Ideal.τ).loc Cert.Reference53Ideal.main_arg1) = m' ((c.tc : Thread Cert.Reference53Ideal.nD Cert.Reference53Ideal.τ).loc Cert.Reference53Ideal.main_arg1)
          ∧ r.2.mem ((c.tc : Thread Cert.Reference53Ideal.nD Cert.Reference53Ideal.τ).loc Cert.Reference53Ideal.main_arg2) = m' ((c.tc : Thread Cert.Reference53Ideal.nD Cert.Reference53Ideal.τ).loc Cert.Reference53Ideal.main_arg2)
          ∧ r.2.mem ((c.tc : Thread Cert.Reference53Ideal.nD Cert.Reference53Ideal.τ).loc Cert.Reference53Ideal.main_arg3) = m' ((c.tc : Thread Cert.Reference53Ideal.nD Cert.Reference53Ideal.τ).loc Cert.Reference53Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hKernel49 : Cert.Kernel49.Facts) (hKernel49Ideal : Cert.Kernel49Ideal.Facts) (hReference49Ideal : Cert.Reference49Ideal.Facts) (hKernel50 : Cert.Kernel50.Facts) (hKernel50Ideal : Cert.Kernel50Ideal.Facts) (hReference50Ideal : Cert.Reference50Ideal.Facts) (hKernel51 : Cert.Kernel51.Facts) (hKernel51Ideal : Cert.Kernel51Ideal.Facts) (hReference51Ideal : Cert.Reference51Ideal.Facts) (hKernel52 : Cert.Kernel52.Facts) (hKernel52Ideal : Cert.Kernel52Ideal.Facts) (hReference52Ideal : Cert.Reference52Ideal.Facts) (hKernel53 : Cert.Kernel53.Facts) (hKernel53Ideal : Cert.Kernel53Ideal.Facts) (hReference53Ideal : Cert.Reference53Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ quiescent_Kernel49 (hKernel49 := hKernel49)
    ∧ quiescent_Kernel49Ideal (hKernel49Ideal := hKernel49Ideal)
    ∧ quiescent_Reference49Ideal (hReference49Ideal := hReference49Ideal)
    ∧ quiescent_Kernel50 (hKernel50 := hKernel50)
    ∧ quiescent_Kernel50Ideal (hKernel50Ideal := hKernel50Ideal)
    ∧ quiescent_Reference50Ideal (hReference50Ideal := hReference50Ideal)
    ∧ quiescent_Kernel51 (hKernel51 := hKernel51)
    ∧ quiescent_Kernel51Ideal (hKernel51Ideal := hKernel51Ideal)
    ∧ quiescent_Reference51Ideal (hReference51Ideal := hReference51Ideal)
    ∧ quiescent_Kernel52 (hKernel52 := hKernel52)
    ∧ quiescent_Kernel52Ideal (hKernel52Ideal := hKernel52Ideal)
    ∧ quiescent_Reference52Ideal (hReference52Ideal := hReference52Ideal)
    ∧ quiescent_Kernel53 (hKernel53 := hKernel53)
    ∧ quiescent_Kernel53Ideal (hKernel53Ideal := hKernel53Ideal)
    ∧ quiescent_Reference53Ideal (hReference53Ideal := hReference53Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
    ∧ preserves_Kernel49_Kernel49Ideal
    ∧ algebraic_Kernel49Ideal_Reference49Ideal (hKernel49Ideal := hKernel49Ideal) (hReference49Ideal := hReference49Ideal)
    ∧ preserves_Kernel50_Kernel50Ideal
    ∧ algebraic_Kernel50Ideal_Reference50Ideal (hKernel50Ideal := hKernel50Ideal) (hReference50Ideal := hReference50Ideal)
    ∧ preserves_Kernel51_Kernel51Ideal
    ∧ algebraic_Kernel51Ideal_Reference51Ideal (hKernel51Ideal := hKernel51Ideal) (hReference51Ideal := hReference51Ideal)
    ∧ preserves_Kernel52_Kernel52Ideal
    ∧ algebraic_Kernel52Ideal_Reference52Ideal (hKernel52Ideal := hKernel52Ideal) (hReference52Ideal := hReference52Ideal)
    ∧ preserves_Kernel53_Kernel53Ideal
    ∧ algebraic_Kernel53Ideal_Reference53Ideal (hKernel53Ideal := hKernel53Ideal) (hReference53Ideal := hReference53Ideal)
-- ==== Pre_finite_qk.lean ====
abbrev S8192x1024 : Shape := ⟨2, ![8192, 1024]⟩
abbrev S1024x2048 : Shape := ⟨2, ![1024, 2048]⟩
abbrev S_ : Shape := ⟨0, ![]⟩
abbrev S1024x1024 : Shape := ⟨2, ![1024, 1024]⟩

class Facts : Prop where
  bcast_S_S8192x1024 : S_.BroadcastsInDim S8192x1024 (![] : Fin 0 → Fin S8192x1024.rank)
  slices_S1024x2048_S1024x1024_0_0 : S1024x2048.Slices ![0, 0] S1024x1024
  bcast_S_S1024x1024 : S_.BroadcastsInDim S1024x1024 (![] : Fin 0 → Fin S1024x1024.rank)

variable [Facts]

def fn {F : FTy → Type} [FloatOps F] (main_arg0 : FVec F S8192x1024 .bf16) (main_arg1 : FVec F S1024x2048 .bf16) (main_arg2 : FVec F S8192x1024 .bf16) : IVec S8192x1024 1 × IVec S1024x1024 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S1024x1024 .bf16 := (extractStridedSlice S1024x1024 ![0, 0] · slices_S1024x2048_S1024x1024_0_0) main_arg1
  let main_v4 : FVec F S1024x1024 .bf16 := Host.absf main_v3
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  (main_v2, main_v6)
-- ==== Kernel.lean ====
abbrev S8192x1024 : Shape := ⟨2, ![8192, 1024]⟩
abbrev S1024x2048 : Shape := ⟨2, ![1024, 2048]⟩
abbrev S1024x1024 : Shape := ⟨2, ![1024, 1024]⟩
abbrev S256x2048 : Shape := ⟨2, ![256, 2048]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .bf16⟩
  | .hbm, ⟨4, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S256x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x2048, .f32⟩
  | .local _ .vmem, ⟨9, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S8192x1024 : Shape := ⟨2, ![8192, 1024]⟩
abbrev S1024x2048 : Shape := ⟨2, ![1024, 2048]⟩
abbrev S4x2048x4x256 : Shape := ⟨4, ![4, 2048, 4, 256]⟩
abbrev S4x256x2x4x256 : Shape := ⟨5, ![4, 256, 2, 4, 256]⟩
abbrev S4x256x1x4x256 : Shape := ⟨5, ![4, 256, 1, 4, 256]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S4x4x256x256 : Shape := ⟨4, ![4, 4, 256, 256]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .f32⟩
  | .hbm, ⟨4, _⟩ => ⟨S1024x2048, .f32⟩
  | .hbm, ⟨5, _⟩ => ⟨S4x2048x4x256, .f32⟩
  | .hbm, ⟨6, _⟩ => ⟨S4x256x2x4x256, .f32⟩
  | .hbm, ⟨7, _⟩ => ⟨S4x256x1x4x256, .f32⟩
  | .hbm, ⟨8, _⟩ => ⟨S4x256x4x256, .f32⟩
  | .hbm, ⟨9, _⟩ => ⟨S4x256x1x4x256, .f32⟩
  | .hbm, ⟨10, _⟩ => ⟨S4x256x4x256, .f32⟩
  | .hbm, ⟨11, _⟩ => ⟨S4x4x2048x256, .f32⟩
  | .hbm, ⟨12, _⟩ => ⟨S_, .f32⟩
  | .hbm, ⟨13, _⟩ => ⟨S4x4x2048x256, .f32⟩
  | .hbm, ⟨14, _⟩ => ⟨S4x4x2048x256, .f32⟩
  | .hbm, ⟨15, _⟩ => ⟨S_, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .i1⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S_, .f32⟩
  | .hbm, ⟨24, _⟩ => ⟨S4x4x2048, .f32⟩
  | .hbm, ⟨25, _⟩ => ⟨S4x4x2048, .f32⟩
  | .hbm, ⟨26, _⟩ => ⟨S_, .f32⟩
  | .hbm, ⟨27, _⟩ => ⟨S4x4x2048, .f32⟩
  | .hbm, ⟨28, _⟩ => ⟨S4x4x2048, .i1⟩
  | .hbm, ⟨29, _⟩ => ⟨S_, .f32⟩
  | .hbm, ⟨30, _⟩ => ⟨S4x4x2048, .f32⟩
  | .hbm, ⟨31, _⟩ => ⟨S4x4x2048, .i1⟩
  | .hbm, ⟨32, _⟩ => ⟨S_, .f32⟩
  | .hbm, ⟨33, _⟩ => ⟨S4x4x2048, .f32⟩
  | .hbm, ⟨34, _⟩ => ⟨S_, .f32⟩
  | .hbm, ⟨35, _⟩ => ⟨S4x4x2048, .f32⟩
  | .hbm, ⟨36, _⟩ => ⟨S_, .f32⟩
  | .hbm, ⟨37, _⟩ => ⟨S4x4x2048, .f32⟩
  | .hbm, ⟨38, _⟩ => ⟨S4x4x2048, .f32⟩
  | .hbm, ⟨39, _⟩ => ⟨S4x4x2048, .f32⟩
  | .hbm, ⟨40, _⟩ => ⟨S4x4x2048x1, .f32⟩
  | .hbm, ⟨41, _⟩ => ⟨S4x4x2048x256, .f32⟩
  | .hbm, ⟨42, _⟩ => ⟨S4x4x2048x256, .f32⟩
  | .hbm, ⟨43, _⟩ => ⟨S4x4x2048x256, .f32⟩
  | .hbm, ⟨44, _⟩ => ⟨S_, .f32⟩
  | .hbm, ⟨45, _⟩ => ⟨S4x4x2048, .f32⟩
  | .hbm, ⟨46, _⟩ => ⟨S4x4x2048x1, .f32⟩
  | .hbm, ⟨47, _⟩ => ⟨S4x4x2048x256, .f32⟩
  | .hbm, ⟨48, _⟩ => ⟨S4x4x2048x256, .f32⟩
  | .hbm, ⟨49, _⟩ => ⟨S4x4x2048x1, .f32⟩
  | .hbm, ⟨50, _⟩ => ⟨S_, .f32⟩
  | .hbm, ⟨51, _⟩ => ⟨S4x4x2048x1, .f32⟩
  | .hbm, ⟨52, _⟩ => ⟨S4x4x2048x1, .f32⟩
  | .hbm, ⟨53, _⟩ => ⟨S4x4x256x2048, .f32⟩
  | .hbm, ⟨54, _⟩ => ⟨S4x2048x4x256, .f32⟩
  | .hbm, ⟨55, _⟩ => ⟨S8192x1024, .f32⟩
  | .hbm, ⟨56, _⟩ => ⟨S8192x1024, .f32⟩
  | .hbm, ⟨57, _⟩ => ⟨S4x2048x4x256, .f32⟩
  | .hbm, ⟨58, _⟩ => ⟨S4x4x256x2048, .f32⟩
  | .hbm, ⟨59, _⟩ => ⟨S4x4x2048x256, .f32⟩
  | .hbm, ⟨60, _⟩ => ⟨S4x4x256x256, .f32⟩
  | .hbm, ⟨61, _⟩ => ⟨S4x256x4x256, .f32⟩
  | .hbm, ⟨62, _⟩ => ⟨S4x4x2048x256, .f32⟩
  | .hbm, ⟨63, _⟩ => ⟨S4x4x2048x256, .f32⟩
  | .hbm, ⟨64, _⟩ => ⟨S4x4x2048x256, .f32⟩
  | .hbm, ⟨65, _⟩ => ⟨S_, .f32⟩
  | .hbm, ⟨66, _⟩ => ⟨S4x4x2048, .f32⟩
  | .hbm, ⟨67, _⟩ => ⟨S4x4x2048x1, .f32⟩
  | .hbm, ⟨68, _⟩ => ⟨S4x4x2048x1, .f32⟩
  | .hbm, ⟨69, _⟩ => ⟨S4x4x2048x256, .f32⟩
  | .hbm, ⟨70, _⟩ => ⟨S4x4x2048x256, .f32⟩
  | .hbm, ⟨71, _⟩ => ⟨S_, .f32⟩
  | .hbm, ⟨72, _⟩ => ⟨S4x4x2048, .f32⟩
  | .hbm, ⟨73, _⟩ => ⟨S4x4x2048x256, .f32⟩
  | .hbm, ⟨74, _⟩ => ⟨S4x4x2048x256, .f32⟩
  | .hbm, ⟨75, _⟩ => ⟨S4x4x2048x256, .f32⟩
  | .hbm, ⟨76, _⟩ => ⟨S_, .f32⟩
  | .hbm, ⟨77, _⟩ => ⟨S4x4x2048x256, .f32⟩
  | .hbm, ⟨78, _⟩ => ⟨S4x4x2048x256, .f32⟩
  | .hbm, ⟨79, _⟩ => ⟨S4x4x256x256, .f32⟩
  | .hbm, ⟨80, _⟩ => ⟨S4x256x4x256, .f32⟩
  | .hbm, ⟨81, _⟩ => ⟨S4x4x2048x256, .f32⟩
  | .hbm, ⟨82, _⟩ => ⟨S4x2048x4x256, .f32⟩
  | .hbm, ⟨83, _⟩ => ⟨S4x256x1x4x256, .f32⟩
  | .hbm, ⟨84, _⟩ => ⟨S_, .f32⟩
  | .hbm, ⟨85, _⟩ => ⟨S4x256x2x4x256, .f32⟩
  | .hbm, ⟨86, _⟩ => ⟨S4x256x1x4x256, .f32⟩
  | .hbm, ⟨87, _⟩ => ⟨S_, .f32⟩
  | .hbm, ⟨88, _⟩ => ⟨S4x256x2x4x256, .f32⟩
  | .hbm, ⟨89, _⟩ => ⟨S4x256x2x4x256, .f32⟩
  | .hbm, ⟨90, _⟩ => ⟨S1024x2048, .f32⟩
  | .hbm, ⟨91, _⟩ => ⟨S8192x1024, .f32⟩
  | .hbm, ⟨92, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_13 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]
-- ==== Kernel2.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .bf16⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S1024x4096, .f32⟩
  | .hbm, ⟨11, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x4096 : Shape := ⟨2, ![8192, 4096]⟩
abbrev S1024x4096 : Shape := ⟨2, ![1024, 4096]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x4096 : Shape := ⟨2, ![8192, 4096]⟩
abbrev S1024x4096 : Shape := ⟨2, ![1024, 4096]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S_, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x4096, .f32⟩
  | .hbm, ⟨3, _⟩ => ⟨S4096x1024, .f32⟩
  | .hbm, ⟨4, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S8192x2048 : Shape := ⟨2, ![8192, 2048]⟩
abbrev S2x4x256x256 : Shape := ⟨4, ![2, 4, 256, 256]⟩
abbrev S8192x1024 : Shape := ⟨2, ![8192, 1024]⟩
abbrev S1024x2048 : Shape := ⟨2, ![1024, 2048]⟩
abbrev S1024x1024 : Shape := ⟨2, ![1024, 1024]⟩
abbrev S1024x256 : Shape := ⟨2, ![1024, 256]⟩
abbrev S1x1x256x256 : Shape := ⟨4, ![1, 1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2x4x256x256, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2x4x256x256, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S8192x2048 : Shape := ⟨2, ![8192, 2048]⟩
abbrev S2x4x256x256 : Shape := ⟨4, ![2, 4, 256, 256]⟩
abbrev S_ : Shape := ⟨0, ![]⟩
abbrev S8192x1024 : Shape := ⟨2, ![8192, 1024]⟩
abbrev S4x2048x4x256 : Shape := ⟨4, ![4, 2048, 4, 256]⟩
abbrev S4x2x256x4x2048 : Shape := ⟨5, ![4, 2, 256, 4, 2048]⟩
abbrev S2x4x2048x4x256 : Shape := ⟨5, ![2, 4, 2048, 4, 256]⟩
abbrev S4x2048x2x4x256 : Shape := ⟨5, ![4, 2048, 2, 4, 256]⟩
abbrev S4x4x2048x256 : Shape := ⟨4, ![4, 4, 2048, 256]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x4x256x256, .bf16⟩
  | .hbm, ⟨2, _⟩ => ⟨S_, .f32⟩
  | .hbm, ⟨3, _⟩ => ⟨S8192x1024, .f32⟩
  | .hbm, ⟨4, _⟩ => ⟨S2x4x256x256, .f32⟩
  | .hbm, ⟨5, _⟩ => ⟨S4x2048x4x256, .f32⟩
  | .hbm, ⟨6, _⟩ => ⟨S4x2x256x4x2048, .f32⟩
  | .hbm, ⟨7, _⟩ => ⟨S2x4x2048x4x256, .f32⟩
  | .hbm, ⟨8, _⟩ => ⟨S4x2048x2x4x256, .f32⟩
  | .hbm, ⟨9, _⟩ => ⟨S8192x2048, .f32⟩
  | .hbm, ⟨10, _⟩ => ⟨S8192x2048, .f32⟩
  | .hbm, ⟨11, _⟩ => ⟨S4x2048x2x4x256, .f32⟩
  | .hbm, ⟨12, _⟩ => ⟨S2x4x2048x4x256, .f32⟩
  | .hbm, ⟨13, _⟩ => ⟨S4x2x256x4x2048, .f32⟩
  | .hbm, ⟨14, _⟩ => ⟨S4x4x2048x256, .f32⟩
  | .hbm, ⟨15, _⟩ => ⟨S4x2048x4x256, .f32⟩
  | .hbm, ⟨16, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel17.lean ====
abbrev S8192x1024 : Shape := ⟨2, ![8192, 1024]⟩
abbrev S8192x2048 : Shape := ⟨2, ![8192, 2048]⟩
abbrev S2x4x256x256 : Shape := ⟨4, ![2, 4, 256, 256]⟩
abbrev S1024x1024 : Shape := ⟨2, ![1024, 1024]⟩
abbrev S1024x2048 : Shape := ⟨2, ![1024, 2048]⟩
abbrev S1024x256 : Shape := ⟨2, ![1024, 256]⟩
abbrev S1x1x256x256 : Shape := ⟨4, ![1, 1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S2x4x256x256, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2x4x256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference17Ideal.lean ====
abbrev S8192x1024 : Shape := ⟨2, ![8192, 1024]⟩
abbrev S8192x2048 : Shape := ⟨2, ![8192, 2048]⟩
abbrev S_ : Shape := ⟨0, ![]⟩
abbrev S2x4x256x256 : Shape := ⟨4, ![2, 4, 256, 256]⟩
abbrev S4x2048x4x256 : Shape := ⟨4, ![4, 2048, 4, 256]⟩
abbrev S4x2x256x4x2048 : Shape := ⟨5, ![4, 2, 256, 4, 2048]⟩
abbrev S2x4x2048x4x256 : Shape := ⟨5, ![2, 4, 2048, 4, 256]⟩
abbrev S4x2048x2x4x256 : Shape := ⟨5, ![4, 2048, 2, 4, 256]⟩
abbrev S4x2x256x256 : Shape := ⟨4, ![4, 2, 256, 256]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S_, .f32⟩
  | .hbm, ⟨3, _⟩ => ⟨S2x4x256x256, .f32⟩
  | .hbm, ⟨4, _⟩ => ⟨S4x2048x4x256, .f32⟩
  | .hbm, ⟨5, _⟩ => ⟨S4x2x256x4x2048, .f32⟩
  | .hbm, ⟨6, _⟩ => ⟨S2x4x2048x4x256, .f32⟩
  | .hbm, ⟨7, _⟩ => ⟨S4x2048x2x4x256, .f32⟩
  | .hbm, ⟨8, _⟩ => ⟨S8192x2048, .f32⟩
  | .hbm, ⟨9, _⟩ => ⟨S8192x2048, .f32⟩
  | .hbm, ⟨10, _⟩ => ⟨S4x2048x2x4x256, .f32⟩
  | .hbm, ⟨11, _⟩ => ⟨S2x4x2048x4x256, .f32⟩
  | .hbm, ⟨12, _⟩ => ⟨S4x2x256x4x2048, .f32⟩
  | .hbm, ⟨13, _⟩ => ⟨S4x2x256x256, .f32⟩
  | .hbm, ⟨14, _⟩ => ⟨S2x4x256x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel18.lean ====
abbrev S8192x1024 : Shape := ⟨2, ![8192, 1024]⟩
abbrev S2x4x256x256 : Shape := ⟨4, ![2, 4, 256, 256]⟩
abbrev S8192x2048 : Shape := ⟨2, ![8192, 2048]⟩
abbrev S1024x1024 : Shape := ⟨2, ![1024, 1024]⟩
abbrev S1024x2048 : Shape := ⟨2, ![1024, 2048]⟩
abbrev S1024x256 : Shape := ⟨2, ![1024, 256]⟩
abbrev S1x1x256x256 : Shape := ⟨4, ![1, 1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2x4x256x256, .bf16⟩
  | .hbm, ⟨2, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S2x4x256x256, .bf16⟩
  | .local _ .vmem, ⟨3, _⟩ => ⟨S1024x2048, .f32⟩
  | .local _ .vmem, ⟨4, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S8192x1024 : Shape := ⟨2, ![8192, 1024]⟩
abbrev S2x4x256x256 : Shape := ⟨4, ![2, 4, 256, 256]⟩
abbrev S4x2048x4x256 : Shape := ⟨4, ![4, 2048, 4, 256]⟩
abbrev S4x2x256x4x2048 : Shape := ⟨5, ![4, 2, 256, 4, 2048]⟩
abbrev S2x4x2048x4x256 : Shape := ⟨5, ![2, 4, 2048, 4, 256]⟩
abbrev S4x2048x2x4x256 : Shape := ⟨5, ![4, 2048, 2, 4, 256]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4x256x256, .bf16⟩
  | .hbm, ⟨2, _⟩ => ⟨S2x4x256x256, .f32⟩
  | .hbm, ⟨3, _⟩ => ⟨S4x2048x4x256, .f32⟩
  | .hbm, ⟨4, _⟩ => ⟨S4x2x256x4x2048, .f32⟩
  | .hbm, ⟨5, _⟩ => ⟨S2x4x2048x4x256, .f32⟩
  | .hbm, ⟨6, _⟩ => ⟨S4x2048x2x4x256, .f32⟩
  | .hbm, ⟨7, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel19.lean ====
abbrev S8192x1024 : Shape := ⟨2, ![8192, 1024]⟩
abbrev S1024x2048 : Shape := ⟨2, ![1024, 2048]⟩
abbrev S1024x1024 : Shape := ⟨2, ![1024, 1024]⟩
abbrev S256x2048 : Shape := ⟨2, ![256, 2048]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S256x2048, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S8192x1024 : Shape := ⟨2, ![8192, 1024]⟩
abbrev S1024x2048 : Shape := ⟨2, ![1024, 2048]⟩
abbrev S4x2048x4x256 : Shape := ⟨4, ![4, 2048, 4, 256]⟩
abbrev S4x256x2x4x256 : Shape := ⟨5, ![4, 256, 2, 4, 256]⟩
abbrev S4x256x1x4x256 : Shape := ⟨5, ![4, 256, 1, 4, 256]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S4x2048x4x256, .f32⟩
  | .hbm, ⟨5, _⟩ => ⟨S4x256x2x4x256, .f32⟩
  | .hbm, ⟨6, _⟩ => ⟨S4x256x1x4x256, .f32⟩
  | .hbm, ⟨7, _⟩ => ⟨S4x256x4x256, .f32⟩
  | .hbm, ⟨8, _⟩ => ⟨S4x256x1x4x256, .f32⟩
  | .hbm, ⟨9, _⟩ => ⟨S4x256x4x256, .f32⟩
  | .hbm, ⟨10, _⟩ => ⟨S4x4x2048x256, .f32⟩
  | .hbm, ⟨11, _⟩ => ⟨S_, .f32⟩
  | .hbm, ⟨12, _⟩ => ⟨S4x4x2048x256, .f32⟩
  | .hbm, ⟨13, _⟩ => ⟨S4x4x2048x256, .f32⟩
  | .hbm, ⟨14, _⟩ => ⟨S_, .f32⟩
  | .hbm, ⟨15, _⟩ => ⟨S4x4x2048, .f32⟩
  | .hbm, ⟨16, _⟩ => ⟨S_, .f32⟩
  | .hbm, ⟨17, _⟩ => ⟨S4x4x2048, .f32⟩
  | .hbm, ⟨18, _⟩ => ⟨S4x4x2048, .f32⟩
  | .hbm, ⟨19, _⟩ => ⟨S4x4x2048x1, .f32⟩
  | .hbm, ⟨20, _⟩ => ⟨S4x4x2048x256, .f32⟩
  | .hbm, ⟨21, _⟩ => ⟨S4x4x2048x256, .f32⟩
  | .hbm, ⟨22, _⟩ => ⟨S4x4x2048x256, .f32⟩
  | .hbm, ⟨23, _⟩ => ⟨S_, .f32⟩
  | .hbm, ⟨24, _⟩ => ⟨S4x4x2048, .f32⟩
  | .hbm, ⟨25, _⟩ => ⟨S4x4x2048x1, .f32⟩
  | .hbm, ⟨26, _⟩ => ⟨S4x4x2048x256, .f32⟩
  | .hbm, ⟨27, _⟩ => ⟨S4x4x2048x256, .f32⟩
  | .hbm, ⟨28, _⟩ => ⟨S4x4x256x2048, .f32⟩
  | .hbm, ⟨29, _⟩ => ⟨S4x2048x4x256, .f32⟩
  | .hbm, ⟨30, _⟩ => ⟨S8192x1024, .f32⟩
  | .hbm, ⟨31, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel20.lean ====
abbrev S8192x1024 : Shape := ⟨2, ![8192, 1024]⟩
abbrev S8192x2048 : Shape := ⟨2, ![8192, 2048]⟩
abbrev S1x1024 : Shape := ⟨2, ![1, 1024]⟩
abbrev S4x1024 : Shape := ⟨2, ![4, 1024]⟩
abbrev S8x1024 : Shape := ⟨2, ![8, 1024]⟩
abbrev S512x1024 : Shape := ⟨2, ![512, 1024]⟩
abbrev S512x2048 : Shape := ⟨2, ![512, 2048]⟩
abbrev S504x1024 : Shape := ⟨2, ![504, 1024]⟩
abbrev S64x8x1024 : Shape := ⟨3, ![64, 8, 1024]⟩
abbrev S_ : Shape := ⟨0, ![]⟩
abbrev S1024 : Shape := ⟨1, ![1024]⟩
abbrev S2048 : Shape := ⟨1, ![2048]⟩

abbrev nBuf : Space → Nat
  | .hbm => 34
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S8192x1024, .bf16⟩
  | .hbm, ⟨4, _⟩ => ⟨S1x1024, .f32⟩
  | .hbm, ⟨5, _⟩ => ⟨S4x1024, .f32⟩
  | .hbm, ⟨6, _⟩ => ⟨S8192x2048, .bf16⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S_, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S4x1024, .f32⟩
  | .hbm, ⟨27, _⟩ => ⟨S_, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S_, .f32⟩
  | .hbm, ⟨32, _⟩ => ⟨S1024, .f32⟩
  | .hbm, ⟨33, _⟩ => ⟨S2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S4x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | .local _ .vmem, ⟨16, _⟩ => ⟨S512x2048, .bf16⟩
  | .local _ .vmem, ⟨17, _⟩ => ⟨S512x2048, .bf16⟩
  | .local _ .vmem, ⟨18, _⟩ => ⟨S8x1024, .f32⟩
  | .local _ .vmem, ⟨19, _⟩ => ⟨S8x1024, .f32⟩
  | .local _ .vmem, ⟨20, _⟩ => ⟨S8x1024, .f32⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | .local _ .vmem, ⟨24, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_cst : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_cst_1 : Ref sig .tc := ⟨.hbm, 18, rfl⟩
abbrev main_v3 : Ref sig .tc := ⟨.hbm, 19, rfl⟩
abbrev main_cst_2 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_cst_4 : Ref sig .tc := ⟨.hbm, 29, rfl⟩
abbrev main_v11 : Ref sig .tc := ⟨.hbm, 30, rfl⟩
abbrev main_cst_5 : Ref sig .tc := ⟨.hbm, 31, rfl⟩
abbrev main_v12 : Ref sig .tc := ⟨.hbm, 32, rfl⟩
abbrev main_v13 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference20Ideal.lean ====
abbrev S8192x1024 : Shape := ⟨2, ![8192, 1024]⟩
abbrev S8192x2048 : Shape := ⟨2, ![8192, 2048]⟩
abbrev S1x1024 : Shape := ⟨2, ![1, 1024]⟩
abbrev S4x1024 : Shape := ⟨2, ![4, 1024]⟩
abbrev S_ : Shape := ⟨0, ![]⟩
abbrev S1024 : Shape := ⟨1, ![1024]⟩
abbrev S2048 : Shape := ⟨1, ![2048]⟩
abbrev S4x2048x1024 : Shape := ⟨3, ![4, 2048, 1024]⟩
abbrev S1x2048 : Shape := ⟨2, ![1, 2048]⟩
abbrev S4x2048x2048 : Shape := ⟨3, ![4, 2048, 2048]⟩
abbrev S4x3x1024 : Shape := ⟨3, ![4, 3, 1024]⟩
abbrev S4x2051x1024 : Shape := ⟨3, ![4, 2051, 1024]⟩
abbrev S1x1x1024 : Shape := ⟨3, ![1, 1, 1024]⟩

abbrev nBuf : Space → Nat
  | .hbm => 130
  | .vmem => 0
  | .smem => 0
  | _ => 0

abbrev hbmTy0_0 (i : Nat) : BufTy := match i % 128 with
  | 0 => ⟨S8192x1024, .f32⟩
  | 1 => ⟨S8192x1024, .f32⟩
  | 2 => ⟨S8192x2048, .f32⟩
  | 3 => ⟨S8192x1024, .bf16⟩
  | 4 => ⟨S1x1024, .f32⟩
  | 5 => ⟨S4x1024, .f32⟩
  | 6 => ⟨S_, .f32⟩
  | 7 => ⟨S1024, .f32⟩
  | 8 => ⟨S1024, .f32⟩
  | 9 => ⟨S2048, .f32⟩
  | 10 => ⟨S8192x1024, .f32⟩
  | 11 => ⟨S4x2048x1024, .f32⟩
  | 12 => ⟨S8192x1024, .f32⟩
  | 13 => ⟨S4x2048x1024, .f32⟩
  | 14 => ⟨S_, .f32⟩
  | 15 => ⟨S1024, .f32⟩
  | 16 => ⟨S1x2048, .f32⟩
  | 17 => ⟨S8192x2048, .f32⟩
  | 18 => ⟨S8192x2048, .f32⟩
  | 19 => ⟨S4x2048x2048, .f32⟩
  | 20 => ⟨S4x2048x1024, .f32⟩
  | 21 => ⟨S4x2048x1024, .f32⟩
  | 22 => ⟨S_, .f32⟩
  | 23 => ⟨S4x3x1024, .f32⟩
  | 24 => ⟨S4x2051x1024, .f32⟩
  | 25 => ⟨S_, .f32⟩
  | 26 => ⟨S4x3x1024, .f32⟩
  | 27 => ⟨S4x2048x1024, .f32⟩
  | 28 => ⟨S1x1024, .f32⟩
  | 29 => ⟨S1024, .f32⟩
  | 30 => ⟨S1x1x1024, .f32⟩
  | 31 => ⟨S4x2048x1024, .f32⟩
  | 32 => ⟨S4x2048x1024, .f32⟩
  | 33 => ⟨S1x1x1024, .f32⟩
  | 34 => ⟨S4x2048x1024, .f32⟩
  | 35 => ⟨S4x2048x1024, .f32⟩
  | 36 => ⟨S4x2048x1024, .f32⟩
  | 37 => ⟨S1x1024, .f32⟩
  | 38 => ⟨S1024, .f32⟩
  | 39 => ⟨S1x1x1024, .f32⟩
  | 40 => ⟨S4x2048x1024, .f32⟩
  | 41 => ⟨S4x2048x1024, .f32⟩
  | 42 => ⟨S4x2048x1024, .f32⟩
  | 43 => ⟨S4x2048x1024, .f32⟩
  | 44 => ⟨S1x1024, .f32⟩
  | 45 => ⟨S1024, .f32⟩
  | 46 => ⟨S1x1x1024, .f32⟩
  | 47 => ⟨S4x2048x1024, .f32⟩
  | 48 => ⟨S4x2048x1024, .f32⟩
  | 49 => ⟨S4x2048x1024, .f32⟩
  | 50 => ⟨S4x2048x1024, .f32⟩
  | 51 => ⟨S1x1024, .f32⟩
  | 52 => ⟨S1024, .f32⟩
  | 53 => ⟨S1x1x1024, .f32⟩
  | 54 => ⟨S4x2048x1024, .f32⟩
  | 55 => ⟨S4x2048x1024, .f32⟩
  | 56 => ⟨S4x2048x1024, .f32⟩
  | 57 => ⟨S4x2048x1024, .f32⟩
  | 58 => ⟨S_, .f32⟩
  | 59 => ⟨S1024, .f32⟩
  | 60 => ⟨S1x1x1024, .f32⟩
  | 61 => ⟨S4x2048x1024, .f32⟩
  | 62 => ⟨S4x2048x1024, .f32⟩
  | 63 => ⟨S_, .f32⟩
  | 64 => ⟨S1024, .f32⟩
  | 65 => ⟨S1x1024, .f32⟩
  | 66 => ⟨S_, .f32⟩
  | 67 => ⟨S4x1024, .f32⟩
  | 68 => ⟨S_, .f32⟩
  | 69 => ⟨S4x2051x1024, .f32⟩
  | 70 => ⟨S4x2048x1024, .f32⟩
  | 71 => ⟨S_, .f32⟩
  | 72 => ⟨S1024, .f32⟩
  | 73 => ⟨S1x1x1024, .f32⟩
  | 74 => ⟨S4x2048x1024, .f32⟩
  | 75 => ⟨S4x2048x1024, .f32⟩
  | 76 => ⟨S_, .f32⟩
  | 77 => ⟨S1024, .f32⟩
  | 78 => ⟨S1x1024, .f32⟩
  | 79 => ⟨S_, .f32⟩
  | 80 => ⟨S4x1024, .f32⟩
  | 81 => ⟨S4x1024, .f32⟩
  | 82 => ⟨S_, .f32⟩
  | 83 => ⟨S4x2051x1024, .f32⟩
  | 84 => ⟨S4x2051x1024, .f32⟩
  | 85 => ⟨S4x2048x1024, .f32⟩
  | 86 => ⟨S_, .f32⟩
  | 87 => ⟨S1024, .f32⟩
  | 88 => ⟨S1x1x1024, .f32⟩
  | 89 => ⟨S4x2048x1024, .f32⟩
  | 90 => ⟨S4x2048x1024, .f32⟩
  | 91 => ⟨S_, .f32⟩
  | 92 => ⟨S1024, .f32⟩
  | 93 => ⟨S1x1024, .f32⟩
  | 94 => ⟨S_, .f32⟩
  | 95 => ⟨S4x1024, .f32⟩
  | 96 => ⟨S4x1024, .f32⟩
  | 97 => ⟨S_, .f32⟩
  | 98 => ⟨S4x2051x1024, .f32⟩
  | 99 => ⟨S4x2051x1024, .f32⟩
  | 100 => ⟨S_, .f32⟩
  | 101 => ⟨S1024, .f32⟩
  | 102 => ⟨S1x1x1024, .f32⟩
  | 103 => ⟨S_, .f32⟩
  | 104 => ⟨S1024, .f32⟩
  | 105 => ⟨S4x2048x1024, .f32⟩
  | 106 => ⟨S_, .f32⟩
  | 107 => ⟨S1024, .f32⟩
  | 108 => ⟨S1x1x1024, .f32⟩
  | 109 => ⟨S4x2048x1024, .f32⟩
  | 110 => ⟨S4x2048x1024, .f32⟩
  | 111 => ⟨S_, .f32⟩
  | 112 => ⟨S1024, .f32⟩
  | 113 => ⟨S1x1024, .f32⟩
  | 114 => ⟨S_, .f32⟩
  | 115 => ⟨S4x1024, .f32⟩
  | 116 => ⟨S4x1024, .f32⟩
  | 117 => ⟨S_, .f32⟩
  | 118 => ⟨S4x2051x1024, .f32⟩
  | 119 => ⟨S4x2051x1024, .f32⟩
  | 120 => ⟨S4x3x1024, .f32⟩
  | 121 => ⟨S4x2048x1024, .f32⟩
  | 122 => ⟨S4x2048x2048, .f32⟩
  | 123 => ⟨S8192x2048, .f32⟩
  | 124 => ⟨S_, .f32⟩
  | 125 => ⟨S2048, .f32⟩
  | 126 => ⟨S1x2048, .f32⟩
  | 127 => ⟨S_, .f32⟩
  | _ => ⟨S8192x1024, .f32⟩

abbrev hbmTy0_1 (i : Nat) : BufTy := match i % 128 with
  | 0 => ⟨S2048, .f32⟩
  | 1 => ⟨S8192x2048, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_3 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_4 : Ref sig .tc := ⟨.hbm, 63, rfl⟩
abbrev main_v52 : Ref sig .tc := ⟨.hbm, 64, rfl⟩
abbrev main_v53 : Ref sig .tc := ⟨.hbm, 65, rfl⟩
abbrev main_cst_5 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_11 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_12 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_cst_14 : Ref sig .tc := ⟨.hbm, 97, rfl⟩
abbrev main_v76 : Ref sig .tc := ⟨.hbm, 98, rfl⟩
abbrev main_v77 : Ref sig .tc := ⟨.hbm, 99, rfl⟩
abbrev main_cst_15 : Ref sig .tc := ⟨.hbm, 100, rfl⟩
abbrev main_v78 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_cst_17 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_18 : Ref sig .tc := ⟨.hbm, 111, rfl⟩
abbrev main_v86 : Ref sig .tc := ⟨.hbm, 112, rfl⟩
abbrev main_v87 : Ref sig .tc := ⟨.hbm, 113, rfl⟩
abbrev main_cst_19 : Ref sig .tc := ⟨.hbm, 114, rfl⟩
abbrev main_v88 : Ref sig .tc := ⟨.hbm, 115, rfl⟩
abbrev main_v89 : Ref sig .tc := ⟨.hbm, 116, rfl⟩
abbrev main_cst_20 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_21 : Ref sig .tc := ⟨.hbm, 124, rfl⟩
abbrev main_v96 : Ref sig .tc := ⟨.hbm, 125, rfl⟩
abbrev main_v97 : Ref sig .tc := ⟨.hbm, 126, rfl⟩
abbrev main_cst_22 : Ref sig .tc := ⟨.hbm, 127, rfl⟩
abbrev main_v98 : Ref sig .tc := ⟨.hbm, 128, rfl⟩
abbrev main_v99 : Ref sig .tc := ⟨.hbm, 129, rfl⟩

abbrev nD : Nat := 1
abbrev τ : Topo := Topo.v7x

variable {F : FTy → Type} [FloatOps F]
-- ==== Kernel21.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8x1024, .f32⟩
  | .hbm, ⟨6, _⟩ => ⟨S_, .f32⟩
  | .hbm, ⟨7, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference21Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel22.lean ====
abbrev S8192x1024 : Shape := ⟨2, ![8192, 1024]⟩
abbrev S256x1024 : Shape := ⟨2, ![256, 1024]⟩
abbrev S1x1024 : Shape := ⟨2, ![1, 1024]⟩
abbrev S8x1024 : Shape := ⟨2, ![8, 1024]⟩

abbrev nBuf : Space → Nat
  | .hbm => 3
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_9 : BitVec 32 := 0#32
  let c32_i32 : BitVec 32 := 32#32
  let v18 : BitVec 32 := Scalar.addi c0_i32_9 c32_i32
  let c1_i32_10 : BitVec 32 := 1#32
  ⟨c0_i32_9, v18, c1_i32_10⟩
def k0_mult1 (k0_t1 : Fin k0_t1_loop.trips) : BitVec 32 :=
  let c31_i32_16 : BitVec 32 := 31#32
  let c0_i32_9 : BitVec 32 := 0#32
  let c1_i32_10 : BitVec 32 := 1#32
  let arg6 : BitVec 32 := Scf.iv c0_i32_9 c1_i32_10 k0_t1
  let v26 : BitVec 32 := Scalar.subi c31_i32_16 arg6
  let c8_i32 : BitVec 32 := 8#32
  let v27 : BitVec 32 := Scalar.muli v26 c8_i32
  v27
def k0_off1 (k0_t1 : Fin k0_t1_loop.trips) : Fin 2 → Nat :=
  let c31_i32_16 : BitVec 32 := 31#32
  let c0_i32_9 : BitVec 32 := 0#32
  let c1_i32_10 : BitVec 32 := 1#32
  let arg6 : BitVec 32 := Scf.iv c0_i32_9 c1_i32_10 k0_t1
  let v26 : BitVec 32 := Scalar.subi c31_i32_16 arg6
  let c8_i32 : BitVec 32 := 8#32
  let v27 : BitVec 32 := Scalar.muli v26 c8_i32
  let v28 : BitVec 32 := v27
  let v29 : Index := Scalar.indexCast v28
  let c0_17 : Index := 0#32
  ![v29.toNat, 0]
def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S8192x1024 : Shape := ⟨2, ![8192, 1024]⟩
abbrev S_ : Shape := ⟨0, ![]⟩
abbrev S4x1024 : Shape := ⟨2, ![4, 1024]⟩
abbrev S4x2048x1024 : Shape := ⟨3, ![4, 2048, 1024]⟩
abbrev S2048x4x1024 : Shape := ⟨3, ![2048, 4, 1024]⟩
abbrev S1x4x1024 : Shape := ⟨3, ![1, 4, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S4x1024, .f32⟩
  | .hbm, ⟨4, _⟩ => ⟨S4x2048x1024, .f32⟩
  | .hbm, ⟨5, _⟩ => ⟨S2048x4x1024, .f32⟩
  | .hbm, ⟨6, _⟩ => ⟨S4x2048x1024, .f32⟩
  | .hbm, ⟨7, _⟩ => ⟨S2048x4x1024, .f32⟩
  | .hbm, ⟨8, _⟩ => ⟨S_, .f32⟩
  | .hbm, ⟨9, _⟩ => ⟨S4x1024, .f32⟩
  | .hbm, ⟨10, _⟩ => ⟨S_, .f32⟩
  | .hbm, ⟨11, _⟩ => ⟨S2048x4x1024, .f32⟩
  | .hbm, ⟨12, _⟩ => ⟨S_, .i32⟩
  | .hbm, ⟨13, _⟩ => ⟨S2048x4x1024, .f32⟩
  | .hbm, ⟨14, _⟩ => ⟨S2048x4x1024, .f32⟩
  | .hbm, ⟨15, _⟩ => ⟨S_, .i32⟩
  | .hbm, ⟨16, _⟩ => ⟨S4x1024, .f32⟩
  | .hbm, ⟨17, _⟩ => ⟨S2048x4x1024, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1x4x1024, .f32⟩
  | .hbm, ⟨27, _⟩ => ⟨S4x1024, .f32⟩
  | .hbm, ⟨28, _⟩ => ⟨S_, .i32⟩
  | .hbm, ⟨29, _⟩ => ⟨S_, .i32⟩
  | .hbm, ⟨30, _⟩ => ⟨S1x4x1024, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S1x4x1024, .f32⟩
  | .hbm, ⟨35, _⟩ => ⟨S_, .i32⟩
  | .hbm, ⟨36, _⟩ => ⟨S_, .i32⟩
  | .hbm, ⟨37, _⟩ => ⟨S2048x4x1024, .f32⟩
  | .hbm, ⟨38, _⟩ => ⟨S_, .i32⟩
  | .hbm, ⟨39, _⟩ => ⟨S_, .i32⟩
  | .hbm, ⟨40, _⟩ => ⟨S4x2048x1024, .f32⟩
  | .hbm, ⟨41, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_c : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_while0c_c_6 : Ref sig .tc := ⟨.hbm, 18, rfl⟩
abbrev main_while0c_v10 : Ref sig .tc := ⟨.hbm, 19, rfl⟩
abbrev main_while0b_c_6 : Ref sig .tc := ⟨.hbm, 20, rfl⟩
abbrev main_while0b_v10 : Ref sig .tc := ⟨.hbm, 21, rfl⟩
abbrev main_while0b_c_7 : Ref sig .tc := ⟨.hbm, 22, rfl⟩
abbrev main_while0b_v11 : Ref sig .tc := ⟨.hbm, 23, rfl⟩
abbrev main_while0b_call0_c : Ref sig .tc := ⟨.hbm, 24, rfl⟩
abbrev main_while0b_call0_c_0 : Ref sig .tc := ⟨.hbm, 25, rfl⟩
abbrev main_while0b_call0_v0 : Ref sig .tc := ⟨.hbm, 26, rfl⟩
abbrev main_while0b_v12 : Ref sig .tc := ⟨.hbm, 27, rfl⟩
abbrev main_while0b_call1_c : Ref sig .tc := ⟨.hbm, 28, rfl⟩
abbrev main_while0b_call1_c_0 : Ref sig .tc := ⟨.hbm, 29, rfl⟩
abbrev main_while0b_call1_v0 : Ref sig .tc := ⟨.hbm, 30, rfl⟩
abbrev main_while0b_v13 : Ref sig .tc := ⟨.hbm, 31, rfl⟩
abbrev main_while0b_v14 : Ref sig .tc := ⟨.hbm, 32, rfl⟩
abbrev main_while0b_v15 : Ref sig .tc := ⟨.hbm, 33, rfl⟩
abbrev main_while0b_call2_v0 : Ref sig .tc := ⟨.hbm, 34, rfl⟩
abbrev main_while0b_call2_c : Ref sig .tc := ⟨.hbm, 35, rfl⟩
abbrev main_while0b_call2_c_0 : Ref sig .tc := ⟨.hbm, 36, rfl⟩
abbrev main_while0b_v16 : Ref sig .tc := ⟨.hbm, 37, rfl⟩
abbrev main_while0b_c_8 : Ref sig .tc := ⟨.hbm, 38, rfl⟩
abbrev main_while0b_v17 : Ref sig .tc := ⟨.hbm, 39, rfl⟩
abbrev main_v8 : Ref sig .tc := ⟨.hbm, 40, rfl⟩
abbrev main_v9 : Ref sig .tc := ⟨.hbm, 41, rfl⟩

abbrev nD : Nat := 1
abbrev τ : Topo := Topo.v7x

variable {F : FTy → Type} [FloatOps F]

abbrev main_while0_count : Scf.Loop 32 := ⟨0#32, 2048#32, 1#32⟩
-- ==== Kernel23.lean ====
abbrev S8192x1024 : Shape := ⟨2, ![8192, 1024]⟩
abbrev S256x1024 : Shape := ⟨2, ![256, 1024]⟩
abbrev S1x1024 : Shape := ⟨2, ![1, 1024]⟩
abbrev S8x1024 : Shape := ⟨2, ![8, 1024]⟩

abbrev nBuf : Space → Nat
  | .hbm => 3
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_8 : BitVec 32 := 0#32
  let c32_i32 : BitVec 32 := 32#32
  let v16 : BitVec 32 := Scalar.addi c0_i32_8 c32_i32
  let c1_i32_9 : BitVec 32 := 1#32
  ⟨c0_i32_8, v16, c1_i32_9⟩
def k0_mult1 (k0_t1 : Fin k0_t1_loop.trips) : BitVec 32 :=
  let c0_i32_8 : BitVec 32 := 0#32
  let c1_i32_9 : BitVec 32 := 1#32
  let arg6 : BitVec 32 := Scf.iv c0_i32_8 c1_i32_9 k0_t1
  let c8_i32 : BitVec 32 := 8#32
  let v24 : BitVec 32 := Scalar.muli arg6 c8_i32
  v24
def k0_off1 (k0_t1 : Fin k0_t1_loop.trips) : Fin 2 → Nat :=
  let c0_i32_8 : BitVec 32 := 0#32
  let c1_i32_9 : BitVec 32 := 1#32
  let arg6 : BitVec 32 := Scf.iv c0_i32_8 c1_i32_9 k0_t1
  let c8_i32 : BitVec 32 := 8#32
  let v24 : BitVec 32 := Scalar.muli arg6 c8_i32
  let v25 : BitVec 32 := v24
  let v26 : Index := Scalar.indexCast v25
  let c0_15 : Index := 0#32
  ![v26.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S8192x1024 : Shape := ⟨2, ![8192, 1024]⟩
abbrev S_ : Shape := ⟨0, ![]⟩
abbrev S4x1024 : Shape := ⟨2, ![4, 1024]⟩
abbrev S4x2048x1024 : Shape := ⟨3, ![4, 2048, 1024]⟩
abbrev S2048x4x1024 : Shape := ⟨3, ![2048, 4, 1024]⟩
abbrev S1x4x1024 : Shape := ⟨3, ![1, 4, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S4x1024, .f32⟩
  | .hbm, ⟨4, _⟩ => ⟨S4x2048x1024, .f32⟩
  | .hbm, ⟨5, _⟩ => ⟨S2048x4x1024, .f32⟩
  | .hbm, ⟨6, _⟩ => ⟨S4x2048x1024, .f32⟩
  | .hbm, ⟨7, _⟩ => ⟨S2048x4x1024, .f32⟩
  | .hbm, ⟨8, _⟩ => ⟨S_, .f32⟩
  | .hbm, ⟨9, _⟩ => ⟨S2048x4x1024, .f32⟩
  | .hbm, ⟨10, _⟩ => ⟨S_, .i32⟩
  | .hbm, ⟨11, _⟩ => ⟨S2048x4x1024, .f32⟩
  | .hbm, ⟨12, _⟩ => ⟨S2048x4x1024, .f32⟩
  | .hbm, ⟨13, _⟩ => ⟨S_, .i32⟩
  | .hbm, ⟨14, _⟩ => ⟨S4x1024, .f32⟩
  | .hbm, ⟨15, _⟩ => ⟨S2048x4x1024, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S1x4x1024, .f32⟩
  | .hbm, ⟨21, _⟩ => ⟨S4x1024, .f32⟩
  | .hbm, ⟨22, _⟩ => ⟨S_, .i32⟩
  | .hbm, ⟨23, _⟩ => ⟨S_, .i32⟩
  | .hbm, ⟨24, _⟩ => ⟨S1x4x1024, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S1x4x1024, .f32⟩
  | .hbm, ⟨29, _⟩ => ⟨S_, .i32⟩
  | .hbm, ⟨30, _⟩ => ⟨S_, .i32⟩
  | .hbm, ⟨31, _⟩ => ⟨S2048x4x1024, .f32⟩
  | .hbm, ⟨32, _⟩ => ⟨S_, .i32⟩
  | .hbm, ⟨33, _⟩ => ⟨S_, .i32⟩
  | .hbm, ⟨34, _⟩ => ⟨S4x2048x1024, .f32⟩
  | .hbm, ⟨35, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_c : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_while0c_c_5 : Ref sig .tc := ⟨.hbm, 16, rfl⟩
abbrev main_while0c_v9 : Ref sig .tc := ⟨.hbm, 17, rfl⟩
abbrev main_while0b_call0_c : Ref sig .tc := ⟨.hbm, 18, rfl⟩
abbrev main_while0b_call0_c_0 : Ref sig .tc := ⟨.hbm, 19, rfl⟩
abbrev main_while0b_call0_v0 : Ref sig .tc := ⟨.hbm, 20, rfl⟩
abbrev main_while0b_v9 : Ref sig .tc := ⟨.hbm, 21, rfl⟩
abbrev main_while0b_call1_c : Ref sig .tc := ⟨.hbm, 22, rfl⟩
abbrev main_while0b_call1_c_0 : Ref sig .tc := ⟨.hbm, 23, rfl⟩
abbrev main_while0b_call1_v0 : Ref sig .tc := ⟨.hbm, 24, rfl⟩
abbrev main_while0b_v10 : Ref sig .tc := ⟨.hbm, 25, rfl⟩
abbrev main_while0b_v11 : Ref sig .tc := ⟨.hbm, 26, rfl⟩
abbrev main_while0b_v12 : Ref sig .tc := ⟨.hbm, 27, rfl⟩
abbrev main_while0b_call2_v0 : Ref sig .tc := ⟨.hbm, 28, rfl⟩
abbrev main_while0b_call2_c : Ref sig .tc := ⟨.hbm, 29, rfl⟩
abbrev main_while0b_call2_c_0 : Ref sig .tc := ⟨.hbm, 30, rfl⟩
abbrev main_while0b_v13 : Ref sig .tc := ⟨.hbm, 31, rfl⟩
abbrev main_while0b_c_5 : Ref sig .tc := ⟨.hbm, 32, rfl⟩
abbrev main_while0b_v14 : Ref sig .tc := ⟨.hbm, 33, rfl⟩
abbrev main_v7 : Ref sig .tc := ⟨.hbm, 34, rfl⟩
abbrev main_v8 : Ref sig .tc := ⟨.hbm, 35, rfl⟩

abbrev nD : Nat := 1
abbrev τ : Topo := Topo.v7x

variable {F : FTy → Type} [FloatOps F]

abbrev main_while0_count : Scf.Loop 32 := ⟨0#32, 2048#32, 1#32⟩
-- ==== Kernel24.lean ====
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S1024x1024 : Shape := ⟨2, ![1024, 1024]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S1024x1024, .f32⟩
  | .hbm, ⟨3, _⟩ => ⟨S1024x2048, .f32⟩
  | .hbm, ⟨4, _⟩ => ⟨S1024x2048, .f32⟩
  | .hbm, ⟨5, _⟩ => ⟨S1024x2048, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel25.lean ====
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .f32⟩
  | .hbm, ⟨2, _⟩ => ⟨S1024x2048, .f32⟩
  | .local _ .vmem, ⟨0, _⟩ => ⟨S1024x1024, .bf16⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S1024x1024 : Shape := ⟨2, ![1024, 1024]⟩
abbrev S1024x2048 : Shape := ⟨2, ![1024, 2048]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .f32⟩
  | .hbm, ⟨2, _⟩ => ⟨S_, .f32⟩
  | .hbm, ⟨3, _⟩ => ⟨S1024x2048, .f32⟩
  | .hbm, ⟨4, _⟩ => ⟨S1024x1024, .f32⟩
  | .hbm, ⟨5, _⟩ => ⟨S1024x2048, .f32⟩
  | .hbm, ⟨6, _⟩ => ⟨S2048x1024, .f32⟩
  | .hbm, ⟨7, _⟩ => ⟨S1024x2048, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel26.lean ====
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S1024x2048, .bf16⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S1024x2048 : Shape := ⟨2, ![1024, 2048]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .bf16⟩
  | .hbm, ⟨2, _⟩ => ⟨S_, .f32⟩
  | .hbm, ⟨3, _⟩ => ⟨S1024x1024, .f32⟩
  | .hbm, ⟨4, _⟩ => ⟨S1024x2048, .f32⟩
  | .hbm, ⟨5, _⟩ => ⟨S1024x2048, .f32⟩
  | .hbm, ⟨6, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel27.lean ====
abbrev S8192x1024 : Shape := ⟨2, ![8192, 1024]⟩
abbrev S1x1024 : Shape := ⟨2, ![1, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S32x8x1024 : Shape := ⟨3, ![32, 8, 1024]⟩
abbrev S_ : Shape := ⟨0, ![]⟩
abbrev S1024 : Shape := ⟨1, ![1024]⟩

abbrev nBuf : Space → Nat
  | .hbm => 17
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S_, .f32⟩
  | .hbm, ⟨16, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S8x1024, .f32⟩
  | .local _ .vmem, ⟨15, _⟩ => ⟨S8x1024, .f32⟩
  | .local _ .vmem, ⟨16, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference27Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S8192x1024, .f32⟩
  | .hbm, ⟨92, _⟩ => ⟨S8192x1024, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S_, .f32⟩
  | .hbm, ⟨105, _⟩ => ⟨S1024, .f32⟩
  | .hbm, ⟨106, _⟩ => ⟨S1x1024, .f32⟩
  | .hbm, ⟨107, _⟩ => ⟨S_, .f32⟩
  | .hbm, ⟨108, _⟩ => ⟨S1024, .f32⟩
  | .hbm, ⟨109, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_cst_17 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_18 : Ref sig .tc := ⟨.hbm, 104, rfl⟩
abbrev main_v79 : Ref sig .tc := ⟨.hbm, 105, rfl⟩
abbrev main_v80 : Ref sig .tc := ⟨.hbm, 106, rfl⟩
abbrev main_cst_19 : Ref sig .tc := ⟨.hbm, 107, rfl⟩
abbrev main_v81 : Ref sig .tc := ⟨.hbm, 108, rfl⟩
abbrev main_v82 : Ref sig .tc := ⟨.hbm, 109, rfl⟩

abbrev nD : Nat := 1
abbrev τ : Topo := Topo.v7x

variable {F : FTy → Type} [FloatOps F]
-- ==== Kernel28.lean ====
abbrev S8192x64 : Shape := ⟨2, ![8192, 64]⟩
abbrev S8192x1024 : Shape := ⟨2, ![8192, 1024]⟩
abbrev S64x1024 : Shape := ⟨2, ![64, 1024]⟩
abbrev S1024x64 : Shape := ⟨2, ![1024, 64]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x64, .bf16⟩
  | .hbm, ⟨1, _⟩ => ⟨S8192x1024, .bf16⟩
  | .hbm, ⟨2, _⟩ => ⟨S64x1024, .f32⟩
  | .local _ .vmem, ⟨0, _⟩ => ⟨S1024x64, .bf16⟩
  | .local _ .vmem, ⟨1, _⟩ => ⟨S1024x64, .bf16⟩
  | .local _ .vmem, ⟨2, _⟩ => ⟨S1024x1024, .bf16⟩
  | .local _ .vmem, ⟨3, _⟩ => ⟨S1024x1024, .bf16⟩
  | .local _ .vmem, ⟨4, _⟩ => ⟨S64x1024, .f32⟩
  | .local _ .vmem, ⟨5, _⟩ => ⟨S64x1024, .f32⟩
  | _, _ => ⟨S8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference28Ideal.lean ====
abbrev S8192x64 : Shape := ⟨2, ![8192, 64]⟩
abbrev S8192x1024 : Shape := ⟨2, ![8192, 1024]⟩
abbrev S_ : Shape := ⟨0, ![]⟩
abbrev S64x1024 : Shape := ⟨2, ![64, 1024]⟩
abbrev S1024x64 : Shape := ⟨2, ![1024, 64]⟩

abbrev nBuf : Space → Nat
  | .hbm => 9
  | .vmem => 0
  | .smem => 0
  | _ => 0

abbrev bufTy : (tb : Table) → Fin (tcTables nBuf tb) → BufTy
  | .hbm, ⟨0, _⟩ => ⟨S8192x64, .bf16⟩
  | .hbm, ⟨1, _⟩ => ⟨S8192x1024, .bf16⟩
  | .hbm, ⟨2, _⟩ => ⟨S_, .f32⟩
  | .hbm, ⟨3, _⟩ => ⟨S64x1024, .f32⟩
  | .hbm, ⟨4, _⟩ => ⟨S8192x64, .f32⟩
  | .hbm, ⟨5, _⟩ => ⟨S8192x1024, .f32⟩
  | .hbm, ⟨6, _⟩ => ⟨S8192x1024, .f32⟩
  | .hbm, ⟨7, _⟩ => ⟨S1024x64, .f32⟩
  | .hbm, ⟨8, _⟩ => ⟨S64x1024, .f32⟩
  | _, _ => ⟨S8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel29.lean ====
abbrev S8192x1024 : Shape := ⟨2, ![8192, 1024]⟩
abbrev S64x1024 : Shape := ⟨2, ![64, 1024]⟩
abbrev S8192x64 : Shape := ⟨2, ![8192, 64]⟩
abbrev S1024x1024 : Shape := ⟨2, ![1024, 1024]⟩
abbrev S1024x64 : Shape := ⟨2, ![1024, 64]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S64x1024, .bf16⟩
  | .hbm, ⟨2, _⟩ => ⟨S8192x64, .bf16⟩
  | .local _ .vmem, ⟨0, _⟩ => ⟨S1024x1024, .bf16⟩
  | .local _ .vmem, ⟨1, _⟩ => ⟨S1024x1024, .bf16⟩
  | .local _ .vmem, ⟨2, _⟩ => ⟨S64x1024, .bf16⟩
  | .local _ .vmem, ⟨3, _⟩ => ⟨S1024x64, .bf16⟩
  | .local _ .vmem, ⟨4, _⟩ => ⟨S1024x64, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S8192x1024 : Shape := ⟨2, ![8192, 1024]⟩
abbrev S64x1024 : Shape := ⟨2, ![64, 1024]⟩
abbrev S_ : Shape := ⟨0, ![]⟩
abbrev S8192x64 : Shape := ⟨2, ![8192, 64]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S64x1024, .bf16⟩
  | .hbm, ⟨2, _⟩ => ⟨S_, .f32⟩
  | .hbm, ⟨3, _⟩ => ⟨S8192x64, .f32⟩
  | .hbm, ⟨4, _⟩ => ⟨S64x1024, .f32⟩
  | .hbm, ⟨5, _⟩ => ⟨S8192x1024, .f32⟩
  | .hbm, ⟨6, _⟩ => ⟨S8192x1024, .f32⟩
  | .hbm, ⟨7, _⟩ => ⟨S8192x64, .f32⟩
  | .hbm, ⟨8, _⟩ => ⟨S8192x64, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel30.lean ====
abbrev S8192x1024 : Shape := ⟨2, ![8192, 1024]⟩
abbrev S64x1024 : Shape := ⟨2, ![64, 1024]⟩
abbrev S8192x64 : Shape := ⟨2, ![8192, 64]⟩
abbrev S1024x1024 : Shape := ⟨2, ![1024, 1024]⟩
abbrev S1024x64 : Shape := ⟨2, ![1024, 64]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S64x1024, .bf16⟩
  | .hbm, ⟨2, _⟩ => ⟨S8192x64, .f32⟩
  | .local _ .vmem, ⟨0, _⟩ => ⟨S1024x1024, .bf16⟩
  | .local _ .vmem, ⟨1, _⟩ => ⟨S1024x1024, .bf16⟩
  | .local _ .vmem, ⟨2, _⟩ => ⟨S64x1024, .bf16⟩
  | .local _ .vmem, ⟨3, _⟩ => ⟨S1024x64, .f32⟩
  | .local _ .vmem, ⟨4, _⟩ => ⟨S1024x64, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S8192x1024 : Shape := ⟨2, ![8192, 1024]⟩
abbrev S64x1024 : Shape := ⟨2, ![64, 1024]⟩
abbrev S_ : Shape := ⟨0, ![]⟩
abbrev S8192x64 : Shape := ⟨2, ![8192, 64]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S64x1024, .bf16⟩
  | .hbm, ⟨2, _⟩ => ⟨S_, .f32⟩
  | .hbm, ⟨3, _⟩ => ⟨S8192x64, .f32⟩
  | .hbm, ⟨4, _⟩ => ⟨S64x1024, .f32⟩
  | .hbm, ⟨5, _⟩ => ⟨S8192x1024, .f32⟩
  | .hbm, ⟨6, _⟩ => ⟨S8192x1024, .f32⟩
  | .hbm, ⟨7, _⟩ => ⟨S8192x64, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel31.lean ====
abbrev S8192x1024 : Shape := ⟨2, ![8192, 1024]⟩
abbrev S8192x64 : Shape := ⟨2, ![8192, 64]⟩
abbrev S1024x64 : Shape := ⟨2, ![1024, 64]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x64, .bf16⟩
  | .hbm, ⟨2, _⟩ => ⟨S1024x64, .f32⟩
  | .local _ .vmem, ⟨0, _⟩ => ⟨S1024x1024, .bf16⟩
  | .local _ .vmem, ⟨1, _⟩ => ⟨S1024x1024, .bf16⟩
  | .local _ .vmem, ⟨2, _⟩ => ⟨S1024x64, .bf16⟩
  | .local _ .vmem, ⟨3, _⟩ => ⟨S1024x64, .bf16⟩
  | .local _ .vmem, ⟨4, _⟩ => ⟨S1024x64, .f32⟩
  | .local _ .vmem, ⟨5, _⟩ => ⟨S1024x64, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference31Ideal.lean ====
abbrev S8192x1024 : Shape := ⟨2, ![8192, 1024]⟩
abbrev S8192x64 : Shape := ⟨2, ![8192, 64]⟩
abbrev S_ : Shape := ⟨0, ![]⟩
abbrev S1024x64 : Shape := ⟨2, ![1024, 64]⟩
abbrev S64x1024 : Shape := ⟨2, ![64, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x64, .bf16⟩
  | .hbm, ⟨2, _⟩ => ⟨S_, .f32⟩
  | .hbm, ⟨3, _⟩ => ⟨S1024x64, .f32⟩
  | .hbm, ⟨4, _⟩ => ⟨S8192x1024, .f32⟩
  | .hbm, ⟨5, _⟩ => ⟨S8192x64, .f32⟩
  | .hbm, ⟨6, _⟩ => ⟨S8192x64, .f32⟩
  | .hbm, ⟨7, _⟩ => ⟨S64x1024, .f32⟩
  | .hbm, ⟨8, _⟩ => ⟨S1024x64, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel32.lean ====
abbrev S8192x64 : Shape := ⟨2, ![8192, 64]⟩
abbrev S1024x64 : Shape := ⟨2, ![1024, 64]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x64, .bf16⟩
  | .hbm, ⟨1, _⟩ => ⟨S1024x64, .bf16⟩
  | .hbm, ⟨2, _⟩ => ⟨S8192x1024, .f32⟩
  | .local _ .vmem, ⟨0, _⟩ => ⟨S1024x64, .bf16⟩
  | .local _ .vmem, ⟨1, _⟩ => ⟨S1024x64, .bf16⟩
  | .local _ .vmem, ⟨2, _⟩ => ⟨S1024x64, .bf16⟩
  | .local _ .vmem, ⟨3, _⟩ => ⟨S1024x1024, .f32⟩
  | .local _ .vmem, ⟨4, _⟩ => ⟨S1024x1024, .f32⟩
  | _, _ => ⟨S8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S8192x64 : Shape := ⟨2, ![8192, 64]⟩
abbrev S1024x64 : Shape := ⟨2, ![1024, 64]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x64, .bf16⟩
  | .hbm, ⟨1, _⟩ => ⟨S1024x64, .bf16⟩
  | .hbm, ⟨2, _⟩ => ⟨S_, .f32⟩
  | .hbm, ⟨3, _⟩ => ⟨S8192x1024, .f32⟩
  | .hbm, ⟨4, _⟩ => ⟨S1024x64, .f32⟩
  | .hbm, ⟨5, _⟩ => ⟨S8192x64, .f32⟩
  | .hbm, ⟨6, _⟩ => ⟨S8192x64, .f32⟩
  | .hbm, ⟨7, _⟩ => ⟨S8192x1024, .f32⟩
  | _, _ => ⟨S8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel33.lean ====
abbrev S8192x128 : Shape := ⟨2, ![8192, 128]⟩
abbrev S8192x1024 : Shape := ⟨2, ![8192, 1024]⟩
abbrev S128x1024 : Shape := ⟨2, ![128, 1024]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S128x1024, .f32⟩
  | .local _ .vmem, ⟨0, _⟩ => ⟨S1024x128, .bf16⟩
  | .local _ .vmem, ⟨1, _⟩ => ⟨S1024x128, .bf16⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | .local _ .vmem, ⟨5, _⟩ => ⟨S128x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference33Ideal.lean ====
abbrev S8192x128 : Shape := ⟨2, ![8192, 128]⟩
abbrev S8192x1024 : Shape := ⟨2, ![8192, 1024]⟩
abbrev S_ : Shape := ⟨0, ![]⟩
abbrev S128x1024 : Shape := ⟨2, ![128, 1024]⟩
abbrev S1024x128 : Shape := ⟨2, ![1024, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S_, .f32⟩
  | .hbm, ⟨3, _⟩ => ⟨S128x1024, .f32⟩
  | .hbm, ⟨4, _⟩ => ⟨S8192x128, .f32⟩
  | .hbm, ⟨5, _⟩ => ⟨S8192x1024, .f32⟩
  | .hbm, ⟨6, _⟩ => ⟨S8192x1024, .f32⟩
  | .hbm, ⟨7, _⟩ => ⟨S1024x128, .f32⟩
  | .hbm, ⟨8, _⟩ => ⟨S128x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel34.lean ====
abbrev S8192x1024 : Shape := ⟨2, ![8192, 1024]⟩
abbrev S128x1024 : Shape := ⟨2, ![128, 1024]⟩
abbrev S8192x128 : Shape := ⟨2, ![8192, 128]⟩
abbrev S1024x1024 : Shape := ⟨2, ![1024, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference34Ideal.lean ====
abbrev S8192x1024 : Shape := ⟨2, ![8192, 1024]⟩
abbrev S128x1024 : Shape := ⟨2, ![128, 1024]⟩
abbrev S_ : Shape := ⟨0, ![]⟩
abbrev S8192x128 : Shape := ⟨2, ![8192, 128]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S_, .f32⟩
  | .hbm, ⟨3, _⟩ => ⟨S8192x128, .f32⟩
  | .hbm, ⟨4, _⟩ => ⟨S128x1024, .f32⟩
  | .hbm, ⟨5, _⟩ => ⟨S8192x1024, .f32⟩
  | .hbm, ⟨6, _⟩ => ⟨S8192x1024, .f32⟩
  | .hbm, ⟨7, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel35.lean ====
abbrev S8192x1024 : Shape := ⟨2, ![8192, 1024]⟩
abbrev S8192x128 : Shape := ⟨2, ![8192, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference35Ideal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S8192x128, .f32⟩
  | .hbm, ⟨7, _⟩ => ⟨S128x1024, .f32⟩
  | .hbm, ⟨8, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel36.lean ====
abbrev S8192x128 : Shape := ⟨2, ![8192, 128]⟩
abbrev S1024x128 : Shape := ⟨2, ![1024, 128]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference36Ideal.lean ====
abbrev S8192x128 : Shape := ⟨2, ![8192, 128]⟩
abbrev S1024x128 : Shape := ⟨2, ![1024, 128]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S_, .f32⟩
  | .hbm, ⟨3, _⟩ => ⟨S8192x1024, .f32⟩
  | .hbm, ⟨4, _⟩ => ⟨S1024x128, .f32⟩
  | .hbm, ⟨5, _⟩ => ⟨S8192x128, .f32⟩
  | .hbm, ⟨6, _⟩ => ⟨S8192x128, .f32⟩
  | .hbm, ⟨7, _⟩ => ⟨S8192x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel37.lean ====
abbrev S8192x1024 : Shape := ⟨2, ![8192, 1024]⟩
abbrev S1024x64 : Shape := ⟨2, ![1024, 64]⟩
abbrev S8192x64 : Shape := ⟨2, ![8192, 64]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x64, .bf16⟩
  | .hbm, ⟨2, _⟩ => ⟨S8192x64, .f32⟩
  | .local _ .vmem, ⟨0, _⟩ => ⟨S1024x1024, .bf16⟩
  | .local _ .vmem, ⟨1, _⟩ => ⟨S1024x1024, .bf16⟩
  | .local _ .vmem, ⟨2, _⟩ => ⟨S1024x64, .bf16⟩
  | .local _ .vmem, ⟨3, _⟩ => ⟨S1024x64, .f32⟩
  | .local _ .vmem, ⟨4, _⟩ => ⟨S1024x64, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference37Ideal.lean ====
abbrev S8192x1024 : Shape := ⟨2, ![8192, 1024]⟩
abbrev S1024x64 : Shape := ⟨2, ![1024, 64]⟩
abbrev S8192x64 : Shape := ⟨2, ![8192, 64]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x64, .bf16⟩
  | .hbm, ⟨2, _⟩ => ⟨S8192x1024, .f32⟩
  | .hbm, ⟨3, _⟩ => ⟨S1024x64, .f32⟩
  | .hbm, ⟨4, _⟩ => ⟨S8192x64, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel38.lean ====
abbrev S8192x1024 : Shape := ⟨2, ![8192, 1024]⟩
abbrev S1024x64 : Shape := ⟨2, ![1024, 64]⟩
abbrev S8192x64 : Shape := ⟨2, ![8192, 64]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x64, .bf16⟩
  | .hbm, ⟨2, _⟩ => ⟨S8192x64, .bf16⟩
  | .local _ .vmem, ⟨0, _⟩ => ⟨S1024x1024, .bf16⟩
  | .local _ .vmem, ⟨1, _⟩ => ⟨S1024x1024, .bf16⟩
  | .local _ .vmem, ⟨2, _⟩ => ⟨S1024x64, .bf16⟩
  | .local _ .vmem, ⟨3, _⟩ => ⟨S1024x64, .bf16⟩
  | .local _ .vmem, ⟨4, _⟩ => ⟨S1024x64, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference38Ideal.lean ====
abbrev S8192x1024 : Shape := ⟨2, ![8192, 1024]⟩
abbrev S1024x64 : Shape := ⟨2, ![1024, 64]⟩
abbrev S8192x64 : Shape := ⟨2, ![8192, 64]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x64, .bf16⟩
  | .hbm, ⟨2, _⟩ => ⟨S8192x1024, .f32⟩
  | .hbm, ⟨3, _⟩ => ⟨S1024x64, .f32⟩
  | .hbm, ⟨4, _⟩ => ⟨S8192x64, .f32⟩
  | .hbm, ⟨5, _⟩ => ⟨S8192x64, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel39.lean ====
abbrev S8192x64 : Shape := ⟨2, ![8192, 64]⟩
abbrev S64x1024 : Shape := ⟨2, ![64, 1024]⟩
abbrev S8192x1024 : Shape := ⟨2, ![8192, 1024]⟩
abbrev S1024x64 : Shape := ⟨2, ![1024, 64]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x64, .bf16⟩
  | .hbm, ⟨1, _⟩ => ⟨S64x1024, .bf16⟩
  | .hbm, ⟨2, _⟩ => ⟨S8192x1024, .f32⟩
  | .local _ .vmem, ⟨0, _⟩ => ⟨S1024x64, .bf16⟩
  | .local _ .vmem, ⟨1, _⟩ => ⟨S1024x64, .bf16⟩
  | .local _ .vmem, ⟨2, _⟩ => ⟨S64x1024, .bf16⟩
  | .local _ .vmem, ⟨3, _⟩ => ⟨S1024x1024, .f32⟩
  | .local _ .vmem, ⟨4, _⟩ => ⟨S1024x1024, .f32⟩
  | _, _ => ⟨S8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference39Ideal.lean ====
abbrev S8192x64 : Shape := ⟨2, ![8192, 64]⟩
abbrev S64x1024 : Shape := ⟨2, ![64, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x64, .bf16⟩
  | .hbm, ⟨1, _⟩ => ⟨S64x1024, .bf16⟩
  | .hbm, ⟨2, _⟩ => ⟨S8192x64, .f32⟩
  | .hbm, ⟨3, _⟩ => ⟨S64x1024, .f32⟩
  | .hbm, ⟨4, _⟩ => ⟨S8192x1024, .f32⟩
  | _, _ => ⟨S8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel40.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference40Ideal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel41.lean ====
abbrev S8192x128 : Shape := ⟨2, ![8192, 128]⟩
abbrev S128x1024 : Shape := ⟨2, ![128, 1024]⟩
abbrev S8192x1024 : Shape := ⟨2, ![8192, 1024]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .bf16⟩
  | .hbm, ⟨1, _⟩ => ⟨S128x1024, .bf16⟩
  | .hbm, ⟨2, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S1024x1024, .f32⟩
  | .local _ .vmem, ⟨4, _⟩ => ⟨S1024x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference41Ideal.lean ====
abbrev S8192x128 : Shape := ⟨2, ![8192, 128]⟩
abbrev S128x1024 : Shape := ⟨2, ![128, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S128x1024, .bf16⟩
  | .hbm, ⟨2, _⟩ => ⟨S8192x128, .f32⟩
  | .hbm, ⟨3, _⟩ => ⟨S128x1024, .f32⟩
  | .hbm, ⟨4, _⟩ => ⟨S8192x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel42.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference42Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel43.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference43Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel44.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference44Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel45.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference45Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel46.lean ====
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference46Ideal.lean ====
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S1024x1 : Shape := ⟨2, ![1024, 1]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel47.lean ====
abbrev S8192x64 : Shape := ⟨2, ![8192, 64]⟩
abbrev S512x64 : Shape := ⟨2, ![512, 64]⟩

abbrev nBuf : Space → Nat
  | .hbm => 2
  | .vmem => 4
  | .smem => 0
  | _ => 0

abbrev bufTy : (tb : Table) → Fin (tcTables nBuf tb) → BufTy
  | .hbm, ⟨0, _⟩ => ⟨S8192x64, .f32⟩
  | .hbm, ⟨1, _⟩ => ⟨S8192x64, .bf16⟩
  | .local _ .vmem, ⟨0, _⟩ => ⟨S512x64, .f32⟩
  | .local _ .vmem, ⟨1, _⟩ => ⟨S512x64, .f32⟩
  | .local _ .vmem, ⟨2, _⟩ => ⟨S512x64, .bf16⟩
  | .local _ .vmem, ⟨3, _⟩ => ⟨S512x64, .bf16⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference47Ideal.lean ====
abbrev S8192x64 : Shape := ⟨2, ![8192, 64]⟩

abbrev nBuf : Space → Nat
  | .hbm => 3
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .bf16⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Kernel48.lean ====
abbrev S8192x128 : Shape := ⟨2, ![8192, 128]⟩
abbrev S512x128 : Shape := ⟨2, ![512, 128]⟩

abbrev nBuf : Space → Nat
  | .hbm => 2
  | .vmem => 4
  | .smem => 0
  | _ => 0

abbrev bufTy : (tb : Table) → Fin (tcTables nBuf tb) → BufTy
  | .hbm, ⟨0, _⟩ => ⟨S8192x128, .f32⟩
  | .hbm, ⟨1, _⟩ => ⟨S8192x128, .bf16⟩
  | .local _ .vmem, ⟨0, _⟩ => ⟨S512x128, .f32⟩
  | .local _ .vmem, ⟨1, _⟩ => ⟨S512x128, .f32⟩
  | .local _ .vmem, ⟨2, _⟩ => ⟨S512x128, .bf16⟩
  | .local _ .vmem, ⟨3, _⟩ => ⟨S512x128, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference48Ideal.lean ====
abbrev S8192x128 : Shape := ⟨2, ![8192, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192x128, .f32⟩
  | .hbm, ⟨5, _⟩ => ⟨S8192x128, .f32⟩
  | .hbm, ⟨6, _⟩ => ⟨S_, .f32⟩
  | .hbm, ⟨7, _⟩ => ⟨S8192x128, .f32⟩
  | .hbm, ⟨8, _⟩ => ⟨S8192x128, .f32⟩
  | .hbm, ⟨9, _⟩ => ⟨S8192x128, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel49.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 10
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference49Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel50.lean ====
abbrev S1024x1024 : Shape := ⟨2, ![1024, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 7
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1x1024, .f32⟩
  | .hbm, ⟨4, _⟩ => ⟨S8x1024, .f32⟩
  | .hbm, ⟨5, _⟩ => ⟨S_, .f32⟩
  | .hbm, ⟨6, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S8x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference50Ideal.lean ====
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S1024x1 : Shape := ⟨2, ![1024, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1x1024, .f32⟩
  | .hbm, ⟨4, _⟩ => ⟨S1024, .f32⟩
  | .hbm, ⟨5, _⟩ => ⟨S1024x1024, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x1024, .f32⟩
  | .hbm, ⟨17, _⟩ => ⟨S1024x1024, .f32⟩
  | .hbm, ⟨18, _⟩ => ⟨S1x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S_, .f32⟩
  | .hbm, ⟨27, _⟩ => ⟨S1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel51.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .bf16⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S8x1024, .f32⟩
  | .local _ .vmem, ⟨8, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference51Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel52.lean ====
abbrev S8192x128 : Shape := ⟨2, ![8192, 128]⟩
abbrev S_ : Shape := ⟨0, ![]⟩
abbrev S512x128 : Shape := ⟨2, ![512, 128]⟩

abbrev nBuf : Space → Nat
  | .hbm => 12
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S8192x128, .bf16⟩
  | .hbm, ⟨11, _⟩ => ⟨S8192x128, .bf16⟩
  | .local _ .vmem, ⟨0, _⟩ => ⟨S512x128, .f32⟩
  | .local _ .vmem, ⟨1, _⟩ => ⟨S512x128, .f32⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference52Ideal.lean ====
abbrev S8192x128 : Shape := ⟨2, ![8192, 128]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel53.lean ====
abbrev S8192x2048 : Shape := ⟨2, ![8192, 2048]⟩
abbrev S1x1024 : Shape := ⟨2, ![1, 1024]⟩
abbrev S4x1024 : Shape := ⟨2, ![4, 1024]⟩
abbrev S8192x1024 : Shape := ⟨2, ![8192, 1024]⟩
abbrev S512x1024 : Shape := ⟨2, ![512, 1024]⟩
abbrev S8x1024 : Shape := ⟨2, ![8, 1024]⟩
abbrev S504x1024 : Shape := ⟨2, ![504, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x1024, .f32⟩
  | .hbm, ⟨2, _⟩ => ⟨S4x1024, .f32⟩
  | .hbm, ⟨3, _⟩ => ⟨S1x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S512x1024, .f32⟩
  | .local _ .vmem, ⟨8, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference53Ideal.lean ====
abbrev S8192x2048 : Shape := ⟨2, ![8192, 2048]⟩
abbrev S1x1024 : Shape := ⟨2, ![1, 1024]⟩
abbrev S4x1024 : Shape := ⟨2, ![4, 1024]⟩
abbrev S_ : Shape := ⟨0, ![]⟩
abbrev S1024 : Shape := ⟨1, ![1024]⟩
abbrev S2048 : Shape := ⟨1, ![2048]⟩
abbrev S1x2048 : Shape := ⟨2, ![1, 2048]⟩
abbrev S4x2048x2048 : Shape := ⟨3, ![4, 2048, 2048]⟩
abbrev S4x2048x1024 : Shape := ⟨3, ![4, 2048, 1024]⟩
abbrev S4x3x1024 : Shape := ⟨3, ![4, 3, 1024]⟩
abbrev S4x2051x1024 : Shape := ⟨3, ![4, 2051, 1024]⟩
abbrev S1x1x1024 : Shape := ⟨3, ![1, 1, 1024]⟩
abbrev S8192x1024 : Shape := ⟨2, ![8192, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x1024, .f32⟩
  | .hbm, ⟨2, _⟩ => ⟨S4x1024, .f32⟩
  | .hbm, ⟨3, _⟩ => ⟨S1x1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S2048, .f32⟩
  | .hbm, ⟨8, _⟩ => ⟨S1024, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S4x2048x2048, .f32⟩
  | .hbm, ⟨13, _⟩ => ⟨S4x2048x1024, .f32⟩
  | .hbm, ⟨14, _⟩ => ⟨S4x2048x1024, .f32⟩
  | .hbm, ⟨15, _⟩ => ⟨S_, .f32⟩
  | .hbm, ⟨16, _⟩ => ⟨S4x3x1024, .f32⟩
  | .hbm, ⟨17, _⟩ => ⟨S4x2051x1024, .f32⟩
  | .hbm, ⟨18, _⟩ => ⟨S4x2048x1024, .f32⟩
  | .hbm, ⟨19, _⟩ => ⟨S1x1024, .f32⟩
  | .hbm, ⟨20, _⟩ => ⟨S1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S1x1024, .f32⟩
  | .hbm, ⟨36, _⟩ => ⟨S1024, .f32⟩
  | .hbm, ⟨37, _⟩ => ⟨S1x1x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S1x1024, .f32⟩
  | .hbm, ⟨43, _⟩ => ⟨S1024, .f32⟩
  | .hbm, ⟨44, _⟩ => ⟨S1x1x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩

abbrev nD : Nat := 1
abbrev τ : Topo := Topo.v7x

variable {F : FTy → Type} [FloatOps F]
-- ==== Proof.Row.lean ====
/- One query row of one head's attention and its gradient, over the extended reals: plain functions of the row and of the
   head's keys and values. -/
module

public import Idealize.ShloMosaic.Lib.Pointwise

@[expose] public section

noncomputable section

namespace Cert.Attn

open Idealize.ShloMosaic

/-- Scaled scores of query row `q` against the keys. -/
def sc (q : Fin 256 → EReal) (k : Fin 256 → Fin 256 → EReal) (j : Fin 256) : EReal :=
  (∑ d : Fin 256, q d * k j d) * Ideal.ofBits .f32 0x3D800000#32

/-- The row's largest score. -/
def mx (q : Fin 256 → EReal) (k : Fin 256 → Fin 256 → EReal) : EReal :=
  Finset.univ.fold max (Ideal.ofBits .f32 0xFF800000#32) (sc q k)

/-- Exponentials of the scores less the row's largest. -/
def ew (q : Fin 256 → EReal) (k : Fin 256 → Fin 256 → EReal) (j : Fin 256) : EReal := Ideal.exp (sc q k j - mx q k)

/-- Their sum. -/
def tot (q : Fin 256 → EReal) (k : Fin 256 → Fin 256 → EReal) : EReal := ∑ j : Fin 256, ew q k j

/-- The attention weights. -/
def pr (q : Fin 256 → EReal) (k : Fin 256 → Fin 256 → EReal) (j : Fin 256) : EReal := Ideal.div (ew q k j) (tot q k)

/-- The cotangent of the weights: the row's cotangent `g` against the values. -/
def dp (g : Fin 256 → EReal) (v : Fin 256 → Fin 256 → EReal) (j : Fin 256) : EReal := ∑ d : Fin 256, g d * v j d

/-- The cotangent of the scores, as the kernel computes it. -/
def ds (q : Fin 256 → EReal) (k v : Fin 256 → Fin 256 → EReal) (g : Fin 256 → EReal) (j : Fin 256) : EReal :=
  pr q k j * (dp g v j - ∑ l : Fin 256, pr q k l * dp g v l) * Ideal.ofBits .f32 0x3D800000#32

end Cert.Attn

end
-- ==== Proof.Block.lean ====
/- What the kernel body's payloads compute for one head, read at an index. The four heads' payloads are one another's text. -/
module

public import proofs.«01_k».proof.Proof.Row
public import proofs.«01_k».proof.Proof.Gen.KernelIdeal.Skeleton

@[expose] public section

set_option maxRecDepth 16384

noncomputable section

namespace Cert.KernelIdeal.Attn

open Cert.KernelIdeal Cert.KernelIdeal.Gen Cert.Attn Idealize.ShloMosaic

variable (q g : FVec Ideal S1024x256 .bf16) (k v : FVec Ideal S256x256 .bf16) (acc : FVec Ideal S256x256 .f32)

/-- Row `r` of a block. -/
abbrev row {n : Nat} (x : (⟨2, ![n, 256]⟩ : Shape).Idx → EReal) (r : Fin n) (d : Fin 256) : EReal := x (ix2 r d)

theorem pay7_at (r : Fin 1024) (j : Fin 256) : k0_pay7 (F := Ideal) q k (ix2 r j) = pr (row q r) (row k) j := by
  pointwise [k0_pay7, pr, ew, tot, sc, mx]

theorem pay8_at (r : Fin 1024) (j : Fin 256) :
    k0_pay8 (F := Ideal) q k v g (ix2 r j) = ds (row q r) (row k) (row v) (row g r) j := by
  pointwise [k0_pay8, pay7_at, ds, dp]

theorem pay9_at (r : Fin 1024) (d : Fin 256) :
    k0_pay9 (F := Ideal) q k v g (ix2 r d) = ∑ j : Fin 256, ds (row q r) (row k) (row v) (row g r) j * k (ix2 j d) := by
  pointwise [k0_pay9, pay8_at]

theorem pay11_at (j d : Fin 256) :
    k0_pay11 (F := Ideal) q (k0_pay8 q k v g) (k0_pay10 acc) (ix2 j d)
      = acc (ix2 j d) + ∑ r : Fin 1024, ds (row q r) (row k) (row v) (row g r) j * q (ix2 r d) := by
  pointwise [k0_pay11, k0_pay10, pay8_at]

theorem pay12_at (j d : Fin 256) :
    k0_pay12 (F := Ideal) g (k0_pay7 q k) acc (ix2 j d)
      = acc (ix2 j d) + ∑ r : Fin 1024, pr (row q r) (row k) j * g (ix2 r d) := by
  pointwise [k0_pay12, pay7_at]

end Cert.KernelIdeal.Attn

end
-- ==== Proof.Arrays.lean ====
/- What the two result arrays hold after the run: the queries' gradient row by row, the keys' and values' gradient as sums over
   the 2048 rows of a sequence. -/
module

public import proofs.«01_k».proof.Proof.Block
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Attn

open Cert.KernelIdeal Cert.KernelIdeal.Gen Cert.Attn Idealize.ShloMosaic Idealize.ShloMosaic.TcCoe Idealize.SL.Sem
open Idealize.ShloMosaic.Pipeline (Dat)

section pure

variable (Q DO : FVec Ideal S8192x1024 .bf16) (KV : FVec Ideal S1024x2048 .bf16)

/-- Head `h` of token row `R`. -/
def hrow (X : FVec Ideal S8192x1024 .bf16) (R : Fin 8192) (h : Fin 4) (d : Fin 256) : EReal :=
  X (ix2 R ⟨256 * h.val + d.val, by omega⟩)

/-- Head `h` of sequence `n`'s keys. -/
def hk (n : Fin 4) (h : Fin 4) (j d : Fin 256) : EReal :=
  KV (ix2 ⟨256 * n.val + j.val, by omega⟩ ⟨256 * h.val + d.val, by omega⟩)

/-- Head `h` of sequence `n`'s values. -/
def hv (n : Fin 4) (h : Fin 4) (j d : Fin 256) : EReal :=
  KV (ix2 ⟨256 * n.val + j.val, by omega⟩ ⟨1024 + (256 * h.val + d.val), by omega⟩)

/-- The weights of row `R` of sequence `n` in head `h`. -/
def PR (n h : Fin 4) (R : Fin 8192) (j : Fin 256) : EReal := pr (hrow Q R h) (hk KV n h) j

/-- The scores' cotangent of row `R` of sequence `n` in head `h`. -/
def DS (n h : Fin 4) (R : Fin 8192) (j : Fin 256) : EReal := ds (hrow Q R h) (hk KV n h) (hv KV n h) (hrow DO R h) j

/-- The queries' gradient. -/
def DQ (n h : Fin 4) (R : Fin 8192) (d : Fin 256) : EReal := ∑ j : Fin 256, DS Q DO KV n h R j * hk KV n h j d

/-- The keys' gradient. -/
def DK (n h : Fin 4) (j d : Fin 256) : EReal :=
  ∑ s : Fin 2048, DS Q DO KV n h ⟨2048 * n.val + s.val, by omega⟩ j * hrow Q ⟨2048 * n.val + s.val, by omega⟩ h d

/-- The values' gradient. -/
def DV (n h : Fin 4) (j d : Fin 256) : EReal :=
  ∑ s : Fin 2048, PR Q KV n h ⟨2048 * n.val + s.val, by omega⟩ j * hrow DO ⟨2048 * n.val + s.val, by omega⟩ h d

/-- Row `r` of grid point `p`'s block of tokens. -/
abbrev tok (p : Fin 8) (r : Fin 1024) : Fin 8192 := ⟨1024 * p.val + r.val, by omega⟩

/-- The part of the keys' gradient that grid point `p` adds. -/
def DKpart (p : Fin 8) (h : Fin 4) (j d : Fin 256) : EReal :=
  ∑ r : Fin 1024, DS Q DO KV ⟨p.val / 2, by omega⟩ h (tok p r) j * hrow Q (tok p r) h d

/-- The part of the values' gradient that grid point `p` adds. -/
def DVpart (p : Fin 8) (h : Fin 4) (j d : Fin 256) : EReal :=
  ∑ r : Fin 1024, PR Q KV ⟨p.val / 2, by omega⟩ h (tok p r) j * hrow DO (tok p r) h d

/-- A block's loads for head `h` at grid point `p`, as parts of the arrays. -/
structure Loads (p : Fin 8) (h : Fin 4) (q g : FVec Ideal S1024x256 .bf16) (k v : FVec Ideal S256x256 .bf16) : Prop where
  q : ∀ r d, q (ix2 r d) = hrow Q (tok p r) h d
  g : ∀ r d, g (ix2 r d) = hrow DO (tok p r) h d
  k : ∀ j d, k (ix2 j d) = hk KV ⟨p.val / 2, by omega⟩ h j d
  v : ∀ j d, v (ix2 j d) = hv KV ⟨p.val / 2, by omega⟩ h j d

variable {Q DO KV}
variable {p : Fin 8} {h : Fin 4} {q g : FVec Ideal S1024x256 .bf16} {k v : FVec Ideal S256x256 .bf16}

theorem Loads.ds (L : Loads Q DO KV p h q g k v) (r : Fin 1024) (j : Fin 256) :
    Attn.ds (row q r) (row k) (row v) (row g r) j = DS Q DO KV ⟨p.val / 2, by omega⟩ h (tok p r) j := by
  unfold DS
  congr 1
  · exact funext (L.q r)
  · exact funext fun j => funext (L.k j)
  · exact funext fun j => funext (L.v j)
  · exact funext (L.g r)

theorem Loads.pr (L : Loads Q DO KV p h q g k v) (r : Fin 1024) (j : Fin 256) :
    Attn.pr (row q r) (row k) j = PR Q KV ⟨p.val / 2, by omega⟩ h (tok p r) j := by
  unfold PR
  congr 1
  · exact funext (L.q r)
  · exact funext fun j => funext (L.k j)

theorem Loads.dq (L : Loads Q DO KV p h q g k v) (r : Fin 1024) (d : Fin 256) :
    k0_pay9 (F := Ideal) q k v g (ix2 r d) = DQ Q DO KV ⟨p.val / 2, by omega⟩ h (tok p r) d := by
  rw [pay9_at, DQ]
  exact Finset.sum_congr rfl fun j _ => congrArg₂ _ (L.ds r j) (L.k j d)

theorem Loads.dk (L : Loads Q DO KV p h q g k v) (acc : FVec Ideal S256x256 .f32) (j d : Fin 256) :
    k0_pay11 (F := Ideal) q (k0_pay8 q k v g) (k0_pay10 acc) (ix2 j d) = acc (ix2 j d) + DKpart Q DO KV p h j d := by
  rw [pay11_at, DKpart]
  exact congrArg _ (Finset.sum_congr rfl fun r _ => congrArg₂ _ (L.ds r j) (L.q r d))

theorem Loads.dv (L : Loads Q DO KV p h q g k v) (acc : FVec Ideal S256x256 .f32) (j d : Fin 256) :
    k0_pay12 (F := Ideal) g (k0_pay7 q k) acc (ix2 j d) = acc (ix2 j d) + DVpart Q DO KV p h j d := by
  rw [pay12_at, DVpart]
  exact congrArg _ (Finset.sum_congr rfl fun r _ => congrArg₂ _ (L.pr r j) (L.g r d))

variable (Q DO KV)

/-- The queries' gradient as an array. -/
def DQarr (i : S8192x1024.Idx) : EReal :=
  DQ Q DO KV ⟨(i 0).val / 2048, by have := ValueIdx.idx2_lt0 i; omega⟩ ⟨(i 1).val / 256, by have := ValueIdx.idx2_lt1 i; omega⟩ ⟨(i 0).val, ValueIdx.idx2_lt0 i⟩
    ⟨(i 1).val % 256, by omega⟩

/-- A block of the keys' and values' gradients: keys in the first 1024 columns, values in the rest. -/
def kvBlock (fk fv : Fin 4 → Fin 256 → Fin 256 → EReal) (j : Fin 256) (l : Fin 2048) : EReal :=
  if hl : l.val < 1024 then fk ⟨l.val / 256, by omega⟩ j ⟨l.val % 256, by omega⟩
  else fv ⟨(l.val - 1024) / 256, by omega⟩ j ⟨l.val % 256, by omega⟩

/-- The keys' and values' gradient as an array. -/
def DKVarr (i : S1024x2048.Idx) : EReal :=
  kvBlock (DK Q DO KV ⟨(i 0).val / 256, by have := ValueIdx.idx2_lt0 i; omega⟩) (DV Q DO KV ⟨(i 0).val / 256, by have := ValueIdx.idx2_lt0 i; omega⟩)
    ⟨(i 0).val % 256, by omega⟩ ⟨(i 1).val, ValueIdx.idx2_lt1 i⟩

variable {Q DO KV}

theorem DQarr_of {p : Fin 8} {h : Fin 4} {r : Fin 1024} {d : Fin 256} {i : S8192x1024.Idx} (h0 : (i 0).val = 1024 * p.val + r.val)
    (h1 : (i 1).val = 256 * h.val + d.val) : DQarr Q DO KV i = DQ Q DO KV ⟨p.val / 2, by omega⟩ h (tok p r) d := by
  unfold DQarr
  congr 1 <;> refine Fin.ext ?_ <;> simp only [h0, h1] <;> omega

theorem kvBlock_k {fk fv : Fin 4 → Fin 256 → Fin 256 → EReal} {h : Fin 4} {j d : Fin 256} {l : Fin 2048}
    (hl : l.val = 256 * h.val + d.val) : kvBlock fk fv j l = fk h j d := by
  unfold kvBlock
  rw [dif_pos (by omega)]
  congr 1 <;> refine Fin.ext ?_ <;> simp only [hl] <;> omega

theorem kvBlock_v {fk fv : Fin 4 → Fin 256 → Fin 256 → EReal} {h : Fin 4} {j d : Fin 256} {l : Fin 2048}
    (hl : l.val = 1024 + (256 * h.val + d.val)) : kvBlock fk fv j l = fv h j d := by
  unfold kvBlock
  rw [dif_neg (by omega)]
  congr 1 <;> refine Fin.ext ?_ <;> simp only [hl] <;> omega

theorem kvBlock_add (fk fv fk' fv' : Fin 4 → Fin 256 → Fin 256 → EReal) (j : Fin 256) (l : Fin 2048) :
    kvBlock fk fv j l + kvBlock fk' fv' j l = kvBlock (fun h j d => fk h j d + fk' h j d) (fun h j d => fv h j d + fv' h j d) j l := by
  unfold kvBlock
  split <;> rfl

/-- A sum over a sequence's 2048 rows, one half per grid point. -/
theorem sum_halves (f : Fin 8192 → EReal) (p p' : Fin 8) (n : Fin 4) (hp : p.val = 2 * n.val) (hp' : p'.val = 2 * n.val + 1) :
    (∑ r : Fin 1024, f (tok p r)) + ∑ r : Fin 1024, f (tok p' r) = ∑ s : Fin 2048, f ⟨2048 * n.val + s.val, by omega⟩ := by
  rw [Fin.sum_univ_two_halves 1024 1024 rfl]
  refine congrArg₂ _ (Finset.sum_congr rfl fun r _ => congrArg f ?_) (Finset.sum_congr rfl fun r _ => congrArg f ?_) <;>
    refine Fin.ext ?_ <;> simp only [tok] <;> omega

theorem DK_halves (p p' : Fin 8) (n h : Fin 4) (hp : p.val = 2 * n.val) (hp' : p'.val = 2 * n.val + 1) (j d : Fin 256) :
    DKpart Q DO KV p h j d + DKpart Q DO KV p' h j d = DK Q DO KV n h j d := by
  have e : (⟨p.val / 2, by omega⟩ : Fin 4) = n := Fin.ext (by simp only; omega)
  have e' : (⟨p'.val / 2, by omega⟩ : Fin 4) = n := Fin.ext (by simp only; omega)
  unfold DKpart DK
  rw [e, e']
  exact sum_halves (fun R => DS Q DO KV n h R j * hrow Q R h d) p p' n hp hp'

theorem DV_halves (p p' : Fin 8) (n h : Fin 4) (hp : p.val = 2 * n.val) (hp' : p'.val = 2 * n.val + 1) (j d : Fin 256) :
    DVpart Q DO KV p h j d + DVpart Q DO KV p' h j d = DV Q DO KV n h j d := by
  have e : (⟨p.val / 2, by omega⟩ : Fin 4) = n := Fin.ext (by simp only; omega)
  have e' : (⟨p'.val / 2, by omega⟩ : Fin 4) = n := Fin.ext (by simp only; omega)
  unfold DVpart DV
  rw [e, e']
  exact sum_halves (fun R => PR Q KV n h R j * hrow DO R h d) p p' n hp hp'

end pure

end Cert.KernelIdeal.Attn

end
-- ==== Proof.Canon.lean ====
/- Reading a buffer that several stores wrote one after another. -/
module

public import Idealize.ShloMosaic.Lib.Pipeline.ValueKit

@[expose] public section

noncomputable section

namespace Cert.Canon

open Idealize.ShloMosaic

/-- Where the later stores already cover an index, an earlier store is not seen there. -/
theorem canon_covered {S : Shape} {e : EltTy} {Val : EltTy → Type} [∀ e, Nonempty (Val e)] (L' : List (View.Piece Val S e)) :
    ∀ (L : List (View.Piece Val S e)) (y : S.Idx), (∃ p ∈ L, y ∈ p.1.set) → View.canon (L ++ L') y = View.canon L y
  | [], _, h => by obtain ⟨p, hp, _⟩ := h; exact absurd hp List.not_mem_nil
  | p :: L, y, h => by
    by_cases hy : y ∈ p.1.set
    · obtain ⟨x, rfl⟩ := p.1.exists_idx_of_mem hy
      exact (View.canon_cons_emb p.1 p.2 (L ++ L') x).trans (View.canon_cons_emb p.1 p.2 L x).symm
    · rw [List.cons_append, View.canon_cons_of_not_mem _ _ hy, View.canon_cons_of_not_mem _ _ hy]
      obtain ⟨q, hq, hyq⟩ := h
      rcases List.mem_cons.mp hq with rfl | hq
      · exact absurd hyq hy
      · exact canon_covered L' L y ⟨q, hq, hyq⟩

end Cert.Canon

end
-- ==== Proof.Run.lean ====
/- The result arrays after the run. -/
module

public import proofs.«01_k».proof.Proof.Arrays
public import proofs.«01_k».proof.Proof.Canon

@[expose] public section

set_option maxRecDepth 16384

noncomputable section

namespace Cert.KernelIdeal.Attn

open Cert.KernelIdeal Cert.KernelIdeal.Gen Cert.Attn Cert.Canon Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val / 2, 0] ∧ win0_2.index t = ![t.val, 0]
    ∧ win0_3.index t = ![t.val, 0] ∧ win0_4.index t = ![t.val / 2, 0] :=
  (by decide +kernel : ∀ t : Fin grid0.N, _)

abbrev argQ (c : Dev nD) : FVec Ideal S8192x1024 .bf16 := m ((c : Thread nD τ).loc main_arg0)
abbrev argKV (c : Dev nD) : FVec Ideal S1024x2048 .bf16 := m ((c : Thread nD τ).loc main_arg1)
abbrev argDO (c : Dev nD) : FVec Ideal S8192x1024 .bf16 := m ((c : Thread nD τ).loc main_arg2)

theorem hN : cfg0.N = 8 := N_0

abbrev pt (t : Fin cfg0.N) : Fin 8 := ⟨t.val, lt_of_lt_of_eq t.isLt hN⟩

/-- The other three heads' payloads are the first head's. -/
theorem pay_dq1 (q g : FVec Ideal S1024x256 .bf16) (k v : FVec Ideal S256x256 .bf16) :
    k0_pay15 (F := Ideal) k (k0_pay14 q k v g) = k0_pay9 q k v g := rfl
theorem pay_dq2 (q g : FVec Ideal S1024x256 .bf16) (k v : FVec Ideal S256x256 .bf16) :
    k0_pay21 (F := Ideal) k (k0_pay18 q k) (k0_pay19 v g) = k0_pay9 q k v g := rfl
theorem pay_dq3 (q g : FVec Ideal S1024x256 .bf16) (k v : FVec Ideal S256x256 .bf16) :
    k0_pay3 (F := Ideal) k v g (k0_pay24 q k) (k0_pay25 q k) = k0_pay9 q k v g := rfl

theorem pay_dk1 (q : FVec Ideal S1024x256 .bf16) (e : FVec Ideal S1024x256 .bf16) (a : FVec Ideal S256x256 .f32) :
    k0_pay16 (F := Ideal) q e a = k0_pay11 q e (k0_pay10 a) := rfl
theorem pay_ds1 (q g : FVec Ideal S1024x256 .bf16) (k v : FVec Ideal S256x256 .bf16) :
    k0_pay14 (F := Ideal) q k v g = k0_pay8 q k v g := rfl
theorem pay_dk2 (q g : FVec Ideal S1024x256 .bf16) (k v : FVec Ideal S256x256 .bf16) (a : FVec Ideal S256x256 .f32) :
    k0_pay22 (F := Ideal) q (k0_pay18 q k) (k0_pay19 v g) a = k0_pay11 q (k0_pay8 q k v g) (k0_pay10 a) := rfl
theorem pay_dk3 (q g : FVec Ideal S1024x256 .bf16) (k v : FVec Ideal S256x256 .bf16) (a : FVec Ideal S256x256 .f32) :
    k0_pay4 (F := Ideal) q v g (k0_pay24 q k) (k0_pay25 q k) a = k0_pay11 q (k0_pay8 q k v g) (k0_pay10 a) := rfl
theorem pay_dv1 (q g : FVec Ideal S1024x256 .bf16) (k : FVec Ideal S256x256 .bf16) (a : FVec Ideal S256x256 .f32) :
    k0_pay17 (F := Ideal) g (k0_pay13 q k) a = k0_pay12 g (k0_pay7 q k) a := rfl
theorem pay_dv2 (q g : FVec Ideal S1024x256 .bf16) (k : FVec Ideal S256x256 .bf16) (a : FVec Ideal S256x256 .f32) :
    k0_pay23 (F := Ideal) g (k0_pay18 q k) a = k0_pay12 g (k0_pay7 q k) a := rfl
theorem pay_dv3 (q g : FVec Ideal S1024x256 .bf16) (k : FVec Ideal S256x256 .bf16) (a : FVec Ideal S256x256 .f32) :
    k0_pay5 (F := Ideal) g (k0_pay24 q k) (k0_pay25 q k) a = k0_pay12 g (k0_pay7 q k) a := rfl

theorem at3 {c : Dev nD} {t : Fin cfg0.N} {h : Fin 4} {q g : FVec Ideal S1024x256 .bf16} {k v : FVec Ideal S256x256 .bf16}
    (L : Loads (argQ m c) (argDO m c) (argKV m c) (pt t) h q g k v) (x : S1024x256.Idx) (i : S8192x1024.Idx)
    (h0 : (i 0).val = 1024 * t.val + (x 0).val) (h1 : (i 1).val = 256 * h.val + (x 1).val) :
    k0_pay9 (F := Ideal) q k v g x = DQarr (argQ m c) (argDO m c) (argKV m c) i := by
  rw [ValueIdx.eq_ix2 x]
  exact (L.dq (x 0) (x 1)).trans (DQarr_of (p := pt t) (r := x 0) (d := x 1) h0 h1).symm

/-- The four loads of head `h` at grid point `t`. -/
theorem loads (c : Dev nD) (t : Fin cfg0.N) (h : Fin 4) {o o' : ℕ} (ho : o = 256 * h.val) (ho' : o' = 1024 + 256 * h.val)
    (i1 : ∀ a, (![0, o] : Fin 2 → Nat) a + (![1024, 256] : Fin 2 → Nat) a ≤ S1024x1024.size a)
    (i2 : ∀ a, (![0, o] : Fin 2 → Nat) a + (![256, 256] : Fin 2 → Nat) a ≤ S256x2048.size a)
    (i3 : ∀ a, (![0, o'] : Fin 2 → Nat) a + (![256, 256] : Fin 2 → Nat) a ≤ S256x2048.size a) :
    Loads (argQ m c) (argDO m c) (argKV m c) (pt t) h
      (View.ld (S := S1024x1024) (iblk m c 0 t) (Rect.unit (s := S1024x1024) ![0, o] ![1024, 256] i1))
      (View.ld (S := S1024x1024) (iblk m c 2 t) (Rect.unit (s := S1024x1024) ![0, o] ![1024, 256] i1))
      (View.ld (S := S256x2048) (iblk m c 1 t) (Rect.unit (s := S256x2048) ![0, o] ![256, 256] i2))
      (View.ld (S := S256x2048) (iblk m c 1 t) (Rect.unit (s := S256x2048) ![0, o'] ![256, 256] i3)) := by
  subst ho ho'
  refine ⟨fun r d => ?_, fun r d => ?_, fun r d => ?_, fun r d => ?_⟩
  all_goals pointwise [hrow, hk, hv]
  all_goals blk_ext [iblk, V, idx t]

theorem point3 (c : Dev nD) (t : Fin cfg0.N) (y) : (outsAt0 m c t.val t.isLt).1 y
    = DQarr (argQ m c) (argDO m c) (argKV m c) (((cfg0.win 3).blk t).view.emb y) := by
  by_cases h : t.val % 2 = 0
  on_goal 1 => rw [outsAt0_A m c t h]
  on_goal 2 => rw [outsAt0_B m c t h]
  all_goals
    frame_out
    simp only [pay_dq1, pay_dq2, pay_dq3]
    canon_tiles x h
    · refine at3 m (t := t) (h := 3) (loads m c t 3 rfl rfl _ _ _) x _ ?_ ?_ <;> (blk_simp [idx t]; omega)
    · refine at3 m (t := t) (h := 2) (loads m c t 2 rfl rfl _ _ _) x _ ?_ ?_ <;> (blk_simp [idx t]; omega)
    · refine at3 m (t := t) (h := 1) (loads m c t 1 rfl rfl _ _ _) x _ ?_ ?_ <;> (blk_simp [idx t]; omega)
    · refine at3 m (t := t) (h := 0) (loads m c t 0 rfl rfl _ _ _) x _ ?_ ?_ <;> (blk_simp [idx t]; omega)

/-- The part of the keys' and values' gradient block that grid point `t` adds. -/
abbrev part (c : Dev nD) (t : Fin cfg0.N) (y : S256x2048.Idx) : EReal :=
  kvBlock (DKpart (argQ m c) (argDO m c) (argKV m c) (pt t)) (DVpart (argQ m c) (argDO m c) (argKV m c) (pt t)) (y 0) (y 1)

theorem at4k {c : Dev nD} {t : Fin cfg0.N} {h : Fin 4} {q g : FVec Ideal S1024x256 .bf16} {k v : FVec Ideal S256x256 .bf16}
    (L : Loads (argQ m c) (argDO m c) (argKV m c) (pt t) h q g k v) (acc : FVec Ideal S256x256 .f32) (x : S256x256.Idx)
    (y : S256x2048.Idx) (b : EReal) (hb : acc x = b) (h0 : (y 0).val = (x 0).val) (h1 : (y 1).val = 256 * h.val + (x 1).val) :
    k0_pay11 (F := Ideal) q (k0_pay8 q k v g) (k0_pay10 acc) x = b + part m c t y := by
  subst hb
  rw [ValueIdx.eq_ix2 x]
  refine (L.dk acc (x 0) (x 1)).trans (congrArg _ ?_)
  have e : (x 0 : Fin 256) = y 0 := Fin.ext h0.symm
  exact (congrArg (fun j : Fin 256 => DKpart (argQ m c) (argDO m c) (argKV m c) (pt t) h j (x 1)) e).trans
    (kvBlock_k (d := x 1) h1).symm

theorem at4v {c : Dev nD} {t : Fin cfg0.N} {h : Fin 4} {q g : FVec Ideal S1024x256 .bf16} {k v : FVec Ideal S256x256 .bf16}
    (L : Loads (argQ m c) (argDO m c) (argKV m c) (pt t) h q g k v) (acc : FVec Ideal S256x256 .f32) (x : S256x256.Idx)
    (y : S256x2048.Idx) (b : EReal) (hb : acc x = b) (h0 : (y 0).val = (x 0).val) (h1 : (y 1).val = 1024 + (256 * h.val + (x 1).val)) :
    k0_pay12 (F := Ideal) g (k0_pay7 q k) acc x = b + part m c t y := by
  subst hb
  rw [ValueIdx.eq_ix2 x]
  refine (L.dv acc (x 0) (x 1)).trans (congrArg _ ?_)
  have e : (x 0 : Fin 256) = y 0 := Fin.ext h0.symm
  exact (congrArg (fun j : Fin 256 => DVpart (argQ m c) (argDO m c) (argKV m c) (pt t) h j (x 1)) e).trans
    (kvBlock_v (d := x 1) h1).symm

/-- At a sequence's first grid point the block is reset, at its second the block is added into. -/
theorem step4 (c : Dev nD) (t : Fin cfg0.N) (y : S256x2048.Idx) : (outsAt0 m c t.val t.isLt).2 y
    = (if t.val % 2 = 0 then 0 else (outsAt0 m c (t.val - 1) (Nat.lt_of_le_of_lt (Nat.sub_le _ _) t.isLt)).2 y) + part m c t y := by
  by_cases h : t.val % 2 = 0
  on_goal 1 =>
    rw [outsAt0_A m c t h, if_pos h]
    frame_open
    simp (disch := decide) only [↓ View.readCov_skip, ↓ View.readCov_cons_toLoadRect, ↓ View.readCov_fill]
  on_goal 2 => rw [outsAt0_B m c t h, if_neg h]
  on_goal 1 => frame_out; refine (canon_covered [_] [_, _, _, _, _, _, _, _] y (View.cover_of_tiled_head _ _ _ rfl y)).trans ?_
  on_goal 2 => frame_out
  all_goals
    simp only [pay_dk1, pay_ds1, pay_dk2, pay_dk3, pay_dv1, pay_dv2, pay_dv3]
    canon_tiles x h
    · exact at4v m (t := t) (h := 3) (loads m c t 3 rfl rfl _ _ inb_S256x2048_S256x256_0_1792) _ x y _ (by first | (pointwise [k0_pay6]; done) | (pointwise; blk_ext)) h0 (by simp only [Fin.isValue]; omega)
    · exact at4k m (t := t) (h := 3) (loads m c t 3 rfl rfl _ _ inb_S256x2048_S256x256_0_1792) _ x y _ (by first | (pointwise [k0_pay6]; done) | (pointwise; blk_ext)) h0 (by simp only [Fin.isValue]; omega)
    · exact at4v m (t := t) (h := 2) (loads m c t 2 rfl rfl _ _ inb_S256x2048_S256x256_0_1536) _ x y _ (by first | (pointwise [k0_pay6]; done) | (pointwise; blk_ext)) h0 (by simp only [Fin.isValue]; omega)
    · exact at4k m (t := t) (h := 2) (loads m c t 2 rfl rfl _ _ inb_S256x2048_S256x256_0_1536) _ x y _ (by first | (pointwise [k0_pay6]; done) | (pointwise; blk_ext)) h0 (by simp only [Fin.isValue]; omega)
    · exact at4v m (t := t) (h := 1) (loads m c t 1 rfl rfl _ _ inb_S256x2048_S256x256_0_1280) _ x y _ (by first | (pointwise [k0_pay6]; done) | (pointwise; blk_ext)) h0 (by simp only [Fin.isValue]; omega)
    · exact at4k m (t := t) (h := 1) (loads m c t 1 rfl rfl _ _ inb_S256x2048_S256x256_0_1280) _ x y _ (by first | (pointwise [k0_pay6]; done) | (pointwise; blk_ext)) h0 (by simp only [Fin.isValue]; omega)
    · exact at4v m (t := t) (h := 0) (loads m c t 0 rfl rfl _ _ inb_S256x2048_S256x256_0_1024) _ x y _ (by first | (pointwise [k0_pay6]; done) | (pointwise; blk_ext)) h0 (by simp only [Fin.isValue]; omega)
    · exact at4k m (t := t) (h := 0) (loads m c t 0 rfl rfl _ _ inb_S256x2048_S256x256_0_1024) _ x y _ (by first | (pointwise [k0_pay6]; done) | (pointwise; blk_ext)) h0 (by simp only [Fin.isValue]; omega)

/-- The queries' gradient after the run. -/
theorem arr3 (c : Dev nD) : (dats m 0 c).arrAt 3 cfg0.N = DQarr (argQ m c) (argDO m c) (argKV m c) := by
  refine (dats m 0 c).arrAt_eq_of_covers 3 _ (by decide +kernel) fun t hf y => ?_
  blk_simp
  rw [after0_3]
  exact point3 m c t y

theorem DKVarr_of {Q DO : FVec Ideal S8192x1024 .bf16} {KV : FVec Ideal S1024x2048 .bf16} {n : Fin 4} {j : Fin 256} {l : Fin 2048} {i : S1024x2048.Idx}
    (h0 : (i 0).val = 256 * n.val + j.val) (h1 : (i 1).val = l.val) :
    DKVarr Q DO KV i = kvBlock (DK Q DO KV n) (DV Q DO KV n) j l := by
  unfold DKVarr
  congr 1 <;> first | (congr 1; refine Fin.ext ?_; simp only [h0]; omega) | (refine Fin.ext ?_; simp only [h0, h1]; omega) | exact Fin.ext h1

/-- The second grid point of a sequence leaves the sequence's whole block. -/
theorem point4 (c : Dev nD) (t : Fin cfg0.N) (ht : t.val % 2 = 1) (y : S256x2048.Idx) (i : S1024x2048.Idx)
    (h0 : (i 0).val = 256 * (t.val / 2) + (y 0).val) (h1 : (i 1).val = (y 1).val) :
    (outsAt0 m c t.val t.isLt).2 y = DKVarr (argQ m c) (argDO m c) (argKV m c) i := by
  have hlt : t.val < 8 := lt_of_lt_of_eq t.isLt hN
  have hy := ValueIdx.idx2_lt0 y
  have hp : t.val - 1 < cfg0.N := Nat.lt_of_le_of_lt (Nat.sub_le _ _) t.isLt
  have e := step4 m c ⟨t.val - 1, hp⟩ y
  rw [if_pos (by simp only; omega), zero_add] at e
  rw [step4 m c t y, if_neg (by omega), e]
  have hn : t.val / 2 < 4 := by omega
  have hk : (fun h j d => DKpart (argQ m c) (argDO m c) (argKV m c) (pt ⟨t.val - 1, hp⟩) h j d + DKpart (argQ m c) (argDO m c) (argKV m c) (pt t) h j d)
      = DK (argQ m c) (argDO m c) (argKV m c) ⟨t.val / 2, hn⟩ :=
    funext fun h => funext fun j => funext fun d => DK_halves _ _ _ h (by simp only; omega) (by simp only; omega) j d
  have hv : (fun h j d => DVpart (argQ m c) (argDO m c) (argKV m c) (pt ⟨t.val - 1, hp⟩) h j d + DVpart (argQ m c) (argDO m c) (argKV m c) (pt t) h j d)
      = DV (argQ m c) (argDO m c) (argKV m c) ⟨t.val / 2, hn⟩ :=
    funext fun h => funext fun j => funext fun d => DV_halves _ _ _ h (by simp only; omega) (by simp only; omega) j d
  refine (kvBlock_add _ _ _ _ (y 0) (y 1)).trans ((congrArg₂ (fun a b => kvBlock a b (y 0) (y 1)) hk hv).trans ?_)
  exact (DKVarr_of (n := ⟨t.val / 2, hn⟩) (j := y 0) (l := y 1) h0 h1).symm

/-- The keys' and values' gradient after the run. -/
theorem arr4 (c : Dev nD) : (dats m 0 c).arrAt 4 cfg0.N = DKVarr (argQ m c) (argDO m c) (argKV m c) := by
  refine (dats m 0 c).arrAt_eq_of_covers 4 _ (by decide +kernel) fun t hf y => ?_
  blk_simp
  rw [after0_4]
  refine point4 m c t ((flush0_4 t).mp hf) y _ ?_ ?_ <;> (blk_simp [idx t]; try omega)

end Cert.KernelIdeal.Attn

end
-- ==== Proof.RefTerms.lean ====
/- The reference's arrays, named step by step, and what each holds at an index. -/
module

public import proofs.«01_k».proof.Proof.Arrays
public import proofs.«01_k».proof.Proof.Gen.ReferenceIdeal.Run

@[expose] public section

set_option maxRecDepth 16384

noncomputable section

namespace Cert.Attn

open Idealize.ShloMosaic

/-- The cotangent of the scores, as the reference computes it. -/
def rds (q : Fin 256 → EReal) (k v : Fin 256 → Fin 256 → EReal) (g : Fin 256 → EReal) (j : Fin 256) : EReal :=
  (Ideal.div (dp g v j) (tot q k) + -(∑ l : Fin 256, dp g v l * Ideal.div 1 (tot q k * tot q k) * ew q k l))
    * ew q k j * Ideal.ofBits .f32 0x3D800000#32

end Cert.Attn

namespace Cert.ReferenceIdeal.Attn

open Cert.ReferenceIdeal Cert.ReferenceIdeal.Gen Cert.Attn Idealize.ShloMosaic Idealize.ShloMosaic.TcCoe Idealize.SL.Sem
open Cert.KernelIdeal.Attn (hrow hk hv PR DS DQ DK DV)

variable (Q DO : FVec Ideal S8192x1024 .bf16) (KV : FVec Ideal S1024x2048 .bf16)

def rows4 (X : FVec Ideal S8192x1024 .bf16) : FVec Ideal S4x2048x4x256 .f32 :=
  shapeCast _ (extf .f32 X bitsLt_bf16_f32) shapeCasts_S8192x1024_S4x2048x4x256
def kv5 : FVec Ideal S4x256x2x4x256 .f32 := shapeCast _ (extf .f32 KV bitsLt_bf16_f32) shapeCasts_S1024x2048_S4x256x2x4x256
def keys : FVec Ideal S4x256x4x256 .f32 :=
  shapeCast _ (extractStridedSlice S4x256x1x4x256 ![0, 0, 0, 0, 0] (kv5 KV) slices_S4x256x2x4x256_S4x256x1x4x256_0_0_0_0_0) shapeCasts_S4x256x1x4x256_S4x256x4x256
def vals : FVec Ideal S4x256x4x256 .f32 :=
  shapeCast _ (extractStridedSlice S4x256x1x4x256 ![0, 0, 1, 0, 0] (kv5 KV) slices_S4x256x2x4x256_S4x256x1x4x256_0_0_1_0_0) shapeCasts_S4x256x1x4x256_S4x256x4x256
def scores : FVec Ideal S4x4x2048x256 .f32 :=
  mulf (Host.dotGeneral dot_S4x2048x4x256_S4x256x4x256_S4x4x2048x256_3_3_1_1_02_02 none (rows4 Q) (keys KV)) (broadcastInDim S4x4x2048x256 ![] bcast_S_S4x4x2048x256 (constant S_ .f32 0x3D800000#32))
def maxes : FVec Ideal S4x4x2048 .f32 :=
  Host.reduce FloatOps.maximumf (scores Q KV) (constant S_ .f32 0xFF800000#32) reducesTo_S4x4x2048x256_S4x4x2048_d3 h_S_
def tops : FVec Ideal S4x4x2048 .f32 := maximumf (broadcastInDim S4x4x2048 ![] bcast_S_S4x4x2048 (constant S_ .f32 0xFF800000#32)) (maxes Q KV)
def exps : FVec Ideal S4x4x2048x256 .f32 :=
  Host.exp (subf (scores Q KV) (broadcastInDim S4x4x2048x256 ![0, 1, 2, 3] bcast_S4x4x2048x1_S4x4x2048x256_0_1_2_3 (broadcastInDim S4x4x2048x1 ![0, 1, 2] bcast_S4x4x2048_S4x4x2048x1_0_1_2 (tops Q KV))))
def sums : FVec Ideal S4x4x2048 .f32 :=
  Host.reduceAdd (exps Q KV) (constant S_ .f32 0x00000000#32) reducesTo_S4x4x2048x256_S4x4x2048_d3 h_S_
def tots : FVec Ideal S4x4x2048x1 .f32 := broadcastInDim S4x4x2048x1 ![0, 1, 2] bcast_S4x4x2048_S4x4x2048x1_0_1_2 (sums Q KV)
def weights : FVec Ideal S4x4x2048x256 .f32 :=
  Host.divf (exps Q KV) (broadcastInDim S4x4x2048x256 ![0, 1, 2, 3] bcast_S4x4x2048x1_S4x4x2048x256_0_1_2_3 (tots Q KV))
def doT : FVec Ideal S4x4x256x2048 .f32 := transpose S4x4x256x2048 [0, 2, 3, 1] (rows4 DO) transposes_S4x2048x4x256_S4x4x256x2048_0_2_3_1
def dps : FVec Ideal S4x4x2048x256 .f32 :=
  Host.dotGeneral dot_S4x4x256x2048_S4x256x4x256_S4x4x2048x256_2_3_3_1_01_02 none (doT DO) (vals KV)
def corr : FVec Ideal S4x4x2048 .f32 :=
  Host.reduceAdd (Host.negf (shapeCast _ (Host.reduceAdd (mulf (mulf (dps DO KV) (broadcastInDim S4x4x2048x256 ![0, 1, 2, 3] bcast_S4x4x2048x1_S4x4x2048x256_0_1_2_3 (Host.divf (broadcastInDim S4x4x2048x1 ![] bcast_S_S4x4x2048x1 (constant S_ .f32 0x3F800000#32)) (mulf (tots Q KV) (tots Q KV))))) (exps Q KV)) (constant S_ .f32 0x00000000#32) reducesTo_S4x4x2048x256_S4x4x2048_d3 h_S_) shapeCasts_S4x4x2048_S4x4x2048x1)) (constant S_ .f32 0x00000000#32) reducesTo_S4x4x2048x1_S4x4x2048_d3 h_S_
def dss : FVec Ideal S4x4x2048x256 .f32 :=
  mulf (mulf (addf (Host.divf (dps DO KV) (broadcastInDim S4x4x2048x256 ![0, 1, 2, 3] bcast_S4x4x2048x1_S4x4x2048x256_0_1_2_3 (tots Q KV))) (broadcastInDim S4x4x2048x256 ![0, 1, 2] bcast_S4x4x2048_S4x4x2048x256_0_1_2 (corr Q DO KV))) (exps Q KV)) (broadcastInDim S4x4x2048x256 ![] bcast_S_S4x4x2048x256 (constant S_ .f32 0x3D800000#32))
def resQ : FVec Ideal S8192x1024 .bf16 :=
  truncf .bf16 (shapeCast _ (transpose S4x2048x4x256 [0, 2, 1, 3] (Host.dotGeneral dot_S4x4x2048x256_S4x256x4x256_S4x4x2048x256_3_1_2_3_01_02 none (dss Q DO KV) (keys KV)) transposes_S4x4x2048x256_S4x2048x4x256_0_2_1_3) shapeCasts_S4x2048x4x256_S8192x1024) bitsLt_bf16_f32
def resKV : FVec Ideal S1024x2048 .f32 :=
  shapeCast _ (addf (pad S4x256x2x4x256 ![0, 0, 1, 0, 0] ![0, 0, 0, 0, 0] ![0, 0, 0, 0, 0] (broadcastInDim S4x256x1x4x256 ![0, 1, 3, 4] bcast_S4x256x4x256_S4x256x1x4x256_0_1_3_4 (transpose S4x256x4x256 [0, 3, 1, 2] (Host.dotGeneral dot_S4x4x256x2048_S4x4x2048x256_S4x4x256x256_3_2_2_3_01_01 none (doT DO) (weights Q KV)) transposes_S4x4x256x256_S4x256x4x256_0_3_1_2)) (constant S_ .f32 0x00000000#32) pads_S4x256x1x4x256_S4x256x2x4x256_000_000_100_000_000 h_S_) (pad S4x256x2x4x256 ![0, 0, 0, 0, 0] ![0, 0, 1, 0, 0] ![0, 0, 0, 0, 0] (broadcastInDim S4x256x1x4x256 ![0, 1, 3, 4] bcast_S4x256x4x256_S4x256x1x4x256_0_1_3_4 (transpose S4x256x4x256 [0, 2, 1, 3] (Host.dotGeneral dot_S4x4x2048x256_S4x2048x4x256_S4x4x256x256_2_1_3_3_01_02 none (dss Q DO KV) (rows4 Q)) transposes_S4x4x256x256_S4x256x4x256_0_2_1_3)) (constant S_ .f32 0x00000000#32) pads_S4x256x1x4x256_S4x256x2x4x256_000_000_010_000_000 h_S_)) shapeCasts_S4x256x2x4x256_S1024x2048

/-- Token row `r` of sequence `n`. -/
abbrev tk (n : Fin 4) (r : Fin 2048) : Fin 8192 := ⟨2048 * n.val + r.val, by omega⟩

theorem rows4_at (X : FVec Ideal S8192x1024 .bf16) (n : Fin 4) (r : Fin 2048) (h : Fin 4) (d : Fin 256) :
    rows4 X (ix4 n r h d) = hrow X (tk n r) h d := by
  pointwise [rows4, hrow]; blk_ext

theorem keys_at (n : Fin 4) (j : Fin 256) (h : Fin 4) (d : Fin 256) : keys KV (ix4 n j h d) = hk KV n h j d := by
  pointwise [keys, kv5, hk]; blk_ext

theorem vals_at (n : Fin 4) (j : Fin 256) (h : Fin 4) (d : Fin 256) : vals KV (ix4 n j h d) = hv KV n h j d := by
  pointwise [vals, kv5, hv]; blk_ext

theorem scores_at (n h : Fin 4) (r : Fin 2048) (j : Fin 256) :
    scores Q KV (ix4 n h r j) = sc (hrow Q (tk n r) h) (hk KV n h) j := by
  pointwise [scores, sc]
  simp only [rows4_at, keys_at]

end Cert.ReferenceIdeal.Attn

end
-- ==== Proof.RefRow.lean ====
/- The reference's softmax row and its cotangent, at an index. -/
module

public import proofs.«01_k».proof.Proof.RefTerms

@[expose] public section

set_option maxRecDepth 16384

noncomputable section

namespace Cert.ReferenceIdeal.Attn

open Cert.ReferenceIdeal Cert.ReferenceIdeal.Gen Cert.Attn Idealize.ShloMosaic Idealize.ShloMosaic.TcCoe Idealize.SL.Sem
open Cert.KernelIdeal.Attn (hrow hk hv PR DS DQ DK DV)

variable (Q DO : FVec Ideal S8192x1024 .bf16) (KV : FVec Ideal S1024x2048 .bf16)

theorem maxes_at (n h : Fin 4) (r : Fin 2048) : maxes Q KV (ix3 n h r) = mx (hrow Q (tk n r) h) (hk KV n h) := by
  pointwise [maxes, mx]
  simp only [scores_at]

theorem max_mx (q : Fin 256 → EReal) (k : Fin 256 → Fin 256 → EReal) : max (Ideal.ofBits .f32 0xFF800000#32) (mx q k) = mx q k := by
  unfold mx
  generalize Ideal.ofBits .f32 0xFF800000#32 = b
  exact max_eq_right ((Finset.le_fold_max (b := b) (f := sc q k) (s := Finset.univ) b).mpr (Or.inl le_rfl))

theorem top_of (M : FVec Ideal S4x4x2048 .f32) (n h : Fin 4) (r : Fin 2048) :
    maximumf (broadcastInDim S4x4x2048 ![] bcast_S_S4x4x2048 (constant S_ .f32 0xFF800000#32)) M (ix3 n h r)
      = max (Ideal.ofBits .f32 0xFF800000#32) (M (ix3 n h r)) := by
  pointwise

theorem tops_at (n h : Fin 4) (r : Fin 2048) : tops Q KV (ix3 n h r) = mx (hrow Q (tk n r) h) (hk KV n h) := by
  exact (top_of (maxes Q KV) n h r).trans ((congrArg _ (maxes_at Q KV n h r)).trans (max_mx _ _))

theorem exps_at (n h : Fin 4) (r : Fin 2048) (j : Fin 256) :
    exps Q KV (ix4 n h r j) = ew (hrow Q (tk n r) h) (hk KV n h) j := by
  unfold ew
  rw [← scores_at, ← tops_at]
  pointwise [exps]

theorem sums_at (n h : Fin 4) (r : Fin 2048) : sums Q KV (ix3 n h r) = tot (hrow Q (tk n r) h) (hk KV n h) := by
  pointwise [sums, tot]
  simp only [exps_at]

theorem tots_at (n h : Fin 4) (r : Fin 2048) (z : Fin 1) : tots Q KV (ix4 n h r z) = tot (hrow Q (tk n r) h) (hk KV n h) := by
  pointwise [tots]
  simp only [sums_at]

theorem weights_at (n h : Fin 4) (r : Fin 2048) (j : Fin 256) :
    weights Q KV (ix4 n h r j) = PR Q KV n h (tk n r) j := by
  pointwise [weights, PR, pr]
  simp only [exps_at, tots_at]

theorem dps_at (n h : Fin 4) (r : Fin 2048) (j : Fin 256) :
    dps DO KV (ix4 n h r j) = dp (hrow DO (tk n r) h) (hv KV n h) j := by
  pointwise [dps, doT, dp]
  simp only [rows4_at, vals_at]

theorem corr_at (n h : Fin 4) (r : Fin 2048) :
    corr Q DO KV (ix3 n h r) = -(∑ l : Fin 256, dp (hrow DO (tk n r) h) (hv KV n h) l * Ideal.div 1
      (tot (hrow Q (tk n r) h) (hk KV n h) * tot (hrow Q (tk n r) h) (hk KV n h)) * ew (hrow Q (tk n r) h) (hk KV n h) l) := by
  pointwise [corr]
  simp only [exps_at, tots_at, dps_at, Finset.univ_unique, Finset.sum_singleton]

theorem dss_at (n h : Fin 4) (r : Fin 2048) (j : Fin 256) :
    dss Q DO KV (ix4 n h r j) = rds (hrow Q (tk n r) h) (hk KV n h) (hv KV n h) (hrow DO (tk n r) h) j := by
  pointwise [dss, rds]
  simp only [exps_at, tots_at, dps_at, corr_at]

end Cert.ReferenceIdeal.Attn

end
-- ==== Proof.RefValue.lean ====
/- The reference's two results at an index. -/
module

public import proofs.«01_k».proof.Proof.RefRow

@[expose] public section

set_option maxRecDepth 16384

noncomputable section

namespace Cert.ReferenceIdeal.Attn

open Cert.ReferenceIdeal Cert.ReferenceIdeal.Gen Cert.Attn Idealize.ShloMosaic Idealize.ShloMosaic.TcCoe Idealize.SL.Sem
open Cert.KernelIdeal.Attn (hrow hk hv PR DS DQ DK DV)

variable (Q DO : FVec Ideal S8192x1024 .bf16) (KV : FVec Ideal S1024x2048 .bf16)

/-- The scores' cotangent of token row `R` of sequence `n` in head `h`, as the reference computes it. -/
def RDS (n h : Fin 4) (R : Fin 8192) (j : Fin 256) : EReal := rds (hrow Q R h) (hk KV n h) (hv KV n h) (hrow DO R h) j

theorem resQ_at (n : Fin 4) (r : Fin 2048) (h : Fin 4) (d : Fin 256) (i : S8192x1024.Idx) (h0 : (i 0).val = 2048 * n.val + r.val)
    (h1 : (i 1).val = 256 * h.val + d.val) :
    resQ Q DO KV i = ∑ j : Fin 256, RDS Q DO KV n h (tk n r) j * hk KV n h j d := by
  refine Eq.trans (b := ∑ j : Fin 256, dss Q DO KV (ix4 n h r j) * keys KV (ix4 n j h d)) ?_ ?_
  · pointwise [resQ]
    simp only [show ∀ p, (⟨(i 0).val / 2048, p⟩ : Fin 4) = n from fun p => Fin.ext (by simp only; omega), show ∀ p, (⟨(i 0).val % 2048, p⟩ : Fin 2048) = r from fun p => Fin.ext (by simp only; omega), show ∀ p, (⟨(i 1).val / 256, p⟩ : Fin 4) = h from fun p => Fin.ext (by simp only; omega), show ∀ p, (⟨(i 1).val % 256, p⟩ : Fin 256) = d from fun p => Fin.ext (by simp only; omega)]
  · exact Finset.sum_congr rfl fun j _ => congrArg₂ _ (dss_at Q DO KV n h r j) (keys_at KV n j h d)

/-- The right of two zero-padded parts. -/
theorem pick_right {p p' : Prop} [Decidable p] [Decidable p'] {f : p → EReal} {g : p' → EReal} {v : EReal} (h : ¬ p) (h' : p') (e : g h' = v) :
    ((if hp : p then f hp else 0) + if hp : p' then g hp else 0) = v := by rw [dif_neg h, dif_pos h', zero_add, e]

/-- The left of two zero-padded parts. -/
theorem pick_left {p p' : Prop} [Decidable p] [Decidable p'] {f : p → EReal} {g : p' → EReal} {v : EReal} (h : p) (h' : ¬ p') (e : f h = v) :
    ((if hp : p then f hp else 0) + if hp : p' then g hp else 0) = v := by rw [dif_pos h, dif_neg h', add_zero, e]

theorem resKV_k (n : Fin 4) (j : Fin 256) (h : Fin 4) (d : Fin 256) (i : S1024x2048.Idx) (h0 : (i 0).val = 256 * n.val + j.val)
    (h1 : (i 1).val = 256 * h.val + d.val) :
    resKV Q DO KV i = ∑ r : Fin 2048, RDS Q DO KV n h (tk n r) j * hrow Q (tk n r) h d := by
  refine Eq.trans (b := ∑ r : Fin 2048, dss Q DO KV (ix4 n h r j) * rows4 Q (ix4 n r h d)) ?_ ?_
  · pointwise [resKV]
    refine pick_right (by omega) (by omega) ?_
    simp only [show ∀ p, (⟨(i 0).val / 256, p⟩ : Fin 4) = n from fun p => Fin.ext (by simp only; omega), show ∀ p, (⟨(i 0).val % 256, p⟩ : Fin 256) = j from fun p => Fin.ext (by simp only; omega), show ∀ p, (⟨(i 1).val / 256 % 4, p⟩ : Fin 4) = h from fun p => Fin.ext (by simp only; omega), show ∀ p, (⟨(i 1).val % 256, p⟩ : Fin 256) = d from fun p => Fin.ext (by simp only; omega)]
  · exact Finset.sum_congr rfl fun r _ => congrArg₂ _ (dss_at Q DO KV n h r j) (rows4_at Q n r h d)

theorem resKV_v (n : Fin 4) (j : Fin 256) (h : Fin 4) (d : Fin 256) (i : S1024x2048.Idx) (h0 : (i 0).val = 256 * n.val + j.val)
    (h1 : (i 1).val = 1024 + (256 * h.val + d.val)) :
    resKV Q DO KV i = ∑ r : Fin 2048, hrow DO (tk n r) h d * PR Q KV n h (tk n r) j := by
  refine Eq.trans (b := ∑ r : Fin 2048, rows4 DO (ix4 n r h d) * weights Q KV (ix4 n h r j)) ?_ ?_
  · pointwise [resKV, doT]
    refine pick_left (by omega) (by omega) ?_
    simp only [show ∀ p, (⟨(i 0).val / 256, p⟩ : Fin 4) = n from fun p => Fin.ext (by simp only; omega), show ∀ p, (⟨(i 0).val % 256, p⟩ : Fin 256) = j from fun p => Fin.ext (by simp only; omega), show ∀ p, (⟨(i 1).val / 256 % 4, p⟩ : Fin 4) = h from fun p => Fin.ext (by simp only; omega), show ∀ p, (⟨(i 1).val % 256, p⟩ : Fin 256) = d from fun p => Fin.ext (by simp only; omega)]
  · exact Finset.sum_congr rfl fun r _ => congrArg₂ _ (rows4_at DO n r h d) (weights_at Q KV n h r j)

abbrev argQ (m : (ℓ : Loc nD τ sig) → Buf (Elt Ideal) ℓ) (c : Dev nD) : FVec Ideal S8192x1024 .bf16 := m ((c.tc : Thread nD τ).loc main_arg0)
abbrev argKV (m : (ℓ : Loc nD τ sig) → Buf (Elt Ideal) ℓ) (c : Dev nD) : FVec Ideal S1024x2048 .bf16 := m ((c.tc : Thread nD τ).loc main_arg1)
abbrev argDO (m : (ℓ : Loc nD τ sig) → Buf (Elt Ideal) ℓ) (c : Dev nD) : FVec Ideal S8192x1024 .bf16 := m ((c.tc : Thread nD τ).loc main_arg2)

theorem out0_eq (m : (ℓ : Loc nD τ sig) → Buf (Elt Ideal) ℓ) (c : Dev nD) : Value.res_out0 m c = resQ (argQ m c) (argDO m c) (argKV m c) := by
  unfold Value.res_out0 Value.res_main_v73; rfl

theorem out1_eq (m : (ℓ : Loc nD τ sig) → Buf (Elt Ideal) ℓ) (c : Dev nD) : Value.res_out1 m c = resKV (argQ m c) (argDO m c) (argKV m c) := by
  unfold Value.res_out1 Value.res_main_v71; rfl

end Cert.ReferenceIdeal.Attn

end
-- ==== Proof.Equation.lean ====
/- The two forms of the scores' cotangent agree where the queries and keys are finite: the row's sum of exponentials is then a
   positive real, which passes through sums and differences of extended reals. -/
module

public import proofs.«01_k».proof.Proof.RefTerms

@[expose] public section

noncomputable section

namespace Cert.Attn

open Idealize.ShloMosaic

/-- An extended real that is a real. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem IsReal.sum {n : ℕ} {f : Fin n → EReal} (h : ∀ i, IsReal (f i)) : IsReal (∑ i, f i) :=
  Finset.sum_induction f IsReal (fun _ _ => IsReal.add) ⟨0, rfl⟩ fun i _ => h i

theorem isReal_of_abs {x : EReal} (h : x ≠ ⊤) (h' : x ≠ ⊥) : IsReal x := ⟨x.toReal, (EReal.coe_toReal h h').symm⟩

/-- A positive real factor passes through a sum of extended reals. -/
theorem sum_mul_pos {n : ℕ} (f : Fin n → EReal) {a : ℝ} (ha : 0 ≤ a) : (∑ i, f i) * (a : EReal) = ∑ i, f i * (a : EReal) := by
  have h0 : (0 : EReal) ≤ (a : EReal) := by exact_mod_cast ha
  have key : ∀ s : Finset (Fin n), (∑ i ∈ s, f i) * (a : EReal) = ∑ i ∈ s, f i * (a : EReal) := by
    intro s
    induction s using Finset.induction_on with
    | empty => simp
    | insert i s hi ih => rw [Finset.sum_insert hi, Finset.sum_insert hi, ← ih, EReal.right_distrib_of_nonneg_of_ne_top h0 (EReal.coe_ne_top a)]
  exact key Finset.univ

/-- The algebra of the two forms. -/
theorem ds_forms {n : ℕ} (x : Fin n → EReal) (e : Fin n → ℝ) {T : ℝ} (hT : 0 < T) (he : ∀ l, 0 < e l) (j : Fin n) :
    Ideal.div (e j : EReal) (T : EReal) * (x j - ∑ l, Ideal.div (e l : EReal) (T : EReal) * x l)
      = (Ideal.div (x j) (T : EReal) + -(∑ l, x l * Ideal.div 1 ((T : EReal) * (T : EReal)) * (e l : EReal))) * (e j : EReal) := by
  have hT' : T ≠ 0 := hT.ne'
  have hu : (0 : EReal) ≤ ((1 / T : ℝ) : EReal) := by exact_mod_cast (by positivity : (0 : ℝ) ≤ 1 / T)
  have e1 : ∀ l, x l * Ideal.div 1 ((T : EReal) * (T : EReal)) * (e l : EReal) = Ideal.div (e l : EReal) (T : EReal) * x l * ((1 / T : ℝ) : EReal) := by
    intro l
    rw [← EReal.coe_mul, Ideal.div_coe (mul_ne_zero hT' hT'), Ideal.div_coe hT', one_mul, mul_assoc, ← EReal.coe_mul, ← EReal.coe_mul, mul_comm _ (x l),
      mul_assoc, ← EReal.coe_mul]
    congr 2
    field_simp
  rw [Finset.sum_congr rfl fun l _ => e1 l, ← sum_mul_pos _ (by positivity : (0 : ℝ) ≤ 1 / T), Ideal.div_coe hT', Ideal.div_coe hT', ← EReal.neg_mul,
    ← EReal.right_distrib_of_nonneg_of_ne_top hu (EReal.coe_ne_top _), ← sub_eq_add_neg, mul_assoc, mul_comm ((1 / T : ℝ) : EReal), mul_comm]

theorem scale_real : IsReal (Ideal.ofBits .f32 0x3D800000#32) := by
  refine ⟨8388608 * (2 ^ 27)⁻¹, ?_⟩
  rw [EReal.coe_mul]
  simp [Ideal.ofBits, Ideal.ieee]

theorem neg_inf : Ideal.ofBits .f32 0xFF800000#32 = ⊥ := by simp [Ideal.ofBits, Ideal.ieee]

section row

variable {q g : Fin 256 → EReal} {k v : Fin 256 → Fin 256 → EReal}

theorem sc_real (hq : ∀ d, IsReal (q d)) (hk : ∀ j d, IsReal (k j d)) (j : Fin 256) : IsReal (sc q k j) :=
  (IsReal.sum fun d => (hq d).mul (hk j d)).mul scale_real

theorem mx_real (hq : ∀ d, IsReal (q d)) (hk : ∀ j d, IsReal (k j d)) : IsReal (mx q k) := by
  unfold mx
  rw [neg_inf]
  obtain ⟨j, _, h⟩ := Finset.exists_mem_eq_sup (Finset.univ : Finset (Fin 256)) Finset.univ_nonempty (sc q k)
  exact (show Finset.univ.fold max ⊥ (sc q k) = sc q k j from h) ▸ sc_real hq hk j

theorem ew_pos (hq : ∀ d, IsReal (q d)) (hk : ∀ j d, IsReal (k j d)) (j : Fin 256) : ∃ e : ℝ, 0 < e ∧ ew q k j = (e : EReal) := by
  obtain ⟨a, ha⟩ := sc_real hq hk j
  obtain ⟨b, hb⟩ := mx_real hq hk
  refine ⟨Real.exp (a - b), Real.exp_pos _, ?_⟩
  rw [ew, ha, hb, ← EReal.coe_sub]
  rfl

theorem coe_sum {n : ℕ} (e : Fin n → ℝ) : ((∑ l, e l : ℝ) : EReal) = ∑ l, (e l : EReal) :=
  map_sum (⟨⟨Real.toEReal, EReal.coe_zero⟩, EReal.coe_add⟩ : ℝ →+ EReal) e Finset.univ

/-- The kernel's and the reference's cotangents of a row's scores. -/
theorem ds_eq (hq : ∀ d, IsReal (q d)) (hk : ∀ j d, IsReal (k j d)) (j : Fin 256) : ds q k v g j = rds q k v g j := by
  choose e he h using ew_pos hq hk
  have hT : tot q k = ((∑ l, e l : ℝ) : EReal) := by
    rw [coe_sum]
    exact Finset.sum_congr rfl fun l _ => h l
  have hpos : 0 < ∑ l, e l := Finset.sum_pos (fun l _ => he l) Finset.univ_nonempty
  have key := ds_forms (dp g v) e hpos he j
  unfold ds rds pr
  simp only [h, hT]
  rw [key]

end row

end Cert.Attn

end
-- ==== Proof.Attn.lean ====
/- The attention's gradient: the precondition read at an element, and the kernel's arrays equal to the reference's. -/
module

public import proofs.«01_k».proof.Defs
public import proofs.«01_k».proof.Proof.Run
public import proofs.«01_k».proof.Proof.RefValue
public import proofs.«01_k».proof.Proof.Equation
public import Idealize.ShloMosaic.Lib.Quiescent

@[expose] public section

set_option maxRecDepth 16384

noncomputable section

namespace Cert.Pre_finite_qk.Attn

open Cert.Pre_finite_qk Idealize.ShloMosaic

theorem facts : Facts where
  bcast_S_S8192x1024 := by decide
  slices_S1024x2048_S1024x1024_0_0 := by decide
  bcast_S_S1024x1024 := by decide

attribute [local instance] facts

theorem isReal_of_lt {x : EReal} (h : BitVec.ofBool (decide (FloatOps.absf (F := Ideal) (φ := .bf16) x < Ideal.ofBits .bf16 0x7F80#16)) = 1#1) :
    Cert.Attn.IsReal x := by
  have ht : Ideal.ofBits .bf16 0x7F80#16 = ⊤ := by simp [Ideal.ofBits, Ideal.ieee]
  rw [ht] at h
  refine Cert.Attn.isReal_of_abs ?_ ?_ <;> rintro rfl <;> simp [FloatOps.absf] at h

/-- The precondition's first half, at an element of the queries. -/
theorem fn_q {Q DO : FVec Ideal S8192x1024 .bf16} {KV : FVec Ideal S1024x2048 .bf16} (h : (fn (F := Ideal) Q KV DO).1 = fun _ => 1#1)
    (R : Fin 8192) (d : Fin 1024) : Cert.Attn.IsReal (Q (ix2 R d)) := by
  have e := congrFun h (ix2 R d)
  revert e
  pointwise [fn]
  exact isReal_of_lt

/-- The precondition's second half, at an element of the keys. -/
theorem fn_k {Q DO : FVec Ideal S8192x1024 .bf16} {KV : FVec Ideal S1024x2048 .bf16} (h : (fn (F := Ideal) Q KV DO).2 = fun _ => 1#1)
    (R : Fin 1024) (d : Fin 1024) : Cert.Attn.IsReal (KV (ix2 R ⟨d.val, by omega⟩)) := by
  have e := congrFun h (ix2 R d)
  revert e
  pointwise [fn]
  exact isReal_of_lt

end Cert.Pre_finite_qk.Attn

namespace Cert.ReferenceIdeal.Attn

open Cert.ReferenceIdeal Cert.ReferenceIdeal.Gen Idealize.ShloMosaic Idealize.SL.Sem

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2, sem_eq_zero_of_no_sems rfl r.2⟩) (Value.run m ρ)

end Cert.ReferenceIdeal.Attn

namespace Cert.Attn

open Idealize.ShloMosaic Idealize.SL.Sem
open Cert.KernelIdeal (S8192x1024 S1024x2048)
open Cert.KernelIdeal.Attn (hrow hk hv PR DS DQ DK DV DQarr DKVarr DQarr_of DKVarr_of kvBlock_k kvBlock_v)
open Cert.ReferenceIdeal.Attn (resQ resKV RDS resQ_at resKV_k resKV_v tk)

variable {Q DO : FVec Ideal S8192x1024 .bf16} {KV : FVec Ideal S1024x2048 .bf16}

theorem ds_arrays (hq : ∀ R d, IsReal (Q (ix2 R d))) (hkey : ∀ (R d : Fin 1024), IsReal (KV (ix2 R ⟨d.val, by omega⟩))) (n h : Fin 4)
    (R : Fin 8192) (j : Fin 256) : DS Q DO KV n h R j = RDS Q DO KV n h R j :=
  ds_eq (fun d => hq R _) (fun j d => hkey ⟨256 * n.val + j.val, by omega⟩ ⟨256 * h.val + d.val, by omega⟩) j

theorem q_eq (hq : ∀ R d, IsReal (Q (ix2 R d))) (hkey : ∀ (R d : Fin 1024), IsReal (KV (ix2 R ⟨d.val, by omega⟩))) :
    DQarr Q DO KV = resQ Q DO KV := by
  funext i
  have hi0 := ValueIdx.idx2_lt0 i
  have hi1 := ValueIdx.idx2_lt1 i
  rw [resQ_at Q DO KV ⟨(i 0).val / 2048, by omega⟩ ⟨(i 0).val % 2048, by omega⟩ ⟨(i 1).val / 256, by omega⟩ ⟨(i 1).val % 256, by omega⟩ i
    (by simp only; omega) (by simp only; omega)]
  have eR : tk ⟨(i 0).val / 2048, by omega⟩ ⟨(i 0).val % 2048, by omega⟩ = ⟨(i 0).val, hi0⟩ := Fin.ext (by simp only; omega)
  rw [eR]
  unfold DQarr DQ
  exact Finset.sum_congr rfl fun j _ => congrArg (· * _) (ds_arrays hq hkey _ _ _ j)

theorem kv_eq (hq : ∀ R d, IsReal (Q (ix2 R d))) (hkey : ∀ (R d : Fin 1024), IsReal (KV (ix2 R ⟨d.val, by omega⟩))) :
    DKVarr Q DO KV = resKV Q DO KV := by
  funext i
  have hi0 := ValueIdx.idx2_lt0 i
  have hi1 := ValueIdx.idx2_lt1 i
  rw [DKVarr_of (n := ⟨(i 0).val / 256, by omega⟩) (j := ⟨(i 0).val % 256, by omega⟩) (l := ⟨(i 1).val, hi1⟩) (by simp only; omega) rfl]
  by_cases hl : (i 1).val < 1024
  · rw [kvBlock_k (h := ⟨(i 1).val / 256, by omega⟩) (d := ⟨(i 1).val % 256, by omega⟩) (by simp only; omega),
      resKV_k Q DO KV ⟨(i 0).val / 256, by omega⟩ ⟨(i 0).val % 256, by omega⟩ ⟨(i 1).val / 256, by omega⟩ ⟨(i 1).val % 256, by omega⟩ i
        (by simp only; omega) (by simp only; omega)]
    exact Finset.sum_congr rfl fun r _ => congrArg (· * _) (ds_arrays hq hkey _ _ _ _)
  · rw [kvBlock_v (h := ⟨((i 1).val - 1024) / 256, by omega⟩) (d := ⟨(i 1).val % 256, by omega⟩) (by simp only; omega),
      resKV_v Q DO KV ⟨(i 0).val / 256, by omega⟩ ⟨(i 0).val % 256, by omega⟩ ⟨((i 1).val - 1024) / 256, by omega⟩ ⟨(i 1).val % 256, by omega⟩ i
        (by simp only; omega) (by simp only; omega)]
    exact Finset.sum_congr rfl fun r _ => mul_comm _ _

attribute [local instance] Cert.Pre_finite_qk.Attn.facts

theorem algebraic : Cert.algebraic_KernelIdeal_ReferenceIdeal_pre_finite_qk := by
  intro m g m' g' hpre hargs
  refine ⟨fun c => (KernelIdeal.Gen.dats m 0 c).arrAt 3 KernelIdeal.cfg0.N, fun c => (KernelIdeal.Gen.dats m 0 c).arrAt 4 KernelIdeal.cfg0.N,
    KernelIdeal.Value.run_blocks m g, (θ_run _ _ _).mono (fun r h c => ?_) (ReferenceIdeal.Value.run m' g')⟩
  obtain ⟨e0, e1, h2⟩ := h c
  obtain ⟨a0, a1, a2⟩ := hargs c
  have hq := Pre_finite_qk.Attn.fn_q (hpre c).1
  have hkey := Pre_finite_qk.Attn.fn_k (hpre c).2
  have b0 : ReferenceIdeal.Attn.argQ m' c = KernelIdeal.Attn.argQ m c := a0
  have b1 : ReferenceIdeal.Attn.argKV m' c = KernelIdeal.Attn.argKV m c := a1
  have b2 : ReferenceIdeal.Attn.argDO m' c = KernelIdeal.Attn.argDO m c := a2
  refine ⟨e0.trans ((ReferenceIdeal.Attn.out0_eq m' c).trans ?_), e1.trans ((ReferenceIdeal.Attn.out1_eq m' c).trans ?_), h2⟩
  · rw [b0, b1, b2]
    exact (q_eq hq hkey).symm.trans (KernelIdeal.Attn.arr3 m c).symm
  · rw [b0, b1, b2]
    exact (kv_eq hq hkey).symm.trans (KernelIdeal.Attn.arr4 m c).symm

end Cert.Attn

end
-- ==== Proof.Mm.lean ====
/- The three products of two matrices that the training step forms, as sums over the contracted index. -/
module

public import Idealize.ShloMosaic.Lib.Pipeline.ValueKit

@[expose] public section

noncomputable section

namespace Cert.Mm

open Idealize.ShloMosaic

variable {M K N : Nat} {φ ψ : FTy}

/-- `x` times `w`. -/
def nn (x : FVec Ideal ⟨2, ![M, K]⟩ φ) (w : FVec Ideal ⟨2, ![K, N]⟩ ψ) (i : (⟨2, ![M, N]⟩ : Shape).Idx) : EReal :=
  ∑ k : Fin K, x (ix2 (i 0) k) * w (ix2 k (i 1))

/-- `x` times `w` transposed. -/
def nt (x : FVec Ideal ⟨2, ![M, K]⟩ φ) (w : FVec Ideal ⟨2, ![N, K]⟩ ψ) (i : (⟨2, ![M, N]⟩ : Shape).Idx) : EReal :=
  ∑ k : Fin K, x (ix2 (i 0) k) * w (ix2 (i 1) k)

/-- `x` transposed times `w`. -/
def tn (x : FVec Ideal ⟨2, ![K, M]⟩ φ) (w : FVec Ideal ⟨2, ![K, N]⟩ ψ) (i : (⟨2, ![M, N]⟩ : Shape).Idx) : EReal :=
  ∑ k : Fin K, x (ix2 k (i 0)) * w (ix2 k (i 1))

/-- An entry of a product depends on one row of `x` and one column of `w`. -/
theorem nn_congr {M' N' : Nat} {x : FVec Ideal ⟨2, ![M, K]⟩ φ} {w : FVec Ideal ⟨2, ![K, N]⟩ ψ} {x' : FVec Ideal ⟨2, ![M', K]⟩ φ}
    {w' : FVec Ideal ⟨2, ![K, N']⟩ ψ} {j : (⟨2, ![M, N]⟩ : Shape).Idx} {i : (⟨2, ![M', N']⟩ : Shape).Idx}
    (hx : ∀ k, x (ix2 (j 0) k) = x' (ix2 (i 0) k)) (hw : ∀ k, w (ix2 k (j 1)) = w' (ix2 k (i 1))) : nn x w j = nn x' w' i :=
  Finset.sum_congr rfl fun k _ => congrArg₂ (fun a b : EReal => a * b) (hx k) (hw k)

theorem nt_congr {M' N' : Nat} {x : FVec Ideal ⟨2, ![M, K]⟩ φ} {w : FVec Ideal ⟨2, ![N, K]⟩ ψ} {x' : FVec Ideal ⟨2, ![M', K]⟩ φ}
    {w' : FVec Ideal ⟨2, ![N', K]⟩ ψ} {j : (⟨2, ![M, N]⟩ : Shape).Idx} {i : (⟨2, ![M', N']⟩ : Shape).Idx}
    (hx : ∀ k, x (ix2 (j 0) k) = x' (ix2 (i 0) k)) (hw : ∀ k, w (ix2 (j 1) k) = w' (ix2 (i 1) k)) : nt x w j = nt x' w' i :=
  Finset.sum_congr rfl fun k _ => congrArg₂ (fun a b : EReal => a * b) (hx k) (hw k)

theorem tn_congr {M' N' : Nat} {x : FVec Ideal ⟨2, ![K, M]⟩ φ} {w : FVec Ideal ⟨2, ![K, N]⟩ ψ} {x' : FVec Ideal ⟨2, ![K, M']⟩ φ}
    {w' : FVec Ideal ⟨2, ![K, N']⟩ ψ} {j : (⟨2, ![M, N]⟩ : Shape).Idx} {i : (⟨2, ![M', N']⟩ : Shape).Idx}
    (hx : ∀ k, x (ix2 k (j 0)) = x' (ix2 k (i 0))) (hw : ∀ k, w (ix2 k (j 1)) = w' (ix2 k (i 1))) : tn x w j = tn x' w' i :=
  Finset.sum_congr rfl fun k _ => congrArg₂ (fun a b : EReal => a * b) (hx k) (hw k)

/-- The square of the positive part. -/
def relu2 (z : EReal) : EReal := max z 0 * max z 0

/-- The root of that square is the positive part. -/
theorem sqrt_relu2 (z : EReal) : Ideal.sqrt (relu2 z) = max z 0 := by
  have h : ∀ r : EReal, 0 ≤ r → Ideal.sqrt (r * r) = r := by
    intro r hr
    induction r using EReal.rec with
    | bot => simp at hr
    | top => simp
    | coe r =>
      have hr' : 0 ≤ r := by exact_mod_cast hr
      rw [← EReal.coe_mul, Ideal.sqrt_coe, if_neg (not_lt.mpr (mul_nonneg hr' hr')), Real.sqrt_mul_self hr']
  exact h _ (le_max_right _ _)

/-- Transposing a product exchanges its factors. -/
theorem tn_swap (x : FVec Ideal ⟨2, ![K, M]⟩ φ) (w : FVec Ideal ⟨2, ![K, N]⟩ ψ) (i : (⟨2, ![M, N]⟩ : Shape).Idx) :
    (∑ k : Fin K, (w (ix2 k (i 1)) : EReal) * x (ix2 k (i 0))) = tn x w i :=
  Finset.sum_congr rfl fun _ _ => mul_comm _ _

/-- A block that is reset at the first of eight points, and to which each point adds the product of its 1024 rows, holds the product
    of all rows at the last. -/
theorem tn_acc {L : Nat} (hL : L = 8) (a : (n : Nat) → n < L → FVec Ideal ⟨2, ![M, N]⟩ .f32) (x : Fin L → FVec Ideal ⟨2, ![1024, M]⟩ φ) (w : Fin L → FVec Ideal ⟨2, ![1024, N]⟩ ψ)
    (X : FVec Ideal ⟨2, ![8192, M]⟩ φ) (W : FVec Ideal ⟨2, ![8192, N]⟩ ψ)
    (ha : ∀ (t : Fin L) y, a t.val t.isLt y = (if t.val % 8 = 0 then 0 else a (t.val - 1) (Nat.lt_of_le_of_lt (Nat.sub_le _ _) t.isLt) y) + tn (x t) (w t) y)
    (hx : ∀ (t : Fin L) (k : Fin 1024) (j : Fin M) (n : Fin 8192), n.val = t.val * 1024 + k.val → x t (ix2 k j) = X (ix2 n j))
    (hw : ∀ (t : Fin L) (k : Fin 1024) (j : Fin N) (n : Fin 8192), n.val = t.val * 1024 + k.val → w t (ix2 k j) = W (ix2 n j))
    (t : Fin L) (h : t.val % 8 = 8 - 1) (y i : (⟨2, ![M, N]⟩ : Shape).Idx) (h0 : (y 0).val = (i 0).val) (h1 : (y 1).val = (i 1).val) :
    a t.val t.isLt y = tn X W i := by
  have hy : y = i := funext fun d => by fin_cases d; exacts [Fin.ext h0, Fin.ext h1]
  subst hy
  have ht := t.isLt
  rw [Pipeline.eq_sum_fin_of_reset_step_apply_of_flush a 8 (fun _ => 0) _
    (fun t h j => by rw [ha t j, if_pos h]) (fun t h j => by rw [ha t j, if_neg h]) t h _, zero_add]
  refine Fin.sum_mul_add_congr fun s k hl => ?_
  have e : s.val * 1024 + k.val = (8 * (t.val / 8) + s.val) * 1024 + k.val := by omega
  exact congrArg₂ (fun a b : EReal => a * b) (hx _ _ _ _ e) (hw _ _ _ _ e)

/-- The layer's activation. -/
def act (x : FVec Ideal ⟨2, ![M, N]⟩ φ) : FVec Ideal ⟨2, ![M, N]⟩ ψ := fun i => relu2 (x i)

end Cert.Mm

end
-- ==== Proof.Dup.lean ====
/- The gradient of the layer's hidden value: one block of tokens against one block of the hidden width, times the activation's derivative. -/
module

public import proofs.«01_k».proof.Defs
public import proofs.«01_k».proof.Proof.Mm
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel2Ideal.Mlp

open Cert.Mm Cert.Kernel2Ideal Cert.Kernel2Ideal.Gen Idealize.ShloMosaic Idealize.ShloMosaic.TcCoe Idealize.SL.Sem
open Idealize.ShloMosaic.Pipeline (Dat)
open Idealize.ShloMosaic.StableHlo (TRef)

variable (m : (ℓ : Loc nD τ sig) → Buf (Elt Ideal) ℓ)

theorem pay (x w a : FVec Ideal S1024x1024 .bf16) (j) :
    k0_pay1 (F := Ideal) x w a j = nt x w j * Ideal.ofBits .f32 0x40000000#32 * Ideal.sqrt (a j) := by
  pointwise [k0_pay1, nt]

theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

abbrev argX (c : Dev nD) : FVec Ideal S8192x1024 .bf16 := m ((c : Thread nD τ).loc main_arg0)
abbrev argW (c : Dev nD) : FVec Ideal S4096x1024 .bf16 := m ((c : Thread nD τ).loc main_arg1)
abbrev argU (c : Dev nD) : FVec Ideal S8192x4096 .f32 := m ((c : Thread nD τ).loc main_arg2)

/-- The activation that the host forms before the call. -/
theorem host (c : Dev nD) : V m c main_v2 = act (ψ := .bf16) (argU m c) := by
  have e : V m c main_v2 = truncf .bf16 (mulf (maximumf (argU m c) (broadcastInDim S8192x4096 ![] bcast_S_S8192x4096 (constant S_ .f32 0x00000000#32)))
      (maximumf (argU m c) (broadcastInDim S8192x4096 ![] bcast_S_S8192x4096 (constant S_ .f32 0x00000000#32)))) bitsLt_bf16_f32 := by
    show StableHlo.after (List.flatten [hostOps0, hostOps0_1]) (fun b => m (c, b)) main_v2 = _
    simp only [hostOps0, hostOps0_1, List.flatten_cons, List.flatten_nil, List.cons_append, List.nil_append, List.append_nil, TRef.binary, TRef.nullary, TRef.unary, TRef.toBuf, TRef.ofBuf, cast_eq]; after_results
  rw [e]; funext i
  pointwise [act, relu2]

/-- The array after the run. -/
theorem arr (c : Dev nD) : (dats m 0 c).arrAt 3 cfg0.N
    = fun i => nt (argX m c) (argW m c) i * Ideal.ofBits .f32 0x40000000#32 * max (argU m c i) 0 := by
  refine (dats m 0 c).arrAt_eq_of_covers 3 _ (by decide +kernel) fun t hf y => ?_
  blk_simp
  rw [after0_3]
  frame_out
  rw [pay, ← sqrt_relu2]
  refine congrArg₂ (fun a b : EReal => a * Ideal.ofBits .f32 0x40000000#32 * Ideal.sqrt b) (nt_congr (fun k => ?_) (fun k => ?_))
    (Eq.trans ?_ (congrFun (host m c) _)) <;> blk_ext [iblk, V, idx t]

end Cert.Kernel2Ideal.Mlp

namespace Cert.Reference2Ideal.Mlp

open Cert.Reference2Ideal Cert.Reference2Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems rfl r.2⟩) (Value.run m ρ)

end Cert.Reference2Ideal.Mlp

namespace Cert.Mlp

open Idealize.ShloMosaic Idealize.SL.Sem

theorem dup : Cert.algebraic_Kernel2Ideal_Reference2Ideal := by
  intro m g m' g' _ hargs
  refine ⟨fun c => (Kernel2Ideal.Gen.dats m 0 c).arrAt 3 Kernel2Ideal.cfg0.N,
    Kernel2Ideal.Value.run_blocks m g, (θ_run _ _ _).mono (fun r h c => ?_) (Reference2Ideal.Value.run m' g')⟩
  obtain ⟨e, h2⟩ := h c
  refine ⟨e.trans (Eq.trans ?_ (Kernel2Ideal.Mlp.arr m c).symm), h2⟩
  rw [(hargs c).1, (hargs c).2.1, (hargs c).2.2]
  funext i
  pointwise [Mm.nt]
  split_ifs with hu
  · exact (mul_assoc (_ : EReal) _ _).symm
  · exact (mul_zero (_ : EReal)).symm.trans (congrArg (fun a : EReal => _ * a) (max_eq_right (not_lt.mp hu)).symm)

end Cert.Mlp

end
-- ==== Proof.Dwdown.lean ====
/- The gradient of the layer's second weight: four rows of blocks, each summed over eight blocks of tokens. -/
module

public import proofs.«01_k».proof.Defs
public import proofs.«01_k».proof.Proof.Mm
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel3Ideal.Mlp

open Cert.Mm Cert.Kernel3Ideal Cert.Kernel3Ideal.Gen Idealize.ShloMosaic Idealize.ShloMosaic.TcCoe Idealize.SL.Sem
open Idealize.ShloMosaic.Pipeline (Dat)
open Idealize.ShloMosaic.StableHlo (TRef)

variable (m : (ℓ : Loc nD τ sig) → Buf (Elt Ideal) ℓ)

theorem first (x w : FVec Ideal S1024x1024 .bf16) (j) : k0_pay2 (F := Ideal) x w j = tn x w j := by
  pointwise [k0_pay2, k0_pay1, tn]

theorem next (x w : FVec Ideal S1024x1024 .bf16) (acc : FVec Ideal S1024x1024 .f32) (j) :
    k0_pay3 (F := Ideal) x w acc j = acc j + tn x w j := by
  pointwise [k0_pay3, k0_pay1, tn]

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

theorem hN : cfg0.N = 32 := N_0

theorem step_first (c : Dev nD) (t : Fin cfg0.N) (h : t.val % 8 = 0) (y) :
    (outsAt0 m c t.val t.isLt).2 y = 0 + tn (M := 1024) (K := 1024) (N := 1024) (φ := .bf16) (ψ := .bf16) (iblk m c 0 t) (iblk m c 1 t) y := by
  rw [outsAt0_A m c t h (by omega) (by omega), zero_add]; frame_out; rw [first]

theorem step_next (c : Dev nD) (t : Fin cfg0.N) (h : ¬ t.val % 8 = 0) (y) :
    (outsAt0 m c t.val t.isLt).2 y
      = (outsAt0 m c (t.val - 1) (Nat.lt_of_le_of_lt (Nat.sub_le _ _) t.isLt)).2 y + tn (M := 1024) (K := 1024) (N := 1024) (φ := .bf16) (ψ := .bf16) (iblk m c 0 t) (iblk m c 1 t) y := by
  by_cases h3 : t.val % 8 = 7
  · rw [outsAt0_C m c t h (by omega) h3]; frame_out; rw [next]
    exact congrArg (fun a : EReal => a + _) (congrFun ((Memref.isWhole_whole cc0_scratch0).read_unread _) y)
  · rw [outsAt0_B m c t h (by omega) h3]; frame_out; rw [next]
    exact congrArg (fun a : EReal => a + _) (congrFun ((Memref.isWhole_whole cc0_scratch0).read_unread _) y)

theorem out_last (c : Dev nD) (t : Fin cfg0.N) (h : t.val % 8 = 7) (y) :
    (outsAt0 m c t.val t.isLt).1 y = (outsAt0 m c t.val t.isLt).2 y := by
  rw [outsAt0_C m c t (by omega) (by omega) h]; frame_out

abbrev argX (c : Dev nD) : FVec Ideal S8192x4096 .f32 := m ((c : Thread nD τ).loc main_arg0)
abbrev argW (c : Dev nD) : FVec Ideal S8192x1024 .bf16 := m ((c : Thread nD τ).loc main_arg1)

/-- The activation that the host forms before the call. -/
theorem host (c : Dev nD) : V m c main_v2 = act (ψ := .bf16) (argX m c) := by
  have e : V m c main_v2 = truncf .bf16 (mulf (maximumf (argX m c) (broadcastInDim S8192x4096 ![] bcast_S_S8192x4096 (constant S_ .f32 0x00000000#32)))
      (maximumf (argX m c) (broadcastInDim S8192x4096 ![] bcast_S_S8192x4096 (constant S_ .f32 0x00000000#32)))) bitsLt_bf16_f32 := by
    show StableHlo.after (List.flatten [hostOps0, hostOps0_1]) (fun b => m (c, b)) main_v2 = _
    simp only [hostOps0, hostOps0_1, List.flatten_cons, List.flatten_nil, List.cons_append, List.nil_append, List.append_nil, TRef.binary, TRef.nullary, TRef.unary, TRef.toBuf, TRef.ofBuf, cast_eq]; after_results
  rw [e]; funext i
  pointwise [act, relu2]

/-- The array after the run. -/
theorem arr (c : Dev nD) : (dats m 0 c).arrAt 2 cfg0.N = tn (act (ψ := .bf16) (argX m c)) (argW m c) := by
  refine (dats m 0 c).arrAt_eq_of_covers 2 _ (by decide +kernel) fun t hf y => ?_
  rw [← host m c]
  blk_simp
  have h3 := (flush0_2 t).mp hf
  rw [after0_2, out_last m c t h3, Pipeline.eq_sum_fin_of_reset_step_apply_of_flush (fun n h => (outsAt0 m c n h).2) 8 (fun _ => 0) _
    (fun t h j => step_first m c t h j) (fun t h j => step_next m c t h j) t h3 _, zero_add]
  refine Fin.sum_mul_add_congr fun s k hl => ?_
  refine congrArg₂ (fun a b : EReal => a * b) ?_ ?_ <;> blk_ext [iblk, V, idx t, idx ⟨_, Pipeline.run_point_lt_of_flush t h3 s⟩]

end Cert.Kernel3Ideal.Mlp

namespace Cert.Reference3Ideal.Mlp

open Cert.Reference3Ideal Cert.Reference3Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference3Ideal.Mlp

namespace Cert.Mlp

open Idealize.ShloMosaic Idealize.SL.Sem

theorem dwdown : Cert.algebraic_Kernel3Ideal_Reference3Ideal := by
  intro m g m' g' _ hargs
  refine ⟨fun c => (Kernel3Ideal.Gen.dats m 0 c).arrAt 2 Kernel3Ideal.cfg0.N,
    Kernel3Ideal.Value.run_blocks m g, (θ_run _ _ _).mono (fun r h c => ?_) (Reference3Ideal.Value.run m' g')⟩
  obtain ⟨e, h2⟩ := h c
  refine ⟨e.trans (Eq.trans ?_ (Kernel3Ideal.Mlp.arr m c).symm), h2⟩
  rw [(hargs c).1, (hargs c).2]
  funext i
  pointwise []
  exact Mm.tn_swap (Mm.act (ψ := .bf16) (Kernel3Ideal.Mlp.argX m c)) (Kernel3Ideal.Mlp.argW m c) i

end Cert.Mlp

end
-- ==== Proof.Dwup.lean ====
/- The gradient of the layer's first weight: four columns of blocks, each summed over eight blocks of tokens. -/
module

public import proofs.«01_k».proof.Defs
public import proofs.«01_k».proof.Proof.Mm
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel4Ideal.Mlp

open Cert.Mm Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

theorem first (x w : FVec Ideal S1024x1024 .bf16) (j) : k0_pay2 (F := Ideal) x w j = tn x w j := by
  pointwise [k0_pay2, k0_pay1, tn]

theorem next (x w : FVec Ideal S1024x1024 .bf16) (acc : FVec Ideal S1024x1024 .f32) (j) :
    k0_pay3 (F := Ideal) x w acc j = acc j + tn x w j := by
  pointwise [k0_pay3, k0_pay1, tn]

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

theorem hN : cfg0.N = 32 := N_0

theorem step_first (c : Dev nD) (t : Fin cfg0.N) (h : t.val % 8 = 0) (y) :
    (outsAt0 m c t.val t.isLt).2 y = 0 + tn (M := 1024) (K := 1024) (N := 1024) (φ := .bf16) (ψ := .bf16) (iblk m c 0 t) (iblk m c 1 t) y := by
  rw [outsAt0_A m c t h (by omega) (by omega), zero_add]; frame_out; rw [first]

theorem step_next (c : Dev nD) (t : Fin cfg0.N) (h : ¬ t.val % 8 = 0) (y) :
    (outsAt0 m c t.val t.isLt).2 y
      = (outsAt0 m c (t.val - 1) (Nat.lt_of_le_of_lt (Nat.sub_le _ _) t.isLt)).2 y + tn (M := 1024) (K := 1024) (N := 1024) (φ := .bf16) (ψ := .bf16) (iblk m c 0 t) (iblk m c 1 t) y := by
  by_cases h3 : t.val % 8 = 7
  · rw [outsAt0_C m c t h (by omega) h3]; frame_out; rw [next]
    exact congrArg (fun a : EReal => a + _) (congrFun ((Memref.isWhole_whole cc0_scratch0).read_unread _) y)
  · rw [outsAt0_B m c t h (by omega) h3]; frame_out; rw [next]
    exact congrArg (fun a : EReal => a + _) (congrFun ((Memref.isWhole_whole cc0_scratch0).read_unread _) y)

theorem out_last (c : Dev nD) (t : Fin cfg0.N) (h : t.val % 8 = 7) (y) :
    (outsAt0 m c t.val t.isLt).1 y = (outsAt0 m c t.val t.isLt).2 y := by
  rw [outsAt0_C m c t (by omega) (by omega) h]; frame_out

abbrev argX (c : Dev nD) : FVec Ideal S8192x1024 .bf16 := m ((c : Thread nD τ).loc main_arg0)
abbrev argW (c : Dev nD) : FVec Ideal S8192x4096 .bf16 := m ((c : Thread nD τ).loc main_arg1)

/-- The array after the run. -/
theorem arr (c : Dev nD) : (dats m 0 c).arrAt 2 cfg0.N = tn (argX m c) (argW m c) := by
  refine (dats m 0 c).arrAt_eq_of_covers 2 _ (by decide +kernel) fun t hf y => ?_
  blk_simp
  have h3 := (flush0_2 t).mp hf
  rw [after0_2, out_last m c t h3, Pipeline.eq_sum_fin_of_reset_step_apply_of_flush (fun n h => (outsAt0 m c n h).2) 8 (fun _ => 0) _
    (fun t h j => step_first m c t h j) (fun t h j => step_next m c t h j) t h3 _, zero_add]
  refine Fin.sum_mul_add_congr fun s k hl => ?_
  refine congrArg₂ (fun a b : EReal => a * b) ?_ ?_ <;> blk_ext [iblk, V, idx t, idx ⟨_, Pipeline.run_point_lt_of_flush t h3 s⟩]

end Cert.Kernel4Ideal.Mlp

namespace Cert.Reference4Ideal.Mlp

open Cert.Reference4Ideal Cert.Reference4Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference4Ideal.Mlp

namespace Cert.Mlp

open Idealize.ShloMosaic Idealize.SL.Sem

theorem dwup : Cert.algebraic_Kernel4Ideal_Reference4Ideal := by
  intro m g m' g' _ hargs
  refine ⟨fun c => (Kernel4Ideal.Gen.dats m 0 c).arrAt 2 Kernel4Ideal.cfg0.N,
    Kernel4Ideal.Value.run_blocks m g, (θ_run _ _ _).mono (fun r h c => ?_) (Reference4Ideal.Value.run m' g')⟩
  obtain ⟨e, h2⟩ := h c
  refine ⟨e.trans (Eq.trans ?_ (Kernel4Ideal.Mlp.arr m c).symm), h2⟩
  rw [(hargs c).1, (hargs c).2]
  funext i
  pointwise []
  exact Mm.tn_swap _ _ i

end Cert.Mlp

end
-- ==== Proof.Dhn.lean ====
/- The gradient of the layer's input: eight rows of blocks, each summed over four blocks of the hidden width. -/
module

public import proofs.«01_k».proof.Defs
public import proofs.«01_k».proof.Proof.Mm
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel5Ideal.Mlp

open Cert.Mm Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

theorem first (x w : FVec Ideal S1024x1024 .bf16) (j) : k0_pay2 (F := Ideal) x w j = nt x w j := by
  pointwise [k0_pay2, k0_pay1, nt]

theorem next (x w : FVec Ideal S1024x1024 .bf16) (acc : FVec Ideal S1024x1024 .f32) (j) :
    k0_pay3 (F := Ideal) x w acc j = acc j + nt x w j := by
  pointwise [k0_pay3, k0_pay1, nt]

theorem idx : ∀ t : Fin cfg0.N, win0_0.index t = ![t.val / 4, t.val % 4] ∧ win0_1.index t = ![0, t.val % 4] ∧ win0_2.index t = ![t.val / 4, 0] :=
  (by decide +kernel : ∀ t : Fin grid0.N, _)

theorem hN : cfg0.N = 32 := N_0

theorem step_first (c : Dev nD) (t : Fin cfg0.N) (h : t.val % 4 = 0) (y) :
    (outsAt0 m c t.val t.isLt).2 y = 0 + nt (M := 1024) (K := 1024) (N := 1024) (φ := .bf16) (ψ := .bf16) (iblk m c 0 t) (iblk m c 1 t) y := by
  rw [outsAt0_A m c t h (by omega) (by omega), zero_add]; frame_out; rw [first]

theorem step_next (c : Dev nD) (t : Fin cfg0.N) (h : ¬ t.val % 4 = 0) (y) :
    (outsAt0 m c t.val t.isLt).2 y
      = (outsAt0 m c (t.val - 1) (Nat.lt_of_le_of_lt (Nat.sub_le _ _) t.isLt)).2 y + nt (M := 1024) (K := 1024) (N := 1024) (φ := .bf16) (ψ := .bf16) (iblk m c 0 t) (iblk m c 1 t) y := by
  by_cases h3 : t.val % 4 = 3
  · rw [outsAt0_C m c t h (by omega) h3]; frame_out; rw [next]
    exact congrArg (fun a : EReal => a + _) (congrFun ((Memref.isWhole_whole cc0_scratch0).read_unread _) y)
  · rw [outsAt0_B m c t h (by omega) h3]; frame_out; rw [next]
    exact congrArg (fun a : EReal => a + _) (congrFun ((Memref.isWhole_whole cc0_scratch0).read_unread _) y)

theorem out_last (c : Dev nD) (t : Fin cfg0.N) (h : t.val % 4 = 3) (y) :
    (outsAt0 m c t.val t.isLt).1 y = (outsAt0 m c t.val t.isLt).2 y := by
  rw [outsAt0_C m c t (by omega) (by omega) h]; frame_out

abbrev argX (c : Dev nD) : FVec Ideal S8192x4096 .bf16 := m ((c : Thread nD τ).loc main_arg0)
abbrev argW (c : Dev nD) : FVec Ideal S1024x4096 .bf16 := m ((c : Thread nD τ).loc main_arg1)

/-- The array after the run. -/
theorem arr (c : Dev nD) : (dats m 0 c).arrAt 2 cfg0.N = nt (argX m c) (argW m c) := by
  refine (dats m 0 c).arrAt_eq_of_covers 2 _ (by decide +kernel) fun t hf y => ?_
  blk_simp
  have h3 := (flush0_2 t).mp hf
  rw [after0_2, out_last m c t h3, Pipeline.eq_sum_fin_of_reset_step_apply_of_flush (fun n h => (outsAt0 m c n h).2) 4 (fun _ => 0) _
    (fun t h j => step_first m c t h j) (fun t h j => step_next m c t h j) t h3 _, zero_add]
  refine Fin.sum_mul_add_congr fun s k hl => ?_
  refine congrArg₂ (fun a b : EReal => a * b) ?_ ?_ <;> blk_ext [iblk, V, idx t, idx ⟨_, Pipeline.run_point_lt_of_flush t h3 s⟩]

end Cert.Kernel5Ideal.Mlp

namespace Cert.Reference5Ideal.Mlp

open Cert.Reference5Ideal Cert.Reference5Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference5Ideal.Mlp

namespace Cert.Mlp

open Idealize.ShloMosaic Idealize.SL.Sem

theorem dhn : Cert.algebraic_Kernel5Ideal_Reference5Ideal := by
  intro m g m' g' _ hargs
  refine ⟨fun c => (Kernel5Ideal.Gen.dats m 0 c).arrAt 2 Kernel5Ideal.cfg0.N,
    Kernel5Ideal.Value.run_blocks m g, (θ_run _ _ _).mono (fun r h c => ?_) (Reference5Ideal.Value.run m' g')⟩
  obtain ⟨e, h2⟩ := h c
  refine ⟨e.trans (Eq.trans ?_ (Kernel5Ideal.Mlp.arr m c).symm), h2⟩
  rw [(hargs c).1, (hargs c).2]
  funext i
  pointwise [Mm.nt]

end Cert.Mlp

end
-- ==== Proof.Up.lean ====
/- The layer's first product forward, with the activation: one block of tokens against one block of the hidden width. -/
module

public import proofs.«01_k».proof.Defs
public import proofs.«01_k».proof.Proof.Mm
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel6Ideal.Mlp

open Cert.Mm Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

theorem pay (x w : FVec Ideal S1024x1024 .bf16) (j) : k0_pay1 (F := Ideal) x w j = relu2 (nn x w j) := by
  pointwise [k0_pay1, relu2, nn]

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

abbrev argX (c : Dev nD) : FVec Ideal S8192x1024 .bf16 := m ((c : Thread nD τ).loc main_arg0)
abbrev argW (c : Dev nD) : FVec Ideal S1024x4096 .bf16 := m ((c : Thread nD τ).loc main_arg1)

/-- The array after the run. -/
theorem arr (c : Dev nD) : (dats m 0 c).arrAt 2 cfg0.N = fun i => relu2 (nn (argX m c) (argW m c) i) := by
  refine (dats m 0 c).arrAt_eq_of_covers 2 _ (by decide +kernel) fun t hf y => ?_
  blk_simp
  rw [after0_2]
  frame_out
  rw [pay]
  refine congrArg relu2 (nn_congr (fun k => ?_) (fun k => ?_)) <;> blk_ext [iblk, V, idx t]

end Cert.Kernel6Ideal.Mlp

namespace Cert.Reference6Ideal.Mlp

open Cert.Reference6Ideal Cert.Reference6Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference6Ideal.Mlp

namespace Cert.Mlp

open Idealize.ShloMosaic Idealize.SL.Sem

theorem up : Cert.algebraic_Kernel6Ideal_Reference6Ideal := by
  intro m g m' g' _ hargs
  refine ⟨fun c => (Kernel6Ideal.Gen.dats m 0 c).arrAt 2 Kernel6Ideal.cfg0.N,
    Kernel6Ideal.Value.run_blocks m g, (θ_run _ _ _).mono (fun r h c => ?_) (Reference6Ideal.Value.run m' g')⟩
  obtain ⟨e, h2⟩ := h c
  refine ⟨e.trans (Eq.trans ?_ (Kernel6Ideal.Mlp.arr m c).symm), h2⟩
  rw [(hargs c).1, (hargs c).2]
  funext i
  pointwise [Mm.relu2, Mm.nn]

end Cert.Mlp

end
-- ==== Proof.Down.lean ====
/- The layer's second product forward: eight rows of blocks, each summed over four blocks of the hidden width. -/
module

public import proofs.«01_k».proof.Defs
public import proofs.«01_k».proof.Proof.Mm
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel7Ideal.Mlp

open Cert.Mm Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

theorem first (x w : FVec Ideal S1024x1024 .bf16) (j) : k0_pay2 (F := Ideal) x w j = nn x w j := by
  pointwise [k0_pay2, k0_pay1, nn]

theorem next (x w : FVec Ideal S1024x1024 .bf16) (acc : FVec Ideal S1024x1024 .f32) (j) :
    k0_pay3 (F := Ideal) x w acc j = acc j + nn x w j := by
  pointwise [k0_pay3, k0_pay1, nn]

theorem idx : ∀ t : Fin cfg0.N, win0_0.index t = ![t.val / 4, t.val % 4] ∧ win0_1.index t = ![t.val % 4, 0] ∧ win0_2.index t = ![t.val / 4, 0] :=
  (by decide +kernel : ∀ t : Fin grid0.N, _)

theorem hN : cfg0.N = 32 := N_0

theorem step_first (c : Dev nD) (t : Fin cfg0.N) (h : t.val % 4 = 0) (y) :
    (outsAt0 m c t.val t.isLt).2 y = 0 + nn (M := 1024) (K := 1024) (N := 1024) (φ := .bf16) (ψ := .bf16) (iblk m c 0 t) (iblk m c 1 t) y := by
  rw [outsAt0_A m c t h (by omega) (by omega), zero_add]; frame_out; rw [first]

theorem step_next (c : Dev nD) (t : Fin cfg0.N) (h : ¬ t.val % 4 = 0) (y) :
    (outsAt0 m c t.val t.isLt).2 y
      = (outsAt0 m c (t.val - 1) (Nat.lt_of_le_of_lt (Nat.sub_le _ _) t.isLt)).2 y + nn (M := 1024) (K := 1024) (N := 1024) (φ := .bf16) (ψ := .bf16) (iblk m c 0 t) (iblk m c 1 t) y := by
  by_cases h3 : t.val % 4 = 3
  · rw [outsAt0_C m c t h (by omega) h3]; frame_out; rw [next]
    exact congrArg (fun a : EReal => a + _) (congrFun ((Memref.isWhole_whole cc0_scratch0).read_unread _) y)
  · rw [outsAt0_B m c t h (by omega) h3]; frame_out; rw [next]
    exact congrArg (fun a : EReal => a + _) (congrFun ((Memref.isWhole_whole cc0_scratch0).read_unread _) y)

theorem out_last (c : Dev nD) (t : Fin cfg0.N) (h : t.val % 4 = 3) (y) :
    (outsAt0 m c t.val t.isLt).1 y = (outsAt0 m c t.val t.isLt).2 y := by
  rw [outsAt0_C m c t (by omega) (by omega) h]; frame_out

abbrev argX (c : Dev nD) : FVec Ideal S8192x4096 .bf16 := m ((c : Thread nD τ).loc main_arg0)
abbrev argW (c : Dev nD) : FVec Ideal S4096x1024 .bf16 := m ((c : Thread nD τ).loc main_arg1)

/-- The array after the run. -/
theorem arr (c : Dev nD) : (dats m 0 c).arrAt 2 cfg0.N = nn (argX m c) (argW m c) := by
  refine (dats m 0 c).arrAt_eq_of_covers 2 _ (by decide +kernel) fun t hf y => ?_
  blk_simp
  have h3 := (flush0_2 t).mp hf
  rw [after0_2, out_last m c t h3, Pipeline.eq_sum_fin_of_reset_step_apply_of_flush (fun n h => (outsAt0 m c n h).2) 4 (fun _ => 0) _
    (fun t h j => step_first m c t h j) (fun t h j => step_next m c t h j) t h3 _, zero_add]
  refine Fin.sum_mul_add_congr fun s k hl => ?_
  refine congrArg₂ (fun a b : EReal => a * b) ?_ ?_ <;> blk_ext [iblk, V, idx t, idx ⟨_, Pipeline.run_point_lt_of_flush t h3 s⟩]

end Cert.Kernel7Ideal.Mlp

namespace Cert.Reference7Ideal.Mlp

open Cert.Reference7Ideal Cert.Reference7Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference7Ideal.Mlp

namespace Cert.Mlp

open Idealize.ShloMosaic Idealize.SL.Sem

theorem down : Cert.algebraic_Kernel7Ideal_Reference7Ideal := by
  intro m g m' g' _ hargs
  refine ⟨fun c => (Kernel7Ideal.Gen.dats m 0 c).arrAt 2 Kernel7Ideal.cfg0.N,
    Kernel7Ideal.Value.run_blocks m g, (θ_run _ _ _).mono (fun r h c => ?_) (Reference7Ideal.Value.run m' g')⟩
  obtain ⟨e, h2⟩ := h c
  refine ⟨e.trans (Eq.trans ?_ (Kernel7Ideal.Mlp.arr m c).symm), h2⟩
  rw [(hargs c).1, (hargs c).2]
  funext i
  pointwise [Mm.nn]

end Cert.Mlp

end
-- ==== Proof.Dw.lean ====
/- A weight's gradient, 1024 by 1024: one block, summed over eight blocks of tokens. -/
module

public import proofs.«01_k».proof.Defs
public import proofs.«01_k».proof.Proof.Mm
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel8Ideal.Mlp

open Cert.Mm Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

theorem first (x w : FVec Ideal S1024x1024 .bf16) (j) : k0_pay2 (F := Ideal) x w j = tn x w j := by
  pointwise [k0_pay2, k0_pay1, tn]

theorem next (x w : FVec Ideal S1024x1024 .bf16) (acc : FVec Ideal S1024x1024 .f32) (j) :
    k0_pay3 (F := Ideal) x w acc j = acc j + tn x w j := by
  pointwise [k0_pay3, k0_pay1, tn]

theorem idx : ∀ t : Fin cfg0.N, win0_0.index t = ![t.val % 8, 0] ∧ win0_1.index t = ![t.val % 8, 0] ∧ win0_2.index t = ![0, 0] :=
  (by decide +kernel : ∀ t : Fin grid0.N, _)

theorem hN : cfg0.N = 8 := N_0

theorem step_first (c : Dev nD) (t : Fin cfg0.N) (h : t.val % 8 = 0) (y) :
    (outsAt0 m c t.val t.isLt).2 y = 0 + tn (M := 1024) (K := 1024) (N := 1024) (φ := .bf16) (ψ := .bf16) (iblk m c 0 t) (iblk m c 1 t) y := by
  rw [outsAt0_A m c t h (by have := lt_of_lt_of_eq t.isLt hN; omega) (by have := lt_of_lt_of_eq t.isLt hN; omega), zero_add]; frame_out; rw [first]

theorem step_next (c : Dev nD) (t : Fin cfg0.N) (h : ¬ t.val % 8 = 0) (y) :
    (outsAt0 m c t.val t.isLt).2 y
      = (outsAt0 m c (t.val - 1) (Nat.lt_of_le_of_lt (Nat.sub_le _ _) t.isLt)).2 y + tn (M := 1024) (K := 1024) (N := 1024) (φ := .bf16) (ψ := .bf16) (iblk m c 0 t) (iblk m c 1 t) y := by
  by_cases h3 : t.val % 8 = 7
  · rw [outsAt0_C m c t h (by have := lt_of_lt_of_eq t.isLt hN; omega) h3]; frame_out; rw [next]
    exact congrArg (fun a : EReal => a + _) (congrFun ((Memref.isWhole_whole cc0_scratch0).read_unread _) y)
  · rw [outsAt0_B m c t h (by have := lt_of_lt_of_eq t.isLt hN; omega) h3]; frame_out; rw [next]
    exact congrArg (fun a : EReal => a + _) (congrFun ((Memref.isWhole_whole cc0_scratch0).read_unread _) y)

theorem out_last (c : Dev nD) (t : Fin cfg0.N) (h : t.val % 8 = 7) (y) :
    (outsAt0 m c t.val t.isLt).1 y = (outsAt0 m c t.val t.isLt).2 y := by
  rw [outsAt0_C m c t (by have := lt_of_lt_of_eq t.isLt hN; omega) (by have := lt_of_lt_of_eq t.isLt hN; omega) h]; frame_out

abbrev argX (c : Dev nD) : FVec Ideal S8192x1024 .bf16 := m ((c : Thread nD τ).loc main_arg0)
abbrev argW (c : Dev nD) : FVec Ideal S8192x1024 .bf16 := m ((c : Thread nD τ).loc main_arg1)

/-- The array after the run. -/
theorem arr (c : Dev nD) : (dats m 0 c).arrAt 2 cfg0.N = tn (argX m c) (argW m c) := by
  refine (dats m 0 c).arrAt_eq_of_covers 2 _ (by decide +kernel) fun t hf y => ?_
  blk_simp
  have h3 := (flush0_2 t).mp hf
  rw [after0_2, out_last m c t h3, Pipeline.eq_sum_fin_of_reset_step_apply_of_flush (fun n h => (outsAt0 m c n h).2) 8 (fun _ => 0) _
    (fun t h j => step_first m c t h j) (fun t h j => step_next m c t h j) t h3 _, zero_add]
  refine Fin.sum_mul_add_congr fun s k hl => ?_
  refine congrArg₂ (fun a b : EReal => a * b) ?_ ?_ <;> blk_ext [iblk, V, idx t, idx ⟨_, Pipeline.run_point_lt_of_flush t h3 s⟩]

end Cert.Kernel8Ideal.Mlp

namespace Cert.Reference8Ideal.Mlp

open Cert.Reference8Ideal Cert.Reference8Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference8Ideal.Mlp

namespace Cert.Mlp

open Idealize.ShloMosaic Idealize.SL.Sem

theorem dw : Cert.algebraic_Kernel8Ideal_Reference8Ideal := by
  intro m g m' g' _ hargs
  refine ⟨fun c => (Kernel8Ideal.Gen.dats m 0 c).arrAt 2 Kernel8Ideal.cfg0.N,
    Kernel8Ideal.Value.run_blocks m g, (θ_run _ _ _).mono (fun r h c => ?_) (Reference8Ideal.Value.run m' g')⟩
  obtain ⟨e, h2⟩ := h c
  refine ⟨e.trans (Eq.trans ?_ (Kernel8Ideal.Mlp.arr m c).symm), h2⟩
  rw [(hargs c).1, (hargs c).2]
  funext i
  pointwise []
  exact Mm.tn_swap _ _ i

end Cert.Mlp

end
-- ==== Proof.Dx.lean ====
/- The gradient of a projection's input: one block of tokens against the whole weight. -/
module

public import proofs.«01_k».proof.Defs
public import proofs.«01_k».proof.Proof.Mm
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel9Ideal.Mlp

open Cert.Mm Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

theorem pay (x w : FVec Ideal S1024x1024 .bf16) (j) : k0_pay1 (F := Ideal) x w j = nt x w j := by
  pointwise [k0_pay1, nt]

theorem idx : ∀ t : Fin cfg0.N, win0_0.index t = ![t.val, 0] ∧ win0_1.index t = ![0, 0] ∧ win0_2.index t = ![t.val, 0] :=
  (by decide +kernel : ∀ t : Fin grid0.N, _)

abbrev argX (c : Dev nD) : FVec Ideal S8192x1024 .bf16 := m ((c : Thread nD τ).loc main_arg0)
abbrev argW (c : Dev nD) : FVec Ideal S1024x1024 .bf16 := m ((c : Thread nD τ).loc main_arg1)

/-- The array after the run. -/
theorem arr (c : Dev nD) : (dats m 0 c).arrAt 2 cfg0.N = nt (argX m c) (argW m c) := by
  refine (dats m 0 c).arrAt_eq_of_covers 2 _ (by decide +kernel) fun t hf y => ?_
  blk_simp
  rw [after0_2]
  frame_out
  rw [pay]
  refine nt_congr (fun k => ?_) (fun k => ?_) <;> blk_ext [iblk, V, idx t]

end Cert.Kernel9Ideal.Mlp

namespace Cert.Reference9Ideal.Mlp

open Cert.Reference9Ideal Cert.Reference9Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference9Ideal.Mlp

namespace Cert.Mlp

open Idealize.ShloMosaic Idealize.SL.Sem

theorem dx : Cert.algebraic_Kernel9Ideal_Reference9Ideal := by
  intro m g m' g' _ hargs
  refine ⟨fun c => (Kernel9Ideal.Gen.dats m 0 c).arrAt 2 Kernel9Ideal.cfg0.N,
    Kernel9Ideal.Value.run_blocks m g, (θ_run _ _ _).mono (fun r h c => ?_) (Reference9Ideal.Value.run m' g')⟩
  obtain ⟨e, h2⟩ := h c
  refine ⟨e.trans (Eq.trans ?_ (Kernel9Ideal.Mlp.arr m c).symm), h2⟩
  rw [(hargs c).1, (hargs c).2]
  funext i
  pointwise [Mm.nt]

end Cert.Mlp

end
-- ==== Proof.Do.lean ====
/- The gradient of the attention's output, rounded: one block of tokens against the whole weight. -/
module

public import proofs.«01_k».proof.Defs
public import proofs.«01_k».proof.Proof.Mm
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel10Ideal.Mlp

open Cert.Mm Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

theorem pay (x w : FVec Ideal S1024x1024 .bf16) (j) : k0_pay1 (F := Ideal) x w j = nt x w j := by
  pointwise [k0_pay1, nt]

theorem idx : ∀ t : Fin cfg0.N, win0_0.index t = ![t.val, 0] ∧ win0_1.index t = ![0, 0] ∧ win0_2.index t = ![t.val, 0] :=
  (by decide +kernel : ∀ t : Fin grid0.N, _)

abbrev argX (c : Dev nD) : FVec Ideal S8192x1024 .bf16 := m ((c : Thread nD τ).loc main_arg0)
abbrev argW (c : Dev nD) : FVec Ideal S1024x1024 .bf16 := m ((c : Thread nD τ).loc main_arg1)

/-- The array after the run. -/
theorem arr (c : Dev nD) : (dats m 0 c).arrAt 2 cfg0.N = nt (argX m c) (argW m c) := by
  refine (dats m 0 c).arrAt_eq_of_covers 2 _ (by decide +kernel) fun t hf y => ?_
  blk_simp
  rw [after0_2]
  frame_out
  rw [pay]
  refine nt_congr (fun k => ?_) (fun k => ?_) <;> blk_ext [iblk, V, idx t]

end Cert.Kernel10Ideal.Mlp

namespace Cert.Reference10Ideal.Mlp

open Cert.Reference10Ideal Cert.Reference10Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference10Ideal.Mlp

namespace Cert.Mlp

open Idealize.ShloMosaic Idealize.SL.Sem

theorem dout : Cert.algebraic_Kernel10Ideal_Reference10Ideal := by
  intro m g m' g' _ hargs
  refine ⟨fun c => (Kernel10Ideal.Gen.dats m 0 c).arrAt 2 Kernel10Ideal.cfg0.N,
    Kernel10Ideal.Value.run_blocks m g, (θ_run _ _ _).mono (fun r h c => ?_) (Reference10Ideal.Value.run m' g')⟩
  obtain ⟨e, h2⟩ := h c
  refine ⟨e.trans (Eq.trans ?_ (Kernel10Ideal.Mlp.arr m c).symm), h2⟩
  rw [(hargs c).1, (hargs c).2]
  funext i
  pointwise [Mm.nt]

end Cert.Mlp

end
-- ==== Proof.Dproj.lean ====
/- The gradient of the recurrent layer's input: eight rows of blocks, each summed over two blocks of the inner width. -/
module

public import proofs.«01_k».proof.Defs
public import proofs.«01_k».proof.Proof.Mm
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel11Ideal.Mlp

open Cert.Mm Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

theorem first (x w : FVec Ideal S1024x1024 .bf16) (j) : k0_pay2 (F := Ideal) x w j = nt x w j := by
  pointwise [k0_pay2, k0_pay1, nt]

theorem next (x w : FVec Ideal S1024x1024 .bf16) (acc : FVec Ideal S1024x1024 .f32) (j) :
    k0_pay3 (F := Ideal) x w acc j = acc j + nt x w j := by
  pointwise [k0_pay3, k0_pay1, nt]

theorem idx : ∀ t : Fin cfg0.N, win0_0.index t = ![t.val / 2, t.val % 2] ∧ win0_1.index t = ![0, t.val % 2] ∧ win0_2.index t = ![t.val / 2, 0] :=
  (by decide +kernel : ∀ t : Fin grid0.N, _)

theorem hN : cfg0.N = 16 := N_0

theorem step_first (c : Dev nD) (t : Fin cfg0.N) (h : t.val % 2 = 0) (y) :
    (outsAt0 m c t.val t.isLt).2 y = 0 + nt (M := 1024) (K := 1024) (N := 1024) (φ := .bf16) (ψ := .bf16) (iblk m c 0 t) (iblk m c 1 t) y := by
  rw [outsAt0_A m c t h (by omega) (by omega), zero_add]; frame_out; rw [first]

theorem step_next (c : Dev nD) (t : Fin cfg0.N) (h : ¬ t.val % 2 = 0) (y) :
    (outsAt0 m c t.val t.isLt).2 y
      = (outsAt0 m c (t.val - 1) (Nat.lt_of_le_of_lt (Nat.sub_le _ _) t.isLt)).2 y + nt (M := 1024) (K := 1024) (N := 1024) (φ := .bf16) (ψ := .bf16) (iblk m c 0 t) (iblk m c 1 t) y := by
  have h3 : t.val % 2 = 1 := by omega
  rw [outsAt0_B m c t h h3 h3]; frame_out; rw [next]
  exact congrArg (fun a : EReal => a + _) (congrFun ((Memref.isWhole_whole cc0_scratch0).read_unread _) y)

theorem out_last (c : Dev nD) (t : Fin cfg0.N) (h : t.val % 2 = 1) (y) :
    (outsAt0 m c t.val t.isLt).1 y = (outsAt0 m c t.val t.isLt).2 y := by
  rw [outsAt0_B m c t (by omega) h h]; frame_out

abbrev argX (c : Dev nD) : FVec Ideal S8192x2048 .bf16 := m ((c : Thread nD τ).loc main_arg0)
abbrev argW (c : Dev nD) : FVec Ideal S1024x2048 .bf16 := m ((c : Thread nD τ).loc main_arg1)

/-- The array after the run. -/
theorem arr (c : Dev nD) : (dats m 0 c).arrAt 2 cfg0.N = nt (argX m c) (argW m c) := by
  refine (dats m 0 c).arrAt_eq_of_covers 2 _ (by decide +kernel) fun t hf y => ?_
  blk_simp
  have h3 := (flush0_2 t).mp hf
  rw [after0_2, out_last m c t h3, Pipeline.eq_sum_fin_of_reset_step_apply_of_flush (fun n h => (outsAt0 m c n h).2) 2 (fun _ => 0) _
    (fun t h j => step_first m c t h j) (fun t h j => step_next m c t h j) t h3 _, zero_add]
  refine Fin.sum_mul_add_congr fun s k hl => ?_
  refine congrArg₂ (fun a b : EReal => a * b) ?_ ?_ <;> blk_ext [iblk, V, idx t, idx ⟨_, Pipeline.run_point_lt_of_flush t h3 s⟩]

end Cert.Kernel11Ideal.Mlp

namespace Cert.Reference11Ideal.Mlp

open Cert.Reference11Ideal Cert.Reference11Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference11Ideal.Mlp

namespace Cert.Mlp

open Idealize.ShloMosaic Idealize.SL.Sem

theorem dproj : Cert.algebraic_Kernel11Ideal_Reference11Ideal := by
  intro m g m' g' _ hargs
  refine ⟨fun c => (Kernel11Ideal.Gen.dats m 0 c).arrAt 2 Kernel11Ideal.cfg0.N,
    Kernel11Ideal.Value.run_blocks m g, (θ_run _ _ _).mono (fun r h c => ?_) (Reference11Ideal.Value.run m' g')⟩
  obtain ⟨e, h2⟩ := h c
  refine ⟨e.trans (Eq.trans ?_ (Kernel11Ideal.Mlp.arr m c).symm), h2⟩
  rw [(hargs c).1, (hargs c).2]
  funext i
  pointwise [Mm.nt]

end Cert.Mlp

end
-- ==== Proof.Dwin.lean ====
/- The gradient of the recurrent layer's input weight: two columns of blocks, each summed over eight blocks of tokens. -/
module

public import proofs.«01_k».proof.Defs
public import proofs.«01_k».proof.Proof.Mm
public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel12Ideal.Mlp

open Cert.Mm Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

theorem first (x w : FVec Ideal S1024x1024 .bf16) (j) : k0_pay2 (F := Ideal) x w j = tn x w j := by
  pointwise [k0_pay2, k0_pay1, tn]

theorem next (x w : FVec Ideal S1024x1024 .bf16) (acc : FVec Ideal S1024x1024 .f32) (j) :
    k0_pay3 (F := Ideal) x w acc j = acc j + tn x w j := by
  pointwise [k0_pay3, k0_pay1, tn]

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

theorem hN : cfg0.N = 16 := N_0

theorem step_first (c : Dev nD) (t : Fin cfg0.N) (h : t.val % 8 = 0) (y) :
    (outsAt0 m c t.val t.isLt).2 y = 0 + tn (M := 1024) (K := 1024) (N := 1024) (φ := .bf16) (ψ := .bf16) (iblk m c 0 t) (iblk m c 1 t) y := by
  rw [outsAt0_A m c t h (by omega) (by omega), zero_add]; frame_out; rw [first]

theorem step_next (c : Dev nD) (t : Fin cfg0.N) (h : ¬ t.val % 8 = 0) (y) :
    (outsAt0 m c t.val t.isLt).2 y
      = (outsAt0 m c (t.val - 1) (Nat.lt_of_le_of_lt (Nat.sub_le _ _) t.isLt)).2 y + tn (M := 1024) (K := 1024) (N := 1024) (φ := .bf16) (ψ := .bf16) (iblk m c 0 t) (iblk m c 1 t) y := by
  by_cases h3 : t.val % 8 = 7
  · rw [outsAt0_C m c t h (by omega) h3]; frame_out; rw [next]
    exact congrArg (fun a : EReal => a + _) (congrFun ((Memref.isWhole_whole cc0_scratch0).read_unread _) y)
  · rw [outsAt0_B m c t h (by omega) h3]; frame_out; rw [next]
    exact congrArg (fun a : EReal => a + _) (congrFun ((Memref.isWhole_whole cc0_scratch0).read_unread _) y)

theorem out_last (c : Dev nD) (t : Fin cfg0.N) (h : t.val % 8 = 7) (y) :
    (outsAt0 m c t.val t.isLt).1 y = (outsAt0 m c t.val t.isLt).2 y := by
  rw [outsAt0_C m c t (by omega) (by omega) h]; frame_out

abbrev argX (c : Dev nD) : FVec Ideal S8192x1024 .bf16 := m ((c : Thread nD τ).loc main_arg0)
abbrev argW (c : Dev nD) : FVec Ideal S8192x2048 .bf16 := m ((c : Thread nD τ).loc main_arg1)

/-- The array after the run. -/
theorem arr (c : Dev nD) : (dats m 0 c).arrAt 2 cfg0.N = tn (argX m c) (argW m c) := by
  refine (dats m 0 c).arrAt_eq_of_covers 2 _ (by decide +kernel) fun t hf y => ?_
  blk_simp
  have h3 := (flush0_2 t).mp hf
  rw [after0_2, out_last m c t h3, Pipeline.eq_sum_fin_of_reset_step_apply_of_flush (fun n h => (outsAt0 m c n h).2) 8 (fun _ => 0) _
    (fun t h j => step_first m c t h j) (fun t h j => step_next m c t h j) t h3 _, zero_add]
  refine Fin.sum_mul_add_congr fun s k hl => ?_
  refine congrArg₂ (fun a b : EReal => a * b) ?_ ?_ <;> blk_ext [iblk, V, idx t, idx ⟨_, Pipeline.run_point_lt_of_flush t h3 s⟩]

end Cert.Kernel12Ideal.Mlp

namespace Cert.Reference12Ideal.Mlp

open Cert.Reference12Ideal Cert.Reference12Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference12Ideal.Mlp

namespace Cert.Mlp

open Idealize.ShloMosaic Idealize.SL.Sem

theorem dwin : Cert.algebraic_Kernel12Ideal_Reference12Ideal := by
  intro m g m' g' _ hargs
  refine ⟨fun c => (Kernel12Ideal.Gen.dats m 0 c).arrAt 2 Kernel12Ideal.cfg0.N,
    Kernel12Ideal.Value.run_blocks m g, (θ_run _ _ _).mono (fun r h c => ?_) (Reference12Ideal.Value.run m' g')⟩
  obtain ⟨e, h2⟩ := h c
  refine ⟨e.trans (Eq.trans ?_ (Kernel12Ideal.Mlp.arr m c).symm), h2⟩
  rw [(hargs c).1, (hargs c).2]
  funext i
  pointwise []
  exact Mm.tn_swap _ _ i

end Cert.Mlp

end
-- ==== Proof.Q.lean ====
/- The attention's queries, rounded: one block of tokens against the whole weight. -/
module

public import proofs.«01_k».proof.Defs
public import proofs.«01_k».proof.Proof.Mm
public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel13Ideal.Mlp

open Cert.Mm Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

theorem pay (x w : FVec Ideal S1024x1024 .bf16) (j) : k0_pay1 (F := Ideal) x w j = nn x w j := by
  pointwise [k0_pay1, nn]

theorem idx : ∀ t : Fin cfg0.N, win0_0.index t = ![t.val, 0] ∧ win0_1.index t = ![0, 0] ∧ win0_2.index t = ![t.val, 0] :=
  (by decide +kernel : ∀ t : Fin grid0.N, _)

abbrev argX (c : Dev nD) : FVec Ideal S8192x1024 .bf16 := m ((c : Thread nD τ).loc main_arg0)
abbrev argW (c : Dev nD) : FVec Ideal S1024x1024 .bf16 := m ((c : Thread nD τ).loc main_arg1)

/-- The array after the run. -/
theorem arr (c : Dev nD) : (dats m 0 c).arrAt 2 cfg0.N = nn (argX m c) (argW m c) := by
  refine (dats m 0 c).arrAt_eq_of_covers 2 _ (by decide +kernel) fun t hf y => ?_
  blk_simp
  rw [after0_2]
  frame_out
  rw [pay]
  refine nn_congr (fun k => ?_) (fun k => ?_) <;> blk_ext [iblk, V, idx t]

end Cert.Kernel13Ideal.Mlp

namespace Cert.Reference13Ideal.Mlp

open Cert.Reference13Ideal Cert.Reference13Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference13Ideal.Mlp

namespace Cert.Mlp

open Idealize.ShloMosaic Idealize.SL.Sem

theorem q : Cert.algebraic_Kernel13Ideal_Reference13Ideal := by
  intro m g m' g' _ hargs
  refine ⟨fun c => (Kernel13Ideal.Gen.dats m 0 c).arrAt 2 Kernel13Ideal.cfg0.N,
    Kernel13Ideal.Value.run_blocks m g, (θ_run _ _ _).mono (fun r h c => ?_) (Reference13Ideal.Value.run m' g')⟩
  obtain ⟨e, h2⟩ := h c
  refine ⟨e.trans (Eq.trans ?_ (Kernel13Ideal.Mlp.arr m c).symm), h2⟩
  rw [(hargs c).1, (hargs c).2]
  funext i
  pointwise [Mm.nn]

end Cert.Mlp

end
-- ==== Proof.O.lean ====
/- A projection: one block of tokens against the whole weight. -/
module

public import proofs.«01_k».proof.Defs
public import proofs.«01_k».proof.Proof.Mm
public import proofs.«01_k».proof.Proof.Gen.Kernel14Ideal.Value
public import proofs.«01_k».proof.Proof.Gen.Reference14Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel14Ideal.Mlp

open Cert.Mm Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

theorem pay (x w : FVec Ideal S1024x1024 .bf16) (j) : k0_pay1 (F := Ideal) x w j = nn x w j := by
  pointwise [k0_pay1, nn]

theorem idx : ∀ t : Fin cfg0.N, win0_0.index t = ![t.val, 0] ∧ win0_1.index t = ![0, 0] ∧ win0_2.index t = ![t.val, 0] :=
  (by decide +kernel : ∀ t : Fin grid0.N, _)

abbrev argX (c : Dev nD) : FVec Ideal S8192x1024 .bf16 := m ((c : Thread nD τ).loc main_arg0)
abbrev argW (c : Dev nD) : FVec Ideal S1024x1024 .bf16 := m ((c : Thread nD τ).loc main_arg1)

/-- The array after the run. -/
theorem arr (c : Dev nD) : (dats m 0 c).arrAt 2 cfg0.N = nn (argX m c) (argW m c) := by
  refine (dats m 0 c).arrAt_eq_of_covers 2 _ (by decide +kernel) fun t hf y => ?_
  blk_simp
  rw [after0_2]
  frame_out
  rw [pay]
  refine nn_congr (fun k => ?_) (fun k => ?_) <;> blk_ext [iblk, V, idx t]

end Cert.Kernel14Ideal.Mlp

namespace Cert.Reference14Ideal.Mlp

open Cert.Reference14Ideal Cert.Reference14Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference14Ideal.Mlp

namespace Cert.Mlp

open Idealize.ShloMosaic Idealize.SL.Sem

theorem o : Cert.algebraic_Kernel14Ideal_Reference14Ideal := by
  intro m g m' g' _ hargs
  refine ⟨fun c => (Kernel14Ideal.Gen.dats m 0 c).arrAt 2 Kernel14Ideal.cfg0.N,
    Kernel14Ideal.Value.run_blocks m g, (θ_run _ _ _).mono (fun r h c => ?_) (Reference14Ideal.Value.run m' g')⟩
  obtain ⟨e, h2⟩ := h c
  refine ⟨e.trans (Eq.trans ?_ (Kernel14Ideal.Mlp.arr m c).symm), h2⟩
  rw [(hargs c).1, (hargs c).2]
  funext i
  pointwise [Mm.nn]

end Cert.Mlp

end
-- ==== Proof.In.lean ====
/- The recurrent layer's input projection: one block of tokens against one block of columns. -/
module

public import proofs.«01_k».proof.Defs
public import proofs.«01_k».proof.Proof.Mm
public import proofs.«01_k».proof.Proof.Gen.Kernel15Ideal.Value
public import proofs.«01_k».proof.Proof.Gen.Reference15Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel15Ideal.Mlp

open Cert.Mm Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

theorem pay (x w : FVec Ideal S1024x1024 .bf16) (j) : k0_pay1 (F := Ideal) x w j = nn x w j := by
  pointwise [k0_pay1, nn]

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

abbrev argX (c : Dev nD) : FVec Ideal S8192x1024 .bf16 := m ((c : Thread nD τ).loc main_arg0)
abbrev argW (c : Dev nD) : FVec Ideal S1024x2048 .bf16 := m ((c : Thread nD τ).loc main_arg1)

/-- The array after the run. -/
theorem arr (c : Dev nD) : (dats m 0 c).arrAt 2 cfg0.N = nn (argX m c) (argW m c) := by
  refine (dats m 0 c).arrAt_eq_of_covers 2 _ (by decide +kernel) fun t hf y => ?_
  blk_simp
  rw [after0_2]
  frame_out
  rw [pay]
  refine nn_congr (fun k => ?_) (fun k => ?_) <;> blk_ext [iblk, V, idx t]

end Cert.Kernel15Ideal.Mlp

namespace Cert.Reference15Ideal.Mlp

open Cert.Reference15Ideal Cert.Reference15Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference15Ideal.Mlp

namespace Cert.Mlp

open Idealize.ShloMosaic Idealize.SL.Sem

theorem inp : Cert.algebraic_Kernel15Ideal_Reference15Ideal := by
  intro m g m' g' _ hargs
  refine ⟨fun c => (Kernel15Ideal.Gen.dats m 0 c).arrAt 2 Kernel15Ideal.cfg0.N,
    Kernel15Ideal.Value.run_blocks m g, (θ_run _ _ _).mono (fun r h c => ?_) (Reference15Ideal.Value.run m' g')⟩
  obtain ⟨e, h2⟩ := h c
  refine ⟨e.trans (Eq.trans ?_ (Kernel15Ideal.Mlp.arr m c).symm), h2⟩
  rw [(hargs c).1, (hargs c).2]
  funext i
  pointwise [Mm.nn]

end Cert.Mlp

end
-- ==== Proof.Dconv.lean ====
/- The gradient of the gates' input, the convolved rows: head by head, over both gates. -/
module

public import proofs.«01_k».proof.Defs
public import proofs.«01_k».proof.Proof.Mm
public import proofs.«01_k».proof.Proof.Gen.Kernel16Ideal.Value
public import proofs.«01_k».proof.Proof.Gen.Reference16Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel16Ideal.Mlp

open Cert.Mm Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

theorem pay2 (a c : FVec Ideal S1024x256 .bf16) (b d : FVec Ideal S1x1x256x256 .bf16) : k0_pay2 (F := Ideal) a b c d = k0_pay1 a b c d := rfl
theorem pay3 (a c : FVec Ideal S1024x256 .bf16) (b d : FVec Ideal S1x1x256x256 .bf16) : k0_pay3 (F := Ideal) a b c d = k0_pay1 a b c d := rfl
theorem pay4 (a c : FVec Ideal S1024x256 .bf16) (b d : FVec Ideal S1x1x256x256 .bf16) : k0_pay4 (F := Ideal) a b c d = k0_pay1 a b c d := rfl

theorem idx : ∀ t : Fin cfg0.N, win0_0.index t = ![t.val, 0] ∧ win0_1.index t = ![0, 0, 0, 0] ∧ win0_2.index t = ![t.val, 0] :=
  (by decide +kernel : ∀ t : Fin grid0.N, _)

abbrev argZ (c : Dev nD) : FVec Ideal S8192x2048 .bf16 := m ((c : Thread nD τ).loc main_arg0)
abbrev argW (c : Dev nD) : FVec Ideal S2x4x256x256 .bf16 := m ((c : Thread nD τ).loc main_arg1)

/-- Entry `i` of the gradient: both gates' cotangents of the entry's head against the gates' weights. -/
def dx (Z : FVec Ideal S8192x2048 .bf16) (W : FVec Ideal S2x4x256x256 .bf16) (i : S8192x1024.Idx) : EReal :=
  have h1 := ValueIdx.idx2_lt1 i
  ∑ g : Fin 2, ∑ j : Fin 256, Z (ix2 (i 0) ⟨g.val * 1024 + (i 1).val / 256 * 256 + j.val, by omega⟩)
    * W (ix4 g ⟨(i 1).val / 256, by omega⟩ ⟨(i 1).val % 256, by omega⟩ j)

/-- Head `h`'s payload at grid point `t`. -/
theorem head (c : Dev nD) (t : Fin cfg0.N) (h : Fin 4) {o o' : ℕ} (ho : o = 256 * h.val) (ho' : o' = 1024 + 256 * h.val)
    (i1 : ∀ a, (![0, o] : Fin 2 → Nat) a + (![1024, 256] : Fin 2 → Nat) a ≤ S1024x2048.size a)
    (i2 : ∀ a, (![0, o'] : Fin 2 → Nat) a + (![1024, 256] : Fin 2 → Nat) a ≤ S1024x2048.size a)
    (j1 : ∀ a, (![0, h.val, 0, 0] : Fin 4 → Nat) a + (![1, 1, 256, 256] : Fin 4 → Nat) a ≤ S2x4x256x256.size a)
    (j2 : ∀ a, (![1, h.val, 0, 0] : Fin 4 → Nat) a + (![1, 1, 256, 256] : Fin 4 → Nat) a ≤ S2x4x256x256.size a)
    (x : S1024x256.Idx) (i : S8192x1024.Idx) (h0 : (i 0).val = 1024 * t.val + (x 0).val) (h1 : (i 1).val = 256 * h.val + (x 1).val) :
    k0_pay1 (F := Ideal) (View.ld (S := S1024x2048) (iblk m c 0 t) (Rect.unit (s := S1024x2048) ![0, o] ![1024, 256] i1))
      (View.ld (S := S2x4x256x256) (iblk m c 1 t) (Rect.unit (s := S2x4x256x256) ![0, h.val, 0, 0] ![1, 1, 256, 256] j1))
      (View.ld (S := S1024x2048) (iblk m c 0 t) (Rect.unit (s := S1024x2048) ![0, o'] ![1024, 256] i2))
      (View.ld (S := S2x4x256x256) (iblk m c 1 t) (Rect.unit (s := S2x4x256x256) ![1, h.val, 0, 0] ![1, 1, 256, 256] j2)) x
      = dx (argZ m c) (argW m c) i := by
  subst ho ho'
  have hx := ValueIdx.idx2_lt1 x
  pointwise [k0_pay1, dx]
  rw [Fin.sum_univ_two]
  congr 1
  all_goals refine Finset.sum_congr rfl fun j _ => congrArg₂ (fun a b : EReal => a * b) ?_ ?_
  all_goals blk_ext [iblk, V, idx t]

/-- The array after the run. -/
theorem arr (c : Dev nD) : (dats m 0 c).arrAt 2 cfg0.N = dx (argZ m c) (argW m c) := by
  refine (dats m 0 c).arrAt_eq_of_covers 2 _ (by decide +kernel) fun t hf y => ?_
  blk_simp
  rw [after0_2]
  unfold out0_2
  simp only [pay2, pay3, pay4]
  canon_tiles x h
  · refine head m c t 3 rfl rfl _ _ _ _ x _ ?_ ?_ <;> (blk_simp [idx t]; omega)
  · refine head m c t 2 rfl rfl _ _ _ _ x _ ?_ ?_ <;> (blk_simp [idx t]; omega)
  · refine head m c t 1 rfl rfl _ _ _ _ x _ ?_ ?_ <;> (blk_simp [idx t]; omega)
  · refine head m c t 0 rfl rfl _ _ _ _ x _ ?_ ?_ <;> (blk_simp [idx t]; omega)

end Cert.Kernel16Ideal.Mlp

namespace Cert.Reference16Ideal.Mlp

open Cert.Reference16Ideal Cert.Reference16Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

/-- The reference's result, entry by entry. -/
theorem value (Z : FVec Ideal S8192x2048 .bf16) (W : FVec Ideal S2x4x256x256 .bf16) : (shapeCast S8192x1024 (transpose S4x2048x4x256 [1, 2, 0, 3] (Host.dotGeneral dot_S4x2x256x4x2048_S2x4x256x256_S4x4x2048x256_12_03_34_2_0_1 none (transpose S4x2x256x4x2048 [3, 0, 4, 1, 2] (transpose S2x4x2048x4x256 [2, 0, 1, 3, 4] (shapeCast S4x2048x2x4x256 (extf .f32 Z bitsLt_bf16_f32) shapeCasts_S8192x2048_S4x2048x2x4x256) transposes_S4x2048x2x4x256_S2x4x2048x4x256_2_0_1_3_4) transposes_S2x4x2048x4x256_S4x2x256x4x2048_3_0_4_1_2) (extf .f32 W bitsLt_bf16_f32)) transposes_S4x4x2048x256_S4x2048x4x256_1_2_0_3) shapeCasts_S4x2048x4x256_S8192x1024 : FVec Ideal S8192x1024 .f32)
    = Kernel16Ideal.Mlp.dx Z W := by
  funext i
  pointwise [Kernel16Ideal.Mlp.dx]

end Cert.Reference16Ideal.Mlp

namespace Cert.Mlp

open Idealize.ShloMosaic Idealize.SL.Sem

theorem dconv : Cert.algebraic_Kernel16Ideal_Reference16Ideal := by
  intro m g m' g' _ hargs
  refine ⟨fun c => (Kernel16Ideal.Gen.dats m 0 c).arrAt 2 Kernel16Ideal.cfg0.N,
    Kernel16Ideal.Value.run_blocks m g, (θ_run _ _ _).mono (fun r h c => ?_) (Reference16Ideal.Value.run m' g')⟩
  obtain ⟨e, h2⟩ := h c
  refine ⟨e.trans (Eq.trans ?_ (Kernel16Ideal.Mlp.arr m c).symm), h2⟩
  rw [(hargs c).1, (hargs c).2]
  exact Reference16Ideal.Mlp.value _ _

end Cert.Mlp

end
-- ==== Proof.Dwgate.lean ====
/- The gradient of the gates' weights: head by head, one part per block of tokens. -/
module

public import proofs.«01_k».proof.Defs
public import proofs.«01_k».proof.Proof.Mm
public import proofs.«01_k».proof.Proof.Canon
public import proofs.«01_k».proof.Proof.Gen.Kernel17Ideal.Value
public import proofs.«01_k».proof.Proof.Gen.Reference17Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel17Ideal.Mlp

open Cert.Mm Cert.Canon Cert.Kernel17Ideal Cert.Kernel17Ideal.Gen Idealize.ShloMosaic Idealize.ShloMosaic.TcCoe Idealize.SL.Sem
open Idealize.ShloMosaic.Pipeline (Dat)

variable (m : (ℓ : Loc nD τ sig) → Buf (Elt Ideal) ℓ)

/-- What grid point `t` adds to entry `y` of the weights' gradient. -/
def part (X : FVec Ideal S1024x1024 .f32) (Z : FVec Ideal S1024x2048 .bf16) (y : S2x4x256x256.Idx) : EReal :=
  have h0 : (y 0).val < 2 := (y 0).isLt
  have h1 : (y 1).val < 4 := (y 1).isLt
  have h2 : (y 2).val < 256 := (y 2).isLt
  have h3 : (y 3).val < 256 := (y 3).isLt
  ∑ r : Fin 1024, X (ix2 r ⟨(y 1).val * 256 + (y 2).val, by omega⟩)
    * Z (ix2 r ⟨(y 0).val * 1024 + (y 1).val * 256 + (y 3).val, by omega⟩)

theorem pay5 (a : FVec Ideal S1024x256 .f32) (b : FVec Ideal S1x1x256x256 .f32) (d : FVec Ideal S1024x256 .bf16) : k0_pay5 (F := Ideal) a b d = k0_pay4 a b d := rfl
theorem pay7 (a : FVec Ideal S1024x256 .f32) (b : FVec Ideal S1x1x256x256 .f32) (d : FVec Ideal S1024x256 .bf16) : k0_pay7 (F := Ideal) (k0_pay6 a) b d = k0_pay4 a b d := rfl
theorem pay8 (a : FVec Ideal S1024x256 .f32) (b : FVec Ideal S1x1x256x256 .f32) (d : FVec Ideal S1024x256 .bf16) : k0_pay8 (F := Ideal) (k0_pay6 a) b d = k0_pay4 a b d := rfl
theorem pay10 (a : FVec Ideal S1024x256 .f32) (b : FVec Ideal S1x1x256x256 .f32) (d : FVec Ideal S1024x256 .bf16) : k0_pay10 (F := Ideal) a b d = k0_pay4 a b d := rfl
theorem pay11 (a : FVec Ideal S1024x256 .f32) (b : FVec Ideal S1x1x256x256 .f32) (d : FVec Ideal S1024x256 .bf16) : k0_pay11 (F := Ideal) (k0_pay9 a) b d = k0_pay4 a b d := rfl
theorem pay13 (a : FVec Ideal S1024x256 .f32) (b : FVec Ideal S1x1x256x256 .f32) (d : FVec Ideal S1024x256 .bf16) : k0_pay13 (F := Ideal) a b d = k0_pay4 a b d := rfl
theorem pay14 (a : FVec Ideal S1024x256 .f32) (b : FVec Ideal S1x1x256x256 .f32) (d : FVec Ideal S1024x256 .bf16) : k0_pay1 (F := Ideal) (k0_pay14 a b d) = k0_pay4 a b d := rfl

theorem idx : ∀ t : Fin cfg0.N, win0_0.index t = ![t.val % 8, 0] ∧ win0_1.index t = ![t.val % 8, 0] ∧ win0_2.index t = ![0, 0, 0, 0] :=
  (by decide +kernel : ∀ t : Fin grid0.N, _)

theorem hN : cfg0.N = 8 := N_0

abbrev argX (c : Dev nD) : FVec Ideal S8192x1024 .f32 := m ((c : Thread nD τ).loc main_arg0)
abbrev argZ (c : Dev nD) : FVec Ideal S8192x2048 .bf16 := m ((c : Thread nD τ).loc main_arg1)

/-- Entry `y` of the weights' gradient. -/
def dw (X : FVec Ideal S8192x1024 .f32) (Z : FVec Ideal S8192x2048 .bf16) (y : S2x4x256x256.Idx) : EReal :=
  have h0 : (y 0).val < 2 := (y 0).isLt
  have h1 : (y 1).val < 4 := (y 1).isLt
  have h2 : (y 2).val < 256 := (y 2).isLt
  have h3 : (y 3).val < 256 := (y 3).isLt
  ∑ r : Fin 8192, X (ix2 r ⟨(y 1).val * 256 + (y 2).val, by omega⟩)
    * Z (ix2 r ⟨(y 0).val * 1024 + (y 1).val * 256 + (y 3).val, by omega⟩)

/-- The payload of gate `g` and head `h`. -/
theorem head (X : FVec Ideal S1024x1024 .f32) (Z : FVec Ideal S1024x2048 .bf16) (g : Fin 2) (h : Fin 4) {o o' : ℕ} (ho : o = 256 * h.val)
    (ho' : o' = 1024 * g.val + 256 * h.val)
    (i1 : ∀ a, (![0, o] : Fin 2 → Nat) a + (![1024, 256] : Fin 2 → Nat) a ≤ S1024x1024.size a)
    (i2 : ∀ a, (![0, o'] : Fin 2 → Nat) a + (![1024, 256] : Fin 2 → Nat) a ≤ S1024x2048.size a)
    (acc : FVec Ideal S1x1x256x256 .f32)
    (x : S1x1x256x256.Idx) (y : S2x4x256x256.Idx) (b : EReal) (hb : acc x = b) (h0 : (y 0).val = g.val + (x 0).val) (h1 : (y 1).val = h.val + (x 1).val)
    (h2 : (y 2).val = (x 2).val) (h3 : (y 3).val = (x 3).val) :
    k0_pay4 (F := Ideal) (View.ld (S := S1024x1024) X (Rect.unit (s := S1024x1024) ![0, o] ![1024, 256] i1)) acc
      (View.ld (S := S1024x2048) Z (Rect.unit (s := S1024x2048) ![0, o'] ![1024, 256] i2)) x
      = b + part X Z y := by
  subst ho ho' hb
  have hx0 : (x 0).val < 1 := (x 0).isLt
  have hx1 : (x 1).val < 1 := (x 1).isLt
  pointwise [k0_pay4, k0_pay3, part]
  refine congrArg₂ (fun a b : EReal => a + b) ?_ (Finset.sum_congr rfl fun j _ => congrArg₂ (fun a b : EReal => a * b) ?_ ?_)
  all_goals blk_ext

/-- At the first grid point the array is reset, afterwards each point adds its part. -/
theorem step (c : Dev nD) (t : Fin cfg0.N) (y : S2x4x256x256.Idx) : (outsAt0 m c t.val t.isLt) y
    = (if t.val % 8 = 0 then 0 else (outsAt0 m c (t.val - 1) (Nat.lt_of_le_of_lt (Nat.sub_le _ _) t.isLt)) y) + part (iblk m c 0 t) (iblk m c 1 t) y := by
  by_cases h : t.val % 8 = 0
  on_goal 1 =>
    rw [outsAt0_A m c t h, if_pos h]
    frame_open
    simp (disch := decide) only [↓ View.readCov_skip, ↓ View.readCov_cons_toLoadRect, ↓ View.readCov_fill]
  on_goal 2 => rw [outsAt0_B m c t h, if_neg h]
  on_goal 1 => frame_out; refine (canon_covered [_] [_, _, _, _, _, _, _, _] y (View.cover_of_tiled_head _ _ _ rfl y)).trans ?_
  on_goal 2 => frame_out
  all_goals
    simp only [pay5, pay7, pay8, pay10, pay11, pay13, pay14]
    canon_tiles x h
    · exact head _ _ 1 3 rfl rfl _ _ _ x y _ (by first | (pointwise [k0_pay2]; done) | (pointwise; blk_ext)) (by simp only [Fin.isValue]; omega) (by simp only [Fin.isValue]; omega) (by omega) (by omega)
    · exact head _ _ 0 3 rfl rfl _ _ _ x y _ (by first | (pointwise [k0_pay2]; done) | (pointwise; blk_ext)) (by simp only [Fin.isValue]; omega) (by simp only [Fin.isValue]; omega) (by omega) (by omega)
    · exact head _ _ 1 2 rfl rfl _ _ _ x y _ (by first | (pointwise [k0_pay2]; done) | (pointwise; blk_ext)) (by simp only [Fin.isValue]; omega) (by simp only [Fin.isValue]; omega) (by omega) (by omega)
    · exact head _ _ 0 2 rfl rfl _ _ _ x y _ (by first | (pointwise [k0_pay2]; done) | (pointwise; blk_ext)) (by simp only [Fin.isValue]; omega) (by simp only [Fin.isValue]; omega) (by omega) (by omega)
    · exact head _ _ 1 1 rfl rfl _ _ _ x y _ (by first | (pointwise [k0_pay2]; done) | (pointwise; blk_ext)) (by simp only [Fin.isValue]; omega) (by simp only [Fin.isValue]; omega) (by omega) (by omega)
    · exact head _ _ 0 1 rfl rfl _ _ _ x y _ (by first | (pointwise [k0_pay2]; done) | (pointwise; blk_ext)) (by simp only [Fin.isValue]; omega) (by simp only [Fin.isValue]; omega) (by omega) (by omega)
    · exact head _ _ 1 0 rfl rfl _ _ _ x y _ (by first | (pointwise [k0_pay2]; done) | (pointwise; blk_ext)) (by simp only [Fin.isValue]; omega) (by simp only [Fin.isValue]; omega) (by omega) (by omega)
    · exact head _ _ 0 0 rfl rfl _ _ _ x y _ (by first | (pointwise [k0_pay2]; done) | (pointwise; blk_ext)) (by simp only [Fin.isValue]; omega) (by simp only [Fin.isValue]; omega) (by omega) (by omega)

/-- The array after the run. -/
theorem arr (c : Dev nD) : (dats m 0 c).arrAt 2 cfg0.N = dw (argX m c) (argZ m c) := by
  refine (dats m 0 c).arrAt_eq_of_covers 2 _ (by decide +kernel) fun t hf y => ?_
  blk_simp
  have h3 := (flush0_2 t).mp hf
  rw [after0_2, Pipeline.eq_sum_fin_of_reset_step_apply_of_flush (fun n h => (outsAt0 m c n h)) 8 (fun _ => 0) _
    (fun t h j => by rw [step m c t j, if_pos h]) (fun t h j => by rw [step m c t j, if_neg h]) t h3 _, zero_add]
  refine Fin.sum_mul_add_congr fun s k hl => ?_
  refine congrArg₂ (fun a b : EReal => a * b) ?_ ?_ <;> blk_ext [iblk, V, idx t, idx ⟨_, Pipeline.run_point_lt_of_flush t h3 s⟩]

end Cert.Kernel17Ideal.Mlp

namespace Cert.Reference17Ideal.Mlp

open Cert.Reference17Ideal Cert.Reference17Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

/-- The reference's result, entry by entry. -/
theorem value (X : FVec Ideal S8192x1024 .f32) (Z : FVec Ideal S8192x2048 .bf16) : (transpose S2x4x256x256 [1, 0, 3, 2] (Host.dotGeneral dot_S4x2x256x4x2048_S4x2048x4x256_S4x2x256x256_34_01_12_3_0_2 none (transpose S4x2x256x4x2048 [3, 0, 4, 1, 2] (transpose S2x4x2048x4x256 [2, 0, 1, 3, 4] (shapeCast S4x2048x2x4x256 (extf .f32 Z bitsLt_bf16_f32) shapeCasts_S8192x2048_S4x2048x2x4x256) transposes_S4x2048x2x4x256_S2x4x2048x4x256_2_0_1_3_4) transposes_S2x4x2048x4x256_S4x2x256x4x2048_3_0_4_1_2) (shapeCast S4x2048x4x256 X shapeCasts_S8192x1024_S4x2048x4x256)) transposes_S4x2x256x256_S2x4x256x256_1_0_3_2 : FVec Ideal S2x4x256x256 .f32)
    = Kernel17Ideal.Mlp.dw X Z := by
  funext i
  pointwise [Kernel17Ideal.Mlp.dw]
  refine Fin.sum_mul_add_congr fun s k hl => (mul_comm _ _).trans (congrArg₂ (fun a b : EReal => a * b) ?_ ?_) <;> blk_ext

end Cert.Reference17Ideal.Mlp

namespace Cert.Mlp

open Idealize.ShloMosaic Idealize.SL.Sem

theorem dwgate : Cert.algebraic_Kernel17Ideal_Reference17Ideal := by
  intro m g m' g' _ hargs
  refine ⟨fun c => (Kernel17Ideal.Gen.dats m 0 c).arrAt 2 Kernel17Ideal.cfg0.N,
    Kernel17Ideal.Value.run_blocks m g, (θ_run _ _ _).mono (fun r h c => ?_) (Reference17Ideal.Value.run m' g')⟩
  obtain ⟨e, h2⟩ := h c
  refine ⟨e.trans (Eq.trans ?_ (Kernel17Ideal.Mlp.arr m c).symm), h2⟩
  rw [(hargs c).1, (hargs c).2]
  exact Reference17Ideal.Mlp.value _ _

end Cert.Mlp

end
-- ==== Proof.Gate.lean ====
/- The gates before their nonlinearity: every head of a row against its two weights. -/
module

public import proofs.«01_k».proof.Defs
public import proofs.«01_k».proof.Proof.Mm
public import proofs.«01_k».proof.Proof.Gen.Kernel18Ideal.Value
public import proofs.«01_k».proof.Proof.Gen.Reference18Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel18Ideal.Mlp

open Cert.Mm Cert.Kernel18Ideal Cert.Kernel18Ideal.Gen Idealize.ShloMosaic Idealize.ShloMosaic.TcCoe Idealize.SL.Sem
open Idealize.ShloMosaic.Pipeline (Dat)

variable (m : (ℓ : Loc nD τ sig) → Buf (Elt Ideal) ℓ)

theorem pay2 (a : FVec Ideal S1024x256 .f32) (b : FVec Ideal S1x1x256x256 .bf16) : k0_pay2 (F := Ideal) a b = k0_pay8 a b := rfl
theorem pay3 (a : FVec Ideal S1024x256 .f32) (b : FVec Ideal S1x1x256x256 .bf16) : k0_pay3 (F := Ideal) a b = k0_pay8 a b := rfl
theorem pay5 (a : FVec Ideal S1024x256 .f32) (b : FVec Ideal S1x1x256x256 .bf16) : k0_pay5 (F := Ideal) a b = k0_pay8 a b := rfl
theorem pay6 (a : FVec Ideal S1024x256 .f32) (b : FVec Ideal S1x1x256x256 .bf16) : k0_pay6 (F := Ideal) a b = k0_pay8 a b := rfl
theorem pay9 (a : FVec Ideal S1024x256 .f32) (b : FVec Ideal S1x1x256x256 .bf16) : k0_pay9 (F := Ideal) a b = k0_pay8 a b := rfl
theorem pay11 (a : FVec Ideal S1024x256 .f32) (b : FVec Ideal S1x1x256x256 .bf16) : k0_pay11 (F := Ideal) a b = k0_pay8 a b := rfl
theorem pay12 (a : FVec Ideal S1024x256 .f32) (b : FVec Ideal S1x1x256x256 .bf16) : k0_pay12 (F := Ideal) a b = k0_pay8 a b := rfl

theorem idx : ∀ t : Fin cfg0.N, win0_0.index t = ![t.val, 0] ∧ win0_1.index t = ![0, 0, 0, 0] ∧ win0_2.index t = ![t.val, 0] :=
  (by decide +kernel : ∀ t : Fin grid0.N, _)

abbrev argX (c : Dev nD) : FVec Ideal S8192x1024 .f32 := m ((c : Thread nD τ).loc main_arg0)
abbrev argW (c : Dev nD) : FVec Ideal S2x4x256x256 .bf16 := m ((c : Thread nD τ).loc main_arg1)

/-- Entry `i` of the gates: the row's head against the weight of the entry's gate and head. -/
def gate (X : FVec Ideal S8192x1024 .f32) (W : FVec Ideal S2x4x256x256 .bf16) (i : S8192x2048.Idx) : EReal :=
  have h1 := ValueIdx.idx2_lt1 i
  ∑ k : Fin 256, X (ix2 (i 0) ⟨(i 1).val % 1024 / 256 * 256 + k.val, by omega⟩)
    * W (ix4 ⟨(i 1).val / 1024, by omega⟩ ⟨(i 1).val % 1024 / 256, by omega⟩ k ⟨(i 1).val % 256, by omega⟩)

/-- The payload of gate `g` and head `h` at grid point `t`. -/
theorem head (c : Dev nD) (t : Fin cfg0.N) (g : Fin 2) (h : Fin 4) {o : ℕ} (ho : o = 256 * h.val)
    (i1 : ∀ a, (![0, o] : Fin 2 → Nat) a + (![1024, 256] : Fin 2 → Nat) a ≤ S1024x1024.size a)
    (j1 : ∀ a, (![g.val, h.val, 0, 0] : Fin 4 → Nat) a + (![1, 1, 256, 256] : Fin 4 → Nat) a ≤ S2x4x256x256.size a)
    (x : S1024x256.Idx) (i : S8192x2048.Idx) (h0 : (i 0).val = 1024 * t.val + (x 0).val)
    (h1 : (i 1).val = 1024 * g.val + 256 * h.val + (x 1).val) :
    k0_pay8 (F := Ideal) (View.ld (S := S1024x1024) (iblk m c 0 t) (Rect.unit (s := S1024x1024) ![0, o] ![1024, 256] i1))
      (View.ld (S := S2x4x256x256) (iblk m c 1 t) (Rect.unit (s := S2x4x256x256) ![g.val, h.val, 0, 0] ![1, 1, 256, 256] j1)) x
      = gate (argX m c) (argW m c) i := by
  subst ho
  have hx := ValueIdx.idx2_lt1 x
  pointwise [k0_pay8, k0_pay7, gate]
  refine Finset.sum_congr rfl fun j _ => congrArg₂ (fun a b : EReal => a * b) ?_ ?_
  all_goals blk_ext [iblk, V, idx t]

/-- The array after the run. -/
theorem arr (c : Dev nD) : (dats m 0 c).arrAt 2 cfg0.N = gate (argX m c) (argW m c) := by
  refine (dats m 0 c).arrAt_eq_of_covers 2 _ (by decide +kernel) fun t hf y => ?_
  blk_simp
  rw [after0_2]
  unfold out0_2
  simp only [pay2, pay3, pay5, pay6, pay9, pay11, pay12]
  canon_tiles x h
  · refine head m c t 1 3 rfl _ _ x _ ?_ ?_ <;> (blk_simp [idx t]; omega)
  · refine head m c t 0 3 rfl _ _ x _ ?_ ?_ <;> (blk_simp [idx t]; omega)
  · refine head m c t 1 2 rfl _ _ x _ ?_ ?_ <;> (blk_simp [idx t]; omega)
  · refine head m c t 0 2 rfl _ _ x _ ?_ ?_ <;> (blk_simp [idx t]; omega)
  · refine head m c t 1 1 rfl _ _ x _ ?_ ?_ <;> (blk_simp [idx t]; omega)
  · refine head m c t 0 1 rfl _ _ x _ ?_ ?_ <;> (blk_simp [idx t]; omega)
  · refine head m c t 1 0 rfl _ _ x _ ?_ ?_ <;> (blk_simp [idx t]; omega)
  · refine head m c t 0 0 rfl _ _ x _ ?_ ?_ <;> (blk_simp [idx t]; omega)

end Cert.Kernel18Ideal.Mlp

namespace Cert.Reference18Ideal.Mlp

open Cert.Reference18Ideal Cert.Reference18Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

/-- The reference's result, entry by entry. -/
theorem value (X : FVec Ideal S8192x1024 .f32) (W : FVec Ideal S2x4x256x256 .bf16) : (shapeCast S8192x2048 (transpose S4x2048x2x4x256 [1, 2, 0, 3, 4] (transpose S2x4x2048x4x256 [1, 3, 4, 0, 2] (Host.dotGeneral dot_S2x4x256x256_S4x2048x4x256_S4x2x256x4x2048_2_3_03_01_1_2 none (extf .f32 W bitsLt_bf16_f32) (shapeCast S4x2048x4x256 X shapeCasts_S8192x1024_S4x2048x4x256)) transposes_S4x2x256x4x2048_S2x4x2048x4x256_1_3_4_0_2) transposes_S2x4x2048x4x256_S4x2048x2x4x256_1_2_0_3_4) shapeCasts_S4x2048x2x4x256_S8192x2048 : FVec Ideal S8192x2048 .f32)
    = Kernel18Ideal.Mlp.gate X W := by
  funext i
  have h1 := ValueIdx.idx2_lt1 i
  pointwise [Kernel18Ideal.Mlp.gate]
  refine Finset.sum_congr rfl fun k _ => (mul_comm _ _).trans (congrArg₂ (fun a b : EReal => a * b) ?_ ?_) <;> blk_ext

end Cert.Reference18Ideal.Mlp

namespace Cert.Mlp

open Idealize.ShloMosaic Idealize.SL.Sem

theorem gate : Cert.algebraic_Kernel18Ideal_Reference18Ideal := by
  intro m g m' g' _ hargs
  refine ⟨fun c => (Kernel18Ideal.Gen.dats m 0 c).arrAt 2 Kernel18Ideal.cfg0.N,
    Kernel18Ideal.Value.run_blocks m g, (θ_run _ _ _).mono (fun r h c => ?_) (Reference18Ideal.Value.run m' g')⟩
  obtain ⟨e, h2⟩ := h c
  refine ⟨e.trans (Eq.trans ?_ (Kernel18Ideal.Mlp.arr m c).symm), h2⟩
  rw [(hargs c).1, (hargs c).2]
  exact Reference18Ideal.Mlp.value _ _

end Cert.Mlp

end
-- ==== Proof.AttnFwd.lean ====
/- Attention's output: every row's weighted values, head by head. -/
module

public import proofs.«01_k».proof.Defs
public import proofs.«01_k».proof.Proof.Block
public import proofs.«01_k».proof.Proof.Arrays
public import proofs.«01_k».proof.Proof.RefRow
public import proofs.«01_k».proof.Proof.Gen.Kernel19Ideal.Value
public import proofs.«01_k».proof.Proof.Gen.Reference19Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel19Ideal.Mlp

open Cert.Attn Cert.Kernel19Ideal Cert.Kernel19Ideal.Gen Idealize.ShloMosaic Idealize.ShloMosaic.TcCoe Idealize.SL.Sem
open Idealize.ShloMosaic.Pipeline (Dat)
open Cert.KernelIdeal.Attn (hrow hk hv PR row tok Loads)

variable (m : (ℓ : Loc nD τ sig) → Buf (Elt Ideal) ℓ)

/-- Row `R`, head `h` of the attention's output: the weighted values. -/
def OUT (Q : FVec Ideal S8192x1024 .bf16) (KV : FVec Ideal S1024x2048 .bf16) (n h : Fin 4) (R : Fin 8192) (d : Fin 256) : EReal :=
  ∑ j : Fin 256, PR Q KV n h R j * hv KV n h j d

/-- The output as an array. -/
def OUTarr (Q : FVec Ideal S8192x1024 .bf16) (KV : FVec Ideal S1024x2048 .bf16) (i : S8192x1024.Idx) : EReal :=
  OUT Q KV ⟨(i 0).val / 2048, by have := ValueIdx.idx2_lt0 i; omega⟩ ⟨(i 1).val / 256, by have := ValueIdx.idx2_lt1 i; omega⟩ ⟨(i 0).val, ValueIdx.idx2_lt0 i⟩
    ⟨(i 1).val % 256, by omega⟩

theorem OUTarr_of {Q : FVec Ideal S8192x1024 .bf16} {KV : FVec Ideal S1024x2048 .bf16} {n h : Fin 4} {R : Fin 8192} {d : Fin 256} {i : S8192x1024.Idx}
    (hn : n.val = R.val / 2048) (h0 : (i 0).val = R.val) (h1 : (i 1).val = 256 * h.val + d.val) : OUTarr Q KV i = OUT Q KV n h R d := by
  unfold OUTarr
  congr 1 <;> refine Fin.ext ?_ <;> simp only [h0, h1, hn] <;> omega

theorem pay4 (q : FVec Ideal S1024x256 .bf16) (k v : FVec Ideal S256x256 .bf16) : k0_pay4 (F := Ideal) (k0_pay3 q k) v = k0_pay2 q k v := rfl
theorem pay5 (q : FVec Ideal S1024x256 .bf16) (k v : FVec Ideal S256x256 .bf16) : k0_pay5 (F := Ideal) q k v = k0_pay2 q k v := rfl
theorem pay1 (q : FVec Ideal S1024x256 .bf16) (k v : FVec Ideal S256x256 .bf16) : k0_pay1 (F := Ideal) (k0_pay6 q k) (k0_pay7 q k) v = k0_pay2 q k v := rfl

theorem pay2_at (q : FVec Ideal S1024x256 .bf16) (k v : FVec Ideal S256x256 .bf16) (r : Fin 1024) (d : Fin 256) :
    k0_pay2 (F := Ideal) q k v (ix2 r d) = ∑ j : Fin 256, pr (row q r) (row k) j * v (ix2 j d) := by
  pointwise [k0_pay2, pr, ew, tot, sc, mx]

theorem idx : ∀ t : Fin cfg0.N, win0_0.index t = ![t.val, 0] ∧ win0_1.index t = ![t.val / 2, 0] ∧ win0_2.index t = ![t.val, 0] :=
  (by decide +kernel : ∀ t : Fin grid0.N, _)

abbrev argQ (c : Dev nD) : FVec Ideal S8192x1024 .bf16 := m ((c : Thread nD τ).loc main_arg0)
abbrev argKV (c : Dev nD) : FVec Ideal S1024x2048 .bf16 := m ((c : Thread nD τ).loc main_arg1)

theorem hN : cfg0.N = 8 := N_0

abbrev pt (t : Fin cfg0.N) : Fin 8 := ⟨t.val, lt_of_lt_of_eq t.isLt hN⟩

/-- The three loads of head `h` at grid point `t`. -/
theorem loads (c : Dev nD) (t : Fin cfg0.N) (h : Fin 4) {o o' : ℕ} (ho : o = 256 * h.val) (ho' : o' = 1024 + 256 * h.val)
    (i1 : ∀ a, (![0, o] : Fin 2 → Nat) a + (![1024, 256] : Fin 2 → Nat) a ≤ S1024x1024.size a)
    (i2 : ∀ a, (![0, o] : Fin 2 → Nat) a + (![256, 256] : Fin 2 → Nat) a ≤ S256x2048.size a)
    (i3 : ∀ a, (![0, o'] : Fin 2 → Nat) a + (![256, 256] : Fin 2 → Nat) a ≤ S256x2048.size a) :
    Loads (argQ m c) (argQ m c) (argKV m c) (pt t) h
      (View.ld (S := S1024x1024) (iblk m c 0 t) (Rect.unit (s := S1024x1024) ![0, o] ![1024, 256] i1))
      (View.ld (S := S1024x1024) (iblk m c 0 t) (Rect.unit (s := S1024x1024) ![0, o] ![1024, 256] i1))
      (View.ld (S := S256x2048) (iblk m c 1 t) (Rect.unit (s := S256x2048) ![0, o] ![256, 256] i2))
      (View.ld (S := S256x2048) (iblk m c 1 t) (Rect.unit (s := S256x2048) ![0, o'] ![256, 256] i3)) := by
  subst ho ho'
  refine ⟨fun r d => ?_, fun r d => ?_, fun r d => ?_, fun r d => ?_⟩
  all_goals pointwise [hrow, hk, hv]
  all_goals blk_ext [iblk, V, idx t]

theorem head {c : Dev nD} {t : Fin cfg0.N} {h : Fin 4} {q : FVec Ideal S1024x256 .bf16} {k v : FVec Ideal S256x256 .bf16}
    (L : Loads (argQ m c) (argQ m c) (argKV m c) (pt t) h q q k v) (x : S1024x256.Idx) (i : S8192x1024.Idx)
    (h0 : (i 0).val = 1024 * t.val + (x 0).val) (h1 : (i 1).val = 256 * h.val + (x 1).val) :
    k0_pay2 (F := Ideal) q k v x = OUTarr (argQ m c) (argKV m c) i := by
  have hx := ValueIdx.idx2_lt0 x
  rw [ValueIdx.eq_ix2 x]
  refine (pay2_at q k v (x 0) (x 1)).trans (Eq.trans ?_ (OUTarr_of (n := ⟨t.val / 2, by have := lt_of_lt_of_eq t.isLt hN; omega⟩) (h := h)
    (R := tok (pt t) (x 0)) (d := x 1) (by simp only [tok]; omega) h0 h1).symm)
  exact Finset.sum_congr rfl fun j _ => congrArg₂ (fun a b : EReal => a * b) (L.pr (x 0) j) (L.v j (x 1))

/-- The array after the run. -/
theorem arr (c : Dev nD) : (dats m 0 c).arrAt 2 cfg0.N = OUTarr (argQ m c) (argKV m c) := by
  refine (dats m 0 c).arrAt_eq_of_covers 2 _ (by decide +kernel) fun t hf y => ?_
  blk_simp
  rw [after0_2]
  unfold out0_2
  simp only [pay1, pay4, pay5]
  canon_tiles x h
  · refine head m (loads m c t 3 rfl rfl _ _ _) x _ ?_ ?_ <;> (blk_simp [idx t]; omega)
  · refine head m (loads m c t 2 rfl rfl _ _ _) x _ ?_ ?_ <;> (blk_simp [idx t]; omega)
  · refine head m (loads m c t 1 rfl rfl _ _ _) x _ ?_ ?_ <;> (blk_simp [idx t]; omega)
  · refine head m (loads m c t 0 rfl rfl _ _ _) x _ ?_ ?_ <;> (blk_simp [idx t]; omega)

end Cert.Kernel19Ideal.Mlp

namespace Cert.Reference19Ideal.Mlp

open Cert.Reference19Ideal Cert.Reference19Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

open Cert.KernelIdeal.Attn (hrow hk hv PR) in
/-- The last step of the reference, read at an index: the values against the weights. -/
theorem value (Q : FVec Ideal S8192x1024 .bf16) (KV : FVec Ideal S1024x2048 .bf16) :
    (truncf .bf16 (shapeCast S8192x1024 (transpose S4x2048x4x256 [0, 3, 1, 2] (Host.dotGeneral dot_S4x256x4x256_S4x4x2048x256_S4x4x256x2048_1_3_3_2_02_01 none (ReferenceIdeal.Attn.vals KV) (ReferenceIdeal.Attn.weights Q KV)) transposes_S4x4x256x2048_S4x2048x4x256_0_3_1_2) shapeCasts_S4x2048x4x256_S8192x1024) bitsLt_bf16_f32 : FVec Ideal S8192x1024 .bf16)
    = Kernel19Ideal.Mlp.OUTarr Q KV := by
  funext i
  unfold Kernel19Ideal.Mlp.OUTarr Kernel19Ideal.Mlp.OUT
  pointwise []
  refine Finset.sum_congr rfl fun j _ => (mul_comm _ _).trans (congrArg₂ (fun a b : EReal => a * b) ?_ ?_)
  · refine (ReferenceIdeal.Attn.weights_at Q KV _ _ _ j).trans ?_
    have h0 := ValueIdx.idx2_lt0 i
    congr 1
    refine Fin.ext ?_
    simp only [ReferenceIdeal.Attn.tk]
    omega
  · exact ReferenceIdeal.Attn.vals_at KV _ j _ _

end Cert.Reference19Ideal.Mlp

namespace Cert.Mlp

open Idealize.ShloMosaic Idealize.SL.Sem

theorem attn : Cert.algebraic_Kernel19Ideal_Reference19Ideal := by
  intro m g m' g' _ hargs
  refine ⟨fun c => (Kernel19Ideal.Gen.dats m 0 c).arrAt 2 Kernel19Ideal.cfg0.N,
    Kernel19Ideal.Value.run_blocks m g, (θ_run _ _ _).mono (fun r h c => ?_) (Reference19Ideal.Value.run m' g')⟩
  obtain ⟨e, h2⟩ := h c
  refine ⟨e.trans (Eq.trans ?_ (Kernel19Ideal.Mlp.arr m c).symm), h2⟩
  rw [(hargs c).1, (hargs c).2]
  exact Reference19Ideal.Mlp.value _ _

end Cert.Mlp

end
-- ==== Proof.Dconvw.lean ====
/- The gradient of the causal convolution. -/
module

public import proofs.«01_k».proof.Defs
public import proofs.«01_k».proof.Proof.Gen.Kernel20Ideal.Frame
public import proofs.«01_k».proof.Proof.Gen.Reference20Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Conv

open Idealize.ShloMosaic

abbrev Rows := Fin 8192 → Fin 1024 → EReal

/-- The rows `k` later, zero past the end of a sequence of 2048 rows. -/
def up (k : ℕ) (f : Rows) (n : Fin 8192) (j : Fin 1024) : EReal := if h : n.val % 2048 + k < 2048 then f ⟨n.val + k, by have := n.isLt; omega⟩ j else 0

/-- The rows `k` earlier, zero before the start of a sequence of 2048 rows. -/
def down (k : ℕ) (f : Rows) (n : Fin 8192) (j : Fin 1024) : EReal := if h : k ≤ n.val % 2048 then f ⟨n.val - k, by have := n.isLt; omega⟩ j else 0

/-- The gradient of the convolution's output: the sum of its two parts. -/
def dc (A B : FVec Ideal ⟨2, ![8192, 1024]⟩ .f32) (n : Fin 8192) (j : Fin 1024) : EReal := A (ix2 n j) + B (ix2 n j)

/-- The convolution's input: the right half of the projection and its bias. -/
def us (P : FVec Ideal ⟨2, ![8192, 2048]⟩ .f32) (b : FVec Ideal ⟨2, ![1, 1024]⟩ .f32) (n : Fin 8192) (j : Fin 1024) : EReal :=
  P (ix2 n ⟨1024 + j.val, by have := j.isLt; omega⟩) + b (ix2 0 j)

/-- The gradient of the convolution's input. -/
def du (d : Rows) (w : FVec Ideal ⟨2, ![4, 1024]⟩ .f32) (n : Fin 8192) (j : Fin 1024) : EReal :=
  ((d n j * w (ix2 3 j) + up 3 d n j * w (ix2 0 j)) + up 2 d n j * w (ix2 1 j)) + up 1 d n j * w (ix2 2 j)

/-- The projection's gradient: left half handed through, right half the gradient of the convolution's input. -/
def dp (Y : FVec Ideal ⟨2, ![8192, 1024]⟩ .bf16) (d : Rows) (w : FVec Ideal ⟨2, ![4, 1024]⟩ .f32) (n : Fin 8192) (j : Fin 2048) : EReal :=
  if h : j.val < 1024 then Y (ix2 n ⟨j.val, h⟩) else du d w n ⟨j.val - 1024, by have := j.isLt; omega⟩

end Cert.Conv

namespace Cert.Kernel20Ideal.Mlp

open Cert.Conv Cert.Kernel20Ideal Cert.Kernel20Ideal.Gen Idealize.ShloMosaic Idealize.ShloMosaic.TcCoe Idealize.SL.Sem
open Idealize.ShloMosaic.Pipeline (Dat)

variable (m : (ℓ : Loc nD τ sig) → Buf (Elt Ideal) ℓ)

theorem hN : cfg0.N = 16 := N_0

theorem idx : ∀ t : Fin cfg0.N, win0_0.index t = ![t.val, 0] ∧ win0_1.index t = ![t.val, 0] ∧ win0_2.index t = ![t.val, 1] ∧ win0_3.index t = ![t.val, 0]
    ∧ win0_4.index t = ![0, 0] ∧ win0_5.index t = ![0, 0] ∧ win0_6.index t = ![t.val * 64 - 1, 1] ∧ win0_7.index t = ![min (t.val * 64 + 64) 1023, 0]
    ∧ win0_8.index t = ![min (t.val * 64 + 64) 1023, 0] ∧ win0_9.index t = ![t.val, 0] ∧ win0_10.index t = ![0, 0] ∧ win0_11.index t = ![0, 0]
    ∧ win0_12.index t = ![0, 0] ∧ win0_13.index t = ![0, 0] ∧ win0_14.index t = ![0, 0] ∧ win0_15.index t = ![0, 0] ∧ win0_16.index t = ![0, 0] :=
  (by decide +kernel : ∀ t : Fin grid0.N, _)

abbrev argA (c : Dev nD) : FVec Ideal S8192x1024 .f32 := m ((c : Thread nD τ).loc main_arg0)
abbrev argB (c : Dev nD) : FVec Ideal S8192x1024 .f32 := m ((c : Thread nD τ).loc main_arg1)
abbrev argP (c : Dev nD) : FVec Ideal S8192x2048 .f32 := m ((c : Thread nD τ).loc main_arg2)
abbrev argY (c : Dev nD) : FVec Ideal S8192x1024 .bf16 := m ((c : Thread nD τ).loc main_arg3)
abbrev argb (c : Dev nD) : FVec Ideal S1x1024 .f32 := m ((c : Thread nD τ).loc main_arg4)
abbrev argw (c : Dev nD) : FVec Ideal S4x1024 .f32 := m ((c : Thread nD τ).loc main_arg5)

/-! ## Rows of a block shifted, the missing rows taken from a neighbour of eight rows -/

theorem pick_lt {α : Type} (k : ℕ) (hk : k = 1 ∨ k = 2 ∨ k = 3) (n : ℕ) (h : n < 8) (a b : α) :
    Scalar.select (IntOp.cmpi CmpIPredicate.slt (BitVec.ofNat 32 n) (BitVec.ofNat 32 k)) a b = if n < k then a else b := by
  obtain rfl | rfl | rfl := hk <;> interval_cases n <;> rfl

theorem pick_ge {α : Type} (k : ℕ) (hk : k = 5 ∨ k = 6 ∨ k = 7) (n : ℕ) (h : n < 8) (a b : α) :
    Scalar.select (IntOp.cmpi CmpIPredicate.sge (BitVec.ofNat 32 n) (BitVec.ofNat 32 k)) a b = if k ≤ n then a else b := by
  obtain rfl | rfl | rfl := hk <;> interval_cases n <;> rfl

/-- The rows `k` earlier than a block's, the first `k` from the eight rows before the block. -/
def kdown (k : ℕ) (h : FVec Ideal S8x1024 .f32) (u : FVec Ideal S512x1024 .f32) (y : S512x1024.Idx) : EReal :=
  if (y 0).val < k then h (ix2 ⟨((y 0).val + 8 - k) % 8, Nat.mod_lt _ (by decide)⟩ (y 1)) else u (ix2 ⟨((y 0).val + 512 - k) % 512, Nat.mod_lt _ (by decide)⟩ (y 1))

/-- The rows `k` later than a block's, the last `k` from the eight rows after the block. -/
def kup (k : ℕ) (h : FVec Ideal S8x1024 .f32) (u : FVec Ideal S512x1024 .f32) (y : S512x1024.Idx) : EReal :=
  if 512 ≤ (y 0).val + k then h (ix2 ⟨((y 0).val + k) % 8, Nat.mod_lt _ (by decide)⟩ (y 1)) else u (ix2 ⟨((y 0).val + k) % 512, Nat.mod_lt _ (by decide)⟩ (y 1))

theorem kdown_eq (k : ℕ) (hk : k = 1 ∨ k = 2 ∨ k = 3) (h : FVec Ideal S8x1024 .f32) (u : FVec Ideal S512x1024 .f32) (n : ℕ) (hn : n < 512) (j : Fin 1024) :
    (if hh : n < 8 then Scalar.select (IntOp.cmpi CmpIPredicate.slt (BitVec.ofNat 32 n) (BitVec.ofNat 32 k))
        (h (ix2 ⟨(n + 8 - k) % 8, Nat.mod_lt _ (by decide)⟩ j)) (u (ix2 ⟨(n + 512 - k) % 512, Nat.mod_lt _ (by decide)⟩ j))
      else u (ix2 ⟨(8 + (n - 8) + 512 - k) % 512, Nat.mod_lt _ (by decide)⟩ j))
      = if n < k then h (ix2 ⟨(n + 8 - k) % 8, Nat.mod_lt _ (by decide)⟩ j) else u (ix2 ⟨(n + 512 - k) % 512, Nat.mod_lt _ (by decide)⟩ j) := by
  by_cases h8 : n < 8
  · rw [dif_pos h8]
    exact pick_lt k hk _ h8 _ _
  · rw [dif_neg h8, if_neg (by omega)]
    congr 3
    omega

theorem pay11 (d u : FVec Ideal S512x1024 .f32) (h : FVec Ideal S8x1024 .f32) (y : S512x1024.Idx) :
    k0_pay11 (F := Ideal) d h (k0_pay10 u) y = d y * kdown 2 h u y := by
  pointwise [k0_pay11, k0_pay10]
  exact congrArg (fun b : EReal => d y * b) (kdown_eq 2 (by decide) _ _ _ (ValueIdx.idx2_lt0 y) _)

theorem pay8 (b : FVec Ideal S1x1024 .f32) (p : FVec Ideal S8x1024 .f32) (d u : FVec Ideal S512x1024 .f32) (c1 c2 : BitVec 32) (c3 c4 : BitVec 1) (y : S512x1024.Idx) :
    k0_pay8 (F := Ideal) b p d u c1 c2 c3 c4 y = d y * kdown 3 (k0_pay7 b p c1 c2 c3 c4) u y := by
  pointwise [k0_pay8]
  exact congrArg (fun b : EReal => d y * b) (kdown_eq 3 (by decide) _ _ _ (ValueIdx.idx2_lt0 y) _)

theorem pay13 (d u : FVec Ideal S512x1024 .f32) (h : FVec Ideal S8x1024 .f32) (y : S512x1024.Idx) :
    k0_pay13 (F := Ideal) d u h y = d y * kdown 1 h u y := by
  pointwise [k0_pay13]
  exact congrArg (fun b : EReal => d y * b) (kdown_eq 1 (by decide) _ _ _ (ValueIdx.idx2_lt0 y) _)

/-- The gradient of the convolution's input on a block. -/
theorem pay12 (w : FVec Ideal S4x1024 .f32) (d : FVec Ideal S512x1024 .f32) (h : FVec Ideal S8x1024 .f32) (y : S512x1024.Idx) :
    k0_pay12 (F := Ideal) w d h (k0_pay9 w d h) y
      = ((d y * w (ix2 3 (y 1)) + kup 3 h d y * w (ix2 0 (y 1))) + kup 2 h d y * w (ix2 1 (y 1))) + kup 1 h d y * w (ix2 2 (y 1)) := by
  have e (k : ℕ) (hk : k = 1 ∨ k = 2 ∨ k = 3) (n : ℕ) (hn : n < 512) (j : Fin 1024) :
      (if hh : n < 504 then d (ix2 ⟨(n + 512 - (512 - k)) % 512, Nat.mod_lt _ (by decide)⟩ j) else
        Scalar.select (IntOp.cmpi CmpIPredicate.sge (BitVec.ofNat 32 (n - 504)) (BitVec.ofNat 32 (8 - k)))
          (h (ix2 ⟨(n - 504 + 8 - (8 - k)) % 8, Nat.mod_lt _ (by decide)⟩ j)) (d (ix2 ⟨(504 + (n - 504) + 512 - (512 - k)) % 512, Nat.mod_lt _ (by decide)⟩ j)))
        = if 512 ≤ n + k then h (ix2 ⟨(n + k) % 8, Nat.mod_lt _ (by decide)⟩ j) else d (ix2 ⟨(n + k) % 512, Nat.mod_lt _ (by decide)⟩ j) := by
    by_cases h5 : n < 504
    · rw [dif_pos h5, if_neg (by omega)]
      congr 3
      omega
    · rw [dif_neg h5, pick_ge (8 - k) (by omega) _ (by omega)]
      by_cases h6 : 512 ≤ n + k
      · rw [if_pos (by omega), if_pos h6]
        congr 3
        omega
      · rw [if_neg (by omega), if_neg h6]
        congr 3
        omega
  have hy := ValueIdx.idx2_lt0 y
  pointwise [k0_pay12, k0_pay9]
  exact congrArg₂ (fun a b : EReal => a + b) (congrArg₂ (fun a b : EReal => a + b) (congrArg₂ (fun a b : EReal => a + b) rfl
    (congrArg (fun a : EReal => a * _) (e 3 (by decide) _ hy _))) (congrArg (fun a : EReal => a * _) (e 2 (by decide) _ hy _))) (congrArg (fun a : EReal => a * _) (e 1 (by decide) _ hy _))

theorem sel_of {α : Type} (p : Prop) [Decidable p] (b : BitVec 1) (h : b = if p then 1#1 else 0#1) (x y : α) : Scalar.select b x y = if p then x else y := by
  by_cases hp : p
  · rw [h, if_pos hp, if_pos hp]; rfl
  · rw [h, if_neg hp, if_neg hp]; rfl

theorem halo (c : Dev nD) (t : Fin cfg0.N) (b : FVec Ideal S1x1024 .f32) (p : FVec Ideal S8x1024 .f32) (y : S8x1024.Idx) :
    (k0_pay7 (F := Ideal) b (k0_pay3 (grid0.coords t) p) (2048#32)
          (Scalar.remsi (Scalar.muli (BitVec.ofNat 32 ↑(grid0.coords t 0)) 512#32) 2048#32)
          (Scalar.cmpi CmpIPredicate.ne
            (Scalar.remsi (Scalar.muli (BitVec.ofNat 32 ↑(grid0.coords t 0)) 512#32) 2048#32) 0#32)
          (Scalar.xori
            (Scalar.cmpi CmpIPredicate.slt
              (Scalar.remsi (Scalar.muli (BitVec.ofNat 32 ↑(grid0.coords t 0)) 512#32) 2048#32) 0#32)
            0#1)) y = if t.val % 4 = 0 then 0 else p y + b (ix2 0 (y 1)) := by
  pointwise [k0_pay7, k0_pay3]
  refine (sel_of (t.val % 4 = 0) _ ?_ _ _).trans ?_
  · revert t
    change ∀ t : Fin grid0.N, _
    decide +kernel
  · by_cases h : t.val % 4 = 0
    · rw [if_pos h, if_pos h]
    · rw [if_neg h, if_neg h]
      refine congrArg (fun a : EReal => a + b (ix2 0 (y 1))) ((sel_of (t.val % 4 = 0) _ ?_ _ _).trans (if_neg h))
      clear h
      revert t
      change ∀ t : Fin grid0.N, _
      decide +kernel

theorem next (c : Dev nD) (t : Fin cfg0.N) (a b : FVec Ideal S8x1024 .f32) (y : S8x1024.Idx) :
    (k0_pay5 (F := Ideal) (BitVec.ofNat 32 ↑(grid0.coords t 0)) (2048#32)
        (Scalar.remsi (Scalar.muli (Scalar.addi (BitVec.ofNat 32 ↑(grid0.coords t 0)) 1#32) 512#32) 2048#32)
        (Scalar.cmpi CmpIPredicate.ne
          (Scalar.remsi (Scalar.muli (Scalar.addi (BitVec.ofNat 32 ↑(grid0.coords t 0)) 1#32) 512#32) 2048#32) 0#32)
        (Scalar.cmpi CmpIPredicate.slt
          (Scalar.remsi (Scalar.muli (Scalar.addi (BitVec.ofNat 32 ↑(grid0.coords t 0)) 1#32) 512#32) 2048#32) 0#32)
        (0#32) a b) y = if (t.val + 1) % 4 = 0 then 0 else a y + b y := by
  pointwise [k0_pay5]
  refine (congrArg₂ (fun a b : EReal => a + b) (sel_of ((t.val + 1) % 4 = 0) _ ?_ _ _) (sel_of ((t.val + 1) % 4 = 0) _ ?_ _ _)).trans ?_
  · revert t
    change ∀ t : Fin grid0.N, _
    decide +kernel
  · revert t
    change ∀ t : Fin grid0.N, _
    decide +kernel
  · by_cases h : (t.val + 1) % 4 = 0
    · simp only [if_pos h, add_zero]
    · simp only [if_neg h]

/-! ## The blocks as rows of the arrays -/

section Blocks

variable (c : Dev nD) (t : Fin cfg0.N)

theorem lt16 : t.val < 16 := lt_of_lt_of_eq t.isLt hN

abbrev blkP : FVec Ideal S8x1024 .f32 := iblk m c 6 t
abbrev blkA : FVec Ideal S8x1024 .f32 := iblk m c 7 t
abbrev blkB : FVec Ideal S8x1024 .f32 := iblk m c 8 t
abbrev blkb : FVec Ideal S1x1024 .f32 := iblk m c 4 t

theorem d_eq (y : S512x1024.Idx) (n : Fin 8192) (hn : n.val = t.val * 512 + (y 0).val) : k0_pay4 (F := Ideal) (iblk m c 0 t) (iblk m c 1 t) y = dc (argA m c) (argB m c) n (y 1) := by
  have e0 : iblk m c 0 t y = argA m c (ix2 n (y 1)) := by blk_ext [iblk, V, idx t]
  have e1 : iblk m c 1 t y = argB m c (ix2 n (y 1)) := by blk_ext [iblk, V, idx t]
  exact congrArg₂ (fun a b : EReal => a + b) e0 e1

theorem y_eq (y : S512x1024.Idx) (n : Fin 8192) (hn : n.val = t.val * 512 + (y 0).val) : k0_pay15 (F := Ideal) (iblk m c 3 t) y = argY m c (ix2 n (y 1)) := by
  have e0 : iblk m c 3 t y = argY m c (ix2 n (y 1)) := by blk_ext [iblk, V, idx t]
  exact e0

theorem b_eq (j : Fin 1024) : iblk m c 4 t (ix2 0 j) = argb m c (ix2 0 j) := by blk_ext [iblk, V, idx t]

theorem w_eq (r : Fin 4) (j : Fin 1024) : iblk m c 5 t (ix2 r j) = argw m c (ix2 r j) := by blk_ext [iblk, V, idx t]

theorem u_eq (y : S512x1024.Idx) (n : Fin 8192) (hn : n.val = t.val * 512 + (y 0).val) : k0_pay6 (F := Ideal) (iblk m c 2 t) (iblk m c 4 t) y = us (argP m c) (argb m c) n (y 1) := by
  have e0 : iblk m c 2 t y = argP m c (ix2 n ⟨1024 + (y 1).val, by have := ValueIdx.idx2_lt1 y; omega⟩) := by blk_ext [iblk, V, idx t]
  pointwise [k0_pay6]
  exact congrArg₂ (fun a b : EReal => a + b) e0 (b_eq m c t _)

theorem p_eq (y : S8x1024.Idx) (n : Fin 8192) (ht : 0 < t.val) (hn : n.val + 8 = t.val * 512 + (y 0).val) :
    blkP m c t y + blkb m c t (ix2 0 (y 1)) = us (argP m c) (argb m c) n (y 1) := by
  have e0 : iblk m c 6 t y = argP m c (ix2 n ⟨1024 + (y 1).val, by have := ValueIdx.idx2_lt1 y; omega⟩) := by blk_ext [iblk, V, idx t]
  exact congrArg₂ (fun a b : EReal => a + b) e0 (b_eq m c t _)

theorem n_eq (y : S8x1024.Idx) (n : Fin 8192) (ht : t.val < 15) (hn : n.val = t.val * 512 + 512 + (y 0).val) :
    blkA m c t y + blkB m c t y = dc (argA m c) (argB m c) n (y 1) := by
  have e0 : iblk m c 7 t y = argA m c (ix2 n (y 1)) := by blk_ext [iblk, V, idx t]
  have e1 : iblk m c 8 t y = argB m c (ix2 n (y 1)) := by blk_ext [iblk, V, idx t]
  exact congrArg₂ (fun a b : EReal => a + b) e0 e1

theorem kd (k : ℕ) (hk : k = 1 ∨ k = 2 ∨ k = 3) (h : FVec Ideal S8x1024 .f32)
    (hh : ∀ y, h y = if t.val % 4 = 0 then 0 else blkP m c t y + blkb m c t (ix2 0 (y 1)))
    (y : S512x1024.Idx) (n : Fin 8192) (hn : n.val = t.val * 512 + (y 0).val) :
    kdown k h (k0_pay6 (F := Ideal) (iblk m c 2 t) (iblk m c 4 t)) y = down k (us (argP m c) (argb m c)) n (y 1) := by
  have hy := ValueIdx.idx2_lt0 y
  unfold kdown down
  by_cases h1 : (y 0).val < k
  · rw [if_pos h1, hh]
    by_cases h4 : t.val % 4 = 0
    · rw [if_pos h4, dif_neg (by omega)]
    · rw [if_neg h4, dif_pos (by omega)]
      refine p_eq m c t _ _ (by omega) ?_
      show n.val - k + 8 = t.val * 512 + ((y 0).val + 8 - k) % 8
      omega
  · rw [if_neg h1, dif_pos (by omega)]
    refine u_eq m c t _ _ ?_
    show n.val - k = t.val * 512 + ((y 0).val + 512 - k) % 512
    omega

theorem ku (k : ℕ) (hk : k = 1 ∨ k = 2 ∨ k = 3) (h : FVec Ideal S8x1024 .f32)
    (hh : ∀ y, h y = if (t.val + 1) % 4 = 0 then 0 else blkA m c t y + blkB m c t y)
    (y : S512x1024.Idx) (n : Fin 8192) (hn : n.val = t.val * 512 + (y 0).val) :
    kup k h (k0_pay4 (F := Ideal) (iblk m c 0 t) (iblk m c 1 t)) y = up k (dc (argA m c) (argB m c)) n (y 1) := by
  have hy := ValueIdx.idx2_lt0 y
  have ht := lt16 t
  unfold kup up
  by_cases h1 : 512 ≤ (y 0).val + k
  · rw [if_pos h1, hh]
    by_cases h4 : (t.val + 1) % 4 = 0
    · rw [if_pos h4, dif_neg (by omega)]
    · rw [if_neg h4, dif_pos (by omega)]
      refine n_eq m c t _ _ (by omega) ?_
      show n.val + k = t.val * 512 + 512 + ((y 0).val + k) % 8
      omega
  · rw [if_neg h1, dif_pos (by omega)]
    refine d_eq m c t _ _ ?_
    show n.val + k = t.val * 512 + ((y 0).val + k) % 512
    omega

theorem du_eq (h : FVec Ideal S8x1024 .f32) (hh : ∀ y, h y = if (t.val + 1) % 4 = 0 then 0 else blkA m c t y + blkB m c t y)
    (y : S512x1024.Idx) (n : Fin 8192) (hn : n.val = t.val * 512 + (y 0).val) :
    k0_pay12 (F := Ideal) (iblk m c 5 t) (k0_pay4 (iblk m c 0 t) (iblk m c 1 t)) h (k0_pay9 (iblk m c 5 t) (k0_pay4 (iblk m c 0 t) (iblk m c 1 t)) h) y
      = du (dc (argA m c) (argB m c)) (argw m c) n (y 1) := by
  refine (pay12 _ _ _ _).trans ?_
  unfold du
  rw [d_eq m c t y n hn, ku m c t 1 (by decide) h hh y n hn, ku m c t 2 (by decide) h hh y n hn, ku m c t 3 (by decide) h hh y n hn]
  exact congrArg₂ (fun a b : EReal => a + b) (congrArg₂ (fun a b : EReal => a + b) (congrArg₂ (fun a b : EReal => a + b)
    (congrArg (fun a : EReal => _ * a) (w_eq m c t _ _)) (congrArg (fun a : EReal => _ * a) (w_eq m c t _ _)))
    (congrArg (fun a : EReal => _ * a) (w_eq m c t _ _))) (congrArg (fun a : EReal => _ * a) (w_eq m c t _ _))

end Blocks

/-! ## The accumulators: every grid point folds its 512 rows into eight -/

abbrev fold (X : FVec Ideal S512x1024 .f32) (y : S8x1024.Idx) : EReal := ∑ q : Fin 64, X (ix2 ⟨q.val * 8 + (y 0).val, by have := ValueIdx.idx2_lt0 y; omega⟩ (y 1))

theorem fold0 (a : FVec Ideal S8x1024 .f32) (X : FVec Ideal S512x1024 .f32) (y : S8x1024.Idx) : k0_pay26 (F := Ideal) (k0_pay24 a) (k0_pay25 X) y = a y + fold X y := by
  pointwise [k0_pay26, k0_pay24, k0_pay25]
theorem fold1 (a : FVec Ideal S8x1024 .f32) (X : FVec Ideal S512x1024 .f32) (y : S8x1024.Idx) : k0_pay27 (F := Ideal) X a y = a y + fold X y := by
  pointwise [k0_pay27]
theorem fold2 (a : FVec Ideal S8x1024 .f32) (X : FVec Ideal S512x1024 .f32) (y : S8x1024.Idx) : k0_pay28 (F := Ideal) X a y = a y + fold X y := by
  pointwise [k0_pay28]
theorem fold3 (a : FVec Ideal S8x1024 .f32) (X : FVec Ideal S512x1024 .f32) (y : S8x1024.Idx) : k0_pay29 (F := Ideal) X a y = a y + fold X y := by
  pointwise [k0_pay29]
theorem fold4 (a : FVec Ideal S8x1024 .f32) (X : FVec Ideal S512x1024 .f32) (y : S8x1024.Idx) : k0_pay30 (F := Ideal) X a y = a y + fold X y := by
  pointwise [k0_pay30]
theorem fold5 (a : FVec Ideal S8x1024 .f32) (X : FVec Ideal S512x1024 .f32) (y : S8x1024.Idx) : k0_pay1 (F := Ideal) (k0_pay31 a) (k0_pay32 X) y = a y + fold X y := by
  pointwise [k0_pay1, k0_pay31, k0_pay32]
theorem fold6 (a : FVec Ideal S8x1024 .f32) (X : FVec Ideal S512x1024 .f32) (y : S8x1024.Idx) : k0_pay2 (F := Ideal) X a y = a y + fold X y := by
  pointwise [k0_pay2]

/-- The rows of a point, folded. -/
abbrev part (T : Rows) (t : Fin cfg0.N) (y : S8x1024.Idx) : EReal :=
  ∑ q : Fin 64, T ⟨t.val * 512 + (q.val * 8 + (y 0).val), by have := ValueIdx.idx2_lt0 y; have := lt16 t; omega⟩ (y 1)

/-- The eight folded rows of row function `T`. -/
def folded (T : Rows) : FVec Ideal S8x1024 .f32 := fun y => ∑ l : Fin 1024, T ⟨l.val * 8 + (y 0).val, by have := ValueIdx.idx2_lt0 y; omega⟩ (y 1)

theorem folded_congr (T : Rows) {y y' : S8x1024.Idx} (h0 : (y 0).val = (y' 0).val) (h1 : (y 1).val = (y' 1).val) : folded T y = folded T y' := by
  have e : y = y' := funext fun a => by fin_cases a; exacts [Fin.ext h0, Fin.ext h1]
  rw [e]

/-- A sum reset at the first point and extended at each point is, at the last point, the sum over all rows of the same remainder. -/
theorem acc_of (f : (n : ℕ) → n < cfg0.N → FVec Ideal S8x1024 .f32) (T : Rows)
    (hf : ∀ (t : Fin cfg0.N) y, f t.val t.isLt y = (if t.val % 16 = 0 then 0 else f (t.val - 1) (Nat.lt_of_le_of_lt (Nat.sub_le _ _) t.isLt) y) + part T t y)
    (t : Fin cfg0.N) (h3 : t.val % 16 = 16 - 1) (y : S8x1024.Idx) :
    f t.val t.isLt y = folded T y := by
  have ht := lt16 t
  rw [Pipeline.eq_sum_fin_of_reset_step_apply_of_flush f 16 (fun _ => 0) _
    (fun t h j => by rw [hf t j, if_pos h]) (fun t h j => by rw [hf t j, if_neg h]) t h3 _, zero_add]
  refine Fin.sum_mul_add_congr fun s k hl => congrFun (congrArg T (Fin.ext ?_)) _
  show (16 * (t.val / 16) + s.val) * 512 + (k.val * 8 + (y 0).val) = (s.val * 64 + k.val) * 8 + (y 0).val
  omega

theorem fold_eq (T : Rows) (t : Fin cfg0.N) (X : FVec Ideal S512x1024 .f32) (h : ∀ (y : S512x1024.Idx) (n : Fin 8192), n.val = t.val * 512 + (y 0).val → X y = T n (y 1))
    (y : S8x1024.Idx) : fold X y = part T t y := Finset.sum_congr rfl fun q _ => h _ _ rfl

/-- The seven row functions whose sums the call forms. -/
def terms (A B : FVec Ideal S8192x1024 .f32) (P : FVec Ideal S8192x2048 .f32) (Y : FVec Ideal S8192x1024 .bf16) (b : FVec Ideal S1x1024 .f32) (w : FVec Ideal S4x1024 .f32) : Fin 7 → Rows
  | 0 => fun n j => dc A B n j * down 3 (us P b) n j
  | 1 => fun n j => dc A B n j * down 2 (us P b) n j
  | 2 => fun n j => dc A B n j * down 1 (us P b) n j
  | 3 => fun n j => dc A B n j * us P b n j
  | 4 => dc A B
  | 5 => fun n j => Y (ix2 n j)
  | 6 => du (dc A B) w

abbrev tm (c : Dev nD) : Fin 7 → Rows := terms (argA m c) (argB m c) (argP m c) (argY m c) (argb m c) (argw m c)

theorem step0 (c : Dev nD) (t : Fin cfg0.N) (y : S8x1024.Idx) : (outsAt0 m c t.val t.isLt).2.1 y
    = (if t.val % 16 = 0 then 0 else (outsAt0 m c (t.val - 1) (Nat.lt_of_le_of_lt (Nat.sub_le _ _) t.isLt)).2.1 y) + part (tm m c 0) t y := by
  by_cases h : t.val % 16 = 0
  · rw [outsAt0_A m c t h, if_pos h]
    frame_out
    refine (fold0 _ _ _).trans (congrArg₂ (fun a b : EReal => a + b) (by pointwise [k0_pay17]) (fold_eq _ t _ (fun y n hn => ?_) y))
    exact (pay8 _ _ _ _ _ _ _ _ _).trans (congrArg₂ (fun a b : EReal => a * b) (d_eq m c t y n hn) (kd m c t 3 (by decide) _ (halo c t _ _) y n hn))
  · rw [outsAt0_B m c t h, if_neg h]
    frame_out
    refine (fold0 _ _ _).trans (congrArg₂ (fun a b : EReal => a + b) rfl (fold_eq _ t _ (fun y n hn => ?_) y))
    exact (pay8 _ _ _ _ _ _ _ _ _).trans (congrArg₂ (fun a b : EReal => a * b) (d_eq m c t y n hn) (kd m c t 3 (by decide) _ (halo c t _ _) y n hn))

theorem step1 (c : Dev nD) (t : Fin cfg0.N) (y : S8x1024.Idx) : (outsAt0 m c t.val t.isLt).2.2.1 y
    = (if t.val % 16 = 0 then 0 else (outsAt0 m c (t.val - 1) (Nat.lt_of_le_of_lt (Nat.sub_le _ _) t.isLt)).2.2.1 y) + part (tm m c 1) t y := by
  by_cases h : t.val % 16 = 0
  · rw [outsAt0_A m c t h, if_pos h]
    frame_out
    refine (fold1 _ _ _).trans (congrArg₂ (fun a b : EReal => a + b) (by pointwise [k0_pay18]) (fold_eq _ t _ (fun y n hn => ?_) y))
    exact (pay11 _ _ _ _).trans (congrArg₂ (fun a b : EReal => a * b) (d_eq m c t y n hn) (kd m c t 2 (by decide) _ (halo c t _ _) y n hn))
  · rw [outsAt0_B m c t h, if_neg h]
    frame_out
    refine (fold1 _ _ _).trans (congrArg₂ (fun a b : EReal => a + b) rfl (fold_eq _ t _ (fun y n hn => ?_) y))
    exact (pay11 _ _ _ _).trans (congrArg₂ (fun a b : EReal => a * b) (d_eq m c t y n hn) (kd m c t 2 (by decide) _ (halo c t _ _) y n hn))

theorem step2 (c : Dev nD) (t : Fin cfg0.N) (y : S8x1024.Idx) : (outsAt0 m c t.val t.isLt).2.2.2.1 y
    = (if t.val % 16 = 0 then 0 else (outsAt0 m c (t.val - 1) (Nat.lt_of_le_of_lt (Nat.sub_le _ _) t.isLt)).2.2.2.1 y) + part (tm m c 2) t y := by
  by_cases h : t.val % 16 = 0
  · rw [outsAt0_A m c t h, if_pos h]
    frame_out
    refine (fold2 _ _ _).trans (congrArg₂ (fun a b : EReal => a + b) (by pointwise [k0_pay19]) (fold_eq _ t _ (fun y n hn => ?_) y))
    exact (pay13 _ _ _ _).trans (congrArg₂ (fun a b : EReal => a * b) (d_eq m c t y n hn) (kd m c t 1 (by decide) _ (halo c t _ _) y n hn))
  · rw [outsAt0_B m c t h, if_neg h]
    frame_out
    refine (fold2 _ _ _).trans (congrArg₂ (fun a b : EReal => a + b) rfl (fold_eq _ t _ (fun y n hn => ?_) y))
    exact (pay13 _ _ _ _).trans (congrArg₂ (fun a b : EReal => a * b) (d_eq m c t y n hn) (kd m c t 1 (by decide) _ (halo c t _ _) y n hn))

theorem step3 (c : Dev nD) (t : Fin cfg0.N) (y : S8x1024.Idx) : (outsAt0 m c t.val t.isLt).2.2.2.2.1 y
    = (if t.val % 16 = 0 then 0 else (outsAt0 m c (t.val - 1) (Nat.lt_of_le_of_lt (Nat.sub_le _ _) t.isLt)).2.2.2.2.1 y) + part (tm m c 3) t y := by
  by_cases h : t.val % 16 = 0
  · rw [outsAt0_A m c t h, if_pos h]
    frame_out
    refine (fold3 _ _ _).trans (congrArg₂ (fun a b : EReal => a + b) (by pointwise [k0_pay20]) (fold_eq _ t _ (fun y n hn => ?_) y))
    exact (congrArg₂ (fun a b : EReal => a * b) (d_eq m c t y n hn) (u_eq m c t y n hn))
  · rw [outsAt0_B m c t h, if_neg h]
    frame_out
    refine (fold3 _ _ _).trans (congrArg₂ (fun a b : EReal => a + b) rfl (fold_eq _ t _ (fun y n hn => ?_) y))
    exact (congrArg₂ (fun a b : EReal => a * b) (d_eq m c t y n hn) (u_eq m c t y n hn))

theorem step4 (c : Dev nD) (t : Fin cfg0.N) (y : S8x1024.Idx) : (outsAt0 m c t.val t.isLt).2.2.2.2.2.1 y
    = (if t.val % 16 = 0 then 0 else (outsAt0 m c (t.val - 1) (Nat.lt_of_le_of_lt (Nat.sub_le _ _) t.isLt)).2.2.2.2.2.1 y) + part (tm m c 4) t y := by
  by_cases h : t.val % 16 = 0
  · rw [outsAt0_A m c t h, if_pos h]
    frame_out
    refine (fold4 _ _ _).trans (congrArg₂ (fun a b : EReal => a + b) (by pointwise [k0_pay21]) (fold_eq _ t _ (fun y n hn => ?_) y))
    exact d_eq m c t y n hn
  · rw [outsAt0_B m c t h, if_neg h]
    frame_out
    refine (fold4 _ _ _).trans (congrArg₂ (fun a b : EReal => a + b) rfl (fold_eq _ t _ (fun y n hn => ?_) y))
    exact d_eq m c t y n hn

theorem step5 (c : Dev nD) (t : Fin cfg0.N) (y : S8x1024.Idx) : (outsAt0 m c t.val t.isLt).2.2.2.2.2.2.1 y
    = (if t.val % 16 = 0 then 0 else (outsAt0 m c (t.val - 1) (Nat.lt_of_le_of_lt (Nat.sub_le _ _) t.isLt)).2.2.2.2.2.2.1 y) + part (tm m c 5) t y := by
  by_cases h : t.val % 16 = 0
  · rw [outsAt0_A m c t h, if_pos h]
    frame_out
    refine (fold5 _ _ _).trans (congrArg₂ (fun a b : EReal => a + b) (by pointwise [k0_pay22]) (fold_eq _ t _ (fun y n hn => ?_) y))
    exact y_eq m c t y n hn
  · rw [outsAt0_B m c t h, if_neg h]
    frame_out
    refine (fold5 _ _ _).trans (congrArg₂ (fun a b : EReal => a + b) rfl (fold_eq _ t _ (fun y n hn => ?_) y))
    exact y_eq m c t y n hn

theorem step6 (c : Dev nD) (t : Fin cfg0.N) (y : S8x1024.Idx) : (outsAt0 m c t.val t.isLt).2.2.2.2.2.2.2 y
    = (if t.val % 16 = 0 then 0 else (outsAt0 m c (t.val - 1) (Nat.lt_of_le_of_lt (Nat.sub_le _ _) t.isLt)).2.2.2.2.2.2.2 y) + part (tm m c 6) t y := by
  by_cases h : t.val % 16 = 0
  · rw [outsAt0_A m c t h, if_pos h]
    frame_out
    refine (fold6 _ _ _).trans (congrArg₂ (fun a b : EReal => a + b) (by pointwise [k0_pay23]) (fold_eq _ t _ (fun y n hn => ?_) y))
    exact du_eq m c t _ (next c t _ _) y n hn
  · rw [outsAt0_B m c t h, if_neg h]
    frame_out
    refine (fold6 _ _ _).trans (congrArg₂ (fun a b : EReal => a + b) rfl (fold_eq _ t _ (fun y n hn => ?_) y))
    exact du_eq m c t _ (next c t _ _) y n hn

theorem arr0 (c : Dev nD) : (dats m 0 c).arrAt 10 cfg0.N = folded (tm m c 0) := by
  refine (dats m 0 c).arrAt_eq_of_covers 10 _ (by decide +kernel) fun t hf y => ?_
  blk_simp
  rw [after0_10]
  refine (acc_of (fun n h => (outsAt0 m c n h).2.1) _ (step0 m c) t ((flush0_10 t).mp hf) _).trans (folded_congr _ ?_ ?_)
  all_goals blk_ext [idx t]

theorem arr1 (c : Dev nD) : (dats m 0 c).arrAt 11 cfg0.N = folded (tm m c 1) := by
  refine (dats m 0 c).arrAt_eq_of_covers 11 _ (by decide +kernel) fun t hf y => ?_
  blk_simp
  rw [after0_11]
  refine (acc_of (fun n h => (outsAt0 m c n h).2.2.1) _ (step1 m c) t ((flush0_11 t).mp hf) _).trans (folded_congr _ ?_ ?_)
  all_goals blk_ext [idx t]

theorem arr2 (c : Dev nD) : (dats m 0 c).arrAt 12 cfg0.N = folded (tm m c 2) := by
  refine (dats m 0 c).arrAt_eq_of_covers 12 _ (by decide +kernel) fun t hf y => ?_
  blk_simp
  rw [after0_12]
  refine (acc_of (fun n h => (outsAt0 m c n h).2.2.2.1) _ (step2 m c) t ((flush0_12 t).mp hf) _).trans (folded_congr _ ?_ ?_)
  all_goals blk_ext [idx t]

theorem arr3 (c : Dev nD) : (dats m 0 c).arrAt 13 cfg0.N = folded (tm m c 3) := by
  refine (dats m 0 c).arrAt_eq_of_covers 13 _ (by decide +kernel) fun t hf y => ?_
  blk_simp
  rw [after0_13]
  refine (acc_of (fun n h => (outsAt0 m c n h).2.2.2.2.1) _ (step3 m c) t ((flush0_13 t).mp hf) _).trans (folded_congr _ ?_ ?_)
  all_goals blk_ext [idx t]

theorem arr4 (c : Dev nD) : (dats m 0 c).arrAt 14 cfg0.N = folded (tm m c 4) := by
  refine (dats m 0 c).arrAt_eq_of_covers 14 _ (by decide +kernel) fun t hf y => ?_
  blk_simp
  rw [after0_14]
  refine (acc_of (fun n h => (outsAt0 m c n h).2.2.2.2.2.1) _ (step4 m c) t ((flush0_14 t).mp hf) _).trans (folded_congr _ ?_ ?_)
  all_goals blk_ext [idx t]

theorem arr5 (c : Dev nD) : (dats m 0 c).arrAt 15 cfg0.N = folded (tm m c 5) := by
  refine (dats m 0 c).arrAt_eq_of_covers 15 _ (by decide +kernel) fun t hf y => ?_
  blk_simp
  rw [after0_15]
  refine (acc_of (fun n h => (outsAt0 m c n h).2.2.2.2.2.2.1) _ (step5 m c) t ((flush0_15 t).mp hf) _).trans (folded_congr _ ?_ ?_)
  all_goals blk_ext [idx t]

theorem arr6 (c : Dev nD) : (dats m 0 c).arrAt 16 cfg0.N = folded (tm m c 6) := by
  refine (dats m 0 c).arrAt_eq_of_covers 16 _ (by decide +kernel) fun t hf y => ?_
  blk_simp
  rw [after0_16]
  refine (acc_of (fun n h => (outsAt0 m c n h).2.2.2.2.2.2.2) _ (step6 m c) t ((flush0_16 t).mp hf) _).trans (folded_congr _ ?_ ?_)
  all_goals blk_ext [idx t]

theorem pay16 (Y : FVec Ideal S512x1024 .bf16) (w : FVec Ideal S4x1024 .f32) (d g : FVec Ideal S512x1024 .f32) (h : FVec Ideal S8x1024 .f32) (y : S512x2048.Idx) :
    k0_pay16 (F := Ideal) Y w d h g y = if hy : (y 1).val < 1024 then Y (ix2 (y 0) ⟨(y 1).val, hy⟩)
      else k0_pay12 (F := Ideal) w d h g (ix2 (y 0) ⟨(y 1).val - 1024, by have := ValueIdx.idx2_lt1 y; omega⟩) := by
  pointwise [k0_pay16]

theorem dp_eq (c : Dev nD) (t : Fin cfg0.N) (h : FVec Ideal S8x1024 .f32) (hh : ∀ y, h y = if (t.val + 1) % 4 = 0 then 0 else blkA m c t y + blkB m c t y)
    (y : S512x2048.Idx) (n : Fin 8192) (hn : n.val = t.val * 512 + (y 0).val) (j : Fin 2048) (hj : j.val = (y 1).val) :
    k0_pay16 (F := Ideal) (iblk m c 3 t) (iblk m c 5 t) (k0_pay4 (iblk m c 0 t) (iblk m c 1 t)) h (k0_pay9 (iblk m c 5 t) (k0_pay4 (iblk m c 0 t) (iblk m c 1 t)) h) y
      = dp (argY m c) (dc (argA m c) (argB m c)) (argw m c) n j := by
  obtain rfl : j = y 1 := Fin.ext hj
  refine (pay16 _ _ _ _ _ _).trans ?_
  unfold dp
  by_cases h1 : (y 1).val < 1024
  · rw [dif_pos h1, dif_pos h1]
    exact y_eq m c t (ix2 (y 0) ⟨(y 1).val, h1⟩) n hn
  · rw [dif_neg h1, dif_neg h1]
    exact du_eq m c t h hh _ n hn

/-- The projection's gradient after the run. -/
theorem arr_dp (c : Dev nD) : (dats m 0 c).arrAt 9 cfg0.N = fun i : S8192x2048.Idx => dp (argY m c) (dc (argA m c) (argB m c)) (argw m c) (i 0) (i 1) := by
  refine (dats m 0 c).arrAt_eq_of_covers 9 _ (by decide +kernel) fun t hf y => ?_
  blk_simp
  rw [after0_9]
  by_cases h : t.val % 16 = 0
  · rw [outsAt0_A m c t h]
    frame_out
    refine dp_eq m c t _ (next c t _ _) y _ ?_ _ ?_
    all_goals blk_ext [idx t]
  · rw [outsAt0_B m c t h]
    frame_out
    refine dp_eq m c t _ (next c t _ _) y _ ?_ _ ?_
    all_goals blk_ext [idx t]

/-! ## After the region: the eight rows summed, the taps stacked, the two biases joined -/

theorem sum8 (T : Rows) (j : S1024.Idx) : (Host.reduceAdd (folded T) (constant S_ .f32 0x00000000#32) reducesTo_S8x1024_S1024_d0 h_S_ : FVec Ideal S1024 .f32) j = ∑ n : Fin 8192, T n (j 0) := by
  pointwise [folded]
  rw [Finset.sum_comm]
  exact Fin.sum_mul_add_congr fun s k hl => rfl

theorem sum8_eq (c : Dev nD) (k : Fin 7) (z : FVec Ideal S8x1024 .f32) (hz : z = folded (tm m c k)) :
    (Host.reduceAdd z (constant S_ .f32 0x00000000#32) reducesTo_S8x1024_S1024_d0 h_S_ : FVec Ideal S1024 .f32) = fun j => ∑ n : Fin 8192, tm m c k n (j 0) := by
  subst hz
  exact funext fun j => sum8 _ j

theorem stack (g0 g1 g2 g3 : FVec Ideal S1024 .f32) (T : Fin 4 → Rows) (h0 : g0 = fun j => ∑ n : Fin 8192, T 0 n (j 0)) (h1 : g1 = fun j => ∑ n : Fin 8192, T 1 n (j 0))
    (h2 : g2 = fun j => ∑ n : Fin 8192, T 2 n (j 0)) (h3 : g3 = fun j => ∑ n : Fin 8192, T 3 n (j 0)) :
    (concatenate S4x1024 0 [⟨S1x1024, broadcastInDim S1x1024 ![1] bcast_S1024_S1x1024_1 g0⟩, ⟨S1x1024, broadcastInDim S1x1024 ![1] bcast_S1024_S1x1024_1 g1⟩,
      ⟨S1x1024, broadcastInDim S1x1024 ![1] bcast_S1024_S1x1024_1 g2⟩, ⟨S1x1024, broadcastInDim S1x1024 ![1] bcast_S1024_S1x1024_1 g3⟩]
      concatenates_S1x1024_S1x1024_S1x1024_S1x1024_S4x1024_d0 : FVec Ideal S4x1024 .f32) = fun i => ∑ n : Fin 8192, T (i 0) n (i 1) := by
  subst h0 h1 h2 h3
  funext i
  pointwise
  generalize (i 0 : Fin 4) = k
  fin_cases k <;> rfl

theorem tail_dw (c : Dev nD) : Pipeline.afterTail₀ cfgs (dats m) 0 (V0 m) [hostOps1] c main_v9
    = fun i : S4x1024.Idx => ∑ n : Fin 8192, tm m c (Fin.castLE (by decide) (i 0 : Fin 4)) n (i 1) := by
  unfold Pipeline.afterTail₀
  simp only [List.flatten_cons, List.flatten_nil, List.append_nil]
  after_results_simp
  refine stack _ _ _ _ (fun k => tm m c (Fin.castLE (by decide) k)) (sum8_eq m c 0 _ ?_) (sum8_eq m c 1 _ ?_) (sum8_eq m c 2 _ ?_) (sum8_eq m c 3 _ ?_)
  · exact ((dats m 0 c).withArrays_arrAt sharedIn0 (V0 m c) (A_eq m c) 10).trans (arr0 m c)
  · exact ((dats m 0 c).withArrays_arrAt sharedIn0 (V0 m c) (A_eq m c) 11).trans (arr1 m c)
  · exact ((dats m 0 c).withArrays_arrAt sharedIn0 (V0 m c) (A_eq m c) 12).trans (arr2 m c)
  · exact ((dats m 0 c).withArrays_arrAt sharedIn0 (V0 m c) (A_eq m c) 13).trans (arr3 m c)

theorem tail_db (c : Dev nD) : Pipeline.afterTail₀ cfgs (dats m) 0 (V0 m) [hostOps1] c main_v10
    = fun j : S1024.Idx => ∑ n : Fin 8192, tm m c 4 n (j 0) := by
  unfold Pipeline.afterTail₀
  simp only [List.flatten_cons, List.flatten_nil, List.append_nil]
  after_results
  exact sum8_eq m c 4 _ (((dats m 0 c).withArrays_arrAt sharedIn0 (V0 m c) (A_eq m c) 14).trans (arr4 m c))

theorem join (c : Dev nD) (g5 g6 : FVec Ideal S1024 .f32) (h5 : g5 = fun j => ∑ n : Fin 8192, tm m c 5 n (j 0)) (h6 : g6 = fun j => ∑ n : Fin 8192, tm m c 6 n (j 0)) :
    (concatenate S2048 0 [⟨S1024, g5⟩, ⟨S1024, g6⟩] concatenates_S1024_S1024_S2048_d0 : FVec Ideal S2048 .f32)
      = fun j => ∑ n : Fin 8192, dp (argY m c) (dc (argA m c) (argB m c)) (argw m c) n (j 0) := by
  subst h5 h6
  funext i
  pointwise [dp]
  by_cases h : (i 0).val < 1024
  · simp only [dif_pos h]
    rfl
  · simp only [dif_neg h]
    rfl

theorem tail_di (c : Dev nD) : Pipeline.afterTail₀ cfgs (dats m) 0 (V0 m) [hostOps1] c main_v13
    = fun j : S2048.Idx => ∑ n : Fin 8192, dp (argY m c) (dc (argA m c) (argB m c)) (argw m c) n (j 0) := by
  unfold Pipeline.afterTail₀
  simp only [List.flatten_cons, List.flatten_nil, List.append_nil]
  after_results
  exact join m c _ _ (sum8_eq m c 5 _ (((dats m 0 c).withArrays_arrAt sharedIn0 (V0 m c) (A_eq m c) 15).trans (arr5 m c)))
    (sum8_eq m c 6 _ (((dats m 0 c).withArrays_arrAt sharedIn0 (V0 m c) (A_eq m c) 16).trans (arr6 m c)))

end Cert.Kernel20Ideal.Mlp

namespace Cert.Reference20Ideal.Mlp

open Cert.Conv Cert.Reference20Ideal Cert.Reference20Ideal.Gen Idealize.ShloMosaic Idealize.ShloMosaic.TcCoe Idealize.SL.Sem

/-- The host's sum over the two leading axes of three. -/
theorem sum01 {n0 n1 n2 : ℕ} (h : (⟨3, ![n0, n1, n2]⟩ : Shape).ReducesTo [0, 1] ⟨1, ![n2]⟩) (v : (⟨3, ![n0, n1, n2]⟩ : Shape).Idx → EReal) (init : EReal) (j : (⟨1, ![n2]⟩ : Shape).Idx) :
    Ideal.hostReduceAdd h v init j = init + ∑ a : Fin n0, ∑ b : Fin n1, v (ix3 a b (j 0)) := by
  refine congrArg (init + ·) ?_
  refine (Finset.sum_filter_eq_sum_of_fiber _ (fun k : Fin n0 × Fin n1 => (ix3 k.1 k.2 (j 0) : (⟨3, ![n0, n1, n2]⟩ : Shape).Idx))
    (fun _ _ e => Prod.ext (congrFun e 0) (congrFun e 1)) (fun i => ?_) v).trans ?_
  · constructor
    · intro e
      refine ⟨(i 0, i 1), ?_⟩
      funext a
      apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

/-- Row functions as arrays of four sequences. -/
def seqs (T : Rows) : FVec Ideal S4x2048x1024 .f32 := fun y => T ⟨(y 0).val * 2048 + (y 1).val, by have : (y 0).val < 4 := (y 0).isLt; have : (y 1).val < 2048 := (y 1).isLt; omega⟩ (y 2)

/-- The gradient of the convolution's input as the reference forms it. -/
theorem value_du (A B : FVec Ideal S8192x1024 .f32) (w : FVec Ideal S4x1024 .f32) :
    ((extractStridedSlice S4x2048x1024 ![0, 3, 0] (addf (addf (addf (pad S4x2051x1024 ![0, 3, 0] ![0, 0, 0] ![0, 0, 0] (mulf (shapeCast S4x2048x1024 (addf A B) shapeCasts_S8192x1024_S4x2048x1024) (broadcastInDim S4x2048x1024 ![0, 1, 2] bcast_S1x1x1024_S4x2048x1024_0_1_2 (broadcastInDim S1x1x1024 ![2] bcast_S1024_S1x1x1024_2 (shapeCast S1024 (extractStridedSlice S1x1024 ![3, 0] w slices_S4x1024_S1x1024_3_0) shapeCasts_S1x1024_S1024)))) (constant S_ .f32 0x00000000#32) pads_S4x2048x1024_S4x2051x1024_000_300_000 h_S_) (pad S4x2051x1024 ![0, 2, 0] ![0, 1, 0] ![0, 0, 0] (mulf (shapeCast S4x2048x1024 (addf A B) shapeCasts_S8192x1024_S4x2048x1024) (broadcastInDim S4x2048x1024 ![0, 1, 2] bcast_S1x1x1024_S4x2048x1024_0_1_2 (broadcastInDim S1x1x1024 ![2] bcast_S1024_S1x1x1024_2 (shapeCast S1024 (extractStridedSlice S1x1024 ![2, 0] w slices_S4x1024_S1x1024_2_0) shapeCasts_S1x1024_S1024)))) (constant S_ .f32 0x00000000#32) pads_S4x2048x1024_S4x2051x1024_000_210_000 h_S_)) (pad S4x2051x1024 ![0, 1, 0] ![0, 2, 0] ![0, 0, 0] (mulf (shapeCast S4x2048x1024 (addf A B) shapeCasts_S8192x1024_S4x2048x1024) (broadcastInDim S4x2048x1024 ![0, 1, 2] bcast_S1x1x1024_S4x2048x1024_0_1_2 (broadcastInDim S1x1x1024 ![2] bcast_S1024_S1x1x1024_2 (shapeCast S1024 (extractStridedSlice S1x1024 ![1, 0] w slices_S4x1024_S1x1024_1_0) shapeCasts_S1x1024_S1024)))) (constant S_ .f32 0x00000000#32) pads_S4x2048x1024_S4x2051x1024_000_120_000 h_S_)) (pad S4x2051x1024 ![0, 0, 0] ![0, 3, 0] ![0, 0, 0] (mulf (shapeCast S4x2048x1024 (addf A B) shapeCasts_S8192x1024_S4x2048x1024) (broadcastInDim S4x2048x1024 ![0, 1, 2] bcast_S1x1x1024_S4x2048x1024_0_1_2 (broadcastInDim S1x1x1024 ![2] bcast_S1024_S1x1x1024_2 (shapeCast S1024 (extractStridedSlice S1x1024 ![0, 0] w slices_S4x1024_S1x1024_0_0) shapeCasts_S1x1024_S1024)))) (constant S_ .f32 0x00000000#32) pads_S4x2048x1024_S4x2051x1024_000_030_000 h_S_)) slices_S4x2051x1024_S4x2048x1024_0_3_0) : FVec Ideal S4x2048x1024 .f32) = seqs (du (dc A B) w) := by
  funext i
  pointwise [seqs]
  have h0 : (i 0).val < 4 := (i 0).isLt
  have h1 : (i 1).val < 2048 := (i 1).isLt
  have e (k q : ℕ) (hq : q = (i 1).val + k) (hb : q < 2048 → (i 0).val * 2048 + q < 8192) (P : Prop) [Decidable P] (hP : P ↔ q < 2048) (r : Fin 4) :
      (if h : P then (A (ix2 ⟨(i 0).val * 2048 + q, hb (hP.mp h)⟩ (i 2)) + B (ix2 ⟨(i 0).val * 2048 + q, hb (hP.mp h)⟩ (i 2))) * w (ix2 r (i 2)) else 0)
        = up k (dc A B) ⟨(i 0).val * 2048 + (i 1).val, by omega⟩ (i 2) * w (ix2 r (i 2)) := by
    subst hq
    unfold up
    by_cases h : P
    · have h2 := hP.mp h
      rw [dif_pos h, dif_pos (by show ((i 0).val * 2048 + (i 1).val) % 2048 + k < 2048; omega)]
      refine congrArg (fun a : EReal => a * _) ?_
      exact congrArg (fun n => dc A B n (i 2)) (Fin.ext (Nat.add_assoc _ _ _).symm)
    · have h2 := mt hP.mpr h
      rw [dif_neg h, dif_neg (by show ¬((i 0).val * 2048 + (i 1).val) % 2048 + k < 2048; omega), zero_mul]
  refine (congrArg₂ (fun a b : EReal => a + b) (congrArg₂ (fun a b : EReal => a + b) (congrArg₂ (fun a b : EReal => a + b) rfl
    (e 1 _ (by omega) (by omega) _ (by omega) 2)) (e 2 _ (by omega) (by omega) _ (by omega) 1)) (e 3 _ (by omega) (by omega) _ (by omega) 0)).trans ?_
  unfold du
  rw [show dc A B ⟨(i 0).val * 2048 + (i 1).val, by omega⟩ (i 2) = A (ix2 ⟨(i 0).val * 2048 + (i 1).val, by omega⟩ (i 2)) + B (ix2 ⟨(i 0).val * 2048 + (i 1).val, by omega⟩ (i 2)) from rfl]
  abel

/-- The convolution's input as the reference forms it. -/
theorem value_u (P : FVec Ideal S8192x2048 .f32) (b : FVec Ideal S1x1024 .f32) :
    ((extractStridedSlice S4x2048x1024 ![0, 0, 1024] (shapeCast S4x2048x2048 (addf P (broadcastInDim S8192x2048 ![0, 1] bcast_S1x2048_S8192x2048_0_1 (broadcastInDim S1x2048 ![1] bcast_S2048_S1x2048_1 (concatenate S2048 0 [⟨S1024, (broadcastInDim S1024 ![] bcast_S_S1024 (constant S_ .f32 0x00000000#32))⟩, ⟨S1024, (shapeCast S1024 b shapeCasts_S1x1024_S1024)⟩] concatenates_S1024_S1024_S2048_d0)))) shapeCasts_S8192x2048_S4x2048x2048) slices_S4x2048x2048_S4x2048x1024_0_0_1024) : FVec Ideal S4x2048x1024 .f32) = seqs (us P b) := by
  funext i
  pointwise [seqs, us]

theorem value_dp (Y : FVec Ideal S8192x1024 .bf16) (d : Rows) (w : FVec Ideal S4x1024 .f32) (g : FVec Ideal S4x2048x1024 .f32) (hg : g = seqs (du d w)) :
    (truncf .bf16 (shapeCast S8192x2048 (concatenate S4x2048x2048 2 [⟨S4x2048x1024, (shapeCast S4x2048x1024 (extf .f32 Y bitsLt_bf16_f32) shapeCasts_S8192x1024_S4x2048x1024)⟩, ⟨S4x2048x1024, g⟩] concatenates_S4x2048x1024_S4x2048x1024_S4x2048x2048_d2) shapeCasts_S4x2048x2048_S8192x2048) bitsLt_bf16_f32 : FVec Ideal S8192x2048 .bf16) = fun i => dp Y d w (i 0) (i 1) := by
  subst hg
  funext i
  pointwise [seqs, dp]
  by_cases h : (i 1).val < 1024
  · rw [dif_pos h, dif_pos h]
  · rw [dif_neg h, dif_neg h]
    exact congrFun (congrArg (du d w) (Fin.ext (Nat.div_add_mod' _ _))) _

theorem value_di (Y : FVec Ideal S8192x1024 .bf16) (d : Rows) (w : FVec Ideal S4x1024 .f32) (g : FVec Ideal S4x2048x1024 .f32) (hg : g = seqs (du d w)) :
    (Host.reduceAdd (shapeCast S1x2048 (Host.reduceAdd (shapeCast S8192x2048 (concatenate S4x2048x2048 2 [⟨S4x2048x1024, (shapeCast S4x2048x1024 (extf .f32 Y bitsLt_bf16_f32) shapeCasts_S8192x1024_S4x2048x1024)⟩, ⟨S4x2048x1024, g⟩] concatenates_S4x2048x1024_S4x2048x1024_S4x2048x2048_d2) shapeCasts_S4x2048x2048_S8192x2048) (constant S_ .f32 0x00000000#32) reducesTo_S8192x2048_S2048_d0 h_S_) shapeCasts_S2048_S1x2048) (constant S_ .f32 0x00000000#32) reducesTo_S1x2048_S2048_d0 h_S_ : FVec Ideal S2048 .f32) = fun j => ∑ n : Fin 8192, dp Y d w n (j 0) := by
  subst hg
  funext i
  pointwise [seqs, dp]
  refine (Fintype.sum_unique _).trans (Finset.sum_congr rfl fun n _ => ?_)
  by_cases h : (i 0).val < 1024
  · rw [dif_pos h, dif_pos h]
  · rw [dif_neg h, dif_neg h]
    exact congrFun (congrArg (du d w) (Fin.ext (Nat.div_add_mod' _ _))) _

theorem value_db (A B : FVec Ideal S8192x1024 .f32) :
    (Host.reduceAdd (shapeCast S1x1x1024 (Host.reduceAdd (shapeCast S4x2048x1024 (addf A B) shapeCasts_S8192x1024_S4x2048x1024) (constant S_ .f32 0x00000000#32) reducesTo_S4x2048x1024_S1024_d0_1 h_S_) shapeCasts_S1024_S1x1x1024) (constant S_ .f32 0x00000000#32) reducesTo_S1x1x1024_S1024_d0_1 h_S_ : FVec Ideal S1024 .f32) = fun j => ∑ n : Fin 8192, dc A B n (j 0) := by
  funext i
  pointwise [dc, sum01]
  refine (Fintype.sum_unique _).trans ((Fintype.sum_unique _).trans ?_)
  exact Fin.sum_mul_add_congr fun s k hl => rfl

/-- A tap's gradient: the convolution's input, shifted, against the gradient of its output. -/
theorem value_tap (A B : FVec Ideal S8192x1024 .f32) (T : Rows) (g : FVec Ideal S4x2048x1024 .f32) (hg : g = seqs T) :
    ((Host.reduceAdd (shapeCast S1x1x1024 (Host.reduceAdd (mulf g (shapeCast S4x2048x1024 (addf A B) shapeCasts_S8192x1024_S4x2048x1024)) (constant S_ .f32 0x00000000#32) reducesTo_S4x2048x1024_S1024_d0_1 h_S_) shapeCasts_S1024_S1x1x1024) (constant S_ .f32 0x00000000#32) reducesTo_S1x1x1024_S1024_d0_1 h_S_) : FVec Ideal S1024 .f32) = fun j => ∑ n : Fin 8192, dc A B n (j 0) * T n (j 0) := by
  subst hg
  funext i
  pointwise [seqs, dc, sum01]
  refine (Fintype.sum_unique _).trans ((Fintype.sum_unique _).trans ?_)
  exact Fin.sum_mul_add_congr fun s k hl => mul_comm _ _

theorem value_win0 (f : Rows) (u : FVec Ideal S4x2048x1024 .f32) (hu : u = seqs f) : ((extractStridedSlice S4x2048x1024 ![0, 0, 0] (concatenate S4x2051x1024 1 [⟨S4x3x1024, (broadcastInDim S4x3x1024 ![] bcast_S_S4x3x1024 (constant S_ .f32 0x00000000#32))⟩, ⟨S4x2048x1024, u⟩] concatenates_S4x3x1024_S4x2048x1024_S4x2051x1024_d1) slices_S4x2051x1024_S4x2048x1024_0_0_0) : FVec Ideal S4x2048x1024 .f32) = seqs (down 3 f) := by
  subst hu
  funext i
  pointwise [seqs, down]
  have h1 : (i 1).val < 2048 := (i 1).isLt
  have e : ((i 0).val * 2048 + (i 1).val) % 2048 = (i 1).val := by omega
  by_cases h : 3 ≤ (i 1).val
  · rw [dif_neg (by omega), dif_pos (by rw [e]; exact h)]
    refine congrFun (congrArg f (Fin.ext ?_)) _
    show (i 0).val * 2048 + _ = (i 0).val * 2048 + (i 1).val - 3
    omega
  · rw [dif_pos (by omega), dif_neg (by rw [e]; exact h)]

theorem value_win1 (f : Rows) (u : FVec Ideal S4x2048x1024 .f32) (hu : u = seqs f) : ((extractStridedSlice S4x2048x1024 ![0, 1, 0] (concatenate S4x2051x1024 1 [⟨S4x3x1024, (broadcastInDim S4x3x1024 ![] bcast_S_S4x3x1024 (constant S_ .f32 0x00000000#32))⟩, ⟨S4x2048x1024, u⟩] concatenates_S4x3x1024_S4x2048x1024_S4x2051x1024_d1) slices_S4x2051x1024_S4x2048x1024_0_1_0) : FVec Ideal S4x2048x1024 .f32) = seqs (down 2 f) := by
  subst hu
  funext i
  pointwise [seqs, down]
  have h1 : (i 1).val < 2048 := (i 1).isLt
  have e : ((i 0).val * 2048 + (i 1).val) % 2048 = (i 1).val := by omega
  by_cases h : 2 ≤ (i 1).val
  · rw [dif_neg (by omega), dif_pos (by rw [e]; exact h)]
    refine congrFun (congrArg f (Fin.ext ?_)) _
    show (i 0).val * 2048 + _ = (i 0).val * 2048 + (i 1).val - 2
    omega
  · rw [dif_pos (by omega), dif_neg (by rw [e]; exact h)]

theorem value_win2 (f : Rows) (u : FVec Ideal S4x2048x1024 .f32) (hu : u = seqs f) : ((extractStridedSlice S4x2048x1024 ![0, 2, 0] (concatenate S4x2051x1024 1 [⟨S4x3x1024, (broadcastInDim S4x3x1024 ![] bcast_S_S4x3x1024 (constant S_ .f32 0x00000000#32))⟩, ⟨S4x2048x1024, u⟩] concatenates_S4x3x1024_S4x2048x1024_S4x2051x1024_d1) slices_S4x2051x1024_S4x2048x1024_0_2_0) : FVec Ideal S4x2048x1024 .f32) = seqs (down 1 f) := by
  subst hu
  funext i
  pointwise [seqs, down]
  have h1 : (i 1).val < 2048 := (i 1).isLt
  have e : ((i 0).val * 2048 + (i 1).val) % 2048 = (i 1).val := by omega
  by_cases h : 1 ≤ (i 1).val
  · rw [dif_neg (by omega), dif_pos (by rw [e]; exact h)]
    refine congrFun (congrArg f (Fin.ext ?_)) _
    show (i 0).val * 2048 + _ = (i 0).val * 2048 + (i 1).val - 1
    omega
  · rw [dif_pos (by omega), dif_neg (by rw [e]; exact h)]

theorem value_win3 (f : Rows) (u : FVec Ideal S4x2048x1024 .f32) (hu : u = seqs f) : ((extractStridedSlice S4x2048x1024 ![0, 3, 0] (concatenate S4x2051x1024 1 [⟨S4x3x1024, (broadcastInDim S4x3x1024 ![] bcast_S_S4x3x1024 (constant S_ .f32 0x00000000#32))⟩, ⟨S4x2048x1024, u⟩] concatenates_S4x3x1024_S4x2048x1024_S4x2051x1024_d1) slices_S4x2051x1024_S4x2048x1024_0_3_0) : FVec Ideal S4x2048x1024 .f32) = seqs f := by
  subst hu
  funext i
  pointwise [seqs]

theorem value_dw (g0 g1 g2 g3 : FVec Ideal S1024 .f32) (T : Fin 4 → Rows) (h0 : g0 = fun j => ∑ n : Fin 8192, T 0 n (j 0)) (h1 : g1 = fun j => ∑ n : Fin 8192, T 1 n (j 0))
    (h2 : g2 = fun j => ∑ n : Fin 8192, T 2 n (j 0)) (h3 : g3 = fun j => ∑ n : Fin 8192, T 3 n (j 0)) :
    (addf (addf (addf (pad S4x1024 ![3, 0] ![0, 0] ![0, 0] (broadcastInDim S1x1024 ![1] bcast_S1024_S1x1024_1 g3) (constant S_ .f32 0x00000000#32) pads_S1x1024_S4x1024_300_000 h_S_) (pad S4x1024 ![2, 0] ![1, 0] ![0, 0] (broadcastInDim S1x1024 ![1] bcast_S1024_S1x1024_1 g2) (constant S_ .f32 0x00000000#32) pads_S1x1024_S4x1024_210_000 h_S_)) (pad S4x1024 ![1, 0] ![2, 0] ![0, 0] (broadcastInDim S1x1024 ![1] bcast_S1024_S1x1024_1 g1) (constant S_ .f32 0x00000000#32) pads_S1x1024_S4x1024_120_000 h_S_)) (pad S4x1024 ![0, 0] ![3, 0] ![0, 0] (broadcastInDim S1x1024 ![1] bcast_S1024_S1x1024_1 g0) (constant S_ .f32 0x00000000#32) pads_S1x1024_S4x1024_030_000 h_S_) : FVec Ideal S4x1024 .f32) = fun i => ∑ n : Fin 8192, T (i 0) n (i 1) := by
  subst h0 h1 h2 h3
  funext i
  pointwise
  generalize (i 0 : Fin 4) = k
  fin_cases k <;> simp <;> rfl

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => (h c).2.2.2.2, sem_eq_zero_of_no_sems rfl r.2⟩) (Value.run m ρ)

end Cert.Reference20Ideal.Mlp

namespace Cert.Mlp

open Idealize.ShloMosaic Idealize.SL.Sem

theorem dconvw : Cert.algebraic_Kernel20Ideal_Reference20Ideal := by
  pair_intro
  · run_from Kernel20Ideal.Gen.run_main m g
  · run_from Reference20Ideal.Value.run m' g'
    · rw [(hagree c).2.2.2.1, (hagree c).2.2.2.2.2]
      exact (Reference20Ideal.Mlp.value_dp _ _ _ _ (Reference20Ideal.Mlp.value_du _ _ _)).trans (Kernel20Ideal.Mlp.arr_dp m c).symm
    · unfold Reference20Ideal.Value.res_main_v89
      rw [(hagree c).1, (hagree c).2.1, (hagree c).2.2.1, (hagree c).2.2.2.2.1]
      exact (Reference20Ideal.Mlp.value_dw _ _ _ _ (fun k => Kernel20Ideal.Mlp.tm m c (Fin.castLE (by decide) k))
        (Reference20Ideal.Mlp.value_tap _ _ _ _ (Reference20Ideal.Mlp.value_win0 _ _ (Reference20Ideal.Mlp.value_u _ _)))
        (Reference20Ideal.Mlp.value_tap _ _ _ _ (Reference20Ideal.Mlp.value_win1 _ _ (Reference20Ideal.Mlp.value_u _ _)))
        (Reference20Ideal.Mlp.value_tap _ _ _ _ (Reference20Ideal.Mlp.value_win2 _ _ (Reference20Ideal.Mlp.value_u _ _)))
        (Reference20Ideal.Mlp.value_tap _ _ _ _ (Reference20Ideal.Mlp.value_win3 _ _ (Reference20Ideal.Mlp.value_u _ _)))).trans (Kernel20Ideal.Mlp.tail_dw m c).symm
    · exact (Reference20Ideal.Mlp.value_db _ _).trans (Kernel20Ideal.Mlp.tail_db m c).symm
    · rw [(hagree c).2.2.2.1, (hagree c).2.2.2.2.2]
      exact (Reference20Ideal.Mlp.value_di _ _ _ _ (Reference20Ideal.Mlp.value_du _ _ _)).trans (Kernel20Ideal.Mlp.tail_di m c).symm

end Cert.Mlp

end
-- ==== Proof.Norm.lean ====
/- The gradient of the root-mean-square norm of one row, in the kernel's form and in the derivative's. -/
module

public import Idealize.ShloMosaic.Lib.Pipeline.ValueKit

@[expose] public section

noncomputable section

namespace Cert.Norm

open Idealize.ShloMosaic

/-- The mean square of a row, with the norm's constant added. -/
def ms (x : Fin 1024 → EReal) : EReal :=
  Ideal.div (∑ k, x k * x k) (Ideal.ofBits .f32 0x44800000#32) + Ideal.ofBits .f32 0x358637BD#32

/-- The gradient as the kernel forms it: `p` the cotangent times the gain, `r` the reciprocal root. -/
def kdx (r : EReal) (p x : Fin 1024 → EReal) (i : Fin 1024) : EReal :=
  r * (p i - x i * r * Ideal.div (∑ k, p k * (x k * r)) (Ideal.ofBits .f32 0x44800000#32))

/-- What the derivative of the mean square contributes to each factor of a square. -/
def rw1 (s : EReal) (p x : Fin 1024 → EReal) : EReal :=
  Ideal.div ((∑ k, x k * p k) * (Ideal.ofBits .f32 0xBF000000#32 * Ideal.div (Ideal.rsqrt s) s)) (Ideal.ofBits .f32 0x44800000#32)

/-- The gradient as the derivative forms it. -/
def rdx (s : EReal) (p x : Fin 1024 → EReal) (i : Fin 1024) : EReal :=
  p i * Ideal.rsqrt s + x i * rw1 s p x + rw1 s p x * x i

theorem c1024 : Ideal.ofBits .f32 0x44800000#32 = ((1024 : ℝ) : EReal) := by
  have h : ((8388608 * (2 ^ 13)⁻¹ : ℝ) : EReal) = ((1024 : ℝ) : EReal) := by norm_num
  rw [← h, EReal.coe_mul]
  simp [Ideal.ofBits, Ideal.ieee]

theorem chalf : Ideal.ofBits .f32 0xBF000000#32 = ((-(1 / 2) : ℝ) : EReal) := by
  have h : ((-(8388608 * (2 ^ 24)⁻¹) : ℝ) : EReal) = ((-(1 / 2) : ℝ) : EReal) := by norm_num
  rw [← h, EReal.coe_neg, EReal.coe_mul]
  simp [Ideal.ofBits, Ideal.ieee]

theorem ceps : ∃ e : ℝ, 0 < e ∧ Ideal.ofBits .f32 0x358637BD#32 = (e : EReal) := by
  refine ⟨8796093 * (2 ^ 43)⁻¹, by positivity, ?_⟩
  rw [EReal.coe_mul]
  simp [Ideal.ofBits, Ideal.ieee]

theorem sum_mul_real {n : ℕ} (f : Fin n → EReal) {a : ℝ} (ha : 0 ≤ a) : (∑ i, f i) * (a : EReal) = ∑ i, f i * (a : EReal) := by
  have h0 : (0 : EReal) ≤ (a : EReal) := by exact_mod_cast ha
  have key : ∀ s : Finset (Fin n), (∑ i ∈ s, f i) * (a : EReal) = ∑ i ∈ s, f i * (a : EReal) := by
    intro s
    induction s using Finset.induction_on with
    | empty => simp
    | insert i s hi ih => rw [Finset.sum_insert hi, Finset.sum_insert hi, ← ih, EReal.right_distrib_of_nonneg_of_ne_top h0 (EReal.coe_ne_top a)]
  exact key Finset.univ

theorem sq_nonneg' (x : EReal) : 0 ≤ x * x := by
  rcases le_total 0 x with h | h
  · exact mul_nonneg h h
  · have := mul_nonneg (EReal.neg_nonneg.mpr h) (EReal.neg_nonneg.mpr h)
    rwa [EReal.neg_mul, mul_comm, EReal.neg_mul, neg_neg] at this

/-- The mean square with its constant is positive. -/
theorem ms_pos (x : Fin 1024 → EReal) : 0 < ms x := by
  obtain ⟨e, he, h⟩ := ceps
  unfold ms
  rw [h, c1024, Ideal.div_coe (by norm_num)]
  have h1 : 0 ≤ (∑ k, x k * x k) * (((1024 : ℝ)⁻¹ : ℝ) : EReal) :=
    mul_nonneg (Finset.sum_nonneg fun k _ => sq_nonneg' (x k)) (by exact_mod_cast (by positivity : (0:ℝ) ≤ (1024:ℝ)⁻¹))
  have h2 : (0 : EReal) < (e : EReal) := by exact_mod_cast he
  exact lt_of_lt_of_le h2 (by simpa using add_le_add h1 (le_refl (e : EReal)))

theorem neg_twice (a : EReal) : -(a + a) = -a + -a := by
  induction a using EReal.rec with
  | bot => rfl
  | top => rfl
  | coe a => exact_mod_cast neg_add a a

/-- The two forms agree at every row. -/
theorem dx_eq {s : EReal} (hs : 0 < s) (p x : Fin 1024 → EReal) (i : Fin 1024) : kdx (Ideal.rsqrt s) p x i = rdx s p x i := by
  induction s using EReal.rec with
  | bot => simp at hs
  | top =>
    have h0 : Ideal.div 0 ⊤ = 0 := by simp [Ideal.div]
    simp [kdx, rdx, rw1, c1024, Ideal.div_coe, h0]
  | coe s =>
    have hs' : 0 < s := by exact_mod_cast hs
    have hr : 0 < (Real.sqrt s)⁻¹ := by positivity
    have hrs : (Real.sqrt s)⁻¹ * s⁻¹ = (Real.sqrt s)⁻¹ * (Real.sqrt s)⁻¹ * (Real.sqrt s)⁻¹ := by
      nth_rewrite 2 [← Real.mul_self_sqrt hs'.le]
      rw [mul_inv, mul_assoc]
    unfold kdx rdx rw1
    rw [c1024, chalf, Ideal.rsqrt_coe, if_neg (not_lt.mpr hs'.le), if_neg hs'.ne', Ideal.div_coe hs'.ne']
    generalize (Real.sqrt s)⁻¹ = r at hr hrs ⊢
    have hr0 : (0 : EReal) ≤ (r : EReal) := by exact_mod_cast hr.le
    have hT : ∑ k, p k * (x k * r) = (∑ k, x k * p k) * (r : EReal) := by
      rw [sum_mul_real _ hr.le]
      exact Finset.sum_congr rfl fun k _ => by rw [← mul_assoc, mul_comm (p k)]
    rw [hT]
    generalize (∑ k, x k * p k) = T
    have hk : (0 : ℝ) ≤ r * r * r * 1024⁻¹ * (1 / 2) := by positivity
    have hk' : (0 : EReal) ≤ ((r * r * r * 1024⁻¹ * (1 / 2) : ℝ) : EReal) := by exact_mod_cast hk
    have hB : (r : EReal) * (x i * r * (T * r * ((1024 : ℝ)⁻¹ : ℝ)))
        = ((r * r * r * 1024⁻¹ * (1 / 2) : ℝ) : EReal) * (x i * T) + ((r * r * r * 1024⁻¹ * (1 / 2) : ℝ) : EReal) * (x i * T) := by
      rw [← EReal.right_distrib_of_nonneg hk' hk', ← EReal.coe_add, show r * r * r * 1024⁻¹ * (1 / 2) + r * r * r * 1024⁻¹ * (1 / 2) = r * r * r * 1024⁻¹ by ring]
      simp only [EReal.coe_mul]
      ac_rfl
    have hC : T * (((-(1 / 2) : ℝ) : EReal) * ((r : EReal) * ((s⁻¹ : ℝ) : EReal))) * ((1024 : ℝ)⁻¹ : ℝ)
        = -(((r * r * r * 1024⁻¹ * (1 / 2) : ℝ) : EReal) * T) := by
      rw [mul_assoc, ← EReal.coe_mul, ← EReal.coe_mul, ← EReal.coe_mul, hrs, show -(1 / 2) * (r * r * r) * (1024 : ℝ)⁻¹ = -(r * r * r * 1024⁻¹ * (1 / 2)) by ring,
        EReal.coe_neg, mul_comm, EReal.neg_mul]
    rw [Ideal.div_coe (by norm_num), Ideal.div_coe (by norm_num)]
    simp only [one_div] at hC hB ⊢
    rw [hC, sub_eq_add_neg, EReal.left_distrib_of_nonneg_of_ne_top hr0 (EReal.coe_ne_top r), mul_neg, hB, mul_neg, EReal.neg_mul,
      mul_left_comm (x i), mul_assoc _ T, mul_comm T (x i), mul_comm (r : EReal) (p i), add_assoc]
    exact congrArg (fun b : EReal => p i * r + b) (neg_twice _)

end Cert.Norm

end
-- ==== Proof.Dnorm.lean ====
/- The gradient of a norm: of its rows, and of its gain, the latter folded to eight rows by the calls and summed afterwards. -/
module

public import proofs.«01_k».proof.Defs
public import proofs.«01_k».proof.Proof.Norm
public import proofs.«01_k».proof.Proof.Gen.Kernel21Ideal.Frame
public import proofs.«01_k».proof.Proof.Gen.Reference21Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Norm

open Idealize.ShloMosaic

variable {M : ℕ}

/-- Row `n` of an array. -/
def row (X : FVec Ideal ⟨2, ![M, 1024]⟩ .f32) (n : Fin M) (k : Fin 1024) : EReal := X (ix2 n k)

/-- Row `n` of the cotangent times the gain. -/
def cot (D : FVec Ideal ⟨2, ![M, 1024]⟩ .f32) (G : FVec Ideal ⟨2, ![1, 1024]⟩ .f32) (n : Fin M) (k : Fin 1024) : EReal := D (ix2 n k) * G (ix2 0 k)

/-- Entry `i` of the rows' gradient. -/
def dt (D X : FVec Ideal ⟨2, ![M, 1024]⟩ .f32) (G : FVec Ideal ⟨2, ![1, 1024]⟩ .f32) (i : (⟨2, ![M, 1024]⟩ : Shape).Idx) : EReal :=
  kdx (Ideal.rsqrt (ms (row X (i 0)))) (cot D G (i 0)) (row X (i 0)) (i 1)

/-- Entry `i` of the rows' gradient, added to what came before. -/
def dx (A D X : FVec Ideal ⟨2, ![M, 1024]⟩ .f32) (G : FVec Ideal ⟨2, ![1, 1024]⟩ .f32) (i : (⟨2, ![M, 1024]⟩ : Shape).Idx) : EReal :=
  A i + dt D X G i

/-- What row `n` contributes to entry `j` of the gain's gradient. -/
def gterm (D X : FVec Ideal ⟨2, ![M, 1024]⟩ .f32) (j : Fin 1024) (n : Fin M) : EReal :=
  D (ix2 n j) * (X (ix2 n j) * Ideal.rsqrt (ms (row X n)))

variable {M' : ℕ}

theorem dt_congr {D X : FVec Ideal ⟨2, ![M, 1024]⟩ .f32} {D' X' : FVec Ideal ⟨2, ![M', 1024]⟩ .f32} {G G' : FVec Ideal ⟨2, ![1, 1024]⟩ .f32}
    {y : (⟨2, ![M, 1024]⟩ : Shape).Idx} {i : (⟨2, ![M', 1024]⟩ : Shape).Idx} (hD : ∀ k, D (ix2 (y 0) k) = D' (ix2 (i 0) k))
    (hX : ∀ k, X (ix2 (y 0) k) = X' (ix2 (i 0) k)) (hG : G = G') (hi : (y 1).val = (i 1).val) : dt D X G y = dt D' X' G' i := by
  have e1 : row X (y 0) = row X' (i 0) := funext hX
  have e2 : cot D G (y 0) = cot D' G' (i 0) := funext fun k => congrArg₂ (fun a b : EReal => a * b) (hD k) (congrFun hG _)
  rw [dt, dt, e1, e2]
  exact congrArg _ (Fin.ext hi)

theorem dx_congr {A D X : FVec Ideal ⟨2, ![M, 1024]⟩ .f32} {A' D' X' : FVec Ideal ⟨2, ![M', 1024]⟩ .f32} {G G' : FVec Ideal ⟨2, ![1, 1024]⟩ .f32}
    {y : (⟨2, ![M, 1024]⟩ : Shape).Idx} {i : (⟨2, ![M', 1024]⟩ : Shape).Idx} (hA : A y = A' i) (hD : ∀ k, D (ix2 (y 0) k) = D' (ix2 (i 0) k))
    (hX : ∀ k, X (ix2 (y 0) k) = X' (ix2 (i 0) k)) (hG : G = G') (hi : (y 1).val = (i 1).val) : dx A D X G y = dx A' D' X' G' i :=
  congrArg₂ (fun a b : EReal => a + b) hA (dt_congr hD hX hG hi)

theorem gterm_congr {D X : FVec Ideal ⟨2, ![M, 1024]⟩ .f32} {D' X' : FVec Ideal ⟨2, ![M', 1024]⟩ .f32} {j j' : Fin 1024} {n : Fin M} {n' : Fin M'}
    (hD : ∀ k, D (ix2 n k) = D' (ix2 n' k)) (hX : ∀ k, X (ix2 n k) = X' (ix2 n' k)) (hj : j.val = j'.val) : gterm D X j n = gterm D' X' j' n' := by
  have e1 : row X n = row X' n' := funext hX
  obtain rfl : j = j' := Fin.ext hj
  rw [gterm, gterm, e1, hD, hX]

end Cert.Norm

namespace Cert.Kernel21Ideal.Mlp

open Cert.Norm Cert.Kernel21Ideal Cert.Kernel21Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![0, 0] :=
  (by decide +kernel : ∀ t : Fin grid0.N, _)

theorem hN : cfg0.N = 16 := N_0

abbrev argA (c : Dev nD) : FVec Ideal S8192x1024 .f32 := m ((c : Thread nD τ).loc main_arg0)
abbrev argD (c : Dev nD) : FVec Ideal S8192x1024 .f32 := m ((c : Thread nD τ).loc main_arg1)
abbrev argX (c : Dev nD) : FVec Ideal S8192x1024 .f32 := m ((c : Thread nD τ).loc main_arg2)
abbrev argG (c : Dev nD) : FVec Ideal S1x1024 .f32 := m ((c : Thread nD τ).loc main_arg3)

theorem pay_dx (A D X : FVec Ideal S512x1024 .f32) (G : FVec Ideal S1x1024 .f32) (y : S512x1024.Idx) :
    k0_pay3 (F := Ideal) A D X G y = dx A D X G y := by
  pointwise [k0_pay3, k0_pay2, k0_pay1, dx, dt, kdx, ms, row, cot]

theorem pay_dg (D X : FVec Ideal S512x1024 .f32) (acc : FVec Ideal S8x1024 .f32) (y : S8x1024.Idx) :
    k0_pay5 (F := Ideal) D X acc y = acc y + ∑ q : Fin 64, gterm D X (y 1) ⟨q.val * 8 + (y 0).val, by have := ValueIdx.idx2_lt0 y; omega⟩ := by
  pointwise [k0_pay5, k0_pay2, k0_pay1, gterm, ms, row]

theorem step_dx (c : Dev nD) (t : Fin cfg0.N) : (outsAt0 m c t.val t.isLt).1 = k0_pay3 (F := Ideal) (iblk m c 0 t) (iblk m c 1 t) (iblk m c 2 t) (iblk m c 3 t) := by
  by_cases h : t.val % 16 = 0
  · rw [outsAt0_A m c t h]
    frame_out
  · rw [outsAt0_B m c t h]
    frame_out

/-- The rows' gradient after the run. -/
theorem arr_dx (c : Dev nD) : (dats m 0 c).arrAt 4 cfg0.N = dx (argA m c) (argD m c) (argX m c) (argG m c) := by
  refine (dats m 0 c).arrAt_eq_of_covers 4 _ (by decide +kernel) fun t hf y => ?_
  blk_simp
  rw [after0_4, step_dx m c t]
  refine (pay_dx _ _ _ _ _).trans (dx_congr ?_ (fun k => ?_) (fun k => ?_) (funext fun k => ?_) ?_)
  all_goals blk_ext [iblk, V, idx t]

/-- At the first grid point the folded rows are reset, afterwards each point adds its part. -/
theorem step_dg (c : Dev nD) (t : Fin cfg0.N) (y : S8x1024.Idx) : (outsAt0 m c t.val t.isLt).2 y
    = (if t.val % 16 = 0 then 0 else (outsAt0 m c (t.val - 1) (Nat.lt_of_le_of_lt (Nat.sub_le _ _) t.isLt)).2 y)
      + ∑ q : Fin 64, gterm (iblk m c 1 t) (iblk m c 2 t) (y 1) ⟨q.val * 8 + (y 0).val, by have := ValueIdx.idx2_lt0 y; omega⟩ := by
  by_cases h : t.val % 16 = 0
  · rw [outsAt0_A m c t h, if_pos h]
    frame_out
    refine (pay_dg _ _ _ _).trans (congrArg (fun b : EReal => b + _) ?_)
    pointwise [k0_pay4]
  · rw [outsAt0_B m c t h, if_neg h]
    frame_out
    exact pay_dg _ _ _ _

/-- The eight folded rows of the gain's gradient after the run. -/
theorem arr_dg (c : Dev nD) : (dats m 0 c).arrAt 5 cfg0.N = fun y : S8x1024.Idx => ∑ l : Fin 1024, gterm (argD m c) (argX m c) (y 1) ⟨l.val * 8 + (y 0).val, by have := ValueIdx.idx2_lt0 y; omega⟩ := by
  refine (dats m 0 c).arrAt_eq_of_covers 5 _ (by decide +kernel) fun t hf y => ?_
  blk_simp
  have h3 := (flush0_5 t).mp hf
  rw [after0_5, Pipeline.eq_sum_fin_of_reset_step_apply_of_flush (fun n h => (outsAt0 m c n h).2) 16 (fun _ => 0) _
    (fun t h j => by rw [step_dg m c t j, if_pos h]) (fun t h j => by rw [step_dg m c t j, if_neg h]) t h3 _, zero_add]
  refine Fin.sum_mul_add_congr fun s k hl => gterm_congr (fun k => ?_) (fun k => ?_) ?_
  all_goals blk_ext [iblk, V, idx t, idx ⟨_, Pipeline.run_point_lt_of_flush t h3 s⟩]

/-- The gain's gradient after the run. -/
theorem tail (c : Dev nD) : Pipeline.afterTail₀ cfgs (dats m) 0 (V0 m) [hostOps1] c main_v1
    = fun j : S1024.Idx => ∑ n : Fin 8192, gterm (argD m c) (argX m c) (j 0) n := by
  unfold Pipeline.afterTail₀
  simp only [List.flatten_cons, List.flatten_nil, List.append_nil]
  after_results
  refine (congrArg (fun z : FVec Ideal S8x1024 .f32 => (Host.reduceAdd z (constant S_ .f32 0x00000000#32) reducesTo_S8x1024_S1024_d0 h_S_ : FVec Ideal S1024 .f32))
    ((Pipeline.withArrays_arr (cfgs 0).spec (by decide) c (V0 m c) _ 5).trans (arr_dg m c))).trans (funext fun j => ?_)
  pointwise
  rw [Finset.sum_comm]
  exact Fin.sum_mul_add_congr fun s k hl => rfl

end Cert.Kernel21Ideal.Mlp

namespace Cert.Reference21Ideal.Mlp

open Cert.Reference21Ideal Cert.Reference21Ideal.Gen Idealize.ShloMosaic Idealize.ShloMosaic.TcCoe Idealize.SL.Sem

/-- The rows' gradient as the reference forms it. -/
def rdt (D X : FVec Ideal S8192x1024 .f32) (G : FVec Ideal S1x1024 .f32) : FVec Ideal S8192x1024 .f32 :=
  addf (addf (mulf (mulf D (broadcastInDim S8192x1024 ![0, 1] bcast_S1x1024_S8192x1024_0_1 (broadcastInDim S1x1024 ![1] bcast_S1024_S1x1024_1 (shapeCast S1024 G shapeCasts_S1x1024_S1024)))) (broadcastInDim S8192x1024 ![0, 1] bcast_S8192x1_S8192x1024_0_1 (Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf X (broadcastInDim S8192x1024 ![0] bcast_S8192_S8192x1024_0 (Host.reduceAdd (Host.divf (mulf (shapeCast S8192x1 (Host.reduceAdd (mulf X (mulf D (broadcastInDim S8192x1024 ![0, 1] bcast_S1x1024_S8192x1024_0_1 (broadcastInDim S1x1024 ![1] bcast_S1024_S1x1024_1 (shapeCast S1024 G shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast S8192x1 (Host.reduceAdd (mulf X (mulf D (broadcastInDim S8192x1024 ![0, 1] bcast_S1x1024_S8192x1024_0_1 (broadcastInDim S1x1024 ![1] bcast_S1024_S1x1024_1 (shapeCast S1024 G shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) X)

theorem rdt_eq (D X : FVec Ideal S8192x1024 .f32) (G : FVec Ideal S1x1024 .f32) : rdt D X G = Norm.dt D X G := by
  funext i
  refine Eq.trans ?_ (Norm.dx_eq (Norm.ms_pos _) _ _ _).symm
  pointwise [rdt, Norm.rdx, Norm.rw1, Norm.ms, Norm.row, Norm.cot]
  simp only [Fintype.sum_unique]

theorem value_dx (A D X : FVec Ideal S8192x1024 .f32) (G : FVec Ideal S1x1024 .f32) : addf A (rdt D X G) = Norm.dx A D X G := by
  rw [rdt_eq]
  rfl

/-- The gain's gradient as the reference forms it. -/
def rdg (D X : FVec Ideal S8192x1024 .f32) : FVec Ideal S1024 .f32 :=
  Host.reduceAdd (shapeCast S1x1024 (Host.reduceAdd (mulf (mulf X (broadcastInDim S8192x1024 ![0, 1] bcast_S8192x1_S8192x1024_0_1 (Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) D) (constant S_ .f32 0x00000000#32) reducesTo_S8192x1024_S1024_d0 h_S_) shapeCasts_S1024_S1x1024) (constant S_ .f32 0x00000000#32) reducesTo_S1x1024_S1024_d0 h_S_

theorem rdg_eq (D X : FVec Ideal S8192x1024 .f32) : rdg D X = fun j => ∑ n : Fin 8192, Norm.gterm D X (j 0) n := by
  funext i
  pointwise [rdg, Norm.gterm, Norm.ms, Norm.row]
  exact (Fintype.sum_unique _).trans (Finset.sum_congr rfl fun n _ => mul_comm _ _)

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2, sem_eq_zero_of_no_sems rfl r.2⟩) (Value.run m ρ)

end Cert.Reference21Ideal.Mlp

namespace Cert.Mlp

open Idealize.ShloMosaic Idealize.SL.Sem

theorem dnorm : Cert.algebraic_Kernel21Ideal_Reference21Ideal := by
  pair_intro
  · run_from Kernel21Ideal.Gen.run_main m g
  · run_from Reference21Ideal.Value.run m' g'
    · unfold Reference21Ideal.Value.res_main_v37
      rw [(hagree c).1, (hagree c).2.1, (hagree c).2.2.1, (hagree c).2.2.2]
      exact (Reference21Ideal.Mlp.value_dx _ _ _ _).trans (Kernel21Ideal.Mlp.arr_dx m c).symm
    · exact (Reference21Ideal.Mlp.rdg_eq _ _).trans (Kernel21Ideal.Mlp.tail m c).symm

end Cert.Mlp

end
-- ==== Proof.Rscan.lean ====
/- The reversed recurrence: what a block's body leaves, the rows carried from block to block, and the run. -/
module
public import proofs.«01_k».proof.Defs
public import proofs.«01_k».proof.Proof.Gen.Kernel22Ideal.Frame
public import proofs.«01_k».proof.Proof.Gen.Kernel22Ideal.Loops
public import Idealize.ShloMosaic.Lib.VecWindow
public import Idealize.ShloMosaic.Lib.Claim
public import Idealize.ShloMosaic.Lib.Quiescent
@[expose] public section
noncomputable section
set_option maxRecDepth 16384
namespace Cert.Kernel22Ideal.Scan

open Cert.Kernel22Ideal Cert.Kernel22Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev edge (i : grid0.Coords) : Prop :=
  Scalar.cmpi .ne (Scalar.extui (Scalar.cmpi .eq (Scalar.select (Scalar.andi (Scalar.xori (Scalar.cmpi .slt (Scalar.remsi (Scalar.muli (Scalar.addi (Scalar.subi 31#32 (BitVec.ofNat 32 (i 0).val)) 1#32) 256#32) (Scalar.select (Scalar.cmpi .eq 2048#32 0#32) 1#32 2048#32)) 0#32) (Scalar.cmpi .slt (Scalar.select (Scalar.cmpi .eq 2048#32 0#32) 1#32 2048#32) 0#32)) (Scalar.cmpi .ne (Scalar.remsi (Scalar.muli (Scalar.addi (Scalar.subi 31#32 (BitVec.ofNat 32 (i 0).val)) 1#32) 256#32) (Scalar.select (Scalar.cmpi .eq 2048#32 0#32) 1#32 2048#32)) 0#32)) (Scalar.addi (Scalar.remsi (Scalar.muli (Scalar.addi (Scalar.subi 31#32 (BitVec.ofNat 32 (i 0).val)) 1#32) 256#32) (Scalar.select (Scalar.cmpi .eq 2048#32 0#32) 1#32 2048#32)) (Scalar.select (Scalar.cmpi .eq 2048#32 0#32) 1#32 2048#32)) (Scalar.remsi (Scalar.muli (Scalar.addi (Scalar.subi 31#32 (BitVec.ofNat 32 (i 0).val)) 1#32) 256#32) (Scalar.select (Scalar.cmpi .eq 2048#32 0#32) 1#32 2048#32))) 0#32) : BitVec 32) 0#32 = 1#1

theorem edge_iff : ∀ t : Fin cfg0.N, edge (grid0.coords t) ↔ t.val % 8 = 0 :=
  (by decide +kernel : ∀ t : Fin grid0.N, edge (grid0.coords t) ↔ t.val % 8 = 0)

theorem trip_val (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (X1 : BufTy.Contents (Elt F) arg1.view.ty) (X2 : BufTy.Contents (Elt F) arg2.view.ty) (k : Fin k0_t1_loop.trips) (acc : Vec F S1x1024 .f32 × Vec F S1x1024 .f32) :
    tripR_k0_t1 (F := F) 𝒱 c bd i arg1 harg1 arg2 harg2 arg3 harg3 arg4 harg4 arg5 harg5 X1 X2 k acc
      = (k0_pay10 acc.1 acc.2 (View.ld (arg1.view.read (Elt F) X1) (Rect.unit (s := S256x1024) (k0_off1 k) S8x1024.size (k0_off1_inb k))) (View.ld (arg2.view.read (Elt F) X2) (Rect.unit (s := S256x1024) (k0_off1 k) S8x1024.size (k0_off1_inb k))),
         k0_pay11 (View.ld (arg1.view.read (Elt F) X1) (Rect.unit (s := S256x1024) (k0_off1 k) S8x1024.size (k0_off1_inb k))))
    ∧ tripL_k0_t1 (F := F) 𝒱 c bd i arg1 harg1 arg2 harg2 arg3 harg3 arg4 harg4 arg5 harg5 X1 X2 k acc
      = [⟨Rect.unit (s := S256x1024) (k0_off1 k) S8x1024.size (k0_off1_inb k), k0_pay12 acc.1 acc.2 (View.ld (arg1.view.read (Elt F) X1) (Rect.unit (s := S256x1024) (k0_off1 k) S8x1024.size (k0_off1_inb k))) (View.ld (arg2.view.read (Elt F) X2) (Rect.unit (s := S256x1024) (k0_off1 k) S8x1024.size (k0_off1_inb k)))⟩] := by
  unfold tripR_k0_t1 tripL_k0_t1 trip_k0_t1
  exact ⟨rfl, rfl⟩

abbrev rect (k : Fin k0_t1_loop.trips) : Rect S256x1024 := Rect.unit (s := S256x1024) (k0_off1 k) S8x1024.size (k0_off1_inb k)

/-- The carried pair and the tiles written before trip `k` of the loop over a block. -/
def tiles (x1 x2 : Vec F S256x1024 .f32) (s : Vec F S1x1024 .f32 × Vec F S1x1024 .f32) : ℕ → (Vec F S1x1024 .f32 × Vec F S1x1024 .f32) × List (View.Piece (Elt F) S256x1024 .f32)
  | 0 => (s, [])
  | k + 1 => if h : k < k0_t1_loop.trips then
      ((k0_pay10 (tiles x1 x2 s k).1.1 (tiles x1 x2 s k).1.2 (View.ld x1 (rect ⟨k, h⟩)) (View.ld x2 (rect ⟨k, h⟩)), k0_pay11 (View.ld x1 (rect ⟨k, h⟩))),
        ⟨rect ⟨k, h⟩, k0_pay12 (tiles x1 x2 s k).1.1 (tiles x1 x2 s k).1.2 (View.ld x1 (rect ⟨k, h⟩)) (View.ld x2 (rect ⟨k, h⟩))⟩ :: (tiles x1 x2 s k).2)
    else tiles x1 x2 s k

theorem st_eq (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (x1 x2 : Vec F S256x1024 .f32) (s : Vec F S1x1024 .f32 × Vec F S1x1024 .f32) :
    ∀ k, k ≤ k0_t1_loop.trips → st_k0_t1 (F := F) 𝒱 c bd i arg1 harg1 arg2 harg2 arg3 harg3 arg4 harg4 arg5 harg5 (harg1.unread x1) (harg2.unread x2) s k = tiles x1 x2 s k
  | 0, _ => rfl
  | k + 1, h => by
    have e := st_eq 𝒱 c bd i arg1 harg1 arg2 harg2 arg3 harg3 arg4 harg4 arg5 harg5 x1 x2 s k (Nat.le_of_succ_le h)
    have t := trip_val (F := F) 𝒱 c bd i arg1 harg1 arg2 harg2 arg3 harg3 arg4 harg4 arg5 harg5 (harg1.unread x1) (harg2.unread x2) ⟨k, h⟩ (tiles x1 x2 s k).1
    rw [harg1.read_unread, harg2.read_unread] at t
    refine (st_k0_t1_succ 𝒱 c bd i arg1 harg1 arg2 harg2 arg3 harg3 arg4 harg4 arg5 harg5 _ _ s ⟨k, h⟩).trans ?_
    dsimp only
    rw [e, t.1, t.2]
    rw [tiles.eq_2, dif_pos (Nat.lt_of_succ_le h)]
    rfl

abbrev final (x1 x2 : Vec F S256x1024 .f32) (s : Vec F S1x1024 .f32 × Vec F S1x1024 .f32) := tiles x1 x2 s k0_t1_loop.trips

theorem trips_eq : k0_t1_loop.trips = 32 := by decide

theorem off_eq : ∀ k : Fin k0_t1_loop.trips, k0_off1 k = ![8 * (31 - k.val), 0] := by decide +kernel

theorem mem_tiles (x1 x2 : Vec F S256x1024 .f32) (s : Vec F S1x1024 .f32 × Vec F S1x1024 .f32) (k : Fin k0_t1_loop.trips) :
    ∀ n, k.val < n → ∃ w, (⟨rect k, w⟩ : View.Piece (Elt F) S256x1024 .f32) ∈ (tiles x1 x2 s n).2
  | 0, h => absurd h (Nat.not_lt_zero _)
  | n + 1, h => by
    unfold tiles
    by_cases hn : n < k0_t1_loop.trips
    · rw [dif_pos hn]
      by_cases hk : k.val = n
      · obtain rfl : k = ⟨n, hn⟩ := Fin.ext hk
        exact ⟨_, List.mem_cons_self⟩
      · obtain ⟨w, hw⟩ := mem_tiles x1 x2 s k n (by omega)
        exact ⟨w, List.mem_cons_of_mem _ hw⟩
    · rw [dif_neg hn]
      exact mem_tiles x1 x2 s k n (by have := k.isLt; omega)

theorem cover (x1 x2 : Vec F S256x1024 .f32) (s : Vec F S1x1024 .f32 × Vec F S1x1024 .f32) (y : S256x1024.Idx) :
    ∃ p ∈ (final x1 x2 s).2, y ∈ p.1.set := by
  have hy : (y 0).val < 256 := (y 0).isLt
  have hy1 : (y 1).val < 1024 := (y 1).isLt
  obtain ⟨w, hw⟩ := mem_tiles x1 x2 s ⟨31 - (y 0).val / 8, by rw [trips_eq]; omega⟩ k0_t1_loop.trips (by show 31 - (y 0).val / 8 < _; have := trips_eq; omega)
  refine ⟨_, hw, ?_⟩
  show y ∈ (rect _).set
  rw [Rect.mem_set_unit]
  intro a
  rw [off_eq]
  match a with
  | ⟨0, _⟩ => show 8 * (31 - (31 - (y 0).val / 8)) ≤ (y 0).val ∧ (y 0).val < 8 * (31 - (31 - (y 0).val / 8)) + 8; omega
  | ⟨1, _⟩ => show 0 ≤ (y 1).val ∧ (y 1).val < 0 + 1024; omega

/-- What a block's body leaves in the output, and in the two rows it carries. -/
def blkOut (x1 x2 : Vec F S256x1024 .f32) (s : Vec F S1x1024 .f32 × Vec F S1x1024 .f32) : Vec F S256x1024 .f32 := View.canon (final x1 x2 s).2

theorem kernelRun_edge (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (hc : edge i)
    (x1 x2 : Vec F S256x1024 .f32) (E : Set ℕ) (K : PUnit → sProp 𝕄) :
        iprop(owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x1 ∗ owns (c : Thread nD τ) arg2 fullShare x2 ∗ owns (c : Thread nD τ) arg3 fullShare (blkOut x1 x2 (k0_pay1, k0_pay2))
              ∗ owns (c : Thread nD τ) arg4 fullShare (k0_pay13 (final x1 x2 (k0_pay1, k0_pay2)).1.1) ∗ owns (c : Thread nD τ) arg5 fullShare (k0_pay14 (final x1 x2 (k0_pay1, k0_pay2)).1.2)) -∗ K ⟨⟩))
          ⊢ wp frame (wpE (defs₀ (F := F)) Variants.none c none) E (cc0_a_rscan i arg1 harg1 arg2 harg2 arg3 harg3 arg4 harg4 arg5 harg5) K := by
    simp only [cc0_a_rscan_eq_skeleton]; unfold cc0_a_rscan_skel
    unfold owns
    iintro ⟨⟨%f1, %hf1, H1⟩, ⟨%f2, %hf2, H2⟩, ⟨%d3, %f3, -, H3⟩, ⟨%d4, %f4, -, H4⟩, ⟨%d5, %f5, -, H5⟩, Hk⟩
    obtain rfl := harg1.eq_unread hf1; obtain rfl := harg2.eq_unread hf2
    sl_exec (disch := sl_exact hc)
    sl_step
    have e1 : kernelRun_edge.sl.v16 (F := F) c arg4 = k0_pay1 := View.readCov_full _ _ _ _ _
    have e2 : kernelRun_edge.sl.v17 (F := F) c arg5 = k0_pay2 := View.readCov_full _ _ _ _ _
    rw [e1, e2, st_eq _ _ _ _ _ _ _ _ _ _ _ _ _ _ _ _ _ _ (le_refl _)]
    iapply Hk
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact View.read_writes_eq_canon _ _ _ (cover _ _ _)
    isplitl [H4]
    · iexists _; isplitr; swap; · iexact H4
      ipureintro; exact View.read_writes_full _ _ _ _ _
    · iexists _; isplitr; swap; · iexact H5
      ipureintro; exact View.read_writes_full _ _ _ _ _

theorem kernelRun_rest (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (hc : ¬edge i)
    (x1 x2 : Vec F S256x1024 .f32) (x4 x5 : Vec F S1x1024 .f32) (E : Set ℕ) (K : PUnit → sProp 𝕄) :
        iprop(owns (c : Thread nD τ) arg1 fullShare x1 ∗ owns (c : Thread nD τ) arg2 fullShare x2 ∗ (∃ d, owns (c : Thread nD τ) arg3 fullShare d) ∗ owns (c : Thread nD τ) arg4 fullShare x4 ∗ owns (c : Thread nD τ) arg5 fullShare x5
            ∗ (iprop(owns (c : Thread nD τ) arg1 fullShare x1 ∗ owns (c : Thread nD τ) arg2 fullShare x2 ∗ owns (c : Thread nD τ) arg3 fullShare (blkOut x1 x2 (x4, x5))
              ∗ owns (c : Thread nD τ) arg4 fullShare (k0_pay13 (final x1 x2 (x4, x5)).1.1) ∗ owns (c : Thread nD τ) arg5 fullShare (k0_pay14 (final x1 x2 (x4, x5)).1.2)) -∗ K ⟨⟩))
          ⊢ wp frame (wpE (defs₀ (F := F)) Variants.none c none) E (cc0_a_rscan i arg1 harg1 arg2 harg2 arg3 harg3 arg4 harg4 arg5 harg5) K := by
    simp only [cc0_a_rscan_eq_skeleton]; unfold cc0_a_rscan_skel
    unfold owns
    iintro ⟨⟨%f1, %hf1, H1⟩, ⟨%f2, %hf2, H2⟩, ⟨%d3, %f3, -, H3⟩, ⟨%f4, %hf4, H4⟩, ⟨%f5, %hf5, H5⟩, Hk⟩
    obtain rfl := harg1.eq_unread hf1; obtain rfl := harg2.eq_unread hf2; obtain rfl := harg4.eq_unread hf4; obtain rfl := harg5.eq_unread hf5
    sl_exec (disch := sl_exact hc)
    sl_step
    have e1 : View.readAt (Elt F) arg4.view (Rect.unit ![0, 0] S1x1024.size inb_S1x1024_S1x1024_0_0).toLoadRect (harg4.unread x4) = x4 := (View.readAt_full _ _ _).trans (harg4.read_unread x4)
    have e2 : View.readAt (Elt F) arg5.view (Rect.unit ![0, 0] S1x1024.size inb_S1x1024_S1x1024_0_0).toLoadRect (harg5.unread x5) = x5 := (View.readAt_full _ _ _).trans (harg5.read_unread x5)
    rw [e1, e2, st_eq _ _ _ _ _ _ _ _ _ _ _ _ _ _ _ _ _ _ (le_refl _)]
    iapply Hk
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact View.read_writes_eq_canon _ _ _ (cover _ _ _)
    isplitl [H4]
    · iexists _; isplitr; swap; · iexact H4
      ipureintro; exact View.read_writes_full _ _ _ _ _
    · iexists _; isplitr; swap; · iexact H5
      ipureintro; exact View.read_writes_full _ _ _ _ _

/-! ## The rows carried from point to point -/

variable (m : (ℓ : Loc nD τ sig) → Buf (Elt F) ℓ) (ρ : Dev nD → PrngReg)

/-- The rows a point leaves, from those it starts with. -/
def next (c : Dev nD) (t : Fin cfg0.N) (s : Vec F S1x1024 .f32 × Vec F S1x1024 .f32) : Vec F S1x1024 .f32 × Vec F S1x1024 .f32 :=
  (k0_pay13 (final (iblk m c 0 t) (iblk m c 1 t) s).1.1, k0_pay14 (final (iblk m c 0 t) (iblk m c 1 t) s).1.2)

/-- The rows a point starts with: zero at a sequence's first point. -/
def start (c : Dev nD) : (n : ℕ) → n < cfg0.N → Vec F S1x1024 .f32 × Vec F S1x1024 .f32
  | 0, _ => (k0_pay1, k0_pay2)
  | n + 1, h => if (n + 1) % 8 = 0 then (k0_pay1, k0_pay2) else next m c ⟨n, Nat.lt_of_succ_lt h⟩ (start c n (Nat.lt_of_succ_lt h))

abbrev left (c : Dev nD) (n : ℕ) (h : n < cfg0.N) := next m c ⟨n, h⟩ (start m c n h)

theorem start_zero (c : Dev nD) (n : ℕ) (h : n < cfg0.N) (h8 : n % 8 = 0) : start m c n h = (k0_pay1, k0_pay2) := by
  cases n with
  | zero => rfl
  | succ n => exact if_pos h8

theorem start_pos (c : Dev nD) (n : ℕ) (h : n < cfg0.N) (h8 : ¬n % 8 = 0) : start m c n h = ((left m c (n - 1) (Nat.lt_of_le_of_lt (Nat.sub_le _ _) h)).1, (left m c (n - 1) (Nat.lt_of_le_of_lt (Nat.sub_le _ _) h)).2) := by
  cases n with
  | zero => exact absurd rfl h8
  | succ n => exact if_neg h8

abbrev ms0_0 (t : Fin cfg0.N) : Memref sig .tc .vmem S256x1024 .f32 := win0_0.stage (cfg0.slots t 0)
abbrev ms0_1 (t : Fin cfg0.N) : Memref sig .tc .vmem S256x1024 .f32 := win0_1.stage (cfg0.slots t 1)
abbrev ms0_2 (t : Fin cfg0.N) : Memref sig .tc .vmem S256x1024 .f32 := win0_2.stage (cfg0.slots t 2)
abbrev scM0_0 : Memref sig .tc .vmem S1x1024 .f32 := Memref.whole cc0_scratch0
abbrev scM0_1 : Memref sig .tc .vmem S1x1024 .f32 := Memref.whole cc0_scratch1

theorem PhiA0_eq (c : Dev nD) : (Pipeline.ΦA spec0 c : sProp 𝕄)
    = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

def PhiS (c : Dev nD) : (n : ℕ) → n ≤ cfg0.N → sProp 𝕄
  | 0, _ => Pipeline.ΦA spec0 c
  | n + 1, hn => iprop(iprop(owns (c : Thread nD τ) scM0_0 fullShare (left m c n hn).1 ∗ owns (c : Thread nD τ) scM0_1 fullShare (left m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (left m c n hn).1 ∗ owns (c : Thread nD τ) scM0_1 fullShare (left m c n hn).2) ∗ (∃ r, prngReg c r)) := rfl

theorem PhiS_pos (c : Dev nD) (n : ℕ) (h : n ≤ cfg0.N) (hz : n ≠ 0) :
    PhiS m c n h = iprop(iprop(owns (c : Thread nD τ) scM0_0 fullShare (left m c (n - 1) (by omega)).1 ∗ owns (c : Thread nD τ) scM0_1 fullShare (left m c (n - 1) (by omega)).2) ∗ (∃ r, prngReg c r)) := by
  cases n with
  | zero => exact absurd rfl hz
  | succ n => rfl

theorem PhiS_any (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    iintro ⟨⟨H0, H1⟩, Hg⟩
    isplitl [H0 H1]
    · isplitl [H0]
      · iexists _; iexact H0
      · iexists _; iexact H1
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blkOut (iblk m c 0 t) (iblk m c 1 t) (start m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = blkOut (iblk m c 0 t) (iblk m c 1 t) (start m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, after0_0, after0_1, after0_2]
  rw [show (dats m 0 c).owesAt () t.succ = (dats m 0 c).owesAt () t.castSucc from rfl]
  rw [show (dats m 0 c).Φ t.succ = PhiS m c (t.val + 1) t.isLt from rfl, PhiS_succ, PhiS_castSucc m c t]
  rw [show left m c t.val t.isLt = (k0_pay13 (final (iblk m c 0 t) (iblk m c 1 t) (start m c t.val t.isLt)).1.1, k0_pay14 (final (iblk m c 0 t) (iblk m c 1 t) (start m c t.val t.isLt)).1.2) from rfl]
  dsimp only
  by_cases h0 : t.val % 8 = 0
  · refine (sep_mono_left (PhiS_any m c _ _)).trans ?_
    rw [PhiA0_eq, start_zero m c _ _ h0]
    iintro ⟨⟨⟨HS0, HS1⟩, Hg⟩, Ho, ⟨%d0, H0⟩, ⟨%d1, H1⟩, ⟨%d2, H2⟩⟩
    iapply (kernelRun_edge c (grid0.coords t) _ _ _ _ _ _ _ _ _ _ ((edge_iff t).mpr h0) (iblk m c 0 t) (iblk m c 1 t) Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · isplitl [HS0]
        · iexact HS0
        · iexact HS1
      iexact Hg
    isplitl [Ho]; · iexact Ho
    isplitl [H0]; · iexact H0
    isplitl [H1]; · iexact H1
    iexact H2
  · rw [PhiS_pos m c _ _ (fun h => h0 (by rw [h])), start_pos m c _ _ h0]
    iintro ⟨⟨⟨HS0, HS1⟩, Hg⟩, Ho, ⟨%d0, H0⟩, ⟨%d1, H1⟩, ⟨%d2, H2⟩⟩
    iapply (kernelRun_rest c (grid0.coords t) _ _ _ _ _ _ _ _ _ _ (fun h => h0 ((edge_iff t).mp h)) (iblk m c 0 t) (iblk m c 1 t) (left m c (t.val - 1) _).1 (left m c (t.val - 1) _).2 Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · isplitl [HS0]
        · iexact HS0
        · iexact HS1
      iexact Hg
    isplitl [Ho]; · iexact Ho
    isplitl [H0]; · iexact H0
    isplitl [H1]; · iexact H1
    iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (le_refl _) from rfl]
  exact PhiS_any m c _ _

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Kernel22Ideal.Scan
end
-- ==== Proof.Recur.lean ====
module
public import Idealize.ShloMosaic.Lib.Pipeline.ValueKit
@[expose] public section
set_option maxRecDepth 16384
/-! The recurrence `h = a h + b` over the rows of a sequence and the gradient of its `b`, as plain sums. -/

noncomputable section

namespace Cert.Recur
open Idealize.ShloMosaic

abbrev Arr := FVec Ideal ⟨2, ![8192, 1024]⟩ .f32

/-- Row `n`, by a plain number. -/
def row (X : Arr) (n : ℕ) (j : Fin 1024) : EReal := X (ix2 ⟨n % 8192, Nat.mod_lt _ (by decide)⟩ j)

/-- What the rows after the last `n` of sequence `r` hand back to the row before them. -/
def back (A B : Arr) (r : ℕ) (j : Fin 1024) : ℕ → EReal
  | 0 => 0
  | n + 1 => row A (2048 * r + (2047 - n)) j * (row B (2048 * r + (2047 - n)) j + back A B r j n)

/-- The gradient at the row `n` before the last of sequence `r`. -/
def grad (A B : Arr) (r : ℕ) (j : Fin 1024) (n : ℕ) : EReal := row B (2048 * r + (2047 - n)) j + back A B r j n

theorem grad_congr (A B : Arr) {r r' : ℕ} {j j' : Fin 1024} {n n' : ℕ} (hr : r = r') (hj : j.val = j'.val) (hn : n = n') : grad A B r j n = grad A B r' j' n' := by
  obtain rfl : j = j' := Fin.ext hj
  subst hr hn
  rfl

theorem back_succ (A B : Arr) (r : ℕ) (j : Fin 1024) (n : ℕ) : row A (2048 * r + (2047 - n)) j * grad A B r j n = back A B r j (n + 1) := rfl

/-- What the first `n` rows of sequence `r` leave. -/
def forw (A B : Arr) (r : ℕ) (j : Fin 1024) : ℕ → EReal
  | 0 => 0
  | n + 1 => row A (2048 * r + n) j * forw A B r j n + row B (2048 * r + n) j

theorem forw_congr (A B : Arr) {r r' : ℕ} {j j' : Fin 1024} {n n' : ℕ} (hr : r = r') (hj : j.val = j'.val) (hn : n = n') : forw A B r j n = forw A B r' j' n' := by
  obtain rfl : j = j' := Fin.ext hj
  subst hr hn
  rfl

/-- The gradient of the whole array, and the states of the whole array. -/
def grads (A B : Arr) : Arr := fun y => grad A B ((y 0).val / 2048) (y 1) (2047 - (y 0).val % 2048)
def states (A B : Arr) : Arr := fun y => forw A B ((y 0).val / 2048) (y 1) ((y 0).val % 2048 + 1)

/-! ## One row of every sequence, read and written at a number -/

section Slot
variable (X : FVec Ideal ⟨3, ![2048, 4, 1024]⟩ .f32) (start : Fin 3 → Int) (n : ℕ) (hn : n < 2048) (h0 : start 0 = n) (h1 : start 1 = 0) (h2 : start 2 = 0)
include hn h0 h1 h2

theorem clamp (ht : (⟨3, ![1, 4, 1024]⟩ : Shape).rank = (⟨3, ![2048, 4, 1024]⟩ : Shape).rank) : ∀ a : Fin 3,
    Host.clampedStart ⟨3, ![2048, 4, 1024]⟩ ⟨3, ![1, 4, 1024]⟩ ht start a = (![n, 0, 0] : Fin 3 → ℕ) a
  | ⟨0, _⟩ => Host.clampedStart_of_le ht start 0 n h0 (show n + 1 ≤ 2048 by omega)
  | ⟨1, _⟩ => Host.clampedStart_of_le ht start 1 0 h1 (le_of_eq (Nat.zero_add 4))
  | ⟨2, _⟩ => Host.clampedStart_of_le ht start 2 0 h2 (le_of_eq (Nat.zero_add 1024))

theorem slot (h : (⟨3, ![2048, 4, 1024]⟩ : Shape).Slices (fun _ => 0) ⟨3, ![1, 4, 1024]⟩) (hc : (⟨3, ![1, 4, 1024]⟩ : Shape).ShapeCasts ⟨2, ![4, 1024]⟩) (s : Fin 4) (j : Fin 1024) :
    shapeCast ⟨2, ![4, 1024]⟩ (Host.dynamicSlice ⟨3, ![1, 4, 1024]⟩ X start h) hc (ix2 s j) = X (ix3 ⟨n, hn⟩ s j) := by
  pointwise
  refine congrArg X (funext fun a => ?_)
  have e := clamp start n hn h0 h1 h2 h.1 a
  match a with
  | ⟨0, _⟩ => exact Fin.ext (e)
  | ⟨1, _⟩ => exact Fin.ext ((congrArg (· + s.val) e).trans (Nat.zero_add _))
  | ⟨2, _⟩ => exact Fin.ext ((congrArg (· + j.val) e).trans (Nat.zero_add _))

theorem put (v : FVec Ideal ⟨2, ![4, 1024]⟩ .f32) (h : (⟨3, ![2048, 4, 1024]⟩ : Shape).Slices (fun _ => 0) ⟨3, ![1, 4, 1024]⟩)
    (hb : (⟨2, ![4, 1024]⟩ : Shape).BroadcastsInDim ⟨3, ![1, 4, 1024]⟩ ![1, 2]) (p : Fin 2048) (s : Fin 4) (j : Fin 1024) :
    Host.dynamicUpdateSlice X (broadcastInDim ⟨3, ![1, 4, 1024]⟩ ![1, 2] hb v) start h (ix3 p s j) = if p.val = n then v (ix2 s j) else X (ix3 p s j) := by
  have c := clamp start n hn h0 h1 h2 h.1
  rw [Host.dynamicUpdateSlice_apply]
  by_cases hp : p.val = n
  · rw [if_pos hp, dif_pos (fun a => ?_)]
    · pointwise
      refine congrArg v (funext fun a => ?_)
      match a with
      | ⟨0, _⟩ => exact Fin.ext ((congrArg (s.val - ·) (c 1)).trans (Nat.sub_zero _))
      | ⟨1, _⟩ => exact Fin.ext ((congrArg (j.val - ·) (c 2)).trans (Nat.sub_zero _))
    · match a with
      | ⟨0, _⟩ => exact ⟨le_of_eq ((c 0).trans hp.symm), lt_of_lt_of_eq (show p.val < n + 1 by omega) (congrArg (· + 1) (c 0)).symm⟩
      | ⟨1, _⟩ => exact ⟨le_of_eq_of_le (c 1) (Nat.zero_le _), lt_of_lt_of_eq (show s.val < 0 + 4 by omega) (congrArg (· + 4) (c 1)).symm⟩
      | ⟨2, _⟩ => exact ⟨le_of_eq_of_le (c 2) (Nat.zero_le _), lt_of_lt_of_eq (show j.val < 0 + 1024 by omega) (congrArg (· + 1024) (c 2)).symm⟩
  · rw [if_neg hp, dif_neg]
    intro hin
    have a0 : n ≤ p.val := le_of_eq_of_le (c 0).symm (hin 0).1
    have a1 : p.val < n + 1 := lt_of_lt_of_eq (hin 0).2 (congrArg (· + 1) (c 0))
    omega

end Slot

theorem seq (X : Arr) (hs : (⟨2, ![8192, 1024]⟩ : Shape).ShapeCasts ⟨3, ![4, 2048, 1024]⟩) (ht : (⟨3, ![4, 2048, 1024]⟩ : Shape).Transposes [1, 0, 2] ⟨3, ![2048, 4, 1024]⟩)
    (n : Fin 2048) (s : Fin 4) (j : Fin 1024) :
    transpose ⟨3, ![2048, 4, 1024]⟩ [1, 0, 2] (shapeCast ⟨3, ![4, 2048, 1024]⟩ X hs) ht (ix3 n s j) = row X (2048 * s.val + n.val) j := by
  pointwise [row]
  exact congrArg X (congrArg (ix2 · j) (Fin.ext (show s.val * 2048 + n.val = (2048 * s.val + n.val) % 8192 by omega)))

/-- A row of every sequence, read at a number. -/
theorem read (X : Arr) (st : Fin 3 → ℤ) (n : ℕ) (hn : n < 2048) (h0 : st 0 = n) (h1 : st 1 = 0) (h2 : st 2 = 0)
    (hs : (⟨2, ![8192, 1024]⟩ : Shape).ShapeCasts ⟨3, ![4, 2048, 1024]⟩) (ht : (⟨3, ![4, 2048, 1024]⟩ : Shape).Transposes [1, 0, 2] ⟨3, ![2048, 4, 1024]⟩)
    (h : (⟨3, ![2048, 4, 1024]⟩ : Shape).Slices (fun _ => 0) ⟨3, ![1, 4, 1024]⟩) (hc : (⟨3, ![1, 4, 1024]⟩ : Shape).ShapeCasts ⟨2, ![4, 1024]⟩) (s : Fin 4) (j : Fin 1024) :
    shapeCast ⟨2, ![4, 1024]⟩ (Host.dynamicSlice ⟨3, ![1, 4, 1024]⟩ (transpose ⟨3, ![2048, 4, 1024]⟩ [1, 0, 2] (shapeCast ⟨3, ![4, 2048, 1024]⟩ X hs) ht) st h) hc (ix2 s j)
      = row X (2048 * s.val + n) j :=
  (slot _ st n hn h0 h1 h2 h hc s j).trans (seq X hs ht ⟨n, hn⟩ s j)

/-- The rows laid out again one sequence after the other. -/
theorem back_rows (X : FVec Ideal ⟨3, ![2048, 4, 1024]⟩ .f32) (ht : (⟨3, ![2048, 4, 1024]⟩ : Shape).Transposes [1, 0, 2] ⟨3, ![4, 2048, 1024]⟩)
    (hs : (⟨3, ![4, 2048, 1024]⟩ : Shape).ShapeCasts ⟨2, ![8192, 1024]⟩) (y : (⟨2, ![8192, 1024]⟩ : Shape).Idx) :
    shapeCast ⟨2, ![8192, 1024]⟩ (transpose ⟨3, ![4, 2048, 1024]⟩ [1, 0, 2] X ht) hs y
      = X (ix3 ⟨(y 0).val % 2048, Nat.mod_lt _ (by decide)⟩ ⟨(y 0).val / 2048, by have : (y 0).val < 8192 := (y 0).isLt; omega⟩ (y 1)) := by
  rw [ValueIdx.eq_ix2 y]
  pointwise

theorem zeros (hb : (⟨0, ![]⟩ : Shape).BroadcastsInDim ⟨2, ![4, 1024]⟩ ![]) (s : Fin 4) (j : Fin 1024) :
    broadcastInDim ⟨2, ![4, 1024]⟩ ![] hb (constant (F := Ideal) ⟨0, ![]⟩ .f32 0x00000000#32) (ix2 s j) = 0 := by
  pointwise

end Cert.Recur
end
-- ==== Proof.Rscanv.lean ====
module
public import proofs.«01_k».proof.Proof.Rscan
public import proofs.«01_k».proof.Proof.Recur
public import Idealize.ShloMosaic.Lib.Pipeline.ReadBack
@[expose] public section
set_option maxRecDepth 16384
/-! What the backward recurrence kernel leaves in its result. -/

noncomputable section

namespace Cert.Kernel22Ideal.Scan
open Cert.Recur Cert.Kernel22Ideal Cert.Kernel22Ideal.Gen Idealize.ShloMosaic Idealize.ShloMosaic.TcCoe Idealize.SL.Sem
open Idealize.ShloMosaic.Pipeline (Dat)

section Tile
variable (h an : FVec Ideal S1x1024 .f32) (a b : FVec Ideal S8x1024 .f32) (j : Fin 1024)

theorem pay3 : k0_pay3 (F := Ideal) h an b (ix2 0 j) = b (ix2 7 j) + an (ix2 0 j) * h (ix2 0 j) := by
  pointwise [k0_pay3]
theorem pay4 : k0_pay4 (F := Ideal) h an a b (ix2 0 j) = b (ix2 6 j) + a (ix2 7 j) * k0_pay3 (F := Ideal) h an b (ix2 0 j) := by
  pointwise [k0_pay4]
theorem pay5 : k0_pay5 (F := Ideal) h an a b (ix2 0 j) = b (ix2 5 j) + a (ix2 6 j) * k0_pay4 (F := Ideal) h an a b (ix2 0 j) := by
  pointwise [k0_pay5]
theorem pay6 : k0_pay6 (F := Ideal) h an a b (ix2 0 j) = b (ix2 4 j) + a (ix2 5 j) * k0_pay5 (F := Ideal) h an a b (ix2 0 j) := by
  pointwise [k0_pay6]
theorem pay7 : k0_pay7 (F := Ideal) h an a b (ix2 0 j) = b (ix2 3 j) + a (ix2 4 j) * k0_pay6 (F := Ideal) h an a b (ix2 0 j) := by
  pointwise [k0_pay7]
theorem pay8 : k0_pay8 (F := Ideal) h an a b (ix2 0 j) = b (ix2 2 j) + a (ix2 3 j) * k0_pay7 (F := Ideal) h an a b (ix2 0 j) := by
  pointwise [k0_pay8]
theorem pay9 : k0_pay9 (F := Ideal) h an a b (ix2 0 j) = b (ix2 1 j) + a (ix2 2 j) * k0_pay8 (F := Ideal) h an a b (ix2 0 j) := by
  pointwise [k0_pay9]
theorem pay10 : k0_pay10 (F := Ideal) h an a b (ix2 0 j) = b (ix2 0 j) + a (ix2 1 j) * k0_pay9 (F := Ideal) h an a b (ix2 0 j) := by
  pointwise [k0_pay10]
theorem pay11 : k0_pay11 (F := Ideal) a (ix2 0 j) = a (ix2 0 j) := by
  pointwise [k0_pay11]
theorem pay12 (q : Fin 8) : k0_pay12 (F := Ideal) h an a b (ix2 q j) =
    (match q with
     | 0 => k0_pay10 (F := Ideal) h an a b | 1 => k0_pay9 h an a b | 2 => k0_pay8 h an a b | 3 => k0_pay7 h an a b
     | 4 => k0_pay6 h an a b | 5 => k0_pay5 h an a b | 6 => k0_pay4 h an a b | 7 => k0_pay3 h an b) (ix2 0 j) := by
  pointwise [k0_pay12]
  fin_cases q <;> rfl

/-- The rows of a tile, from the product of the carried rows. -/
theorem tile (A B : Arr) (r n : ℕ) (ha : ∀ q : Fin 8, a (ix2 q j) = row A (2048 * r + (2047 - (n + (7 - q.val)))) j)
    (hb : ∀ q : Fin 8, b (ix2 q j) = row B (2048 * r + (2047 - (n + (7 - q.val)))) j) (hs : an (ix2 0 j) * h (ix2 0 j) = back A B r j n) :
    k0_pay11 (F := Ideal) a (ix2 0 j) * k0_pay10 (F := Ideal) h an a b (ix2 0 j) = back A B r j (n + 8)
      ∧ ∀ q : Fin 8, k0_pay12 (F := Ideal) h an a b (ix2 q j) = grad A B r j (n + (7 - q.val)) := by
  have p3 : k0_pay3 (F := Ideal) h an b (ix2 0 j) = grad A B r j n := by rw [pay3, hb 7, hs]; rfl
  have p4 : k0_pay4 (F := Ideal) h an a b (ix2 0 j) = grad A B r j (n + 1) := by rw [pay4, hb 6, ha 7, p3]; rfl
  have p5 : k0_pay5 (F := Ideal) h an a b (ix2 0 j) = grad A B r j (n + 2) := by rw [pay5, hb 5, ha 6, p4]; rfl
  have p6 : k0_pay6 (F := Ideal) h an a b (ix2 0 j) = grad A B r j (n + 3) := by rw [pay6, hb 4, ha 5, p5]; rfl
  have p7 : k0_pay7 (F := Ideal) h an a b (ix2 0 j) = grad A B r j (n + 4) := by rw [pay7, hb 3, ha 4, p6]; rfl
  have p8 : k0_pay8 (F := Ideal) h an a b (ix2 0 j) = grad A B r j (n + 5) := by rw [pay8, hb 2, ha 3, p7]; rfl
  have p9 : k0_pay9 (F := Ideal) h an a b (ix2 0 j) = grad A B r j (n + 6) := by rw [pay9, hb 1, ha 2, p8]; rfl
  have p10 : k0_pay10 (F := Ideal) h an a b (ix2 0 j) = grad A B r j (n + 7) := by rw [pay10, hb 0, ha 1, p9]; rfl
  refine ⟨by rw [pay11, ha 0, p10]; rfl, fun q => (pay12 h an a b j q).trans ?_⟩
  fin_cases q
  exacts [p10, p9, p8, p7, p6, p5, p4, p3]

end Tile

abbrev tileOf (x : FVec Ideal S256x1024 .f32) (k : Fin k0_t1_loop.trips) : FVec Ideal S8x1024 .f32 := View.ld (Val := Elt Ideal) (e' := .f32) x (rect k)

/-- A block's loop, trip by trip: the product of the carried rows, and the rows written so far. -/
theorem block (A B : Arr) (r n : ℕ) (x1 x2 : FVec Ideal S256x1024 .f32) (s : FVec Ideal S1x1024 .f32 × FVec Ideal S1x1024 .f32)
    (h1 : ∀ (p : Fin 256) j, x1 (ix2 p j) = row A (2048 * r + (2047 - (n + (255 - p.val)))) j)
    (h2 : ∀ (p : Fin 256) j, x2 (ix2 p j) = row B (2048 * r + (2047 - (n + (255 - p.val)))) j)
    (hs : ∀ j, s.2 (ix2 0 j) * s.1 (ix2 0 j) = back A B r j n) :
    ∀ k, k ≤ 32 → (∀ j, (tiles (F := Ideal) x1 x2 s k).1.2 (ix2 0 j) * (tiles (F := Ideal) x1 x2 s k).1.1 (ix2 0 j) = back A B r j (n + 8 * k))
      ∧ ∀ y : S256x1024.Idx, View.AllAt (tiles (F := Ideal) x1 x2 s k).2 y (grad A B r (y 1) (n + (255 - (y 0).val)))
  | 0, _ => ⟨hs, fun y => View.allAt_nil _ _⟩
  | k + 1, hk => by
    obtain ⟨ih, ihp⟩ := block A B r n x1 x2 s h1 h2 hs k (Nat.le_of_succ_le hk)
    have hk' : k < k0_t1_loop.trips := by rw [trips_eq]; omega
    have ld (x : FVec Ideal S256x1024 .f32) (X : Arr) (hx : ∀ (p : Fin 256) j, x (ix2 p j) = row X (2048 * r + (2047 - (n + (255 - p.val)))) j) (q : Fin 8) (j : Fin 1024) :
        tileOf x ⟨k, hk'⟩ (ix2 q j) = row X (2048 * r + (2047 - (n + 8 * k + (7 - q.val)))) j := by
      have e0 : k0_off1 ⟨k, hk'⟩ 0 = 8 * (31 - k) := by rw [off_eq]; rfl
      have e1 : k0_off1 ⟨k, hk'⟩ 1 = 0 := by rw [off_eq]; rfl
      have e : (rect ⟨k, hk'⟩).idx (ix2 q j) = ix2 ⟨8 * (31 - k) + q.val, by have := q.isLt; omega⟩ j := funext fun a => by
        match a with
        | ⟨0, _⟩ => exact Fin.ext (show k0_off1 ⟨k, hk'⟩ 0 + 1 * q.val = 8 * (31 - k) + q.val by rw [e0]; omega)
        | ⟨1, _⟩ => exact Fin.ext (show k0_off1 ⟨k, hk'⟩ 1 + 1 * j.val = j.val by rw [e1]; omega)
      refine (congrArg x e).trans ((hx _ _).trans ?_)
      have := q.isLt
      congr 1
      show 2048 * r + (2047 - (n + (255 - (8 * (31 - k) + q.val)))) = _
      omega
    have t (j : Fin 1024) := tile (tiles (F := Ideal) x1 x2 s k).1.1 (tiles (F := Ideal) x1 x2 s k).1.2 (tileOf x1 ⟨k, hk'⟩) (tileOf x2 ⟨k, hk'⟩) j A B r (n + 8 * k)
      (fun q => ld x1 A h1 q j) (fun q => ld x2 B h2 q j) (ih j)
    rw [tiles.eq_2, dif_pos hk']
    refine ⟨fun j => (t j).1, fun y => View.allAt_cons_unit _ _ _ _ _ (fun x hx => ?_) (ihp y)⟩
    have hx0 := hx 0
    have hx1 := hx 1
    rw [off_eq] at hx0 hx1
    have hx0' : (y 0).val = 8 * (31 - k) + (x 0).val := hx0
    have hx1' : (y 1).val = 0 + (x 1).val := hx1
    have hq : (x 0).val < 8 := (x 0).isLt
    refine (congrArg _ (show x = ix2 (x 0) (y 1) from funext fun a => ?_)).trans (((t (y 1)).2 (x 0)).trans (congrArg _ ?_))
    · match a with
      | ⟨0, _⟩ => rfl
      | ⟨1, _⟩ => exact Fin.ext (by show (x 1).val = (y 1).val; omega)
    · show n + 8 * k + (7 - (x 0).val) = n + (255 - (y 0).val)
      omega

/-! ## The grid -/

variable (m : (ℓ : Loc nD τ sig) → Buf (Elt Ideal) ℓ)

theorem hN : cfg0.N = 32 := N_0

theorem idx : ∀ t : Fin cfg0.N, win0_0.index t = ![31 - t.val, 0] ∧ win0_1.index t = ![31 - t.val, 0] ∧ win0_2.index t = ![31 - t.val, 0] :=
  (by decide +kernel : ∀ t : Fin grid0.N, _)

abbrev argA (c : Dev nD) : FVec Ideal S8192x1024 .f32 := m ((c : Thread nD τ).loc main_arg0)
abbrev argB (c : Dev nD) : FVec Ideal S8192x1024 .f32 := m ((c : Thread nD τ).loc main_arg1)

theorem blkA (c : Dev nD) (t : Fin cfg0.N) (p : Fin 256) (j : Fin 1024) :
    iblk m c 0 t (ix2 p j) = row (argA m c) (2048 * (3 - t.val / 8) + (2047 - (256 * (t.val % 8) + (255 - p.val)))) j := by
  have ht : t.val < 32 := lt_of_lt_of_eq t.isLt hN
  have hp := p.isLt
  have e : iblk m c 0 t (ix2 p j) = argA m c (ix2 ⟨(31 - t.val) * 256 + p.val, by omega⟩ j) := by blk_ext [iblk, V, idx t]
  refine e.trans (congrArg (fun q => argA m c (ix2 q j)) (Fin.ext ?_))
  show (31 - t.val) * 256 + p.val = (2048 * (3 - t.val / 8) + (2047 - (256 * (t.val % 8) + (255 - p.val)))) % 8192
  omega

theorem blkB (c : Dev nD) (t : Fin cfg0.N) (p : Fin 256) (j : Fin 1024) :
    iblk m c 1 t (ix2 p j) = row (argB m c) (2048 * (3 - t.val / 8) + (2047 - (256 * (t.val % 8) + (255 - p.val)))) j := by
  have ht : t.val < 32 := lt_of_lt_of_eq t.isLt hN
  have hp := p.isLt
  have e : iblk m c 1 t (ix2 p j) = argB m c (ix2 ⟨(31 - t.val) * 256 + p.val, by omega⟩ j) := by blk_ext [iblk, V, idx t]
  refine e.trans (congrArg (fun q => argB m c (ix2 q j)) (Fin.ext ?_))
  show (31 - t.val) * 256 + p.val = (2048 * (3 - t.val / 8) + (2047 - (256 * (t.val % 8) + (255 - p.val)))) % 8192
  omega

theorem cast13 (v : FVec Ideal S1x1024 .f32) (j : Fin 1024) : k0_pay13 (F := Ideal) v (ix2 0 j) = v (ix2 0 j) := by pointwise [k0_pay13]
theorem cast14 (v : FVec Ideal S1x1024 .f32) (j : Fin 1024) : k0_pay14 (F := Ideal) v (ix2 0 j) = v (ix2 0 j) := by pointwise [k0_pay14]

/-- The product of the rows a point starts with. -/
theorem start_eq (c : Dev nD) : ∀ (n : ℕ) (hn : n < cfg0.N) (j : Fin 1024), (start m c n hn).2 (ix2 0 j) * (start m c n hn).1 (ix2 0 j) = back (argA m c) (argB m c) (3 - n / 8) j (256 * (n % 8))
  | n, hn, j => by
    by_cases h8 : n % 8 = 0
    · rw [start_zero m c n hn h8, h8]
      have z1 : k0_pay1 (F := Ideal) (ix2 0 j) = 0 := by pointwise [k0_pay1]
      have z2 : k0_pay2 (F := Ideal) (ix2 0 j) = 0 := by pointwise [k0_pay2]
      exact (congrArg₂ (fun a b : EReal => a * b) z2 z1).trans (zero_mul _)
    · cases n with
      | zero => exact absurd rfl h8
      | succ n =>
        have hn' := Nat.lt_of_succ_lt hn
        have b := ((block (argA m c) (argB m c) (3 - n / 8) (256 * (n % 8)) (iblk m c 0 ⟨n, hn'⟩) (iblk m c 1 ⟨n, hn'⟩) (start m c n hn')
          (blkA m c ⟨n, hn'⟩) (blkB m c ⟨n, hn'⟩) (start_eq c n hn') 32 (le_refl _)).1 j)
        rw [start_pos m c (n + 1) hn h8]
        refine (congrArg₂ (fun a b : EReal => a * b) (cast14 _ j) (cast13 _ j)).trans (b.trans ?_)
        rw [show (n + 1) / 8 = n / 8 by omega, show (n + 1) % 8 = n % 8 + 1 by omega]
        rfl

/-- The gradient after the run. -/
theorem arr (c : Dev nD) : (dats m 0 c).arrAt 2 cfg0.N = grads (argA m c) (argB m c) := by
  unfold grads
  refine (dats m 0 c).arrAt_eq_of_covers 2 _ (by decide +kernel) fun t hf y => ?_
  blk_simp
  rw [after0_2]
  have b := (block (argA m c) (argB m c) (3 - t.val / 8) (256 * (t.val % 8)) (iblk m c 0 t) (iblk m c 1 t) (start m c t.val t.isLt)
    (blkA m c t) (blkB m c t) (start_eq m c t.val t.isLt) 32 (le_refl _)).2 y
  refine (View.canon_eq_of_allAt _ y _ (cover _ _ _ y) b).trans (grad_congr _ _ ?_ ?_ ?_)
  all_goals
    have ht : t.val < 32 := lt_of_lt_of_eq t.isLt hN
    have hy : (y 0).val < 256 := (y 0).isLt
  · rw [(idx t).2.2]
    show 3 - t.val / 8 = ((31 - t.val) * 256 + (y 0).val) / 2048
    omega
  · blk_ext [idx t]
  · rw [(idx t).2.2]
    show 256 * (t.val % 8) + (255 - (y 0).val) = 2047 - ((31 - t.val) * 256 + (y 0).val) % 2048
    omega

end Cert.Kernel22Ideal.Scan
end
-- ==== Proof.Fscan.lean ====
/- The recurrence: what a block's body leaves, the rows carried from block to block, and the run. -/
module
public import proofs.«01_k».proof.Defs
public import proofs.«01_k».proof.Proof.Gen.Kernel23Ideal.Frame
public import proofs.«01_k».proof.Proof.Gen.Kernel23Ideal.Loops
public import Idealize.ShloMosaic.Lib.VecWindow
public import Idealize.ShloMosaic.Lib.Claim
public import Idealize.ShloMosaic.Lib.Quiescent
@[expose] public section
noncomputable section
set_option maxRecDepth 16384
namespace Cert.Kernel23Ideal.Scan

open Cert.Kernel23Ideal Cert.Kernel23Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev edge (i : grid0.Coords) : Prop :=
  Scalar.cmpi .ne (Scalar.extui (Scalar.cmpi .eq (Scalar.select (Scalar.andi (Scalar.xori (Scalar.cmpi .slt (Scalar.remsi (Scalar.muli (BitVec.ofNat 32 (i 0).val) 256#32) (Scalar.select (Scalar.cmpi .eq 2048#32 0#32) 1#32 2048#32)) 0#32) (Scalar.cmpi .slt (Scalar.select (Scalar.cmpi .eq 2048#32 0#32) 1#32 2048#32) 0#32)) (Scalar.cmpi .ne (Scalar.remsi (Scalar.muli (BitVec.ofNat 32 (i 0).val) 256#32) (Scalar.select (Scalar.cmpi .eq 2048#32 0#32) 1#32 2048#32)) 0#32)) (Scalar.addi (Scalar.remsi (Scalar.muli (BitVec.ofNat 32 (i 0).val) 256#32) (Scalar.select (Scalar.cmpi .eq 2048#32 0#32) 1#32 2048#32)) (Scalar.select (Scalar.cmpi .eq 2048#32 0#32) 1#32 2048#32)) (Scalar.remsi (Scalar.muli (BitVec.ofNat 32 (i 0).val) 256#32) (Scalar.select (Scalar.cmpi .eq 2048#32 0#32) 1#32 2048#32))) 0#32) : BitVec 32) 0#32 = 1#1

theorem edge_iff : ∀ t : Fin cfg0.N, edge (grid0.coords t) ↔ t.val % 8 = 0 :=
  (by decide +kernel : ∀ t : Fin grid0.N, edge (grid0.coords t) ↔ t.val % 8 = 0)

theorem trip_val (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (X1 : BufTy.Contents (Elt F) arg1.view.ty) (X2 : BufTy.Contents (Elt F) arg2.view.ty) (k : Fin k0_t1_loop.trips) (acc : Vec F S1x1024 .f32) :
    tripR_k0_t1 (F := F) 𝒱 c bd i arg1 harg1 arg2 harg2 arg3 harg3 arg4 harg4 arg5 harg5 X1 X2 k acc
      = k0_pay10 acc (View.ld (arg1.view.read (Elt F) X1) (Rect.unit (s := S256x1024) (k0_off1 k) S8x1024.size (k0_off1_inb k))) (View.ld (arg2.view.read (Elt F) X2) (Rect.unit (s := S256x1024) (k0_off1 k) S8x1024.size (k0_off1_inb k)))
    ∧ tripL_k0_t1 (F := F) 𝒱 c bd i arg1 harg1 arg2 harg2 arg3 harg3 arg4 harg4 arg5 harg5 X1 X2 k acc
      = [⟨Rect.unit (s := S256x1024) (k0_off1 k) S8x1024.size (k0_off1_inb k), k0_pay11 acc (View.ld (arg1.view.read (Elt F) X1) (Rect.unit (s := S256x1024) (k0_off1 k) S8x1024.size (k0_off1_inb k))) (View.ld (arg2.view.read (Elt F) X2) (Rect.unit (s := S256x1024) (k0_off1 k) S8x1024.size (k0_off1_inb k)))⟩] := by
  unfold tripR_k0_t1 tripL_k0_t1 trip_k0_t1
  exact ⟨rfl, rfl⟩

abbrev rect (k : Fin k0_t1_loop.trips) : Rect S256x1024 := Rect.unit (s := S256x1024) (k0_off1 k) S8x1024.size (k0_off1_inb k)

/-- The carried row and the tiles written before trip `k` of the loop over a block. -/
def tiles (x1 x2 : Vec F S256x1024 .f32) (s : Vec F S1x1024 .f32) : ℕ → Vec F S1x1024 .f32 × List (View.Piece (Elt F) S256x1024 .f32)
  | 0 => (s, [])
  | k + 1 => if h : k < k0_t1_loop.trips then
      (k0_pay10 (tiles x1 x2 s k).1 (View.ld x1 (rect ⟨k, h⟩)) (View.ld x2 (rect ⟨k, h⟩)),
        ⟨rect ⟨k, h⟩, k0_pay11 (tiles x1 x2 s k).1 (View.ld x1 (rect ⟨k, h⟩)) (View.ld x2 (rect ⟨k, h⟩))⟩ :: (tiles x1 x2 s k).2)
    else tiles x1 x2 s k

theorem st_eq (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (x1 x2 : Vec F S256x1024 .f32) (s : Vec F S1x1024 .f32) :
    ∀ k, k ≤ k0_t1_loop.trips → st_k0_t1 (F := F) 𝒱 c bd i arg1 harg1 arg2 harg2 arg3 harg3 arg4 harg4 arg5 harg5 (harg1.unread x1) (harg2.unread x2) s k = tiles x1 x2 s k
  | 0, _ => rfl
  | k + 1, h => by
    have e := st_eq 𝒱 c bd i arg1 harg1 arg2 harg2 arg3 harg3 arg4 harg4 arg5 harg5 x1 x2 s k (Nat.le_of_succ_le h)
    have t := trip_val (F := F) 𝒱 c bd i arg1 harg1 arg2 harg2 arg3 harg3 arg4 harg4 arg5 harg5 (harg1.unread x1) (harg2.unread x2) ⟨k, h⟩ (tiles x1 x2 s k).1
    rw [harg1.read_unread, harg2.read_unread] at t
    refine (st_k0_t1_succ 𝒱 c bd i arg1 harg1 arg2 harg2 arg3 harg3 arg4 harg4 arg5 harg5 _ _ s ⟨k, h⟩).trans ?_
    dsimp only
    rw [e, t.1, t.2]
    rw [tiles.eq_2, dif_pos (Nat.lt_of_succ_le h)]
    rfl

abbrev final (x1 x2 : Vec F S256x1024 .f32) (s : Vec F S1x1024 .f32) := tiles x1 x2 s k0_t1_loop.trips

theorem trips_eq : k0_t1_loop.trips = 32 := by decide

theorem off_eq : ∀ k : Fin k0_t1_loop.trips, k0_off1 k = ![8 * k.val, 0] := by decide +kernel

theorem mem_tiles (x1 x2 : Vec F S256x1024 .f32) (s : Vec F S1x1024 .f32) (k : Fin k0_t1_loop.trips) :
    ∀ n, k.val < n → ∃ w, (⟨rect k, w⟩ : View.Piece (Elt F) S256x1024 .f32) ∈ (tiles x1 x2 s n).2
  | 0, h => absurd h (Nat.not_lt_zero _)
  | n + 1, h => by
    unfold tiles
    by_cases hn : n < k0_t1_loop.trips
    · rw [dif_pos hn]
      by_cases hk : k.val = n
      · obtain rfl : k = ⟨n, hn⟩ := Fin.ext hk
        exact ⟨_, List.mem_cons_self⟩
      · obtain ⟨w, hw⟩ := mem_tiles x1 x2 s k n (by omega)
        exact ⟨w, List.mem_cons_of_mem _ hw⟩
    · rw [dif_neg hn]
      exact mem_tiles x1 x2 s k n (by have := k.isLt; omega)

theorem cover (x1 x2 : Vec F S256x1024 .f32) (s : Vec F S1x1024 .f32) (y : S256x1024.Idx) :
    ∃ p ∈ (final x1 x2 s).2, y ∈ p.1.set := by
  have hy : (y 0).val < 256 := (y 0).isLt
  have hy1 : (y 1).val < 1024 := (y 1).isLt
  obtain ⟨w, hw⟩ := mem_tiles x1 x2 s ⟨(y 0).val / 8, by rw [trips_eq]; omega⟩ k0_t1_loop.trips (by show (y 0).val / 8 < _; have := trips_eq; omega)
  refine ⟨_, hw, ?_⟩
  show y ∈ (rect _).set
  rw [Rect.mem_set_unit]
  intro a
  rw [off_eq]
  match a with
  | ⟨0, _⟩ => show 8 * ((y 0).val / 8) ≤ (y 0).val ∧ (y 0).val < 8 * ((y 0).val / 8) + 8; omega
  | ⟨1, _⟩ => show 0 ≤ (y 1).val ∧ (y 1).val < 0 + 1024; omega

/-- What a block's body leaves in the output, and in the two rows it carries. -/
def blkOut (x1 x2 : Vec F S256x1024 .f32) (s : Vec F S1x1024 .f32) : Vec F S256x1024 .f32 := View.canon (final x1 x2 s).2

theorem kernelRun_edge (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (hc : edge i)
    (x1 x2 : Vec F S256x1024 .f32) (E : Set ℕ) (K : PUnit → sProp 𝕄) :
        iprop(owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x1 ∗ owns (c : Thread nD τ) arg2 fullShare x2 ∗ owns (c : Thread nD τ) arg3 fullShare (blkOut x1 x2 k0_pay1)
              ∗ owns (c : Thread nD τ) arg4 fullShare (k0_pay12 (final x1 x2 k0_pay1).1) ∗ owns (c : Thread nD τ) arg5 fullShare (k0_pay13 k0_pay2)) -∗ K ⟨⟩))
          ⊢ wp frame (wpE (defs₀ (F := F)) Variants.none c none) E (cc0_a_scan i arg1 harg1 arg2 harg2 arg3 harg3 arg4 harg4 arg5 harg5) K := by
    simp only [cc0_a_scan_eq_skeleton]; unfold cc0_a_scan_skel
    unfold owns
    iintro ⟨⟨%f1, %hf1, H1⟩, ⟨%f2, %hf2, H2⟩, ⟨%d3, %f3, -, H3⟩, ⟨%d4, %f4, -, H4⟩, ⟨%d5, %f5, -, H5⟩, Hk⟩
    obtain rfl := harg1.eq_unread hf1; obtain rfl := harg2.eq_unread hf2
    sl_exec (disch := sl_exact hc)
    sl_step
    have e1 : kernelRun_edge.sl.v14 (F := F) c arg4 = k0_pay1 := View.readCov_full _ _ _ _ _
    have e2 : kernelRun_edge.sl.v15 (F := F) c arg5 = k0_pay2 := View.readCov_full _ _ _ _ _
    rw [e1, e2, st_eq _ _ _ _ _ _ _ _ _ _ _ _ _ _ _ _ _ _ (le_refl _)]
    iapply Hk
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact View.read_writes_eq_canon _ _ _ (cover _ _ _)
    isplitl [H4]
    · iexists _; isplitr; swap; · iexact H4
      ipureintro; exact View.read_writes_full _ _ _ _ _
    · iexists _; isplitr; swap; · iexact H5
      ipureintro; exact View.read_writes_full _ _ _ _ _

theorem kernelRun_rest (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (hc : ¬edge i)
    (x1 x2 : Vec F S256x1024 .f32) (x4 x5 : Vec F S1x1024 .f32) (E : Set ℕ) (K : PUnit → sProp 𝕄) :
        iprop(owns (c : Thread nD τ) arg1 fullShare x1 ∗ owns (c : Thread nD τ) arg2 fullShare x2 ∗ (∃ d, owns (c : Thread nD τ) arg3 fullShare d) ∗ owns (c : Thread nD τ) arg4 fullShare x4 ∗ owns (c : Thread nD τ) arg5 fullShare x5
            ∗ (iprop(owns (c : Thread nD τ) arg1 fullShare x1 ∗ owns (c : Thread nD τ) arg2 fullShare x2 ∗ owns (c : Thread nD τ) arg3 fullShare (blkOut x1 x2 x4)
              ∗ owns (c : Thread nD τ) arg4 fullShare (k0_pay12 (final x1 x2 x4).1) ∗ owns (c : Thread nD τ) arg5 fullShare (k0_pay13 x5)) -∗ K ⟨⟩))
          ⊢ wp frame (wpE (defs₀ (F := F)) Variants.none c none) E (cc0_a_scan i arg1 harg1 arg2 harg2 arg3 harg3 arg4 harg4 arg5 harg5) K := by
    simp only [cc0_a_scan_eq_skeleton]; unfold cc0_a_scan_skel
    unfold owns
    iintro ⟨⟨%f1, %hf1, H1⟩, ⟨%f2, %hf2, H2⟩, ⟨%d3, %f3, -, H3⟩, ⟨%f4, %hf4, H4⟩, ⟨%f5, %hf5, H5⟩, Hk⟩
    obtain rfl := harg1.eq_unread hf1; obtain rfl := harg2.eq_unread hf2; obtain rfl := harg4.eq_unread hf4; obtain rfl := harg5.eq_unread hf5
    sl_exec (disch := sl_exact hc)
    sl_step
    have e1 : View.readAt (Elt F) arg4.view (Rect.unit ![0, 0] S1x1024.size inb_S1x1024_S1x1024_0_0).toLoadRect (harg4.unread x4) = x4 := (View.readAt_full _ _ _).trans (harg4.read_unread x4)
    have e2 : View.readAt (Elt F) arg5.view (Rect.unit ![0, 0] S1x1024.size inb_S1x1024_S1x1024_0_0).toLoadRect (harg5.unread x5) = x5 := (View.readAt_full _ _ _).trans (harg5.read_unread x5)
    rw [e1, e2, st_eq _ _ _ _ _ _ _ _ _ _ _ _ _ _ _ _ _ _ (le_refl _)]
    iapply Hk
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact View.read_writes_eq_canon _ _ _ (cover _ _ _)
    isplitl [H4]
    · iexists _; isplitr; swap; · iexact H4
      ipureintro; exact View.read_writes_full _ _ _ _ _
    · iexists _; isplitr; swap; · iexact H5
      ipureintro; exact View.read_writes_full _ _ _ _ _

/-! ## The rows carried from point to point -/

variable (m : (ℓ : Loc nD τ sig) → Buf (Elt F) ℓ) (ρ : Dev nD → PrngReg)

/-- The rows a point leaves, from those it starts with. -/
def next (c : Dev nD) (t : Fin cfg0.N) (s : Vec F S1x1024 .f32 × Vec F S1x1024 .f32) : Vec F S1x1024 .f32 × Vec F S1x1024 .f32 :=
  (k0_pay12 (final (iblk m c 0 t) (iblk m c 1 t) s.1).1, k0_pay13 s.2)

/-- The rows a point starts with: zero at a sequence's first point. -/
def start (c : Dev nD) : (n : ℕ) → n < cfg0.N → Vec F S1x1024 .f32 × Vec F S1x1024 .f32
  | 0, _ => (k0_pay1, k0_pay2)
  | n + 1, h => if (n + 1) % 8 = 0 then (k0_pay1, k0_pay2) else next m c ⟨n, Nat.lt_of_succ_lt h⟩ (start c n (Nat.lt_of_succ_lt h))

abbrev left (c : Dev nD) (n : ℕ) (h : n < cfg0.N) := next m c ⟨n, h⟩ (start m c n h)

theorem start_zero (c : Dev nD) (n : ℕ) (h : n < cfg0.N) (h8 : n % 8 = 0) : start m c n h = (k0_pay1, k0_pay2) := by
  cases n with
  | zero => rfl
  | succ n => exact if_pos h8

theorem start_pos (c : Dev nD) (n : ℕ) (h : n < cfg0.N) (h8 : ¬n % 8 = 0) : start m c n h = ((left m c (n - 1) (Nat.lt_of_le_of_lt (Nat.sub_le _ _) h)).1, (left m c (n - 1) (Nat.lt_of_le_of_lt (Nat.sub_le _ _) h)).2) := by
  cases n with
  | zero => exact absurd rfl h8
  | succ n => exact if_neg h8

abbrev ms0_0 (t : Fin cfg0.N) : Memref sig .tc .vmem S256x1024 .f32 := win0_0.stage (cfg0.slots t 0)
abbrev ms0_1 (t : Fin cfg0.N) : Memref sig .tc .vmem S256x1024 .f32 := win0_1.stage (cfg0.slots t 1)
abbrev ms0_2 (t : Fin cfg0.N) : Memref sig .tc .vmem S256x1024 .f32 := win0_2.stage (cfg0.slots t 2)
abbrev scM0_0 : Memref sig .tc .vmem S1x1024 .f32 := Memref.whole cc0_scratch0
abbrev scM0_1 : Memref sig .tc .vmem S1x1024 .f32 := Memref.whole cc0_scratch1

theorem PhiA0_eq (c : Dev nD) : (Pipeline.ΦA spec0 c : sProp 𝕄)
    = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

def PhiS (c : Dev nD) : (n : ℕ) → n ≤ cfg0.N → sProp 𝕄
  | 0, _ => Pipeline.ΦA spec0 c
  | n + 1, hn => iprop(iprop(owns (c : Thread nD τ) scM0_0 fullShare (left m c n hn).1 ∗ owns (c : Thread nD τ) scM0_1 fullShare (left m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (left m c n hn).1 ∗ owns (c : Thread nD τ) scM0_1 fullShare (left m c n hn).2) ∗ (∃ r, prngReg c r)) := rfl

theorem PhiS_pos (c : Dev nD) (n : ℕ) (h : n ≤ cfg0.N) (hz : n ≠ 0) :
    PhiS m c n h = iprop(iprop(owns (c : Thread nD τ) scM0_0 fullShare (left m c (n - 1) (by omega)).1 ∗ owns (c : Thread nD τ) scM0_1 fullShare (left m c (n - 1) (by omega)).2) ∗ (∃ r, prngReg c r)) := by
  cases n with
  | zero => exact absurd rfl hz
  | succ n => rfl

theorem PhiS_any (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    iintro ⟨⟨H0, H1⟩, Hg⟩
    isplitl [H0 H1]
    · isplitl [H0]
      · iexists _; iexact H0
      · iexists _; iexact H1
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blkOut (iblk m c 0 t) (iblk m c 1 t) (start m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = blkOut (iblk m c 0 t) (iblk m c 1 t) (start m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, after0_0, after0_1, after0_2]
  rw [show (dats m 0 c).owesAt () t.succ = (dats m 0 c).owesAt () t.castSucc from rfl]
  rw [show (dats m 0 c).Φ t.succ = PhiS m c (t.val + 1) t.isLt from rfl, PhiS_succ, PhiS_castSucc m c t]
  rw [show left m c t.val t.isLt = (k0_pay12 (final (iblk m c 0 t) (iblk m c 1 t) (start m c t.val t.isLt).1).1, k0_pay13 (start m c t.val t.isLt).2) from rfl]
  dsimp only
  by_cases h0 : t.val % 8 = 0
  · refine (sep_mono_left (PhiS_any m c _ _)).trans ?_
    rw [PhiA0_eq, start_zero m c _ _ h0]
    iintro ⟨⟨⟨HS0, HS1⟩, Hg⟩, Ho, ⟨%d0, H0⟩, ⟨%d1, H1⟩, ⟨%d2, H2⟩⟩
    iapply (kernelRun_edge c (grid0.coords t) _ _ _ _ _ _ _ _ _ _ ((edge_iff t).mpr h0) (iblk m c 0 t) (iblk m c 1 t) Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · isplitl [HS0]
        · iexact HS0
        · iexact HS1
      iexact Hg
    isplitl [Ho]; · iexact Ho
    isplitl [H0]; · iexact H0
    isplitl [H1]; · iexact H1
    iexact H2
  · rw [PhiS_pos m c _ _ (fun h => h0 (by rw [h])), start_pos m c _ _ h0]
    iintro ⟨⟨⟨HS0, HS1⟩, Hg⟩, Ho, ⟨%d0, H0⟩, ⟨%d1, H1⟩, ⟨%d2, H2⟩⟩
    iapply (kernelRun_rest c (grid0.coords t) _ _ _ _ _ _ _ _ _ _ (fun h => h0 ((edge_iff t).mp h)) (iblk m c 0 t) (iblk m c 1 t) (left m c (t.val - 1) _).1 (left m c (t.val - 1) _).2 Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · isplitl [HS0]
        · iexact HS0
        · iexact HS1
      iexact Hg
    isplitl [Ho]; · iexact Ho
    isplitl [H0]; · iexact H0
    isplitl [H1]; · iexact H1
    iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (le_refl _) from rfl]
  exact PhiS_any m c _ _

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Kernel23Ideal.Scan
end
-- ==== Proof.Fscanv.lean ====
module
public import proofs.«01_k».proof.Proof.Fscan
public import proofs.«01_k».proof.Proof.Recur
public import Idealize.ShloMosaic.Lib.Pipeline.ReadBack
@[expose] public section
set_option maxRecDepth 16384
/-! What the recurrence kernel leaves in its result. -/

noncomputable section

namespace Cert.Kernel23Ideal.Scan
open Cert.Recur Cert.Kernel23Ideal Cert.Kernel23Ideal.Gen Idealize.ShloMosaic Idealize.ShloMosaic.TcCoe Idealize.SL.Sem
open Idealize.ShloMosaic.Pipeline (Dat)

section Tile
variable (h : FVec Ideal S1x1024 .f32) (a b : FVec Ideal S8x1024 .f32) (j : Fin 1024)

theorem pay3 : k0_pay3 (F := Ideal) h a b (ix2 0 j) = a (ix2 0 j) * h (ix2 0 j) + b (ix2 0 j) := by
  pointwise [k0_pay3]
theorem pay4 : k0_pay4 (F := Ideal) h a b (ix2 0 j) = a (ix2 1 j) * k0_pay3 (F := Ideal) h a b (ix2 0 j) + b (ix2 1 j) := by
  pointwise [k0_pay4]
theorem pay5 : k0_pay5 (F := Ideal) h a b (ix2 0 j) = a (ix2 2 j) * k0_pay4 (F := Ideal) h a b (ix2 0 j) + b (ix2 2 j) := by
  pointwise [k0_pay5]
theorem pay6 : k0_pay6 (F := Ideal) h a b (ix2 0 j) = a (ix2 3 j) * k0_pay5 (F := Ideal) h a b (ix2 0 j) + b (ix2 3 j) := by
  pointwise [k0_pay6]
theorem pay7 : k0_pay7 (F := Ideal) h a b (ix2 0 j) = a (ix2 4 j) * k0_pay6 (F := Ideal) h a b (ix2 0 j) + b (ix2 4 j) := by
  pointwise [k0_pay7]
theorem pay8 : k0_pay8 (F := Ideal) h a b (ix2 0 j) = a (ix2 5 j) * k0_pay7 (F := Ideal) h a b (ix2 0 j) + b (ix2 5 j) := by
  pointwise [k0_pay8]
theorem pay9 : k0_pay9 (F := Ideal) h a b (ix2 0 j) = a (ix2 6 j) * k0_pay8 (F := Ideal) h a b (ix2 0 j) + b (ix2 6 j) := by
  pointwise [k0_pay9]
theorem pay10 : k0_pay10 (F := Ideal) h a b (ix2 0 j) = a (ix2 7 j) * k0_pay9 (F := Ideal) h a b (ix2 0 j) + b (ix2 7 j) := by
  pointwise [k0_pay10]
theorem pay11 (q : Fin 8) : k0_pay11 (F := Ideal) h a b (ix2 q j) =
    (match q with
     | 0 => k0_pay3 (F := Ideal) h a b | 1 => k0_pay4 h a b | 2 => k0_pay5 h a b | 3 => k0_pay6 h a b
     | 4 => k0_pay7 h a b | 5 => k0_pay8 h a b | 6 => k0_pay9 h a b | 7 => k0_pay10 h a b) (ix2 0 j) := by
  pointwise [k0_pay11]
  fin_cases q <;> rfl

/-- The rows of a tile, from the carried row. -/
theorem tile (A B : Arr) (r n : ℕ) (ha : ∀ q : Fin 8, a (ix2 q j) = row A (2048 * r + (n + q.val)) j)
    (hb : ∀ q : Fin 8, b (ix2 q j) = row B (2048 * r + (n + q.val)) j) (hs : h (ix2 0 j) = forw A B r j n) :
    k0_pay10 (F := Ideal) h a b (ix2 0 j) = forw A B r j (n + 8)
      ∧ ∀ q : Fin 8, k0_pay11 (F := Ideal) h a b (ix2 q j) = forw A B r j (n + q.val + 1) := by
  have p3 : k0_pay3 (F := Ideal) h a b (ix2 0 j) = forw A B r j (n + 1) := by rw [pay3, ha 0, hb 0, hs]; rfl
  have p4 : k0_pay4 (F := Ideal) h a b (ix2 0 j) = forw A B r j (n + 2) := by rw [pay4, ha 1, hb 1, p3]; rfl
  have p5 : k0_pay5 (F := Ideal) h a b (ix2 0 j) = forw A B r j (n + 3) := by rw [pay5, ha 2, hb 2, p4]; rfl
  have p6 : k0_pay6 (F := Ideal) h a b (ix2 0 j) = forw A B r j (n + 4) := by rw [pay6, ha 3, hb 3, p5]; rfl
  have p7 : k0_pay7 (F := Ideal) h a b (ix2 0 j) = forw A B r j (n + 5) := by rw [pay7, ha 4, hb 4, p6]; rfl
  have p8 : k0_pay8 (F := Ideal) h a b (ix2 0 j) = forw A B r j (n + 6) := by rw [pay8, ha 5, hb 5, p7]; rfl
  have p9 : k0_pay9 (F := Ideal) h a b (ix2 0 j) = forw A B r j (n + 7) := by rw [pay9, ha 6, hb 6, p8]; rfl
  have p10 : k0_pay10 (F := Ideal) h a b (ix2 0 j) = forw A B r j (n + 8) := by rw [pay10, ha 7, hb 7, p9]; rfl
  refine ⟨p10, fun q => (pay11 h a b j q).trans ?_⟩
  fin_cases q
  exacts [p3, p4, p5, p6, p7, p8, p9, p10]

end Tile

abbrev tileOf (x : FVec Ideal S256x1024 .f32) (k : Fin k0_t1_loop.trips) : FVec Ideal S8x1024 .f32 := View.ld (Val := Elt Ideal) (e' := .f32) x (rect k)

/-- A block's loop, trip by trip: the carried row, and the rows written so far. -/
theorem block (A B : Arr) (r n : ℕ) (x1 x2 : FVec Ideal S256x1024 .f32) (s : FVec Ideal S1x1024 .f32)
    (h1 : ∀ (p : Fin 256) j, x1 (ix2 p j) = row A (2048 * r + (n + p.val)) j)
    (h2 : ∀ (p : Fin 256) j, x2 (ix2 p j) = row B (2048 * r + (n + p.val)) j)
    (hs : ∀ j, s (ix2 0 j) = forw A B r j n) :
    ∀ k, k ≤ 32 → (∀ j, (tiles (F := Ideal) x1 x2 s k).1 (ix2 0 j) = forw A B r j (n + 8 * k))
      ∧ ∀ y : S256x1024.Idx, View.AllAt (tiles (F := Ideal) x1 x2 s k).2 y (forw A B r (y 1) (n + (y 0).val + 1))
  | 0, _ => ⟨hs, fun y => View.allAt_nil _ _⟩
  | k + 1, hk => by
    obtain ⟨ih, ihp⟩ := block A B r n x1 x2 s h1 h2 hs k (Nat.le_of_succ_le hk)
    have hk' : k < k0_t1_loop.trips := by rw [trips_eq]; omega
    have ld (x : FVec Ideal S256x1024 .f32) (X : Arr) (hx : ∀ (p : Fin 256) j, x (ix2 p j) = row X (2048 * r + (n + p.val)) j) (q : Fin 8) (j : Fin 1024) :
        tileOf x ⟨k, hk'⟩ (ix2 q j) = row X (2048 * r + (n + 8 * k + q.val)) j := by
      have e0 : k0_off1 ⟨k, hk'⟩ 0 = 8 * k := by rw [off_eq]; rfl
      have e1 : k0_off1 ⟨k, hk'⟩ 1 = 0 := by rw [off_eq]; rfl
      have e : (rect ⟨k, hk'⟩).idx (ix2 q j) = ix2 ⟨8 * k + q.val, by have := q.isLt; omega⟩ j := funext fun a => by
        match a with
        | ⟨0, _⟩ => exact Fin.ext (show k0_off1 ⟨k, hk'⟩ 0 + 1 * q.val = 8 * k + q.val by rw [e0]; omega)
        | ⟨1, _⟩ => exact Fin.ext (show k0_off1 ⟨k, hk'⟩ 1 + 1 * j.val = j.val by rw [e1]; omega)
      refine (congrArg x e).trans ((hx _ _).trans ?_)
      congr 1
      show 2048 * r + (n + (8 * k + q.val)) = _
      omega
    have t (j : Fin 1024) := tile (tiles (F := Ideal) x1 x2 s k).1 (tileOf x1 ⟨k, hk'⟩) (tileOf x2 ⟨k, hk'⟩) j A B r (n + 8 * k)
      (fun q => ld x1 A h1 q j) (fun q => ld x2 B h2 q j) (ih j)
    rw [tiles.eq_2, dif_pos hk']
    refine ⟨fun j => (t j).1, fun y => View.allAt_cons_unit _ _ _ _ _ (fun x hx => ?_) (ihp y)⟩
    have hx0 := hx 0
    have hx1 := hx 1
    rw [off_eq] at hx0 hx1
    have hx0' : (y 0).val = 8 * k + (x 0).val := hx0
    have hx1' : (y 1).val = 0 + (x 1).val := hx1
    refine (congrArg _ (show x = ix2 (x 0) (y 1) from funext fun a => ?_)).trans (((t (y 1)).2 (x 0)).trans (congrArg _ ?_))
    · match a with
      | ⟨0, _⟩ => rfl
      | ⟨1, _⟩ => exact Fin.ext (by show (x 1).val = (y 1).val; omega)
    · show n + 8 * k + (x 0).val + 1 = n + (y 0).val + 1
      omega

/-! ## The grid -/

variable (m : (ℓ : Loc nD τ sig) → Buf (Elt Ideal) ℓ)

theorem hN : cfg0.N = 32 := N_0

theorem idx : ∀ t : Fin cfg0.N, win0_0.index t = ![t.val, 0] ∧ win0_1.index t = ![t.val, 0] ∧ win0_2.index t = ![t.val, 0] :=
  (by decide +kernel : ∀ t : Fin grid0.N, _)

abbrev argA (c : Dev nD) : FVec Ideal S8192x1024 .f32 := m ((c : Thread nD τ).loc main_arg0)
abbrev argB (c : Dev nD) : FVec Ideal S8192x1024 .f32 := m ((c : Thread nD τ).loc main_arg1)

theorem blkA (c : Dev nD) (t : Fin cfg0.N) (p : Fin 256) (j : Fin 1024) :
    iblk m c 0 t (ix2 p j) = row (argA m c) (2048 * (t.val / 8) + (256 * (t.val % 8) + p.val)) j := by
  have ht : t.val < 32 := lt_of_lt_of_eq t.isLt hN
  have hp := p.isLt
  have e : iblk m c 0 t (ix2 p j) = argA m c (ix2 ⟨t.val * 256 + p.val, by omega⟩ j) := by blk_ext [iblk, V, idx t]
  refine e.trans (congrArg (fun q => argA m c (ix2 q j)) (Fin.ext ?_))
  show t.val * 256 + p.val = (2048 * (t.val / 8) + (256 * (t.val % 8) + p.val)) % 8192
  omega

theorem blkB (c : Dev nD) (t : Fin cfg0.N) (p : Fin 256) (j : Fin 1024) :
    iblk m c 1 t (ix2 p j) = row (argB m c) (2048 * (t.val / 8) + (256 * (t.val % 8) + p.val)) j := by
  have ht : t.val < 32 := lt_of_lt_of_eq t.isLt hN
  have hp := p.isLt
  have e : iblk m c 1 t (ix2 p j) = argB m c (ix2 ⟨t.val * 256 + p.val, by omega⟩ j) := by blk_ext [iblk, V, idx t]
  refine e.trans (congrArg (fun q => argB m c (ix2 q j)) (Fin.ext ?_))
  show t.val * 256 + p.val = (2048 * (t.val / 8) + (256 * (t.val % 8) + p.val)) % 8192
  omega

theorem cast12 (v : FVec Ideal S1x1024 .f32) (j : Fin 1024) : k0_pay12 (F := Ideal) v (ix2 0 j) = v (ix2 0 j) := by pointwise [k0_pay12]

/-- The row a point starts with. -/
theorem start_eq (c : Dev nD) : ∀ (n : ℕ) (hn : n < cfg0.N) (j : Fin 1024), (start m c n hn).1 (ix2 0 j) = forw (argA m c) (argB m c) (n / 8) j (256 * (n % 8))
  | n, hn, j => by
    by_cases h8 : n % 8 = 0
    · rw [start_zero m c n hn h8, h8]
      have z1 : k0_pay1 (F := Ideal) (ix2 0 j) = 0 := by pointwise [k0_pay1]
      exact z1
    · cases n with
      | zero => exact absurd rfl h8
      | succ n =>
        have hn' := Nat.lt_of_succ_lt hn
        have b := ((block (argA m c) (argB m c) (n / 8) (256 * (n % 8)) (iblk m c 0 ⟨n, hn'⟩) (iblk m c 1 ⟨n, hn'⟩) (start m c n hn').1
          (blkA m c ⟨n, hn'⟩) (blkB m c ⟨n, hn'⟩) (start_eq c n hn') 32 (le_refl _)).1 j)
        rw [start_pos m c (n + 1) hn h8]
        refine (cast12 _ j).trans (b.trans ?_)
        rw [show (n + 1) / 8 = n / 8 by omega, show (n + 1) % 8 = n % 8 + 1 by omega]
        rfl

/-- The states after the run. -/
theorem arr (c : Dev nD) : (dats m 0 c).arrAt 2 cfg0.N = states (argA m c) (argB m c) := by
  unfold states
  refine (dats m 0 c).arrAt_eq_of_covers 2 _ (by decide +kernel) fun t hf y => ?_
  blk_simp
  rw [after0_2]
  have b := (block (argA m c) (argB m c) (t.val / 8) (256 * (t.val % 8)) (iblk m c 0 t) (iblk m c 1 t) (start m c t.val t.isLt).1
    (blkA m c t) (blkB m c t) (start_eq m c t.val t.isLt) 32 (le_refl _)).2 y
  refine (View.canon_eq_of_allAt _ y _ (cover _ _ _ y) b).trans (forw_congr _ _ ?_ ?_ ?_)
  all_goals
    have ht : t.val < 32 := lt_of_lt_of_eq t.isLt hN
    have hy : (y 0).val < 256 := (y 0).isLt
  · rw [(idx t).2.2]
    show t.val / 8 = (t.val * 256 + (y 0).val) / 2048
    omega
  · blk_ext [idx t]
  · rw [(idx t).2.2]
    show 256 * (t.val % 8) + (y 0).val + 1 = (t.val * 256 + (y 0).val) % 2048 + 1
    omega

end Cert.Kernel23Ideal.Scan
end
-- ==== Proof.Rscanref.lean ====
module
public import proofs.«01_k».proof.Proof.Recur
public import proofs.«01_k».proof.Proof.Gen.Reference22Ideal.Run
public import Idealize.ShloMosaic.Lib.DynamicIndex
@[expose] public section
set_option maxRecDepth 16384
/-! What the reference of the backward recurrence leaves: the rows its loop writes, from the last to the first. -/

noncomputable section

namespace Cert.Reference22Ideal.Scan
open Cert.Recur Cert.Reference22Ideal Cert.Reference22Ideal.Gen Cert.Reference22Ideal.Value
open Idealize.ShloMosaic Idealize.ShloMosaic.TcCoe Idealize.ShloMosaic.StableHlo Idealize.SL.Sem

variable (m : (ℓ : Loc nD τ sig) → Buf (Elt Ideal) ℓ) (c : Dev nD)

abbrev argA : FVec Ideal S8192x1024 .f32 := m ((c.tc : Thread nD τ).loc main_arg0)
abbrev argB : FVec Ideal S8192x1024 .f32 := m ((c.tc : Thread nD τ).loc main_arg1)

/-- The buffers after `k` trips. -/
def at' (k : ℕ) : Valuation τ sig (Elt Ideal) := STEP^[k] (entryContents preI m c)
theorem at_succ (k : ℕ) : at' m c (k + 1) = STEP (at' m c k) := Function.iterate_succ_apply' STEP k _

theorem a_entry : entryContents preI m c (Proc.devRef .tc main_v7_1) =
    transpose S2048x4x1024 [1, 0, 2] (shapeCast S4x2048x1024 (argA m c) shapeCasts_S8192x1024_S4x2048x1024) transposes_S4x2048x1024_S2048x4x1024_1_0_2 := by
  simp only [entryContents, afterL_cons, afterL_nil]
  after_reads_simp
  rfl
theorem b_entry : entryContents preI m c (Proc.devRef .tc main_v7_0) =
    transpose S2048x4x1024 [1, 0, 2] (shapeCast S4x2048x1024 (argB m c) shapeCasts_S8192x1024_S4x2048x1024) transposes_S4x2048x1024_S2048x4x1024_1_0_2 := by
  simp only [entryContents, afterL_cons, afterL_nil]
  after_reads_simp
  rfl
theorem h_entry : entryContents preI m c (Proc.devRef .tc main_v7_3) =
    broadcastInDim S4x1024 ![] bcast_S_S4x1024 (constant (F := Ideal) S_ .f32 0x00000000#32) := by
  simp only [entryContents, afterL_cons, afterL_nil]
  after_reads_simp
  rfl

theorem a_at : ∀ k, at' m c k (Proc.devRef .tc main_v7_1) = entryContents preI m c (Proc.devRef .tc main_v7_1)
  | 0 => rfl
  | k + 1 => (congrFun (at_succ m c k) _).trans ((STEP_main_v7_1 _).trans (a_at k))
theorem b_at : ∀ k, at' m c k (Proc.devRef .tc main_v7_0) = entryContents preI m c (Proc.devRef .tc main_v7_0)
  | 0 => rfl
  | k + 1 => (congrFun (at_succ m c k) _).trans ((STEP_main_v7_0 _).trans (b_at k))
theorem n_at : ∀ k, at' m c k (Proc.devRef .tc main_v7_2) = fun _ => BitVec.ofNat 32 k
  | 0 => ctr_entry m c
  | k + 1 => (congrFun (at_succ m c k) _).trans ((STEP_main_v7_2 _).trans (by
      unfold step_main_v7_2
      rw [n_at k]
      funext i
      show BitVec.ofNat 32 k + 1#32 = BitVec.ofNat 32 (k + 1)
      rw [BitVec.ofNat_add]))

theorem slot_at (k : ℕ) (hk : k < 2048) : (res_main_while0b_v11 (at' m c k) (Shape.Idx.first h_S_)).toInt = ((2047 - k : ℕ) : ℤ) := by
  unfold res_main_while0b_v11
  rw [n_at]
  have e : ∀ k : Fin 2048, ((2048#32 - BitVec.ofNat 32 k.val) - 1#32).toInt = ((2047 - k.val : ℕ) : ℤ) := by decide +kernel
  exact e ⟨k, hk⟩

/-- The starts of the slices of trip `k`. -/
abbrev start (k : ℕ) : Fin 3 → ℤ := fun a =>
  ((((![res_main_while0b_v11 (at' m c k), constantI S_ 32 0#32, constantI S_ 32 0#32] : Fin 3 → (⟨S_, .i32⟩ : BufTy).Contents (Elt Ideal))) a (Shape.Idx.first h_S_)).toInt)

theorem start0 (k : ℕ) (hk : k < 2048) : start m c k 0 = ((2047 - k : ℕ) : ℤ) := slot_at m c k hk
theorem start1 (k : ℕ) : start m c k 1 = 0 := by
  show ((constantI S_ 32 0#32) (Shape.Idx.first h_S_)).toInt = 0
  exact BitVec.toInt_zero
theorem start2 (k : ℕ) : start m c k 2 = 0 := by
  show ((constantI S_ 32 0#32) (Shape.Idx.first h_S_)).toInt = 0
  exact BitVec.toInt_zero

/-- What trip `k` starts with and the rows written before it. -/
abbrev hAt (k : ℕ) : FVec Ideal S4x1024 .f32 := at' m c k (Proc.devRef .tc main_v7_3)
abbrev oAt (k : ℕ) : FVec Ideal S2048x4x1024 .f32 := at' m c k (Proc.devRef .tc main_v7_4)
abbrev gAt (k : ℕ) : FVec Ideal S4x1024 .f32 := res_main_while0b_v14 (at' m c k)

theorem g_eq (k : ℕ) (hk : k < 2048) (s : Fin 4) (j : Fin 1024) : gAt m c k (ix2 s j) = hAt m c k (ix2 s j) + row (argB m c) (2048 * s.val + (2047 - k)) j := by
  unfold gAt res_main_while0b_v14
  rw [b_at, b_entry]
  exact congrArg (hAt m c k (ix2 s j) + ·) (read (argB m c) (start m c k) (2047 - k) (by omega) (start0 m c k hk) (start1 m c k) (start2 m c k) _ _ _ _ s j)

theorem h_succ (k : ℕ) (hk : k < 2048) (s : Fin 4) (j : Fin 1024) : hAt m c (k + 1) (ix2 s j) = row (argA m c) (2048 * s.val + (2047 - k)) j * gAt m c k (ix2 s j) := by
  unfold hAt
  rw [at_succ, STEP_main_v7_3]
  unfold step_main_v7_3
  rw [a_at, a_entry]
  exact congrArg (· * gAt m c k (ix2 s j)) (read (argA m c) (start m c k) (2047 - k) (by omega) (start0 m c k hk) (start1 m c k) (start2 m c k) _ _ _ _ s j)

theorem o_succ (k : ℕ) (hk : k < 2048) (p : Fin 2048) (s : Fin 4) (j : Fin 1024) :
    oAt m c (k + 1) (ix3 p s j) = if p.val = 2047 - k then gAt m c k (ix2 s j) else oAt m c k (ix3 p s j) := by
  unfold oAt
  rw [at_succ, STEP_main_v7_4]
  unfold step_main_v7_4
  rw [id_eq]
  exact put (oAt m c k) (start m c k) (2047 - k) (by omega) (start0 m c k hk) (start1 m c k) (start2 m c k) (gAt m c k)
    updateFits_S2048x4x1024_S1x4x1024 bcast_S4x1024_S1x4x1024_1_2 p s j

theorem h_zero (s : Fin 4) (j : Fin 1024) : hAt m c 0 (ix2 s j) = 0 := by
  unfold hAt at'
  rw [Function.iterate_zero, id_eq, h_entry]
  exact zeros _ s j

theorem trips : ∀ k, k ≤ 2048 → (∀ (s : Fin 4) (j : Fin 1024), hAt m c k (ix2 s j) = back (argA m c) (argB m c) s.val j k)
    ∧ ∀ (p : Fin 2048) (s : Fin 4) (j : Fin 1024), 2047 - p.val < k → oAt m c k (ix3 p s j) = grad (argA m c) (argB m c) s.val j (2047 - p.val)
  | 0, _ => ⟨h_zero m c, fun p s j h => absurd h (Nat.not_lt_zero _)⟩
  | k + 1, hk => by
    obtain ⟨ih, ihp⟩ := trips k (Nat.le_of_succ_le hk)
    have g (s : Fin 4) (j : Fin 1024) : gAt m c k (ix2 s j) = grad (argA m c) (argB m c) s.val j k := by
      rw [g_eq m c k hk, ih]
      exact add_comm _ _
    refine ⟨fun s j => by rw [h_succ m c k hk, g]; rfl, fun p s j h => ?_⟩
    rw [o_succ m c k hk]
    by_cases hp : p.val = 2047 - k
    · rw [if_pos hp, g, show 2047 - p.val = k by omega]
    · rw [if_neg hp]
      exact ihp p s j (by omega)

/-- The gradient the reference leaves. -/
theorem out : out_main_v9 (STEP^[2048] (entryContents preI m c)) = grads (argA m c) (argB m c) := by
  have t (p : Fin 2048) (s : Fin 4) (j : Fin 1024) := (trips m c 2048 (le_refl _)).2 p s j (by omega)
  have e : out_main_v9 (at' m c 2048) = shapeCast S8192x1024 (transpose S4x2048x1024 [1, 0, 2] (oAt m c 2048) transposes_S2048x4x1024_S4x2048x1024_1_0_2) shapeCasts_S4x2048x1024_S8192x1024 := by
    unfold out_main_v9
    rfl
  unfold at' at e
  refine e.trans (funext fun y => ?_)
  have hy : (y 0).val < 8192 := (y 0).isLt
  exact (back_rows _ _ _ y).trans (t ⟨(y 0).val % 2048, Nat.mod_lt _ (by decide)⟩ ⟨(y 0).val / 2048, by omega⟩ (y 1))

end Cert.Reference22Ideal.Scan
end
-- ==== Proof.Fscanref.lean ====
module
public import proofs.«01_k».proof.Proof.Recur
public import proofs.«01_k».proof.Proof.Gen.Reference23Ideal.Run
public import Idealize.ShloMosaic.Lib.DynamicIndex
@[expose] public section
set_option maxRecDepth 16384
/-! What the reference of the recurrence leaves: the rows its loop writes, from the first to the last. -/

noncomputable section

namespace Cert.Reference23Ideal.Scan
open Cert.Recur Cert.Reference23Ideal Cert.Reference23Ideal.Gen Cert.Reference23Ideal.Value
open Idealize.ShloMosaic Idealize.ShloMosaic.TcCoe Idealize.ShloMosaic.StableHlo Idealize.SL.Sem

variable (m : (ℓ : Loc nD τ sig) → Buf (Elt Ideal) ℓ) (c : Dev nD)

abbrev argA : FVec Ideal S8192x1024 .f32 := m ((c.tc : Thread nD τ).loc main_arg0)
abbrev argB : FVec Ideal S8192x1024 .f32 := m ((c.tc : Thread nD τ).loc main_arg1)

/-- The buffers after `k` trips. -/
def at' (k : ℕ) : Valuation τ sig (Elt Ideal) := STEP^[k] (entryContents preI m c)
theorem at_succ (k : ℕ) : at' m c (k + 1) = STEP (at' m c k) := Function.iterate_succ_apply' STEP k _

theorem a_entry : entryContents preI m c (Proc.devRef .tc main_v6_0) =
    transpose S2048x4x1024 [1, 0, 2] (shapeCast S4x2048x1024 (argA m c) shapeCasts_S8192x1024_S4x2048x1024) transposes_S4x2048x1024_S2048x4x1024_1_0_2 := by
  simp only [entryContents, afterL_cons, afterL_nil]
  after_reads_simp
  rfl
theorem b_entry : entryContents preI m c (Proc.devRef .tc main_v6_1) =
    transpose S2048x4x1024 [1, 0, 2] (shapeCast S4x2048x1024 (argB m c) shapeCasts_S8192x1024_S4x2048x1024) transposes_S4x2048x1024_S2048x4x1024_1_0_2 := by
  simp only [entryContents, afterL_cons, afterL_nil]
  after_reads_simp
  rfl
theorem h_entry : entryContents preI m c (Proc.devRef .tc main_v6_3) =
    broadcastInDim S4x1024 ![] bcast_S_S4x1024 (constant (F := Ideal) S_ .f32 0x00000000#32) := by
  simp only [entryContents, afterL_cons, afterL_nil]
  after_reads_simp
  rfl

theorem a_at : ∀ k, at' m c k (Proc.devRef .tc main_v6_0) = entryContents preI m c (Proc.devRef .tc main_v6_0)
  | 0 => rfl
  | k + 1 => (congrFun (at_succ m c k) _).trans ((STEP_main_v6_0 _).trans (a_at k))
theorem b_at : ∀ k, at' m c k (Proc.devRef .tc main_v6_1) = entryContents preI m c (Proc.devRef .tc main_v6_1)
  | 0 => rfl
  | k + 1 => (congrFun (at_succ m c k) _).trans ((STEP_main_v6_1 _).trans (b_at k))
theorem n_at : ∀ k, at' m c k (Proc.devRef .tc main_v6_2) = fun _ => BitVec.ofNat 32 k
  | 0 => ctr_entry m c
  | k + 1 => (congrFun (at_succ m c k) _).trans ((STEP_main_v6_2 _).trans (by
      unfold step_main_v6_2
      rw [n_at k]
      funext i
      show BitVec.ofNat 32 k + 1#32 = BitVec.ofNat 32 (k + 1)
      rw [BitVec.ofNat_add]))

theorem slot_at (k : ℕ) (hk : k < 2048) : (at' m c k (Proc.devRef .tc main_v6_2) (Shape.Idx.first h_S_)).toInt = (k : ℤ) := by
  rw [n_at]
  exact toInt_ofNat_of_lt (by omega)

/-- The starts of the slices of trip `k`. -/
abbrev start (k : ℕ) : Fin 3 → ℤ := fun a =>
  ((((![at' m c k (Proc.devRef .tc main_v6_2), constantI S_ 32 0#32, constantI S_ 32 0#32] : Fin 3 → (⟨S_, .i32⟩ : BufTy).Contents (Elt Ideal))) a (Shape.Idx.first h_S_)).toInt)

theorem start0 (k : ℕ) (hk : k < 2048) : start m c k 0 = (k : ℤ) := slot_at m c k hk
theorem start1 (k : ℕ) : start m c k 1 = 0 := by
  show ((constantI S_ 32 0#32) (Shape.Idx.first h_S_)).toInt = 0
  exact BitVec.toInt_zero
theorem start2 (k : ℕ) : start m c k 2 = 0 := by
  show ((constantI S_ 32 0#32) (Shape.Idx.first h_S_)).toInt = 0
  exact BitVec.toInt_zero

/-- What trip `k` starts with, what it makes and the rows written before it. -/
abbrev hAt (k : ℕ) : FVec Ideal S4x1024 .f32 := at' m c k (Proc.devRef .tc main_v6_3)
abbrev oAt (k : ℕ) : FVec Ideal S2048x4x1024 .f32 := at' m c k (Proc.devRef .tc main_v6_4)
abbrev gAt (k : ℕ) : FVec Ideal S4x1024 .f32 := res_main_while0b_v12 (at' m c k)

theorem g_eq (k : ℕ) (hk : k < 2048) (s : Fin 4) (j : Fin 1024) :
    gAt m c k (ix2 s j) = row (argA m c) (2048 * s.val + k) j * hAt m c k (ix2 s j) + row (argB m c) (2048 * s.val + k) j := by
  unfold gAt res_main_while0b_v12
  rw [a_at, a_entry, b_at, b_entry]
  exact congrArg₂ (fun u v : EReal => u * hAt m c k (ix2 s j) + v) (read (argA m c) (start m c k) k hk (start0 m c k hk) (start1 m c k) (start2 m c k) _ _ _ _ s j)
    (read (argB m c) (start m c k) k hk (start0 m c k hk) (start1 m c k) (start2 m c k) _ _ _ _ s j)

theorem h_succ (k : ℕ) : hAt m c (k + 1) = gAt m c k := by
  unfold hAt
  rw [at_succ, STEP_main_v6_3]
  rfl

theorem o_succ (k : ℕ) (hk : k < 2048) (p : Fin 2048) (s : Fin 4) (j : Fin 1024) :
    oAt m c (k + 1) (ix3 p s j) = if p.val = k then gAt m c k (ix2 s j) else oAt m c k (ix3 p s j) := by
  unfold oAt
  rw [at_succ, STEP_main_v6_4]
  unfold step_main_v6_4
  rw [id_eq]
  exact put (oAt m c k) (start m c k) k hk (start0 m c k hk) (start1 m c k) (start2 m c k) (gAt m c k)
    updateFits_S2048x4x1024_S1x4x1024 bcast_S4x1024_S1x4x1024_1_2 p s j

theorem h_zero (s : Fin 4) (j : Fin 1024) : hAt m c 0 (ix2 s j) = 0 := by
  unfold hAt at'
  rw [Function.iterate_zero, id_eq, h_entry]
  exact zeros _ s j

theorem trips : ∀ k, k ≤ 2048 → (∀ (s : Fin 4) (j : Fin 1024), hAt m c k (ix2 s j) = forw (argA m c) (argB m c) s.val j k)
    ∧ ∀ (p : Fin 2048) (s : Fin 4) (j : Fin 1024), p.val < k → oAt m c k (ix3 p s j) = forw (argA m c) (argB m c) s.val j (p.val + 1)
  | 0, _ => ⟨h_zero m c, fun p s j h => absurd h (Nat.not_lt_zero _)⟩
  | k + 1, hk => by
    obtain ⟨ih, ihp⟩ := trips k (Nat.le_of_succ_le hk)
    have g (s : Fin 4) (j : Fin 1024) : gAt m c k (ix2 s j) = forw (argA m c) (argB m c) s.val j (k + 1) := by
      rw [g_eq m c k hk, ih]
      rfl
    refine ⟨fun s j => by rw [h_succ m c k, g], fun p s j h => ?_⟩
    rw [o_succ m c k hk]
    by_cases hp : p.val = k
    · rw [if_pos hp, g, hp]
    · rw [if_neg hp]
      exact ihp p s j (by omega)

/-- The states the reference leaves. -/
theorem out : out_main_v8 (STEP^[2048] (entryContents preI m c)) = states (argA m c) (argB m c) := by
  have t (p : Fin 2048) (s : Fin 4) (j : Fin 1024) := (trips m c 2048 (le_refl _)).2 p s j p.isLt
  have e : out_main_v8 (at' m c 2048) = shapeCast S8192x1024 (transpose S4x2048x1024 [1, 0, 2] (oAt m c 2048) transposes_S2048x4x1024_S4x2048x1024_1_0_2) shapeCasts_S4x2048x1024_S8192x1024 := by
    unfold out_main_v8
    rfl
  unfold at' at e
  refine e.trans (funext fun y => ?_)
  have hy : (y 0).val < 8192 := (y 0).isLt
  exact (back_rows _ _ _ y).trans (t ⟨(y 0).val % 2048, Nat.mod_lt _ (by decide)⟩ ⟨(y 0).val / 2048, by omega⟩ (y 1))

end Cert.Reference23Ideal.Scan
end
-- ==== Proof.Scan.lean ====
/- The recurrence, forward and reversed: the frames of both texts and the values. -/
module

public import proofs.«01_k».proof.Proof.Gen.Kernel22.Frame
public import proofs.«01_k».proof.Proof.Gen.Kernel23.Frame
public import proofs.«01_k».proof.Proof.Rscanv
public import proofs.«01_k».proof.Proof.Fscanv
public import proofs.«01_k».proof.Proof.Rscanref
public import proofs.«01_k».proof.Proof.Fscanref
public import Idealize.ShloMosaic.Lib.Pipeline.ValueKit

@[expose] public section

set_option maxRecDepth 16384

noncomputable section

/-! The kernel as launched and the kernel read over the extended reals have the same text, so a run of the second at the
    launched floats is a run of the first. -/

namespace Cert.Kernel22.Scan

open Cert.Kernel22 Cert.Kernel22.Gen Idealize.ShloMosaic Idealize.ShloMosaic.TcCoe Idealize.SL.Sem

theorem defs₀_eq : Cert.Kernel22Ideal.defs₀ (F := Bits) = Cert.Kernel22.defs₀ (F := Bits) := by
  unfold Cert.Kernel22Ideal.defs₀ Cert.Kernel22.defs₀
  refine congrArg Defs.onTc ?_
  funext l a
  match l, a with
  | ⟨0, _⟩, (t, s) => rfl

theorem defs_eq : Cert.Kernel22Ideal.defs (F := Bits) = Cert.Kernel22.defs (F := Bits) := by
  unfold Cert.Kernel22Ideal.defs Cert.Kernel22.defs
  rw [defs₀_eq]
  rfl

theorem frame (m : (ℓ : Loc nD τ sig) → Buf (Elt Bits) ℓ) (ρ : Dev nD → PrngReg) :
    θ_run (defs (F := Bits)) (onTc (τ := τ) (main (F := Bits))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 := by
  have h := Cert.Kernel22Ideal.Scan.frame (F := Bits) m ρ
  rw [← defs_eq]
  exact h

end Cert.Kernel22.Scan

namespace Cert.Kernel23.Scan

open Cert.Kernel23 Cert.Kernel23.Gen Idealize.ShloMosaic Idealize.ShloMosaic.TcCoe Idealize.SL.Sem

theorem defs₀_eq : Cert.Kernel23Ideal.defs₀ (F := Bits) = Cert.Kernel23.defs₀ (F := Bits) := by
  unfold Cert.Kernel23Ideal.defs₀ Cert.Kernel23.defs₀
  refine congrArg Defs.onTc ?_
  funext l a
  match l, a with
  | ⟨0, _⟩, (t, s) => rfl

theorem defs_eq : Cert.Kernel23Ideal.defs (F := Bits) = Cert.Kernel23.defs (F := Bits) := by
  unfold Cert.Kernel23Ideal.defs Cert.Kernel23.defs
  rw [defs₀_eq]
  rfl

theorem frame (m : (ℓ : Loc nD τ sig) → Buf (Elt Bits) ℓ) (ρ : Dev nD → PrngReg) :
    θ_run (defs (F := Bits)) (onTc (τ := τ) (main (F := Bits))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 := by
  have h := Cert.Kernel23Ideal.Scan.frame (F := Bits) m ρ
  rw [← defs_eq]
  exact h

end Cert.Kernel23.Scan

namespace Cert.Reference22Ideal.Scan

open Cert.Reference22Ideal Cert.Reference22Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference22Ideal.Scan

namespace Cert.Reference23Ideal.Scan

open Cert.Reference23Ideal Cert.Reference23Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference23Ideal.Scan

namespace Cert.Mlp

open Idealize.ShloMosaic Idealize.SL.Sem

theorem rscan : Cert.algebraic_Kernel22Ideal_Reference22Ideal := by
  pair_intro
  · run_from Kernel22Ideal.Scan.run_main m g
  · refine θ_run_mono (Reference22Ideal.Value.run m' g') fun r hr c => ⟨(hr c).1.trans ?_, (hr c).2⟩
    exact (Reference22Ideal.Scan.out m' c).trans ((congrArg₂ Recur.grads (hagree c).1 (hagree c).2).trans (Kernel22Ideal.Scan.arr m c).symm)

theorem scan : Cert.algebraic_Kernel23Ideal_Reference23Ideal := by
  pair_intro
  · run_from Kernel23Ideal.Scan.run_main m g
  · refine θ_run_mono (Reference23Ideal.Value.run m' g') fun r hr c => ⟨(hr c).1.trans ?_, (hr c).2⟩
    exact (Reference23Ideal.Scan.out m' c).trans ((congrArg₂ Recur.states (hagree c).1 (hagree c).2).trans (Kernel23Ideal.Scan.arr m c).symm)

end Cert.Mlp

end
-- ==== Proof.Mem.lean ====
/- The memory's products: its keys and values, the gradient of their weight, and the memory's own gradient, summed over two blocks of the
   inner width. -/
module

public import proofs.«01_k».proof.Defs
public import proofs.«01_k».proof.Proof.Mm
public import proofs.«01_k».proof.Proof.Gen.Kernel24Ideal.Value
public import proofs.«01_k».proof.Proof.Gen.Reference24Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel24Ideal.Mlp

open Cert.Mm Cert.Kernel24Ideal Cert.Kernel24Ideal.Gen Idealize.ShloMosaic Idealize.ShloMosaic.TcCoe Idealize.SL.Sem
open Idealize.ShloMosaic.Pipeline (Dat)

variable (m : (ℓ : Loc nD τ sig) → Buf (Elt Ideal) ℓ)

theorem pay (x w : FVec Ideal S1024x1024 .bf16) (j) : k0_pay1 (F := Ideal) x w j = nn x w j := by
  pointwise [k0_pay1, nn]

theorem idx : ∀ t : Fin cfg0.N, win0_0.index t = ![0, 0] ∧ win0_1.index t = ![0, t.val] ∧ win0_2.index t = ![0, t.val] :=
  (by decide +kernel : ∀ t : Fin grid0.N, _)

abbrev argX (c : Dev nD) : FVec Ideal S1024x1024 .bf16 := m ((c : Thread nD τ).loc main_arg0)
abbrev argW (c : Dev nD) : FVec Ideal S1024x2048 .bf16 := m ((c : Thread nD τ).loc main_arg1)

/-- The array after the run. -/
theorem arr (c : Dev nD) : (dats m 0 c).arrAt 2 cfg0.N = nn (argX m c) (argW m c) := by
  refine (dats m 0 c).arrAt_eq_of_covers 2 _ (by decide +kernel) fun t hf y => ?_
  blk_simp
  rw [after0_2]
  frame_out
  rw [pay]
  refine nn_congr (fun k => ?_) (fun k => ?_) <;> blk_ext [iblk, V, idx t]

end Cert.Kernel24Ideal.Mlp

namespace Cert.Kernel25Ideal.Mlp

open Cert.Mm Cert.Kernel25Ideal Cert.Kernel25Ideal.Gen Idealize.ShloMosaic Idealize.ShloMosaic.TcCoe Idealize.SL.Sem
open Idealize.ShloMosaic.Pipeline (Dat)

variable (m : (ℓ : Loc nD τ sig) → Buf (Elt Ideal) ℓ)

theorem pay (x : FVec Ideal S1024x1024 .bf16) (w : FVec Ideal S1024x1024 .f32) (j) : k0_pay1 (F := Ideal) x w j = tn x w j := by
  pointwise [k0_pay1, tn]

theorem idx : ∀ t : Fin cfg0.N, win0_0.index t = ![0, 0] ∧ win0_1.index t = ![0, t.val] ∧ win0_2.index t = ![0, t.val] :=
  (by decide +kernel : ∀ t : Fin grid0.N, _)

abbrev argX (c : Dev nD) : FVec Ideal S1024x1024 .bf16 := m ((c : Thread nD τ).loc main_arg0)
abbrev argW (c : Dev nD) : FVec Ideal S1024x2048 .f32 := m ((c : Thread nD τ).loc main_arg1)

/-- The array after the run. -/
theorem arr (c : Dev nD) : (dats m 0 c).arrAt 2 cfg0.N = tn (argX m c) (argW m c) := by
  refine (dats m 0 c).arrAt_eq_of_covers 2 _ (by decide +kernel) fun t hf y => ?_
  blk_simp
  rw [after0_2]
  frame_out
  rw [pay]
  refine tn_congr (fun k => ?_) (fun k => ?_) <;> blk_ext [iblk, V, idx t]

end Cert.Kernel25Ideal.Mlp

namespace Cert.Kernel26Ideal.Mlp

open Cert.Mm Cert.Kernel26Ideal Cert.Kernel26Ideal.Gen Idealize.ShloMosaic Idealize.ShloMosaic.TcCoe Idealize.SL.Sem
open Idealize.ShloMosaic.Pipeline (Dat)

variable (m : (ℓ : Loc nD τ sig) → Buf (Elt Ideal) ℓ)

theorem first (x : FVec Ideal S1024x1024 .f32) (w : FVec Ideal S1024x1024 .bf16) (j) : k0_pay2 (F := Ideal) x w j = nt x w j := by
  pointwise [k0_pay2, k0_pay1, nt]

theorem next (x : FVec Ideal S1024x1024 .f32) (w : FVec Ideal S1024x1024 .bf16) (acc : FVec Ideal S1024x1024 .f32) (j) :
    k0_pay3 (F := Ideal) x w acc j = acc j + nt x w j := by
  pointwise [k0_pay3, k0_pay1, nt]

theorem idx : ∀ t : Fin cfg0.N, win0_0.index t = ![0, t.val % 2] ∧ win0_1.index t = ![0, t.val % 2] ∧ win0_2.index t = ![0, 0] :=
  (by decide +kernel : ∀ t : Fin grid0.N, _)

theorem hN : cfg0.N = 2 := N_0

theorem step_first (c : Dev nD) (t : Fin cfg0.N) (h : t.val % 2 = 0) (y) :
    (outsAt0 m c t.val t.isLt).2 y = 0 + nt (M := 1024) (K := 1024) (N := 1024) (φ := .f32) (ψ := .bf16) (iblk m c 0 t) (iblk m c 1 t) y := by
  rw [outsAt0_A m c t h (by omega) (by omega), zero_add]; frame_out; rw [first]

theorem step_next (c : Dev nD) (t : Fin cfg0.N) (h : ¬ t.val % 2 = 0) (y) :
    (outsAt0 m c t.val t.isLt).2 y
      = (outsAt0 m c (t.val - 1) (Nat.lt_of_le_of_lt (Nat.sub_le _ _) t.isLt)).2 y + nt (M := 1024) (K := 1024) (N := 1024) (φ := .f32) (ψ := .bf16) (iblk m c 0 t) (iblk m c 1 t) y := by
  have h3 : t.val % 2 = 1 := by omega
  rw [outsAt0_B m c t h h3 h3]; frame_out; rw [next]
  exact congrArg (fun a : EReal => a + _) (congrFun ((Memref.isWhole_whole cc0_scratch0).read_unread _) y)

theorem out_last (c : Dev nD) (t : Fin cfg0.N) (h : t.val % 2 = 1) (y) :
    (outsAt0 m c t.val t.isLt).1 y = (outsAt0 m c t.val t.isLt).2 y := by
  rw [outsAt0_B m c t (by omega) h h]; frame_out

abbrev argX (c : Dev nD) : FVec Ideal S1024x2048 .f32 := m ((c : Thread nD τ).loc main_arg0)
abbrev argW (c : Dev nD) : FVec Ideal S1024x2048 .bf16 := m ((c : Thread nD τ).loc main_arg1)

/-- The array after the run. -/
theorem arr (c : Dev nD) : (dats m 0 c).arrAt 2 cfg0.N = nt (argX m c) (argW m c) := by
  refine (dats m 0 c).arrAt_eq_of_covers 2 _ (by decide +kernel) fun t hf y => ?_
  blk_simp
  have h3 := (flush0_2 t).mp hf
  rw [after0_2, out_last m c t h3, Pipeline.eq_sum_fin_of_reset_step_apply_of_flush (fun n h => (outsAt0 m c n h).2) 2 (fun _ => 0) _
    (fun t h j => step_first m c t h j) (fun t h j => step_next m c t h j) t h3 _, zero_add]
  refine Fin.sum_mul_add_congr fun s k hl => ?_
  refine congrArg₂ (fun a b : EReal => a * b) ?_ ?_ <;> blk_ext [iblk, V, idx t, idx ⟨_, Pipeline.run_point_lt_of_flush t h3 s⟩]

end Cert.Kernel26Ideal.Mlp

namespace Cert.Reference24Ideal.Mlp

open Cert.Reference24Ideal Cert.Reference24Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference24Ideal.Mlp

namespace Cert.Reference25Ideal.Mlp

open Cert.Reference25Ideal Cert.Reference25Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference25Ideal.Mlp

namespace Cert.Reference26Ideal.Mlp

open Cert.Reference26Ideal Cert.Reference26Ideal.Gen Idealize.ShloMosaic Idealize.ShloMosaic.TcCoe Idealize.SL.Sem

theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems rfl r.2⟩) (Value.run m ρ)

end Cert.Reference26Ideal.Mlp

namespace Cert.Mlp

open Idealize.ShloMosaic Idealize.SL.Sem

theorem kv : Cert.algebraic_Kernel24Ideal_Reference24Ideal := by
  intro m g m' g' _ hargs
  refine ⟨fun c => (Kernel24Ideal.Gen.dats m 0 c).arrAt 2 Kernel24Ideal.cfg0.N,
    Kernel24Ideal.Value.run_blocks m g, (θ_run _ _ _).mono (fun r h c => ?_) (Reference24Ideal.Value.run m' g')⟩
  obtain ⟨e, h2⟩ := h c
  refine ⟨e.trans (Eq.trans ?_ (Kernel24Ideal.Mlp.arr m c).symm), h2⟩
  rw [(hargs c).1, (hargs c).2]
  funext i
  pointwise [Mm.nn]

theorem dwkv : Cert.algebraic_Kernel25Ideal_Reference25Ideal := by
  intro m g m' g' _ hargs
  refine ⟨fun c => (Kernel25Ideal.Gen.dats m 0 c).arrAt 2 Kernel25Ideal.cfg0.N,
    Kernel25Ideal.Value.run_blocks m g, (θ_run _ _ _).mono (fun r h c => ?_) (Reference25Ideal.Value.run m' g')⟩
  obtain ⟨e, h2⟩ := h c
  refine ⟨e.trans (Eq.trans ?_ (Kernel25Ideal.Mlp.arr m c).symm), h2⟩
  rw [(hargs c).1, (hargs c).2]
  funext i
  pointwise []
  exact Mm.tn_swap _ _ i

theorem dmem : Cert.algebraic_Kernel26Ideal_Reference26Ideal := by
  intro m g m' g' _ hargs
  refine ⟨fun c => (Kernel26Ideal.Gen.dats m 0 c).arrAt 2 Kernel26Ideal.cfg0.N,
    Kernel26Ideal.Value.run_blocks m g, (θ_run _ _ _).mono (fun r h c => ?_) (Reference26Ideal.Value.run m' g')⟩
  obtain ⟨e, h2⟩ := h c
  refine ⟨e.trans (Eq.trans ?_ (Kernel26Ideal.Mlp.arr m c).symm), h2⟩
  rw [(hargs c).1, (hargs c).2]
  funext i
  pointwise [Mm.nt]

end Cert.Mlp

end
-- ==== Proof.Dnorms.lean ====
/- The gradients of two norms in one call: the norm in front of a layer's part, and the norm behind the part below it, whose
   cotangent is the first one's result. The gains' gradients and the sum of the rows are folded to eight rows and summed afterwards. -/
module

public import proofs.«01_k».proof.Defs
public import proofs.«01_k».proof.Proof.Dnorm
public import proofs.«01_k».proof.Proof.Gen.Kernel27.Frame
public import proofs.«01_k».proof.Proof.Gen.Kernel27Ideal.Frame
public import proofs.«01_k».proof.Proof.Gen.Reference27Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Kernel27Ideal.Mlp

open Cert.Norm Cert.Kernel27Ideal Cert.Kernel27Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0]
    ∧ win0_8.index t = ![0, 0] ∧ win0_9.index t = ![0, 0] ∧ win0_10.index t = ![0, 0] :=
  (by decide +kernel : ∀ t : Fin grid0.N, _)

theorem hN : cfg0.N = 32 := N_0

abbrev argA (c : Dev nD) : FVec Ideal S8192x1024 .f32 := m ((c : Thread nD τ).loc main_arg0)
abbrev argD (c : Dev nD) : FVec Ideal S8192x1024 .f32 := m ((c : Thread nD τ).loc main_arg1)
abbrev argX (c : Dev nD) : FVec Ideal S8192x1024 .f32 := m ((c : Thread nD τ).loc main_arg2)
abbrev argT (c : Dev nD) : FVec Ideal S8192x1024 .f32 := m ((c : Thread nD τ).loc main_arg3)
abbrev argG (c : Dev nD) : FVec Ideal S1x1024 .f32 := m ((c : Thread nD τ).loc main_arg4)
abbrev argB (c : Dev nD) : FVec Ideal S1x1024 .f32 := m ((c : Thread nD τ).loc main_arg5)

/-- The first norm's result, the cotangent of the second. -/
abbrev mid (c : Dev nD) : FVec Ideal S8192x1024 .f32 := dx (argA m c) (argD m c) (argX m c) (argG m c)

section Pays

variable (A D X T : FVec Ideal S256x1024 .f32) (G B : FVec Ideal S1x1024 .f32) (acc : FVec Ideal S8x1024 .f32)

theorem pay_dx : k0_pay5 (F := Ideal) A D X G = dx A D X G := by
  funext y
  pointwise [k0_pay5, k0_pay3, k0_pay2, dx, dt, kdx, ms, row, cot]

theorem pay_dt (y : S256x1024.Idx) : k0_pay9 (F := Ideal) T B D (k0_pay6 T) (k0_pay7 T) y = dt D T B y := by
  pointwise [k0_pay9, k0_pay8, k0_pay7, k0_pay6, dt, kdx, ms, row, cot]

theorem pay_dt' (y : S256x1024.Idx) : k0_pay10 (F := Ideal) T B D (k0_pay6 T) (k0_pay7 T) y = dt D T B y :=
  (pay_dt D T B y)

/-- The rows of a point, folded. -/
def fold (f : Fin 256 → Fin 1024 → EReal) (y : S8x1024.Idx) : EReal :=
  ∑ q : Fin 32, f ⟨q.val * 8 + (y 0).val, by have := ValueIdx.idx2_lt0 y; omega⟩ (y 1)

theorem pay_dg (y : S8x1024.Idx) : k0_pay14 (F := Ideal) (k0_pay4 D X) acc y = acc y + fold (fun r j => gterm D X j r) y := by
  pointwise [k0_pay14, k0_pay4, k0_pay3, k0_pay2, fold, gterm, ms, row]

theorem pay_db (y : S8x1024.Idx) : k0_pay15 (F := Ideal) T D (k0_pay7 T) acc y = acc y + fold (fun r j => gterm D T j r) y := by
  pointwise [k0_pay15, k0_pay8, k0_pay7, k0_pay6, fold, gterm, ms, row]

theorem pay_sum (y : S8x1024.Idx) : k0_pay1 (F := Ideal) (k0_pay16 acc) (k0_pay17 T B D (k0_pay6 T) (k0_pay7 T)) y
    = acc y + fold (fun r j => dt D T B (ix2 r j)) y := by
  refine Eq.trans ?_ (congrArg (fun b : EReal => acc y + b) (Finset.sum_congr rfl fun q _ => pay_dt D T B _))
  pointwise [k0_pay1, k0_pay16, k0_pay17]

end Pays

/-- The eight folded rows of all points. -/
def folded (T : Fin 8192 → Fin 1024 → EReal) : FVec Ideal S8x1024 .f32 :=
  fun y => ∑ l : Fin 1024, T ⟨l.val * 8 + (y 0).val, by have := ValueIdx.idx2_lt0 y; omega⟩ (y 1)

theorem folded_congr (T : Fin 8192 → Fin 1024 → EReal) {y y' : S8x1024.Idx} (h0 : (y 0).val = (y' 0).val) (h1 : (y 1).val = (y' 1).val) : folded T y = folded T y' := by
  have e : y = y' := funext fun a => by fin_cases a; exacts [Fin.ext h0, Fin.ext h1]
  rw [e]

/-- A window that is reset at the first point, and to which each point adds its folded rows, holds all of them at the last. -/
theorem acc_of (a : (n : ℕ) → n < cfg0.N → FVec Ideal S8x1024 .f32) (f : Fin cfg0.N → Fin 256 → Fin 1024 → EReal) (T : Fin 8192 → Fin 1024 → EReal)
    (ha : ∀ (t : Fin cfg0.N) y, a t.val t.isLt y = (if t.val % 32 = 0 then 0 else a (t.val - 1) (Nat.lt_of_le_of_lt (Nat.sub_le _ _) t.isLt) y) + fold (f t) y)
    (hf : ∀ (t : Fin cfg0.N) (r : Fin 256) (j : Fin 1024) (n : Fin 8192), n.val = t.val * 256 + r.val → f t r j = T n j)
    (t : Fin cfg0.N) (h3 : t.val % 32 = 32 - 1) (y : S8x1024.Idx) : a t.val t.isLt y = folded T y := by
  have ht := lt_of_lt_of_eq t.isLt hN
  rw [Pipeline.eq_sum_fin_of_reset_step_apply_of_flush a 32 (fun _ => 0) _
    (fun t h j => by rw [ha t j, if_pos h]) (fun t h j => by rw [ha t j, if_neg h]) t h3 _, zero_add]
  refine Fin.sum_mul_add_congr fun s k hl => hf _ _ _ _ ?_
  show (s.val * 32 + k.val) * 8 + (y 0).val = (32 * (t.val / 32) + s.val) * 256 + (k.val * 8 + (y 0).val)
  omega

/-- What a point computes of the first norm. -/
abbrev blk (c : Dev nD) (t : Fin cfg0.N) : FVec Ideal S256x1024 .f32 := dx (iblk m c 0 t) (iblk m c 1 t) (iblk m c 2 t) (iblk m c 4 t)

theorem blk_eq (c : Dev nD) (t : Fin cfg0.N) (y : S256x1024.Idx) (i : S8192x1024.Idx) (h0 : (i 0).val = t.val * 256 + (y 0).val) (h1 : (i 1).val = (y 1).val) :
    blk m c t y = mid m c i := by
  refine dx_congr ?_ (fun k => ?_) (fun k => ?_) (funext fun k => ?_) h1.symm
  all_goals blk_ext [iblk, V, idx t, h0, h1]

theorem rows_eq (c : Dev nD) (t : Fin cfg0.N) (y : Fin 256) (n : Fin 8192) (h : n.val = t.val * 256 + y.val) (k : Fin 1024) :
    ((iblk m c 3 t : FVec Ideal S256x1024 .f32) (ix2 y k) : EReal) = argT m c (ix2 n k) := by
  blk_ext [iblk, V, idx t, h]

theorem first_eq (c : Dev nD) (t : Fin cfg0.N) (r : Fin 256) (j : Fin 1024) (n : Fin 8192) (h : n.val = t.val * 256 + r.val) :
    gterm (M := 256) (iblk m c 1 t) (iblk m c 2 t) j r = gterm (argD m c) (argX m c) j n := by
  refine gterm_congr (fun k => ?_) (fun k => ?_) rfl
  all_goals blk_ext [iblk, V, idx t, h]

theorem second_eq (c : Dev nD) (t : Fin cfg0.N) (r : Fin 256) (j : Fin 1024) (n : Fin 8192) (h : n.val = t.val * 256 + r.val) :
    gterm (M := 256) (blk m c t) (iblk m c 3 t) j r = gterm (mid m c) (argT m c) j n :=
  gterm_congr (fun k => blk_eq m c t _ _ h rfl) (fun k => rows_eq m c t r n h k) rfl

theorem gain_eq (c : Dev nD) (t : Fin cfg0.N) : (iblk m c 5 t : FVec Ideal S1x1024 .f32) = argB m c := by
  funext k
  blk_ext [iblk, V, idx t]

theorem dt_at (c : Dev nD) (t : Fin cfg0.N) (y : S256x1024.Idx) (i : S8192x1024.Idx) (h0 : (i 0).val = t.val * 256 + (y 0).val) (h1 : (i 1).val = (y 1).val) :
    dt (M := 256) (blk m c t) (iblk m c 3 t) (iblk m c 5 t) y = dt (mid m c) (argT m c) (argB m c) i :=
  dt_congr (fun k => blk_eq m c t _ _ h0 rfl) (fun k => rows_eq m c t _ _ h0 k) (gain_eq m c t) h1.symm

theorem step_dx (c : Dev nD) (t : Fin cfg0.N) : (outsAt0 m c t.val t.isLt).1 = blk m c t := by
  by_cases h : t.val % 32 = 0
  · rw [outsAt0_A m c t h]
    frame_out
    exact pay_dx _ _ _ _
  · rw [outsAt0_B m c t h]
    frame_out
    exact pay_dx _ _ _ _

theorem step_dt (c : Dev nD) (t : Fin cfg0.N) (y) : (outsAt0 m c t.val t.isLt).2.1 y = dt (M := 256) (blk m c t) (iblk m c 3 t) (iblk m c 5 t) y := by
  by_cases h : t.val % 32 = 0
  · rw [outsAt0_A m c t h]
    frame_out
    rw [pay_dx]
    exact pay_dt' _ _ _ _
  · rw [outsAt0_B m c t h]
    frame_out
    rw [pay_dx]
    exact pay_dt' _ _ _ _

theorem step_dg (c : Dev nD) (t : Fin cfg0.N) (y : S8x1024.Idx) : (outsAt0 m c t.val t.isLt).2.2.1 y
    = (if t.val % 32 = 0 then 0 else (outsAt0 m c (t.val - 1) (Nat.lt_of_le_of_lt (Nat.sub_le _ _) t.isLt)).2.2.1 y)
      + fold (fun r j => gterm (M := 256) (iblk m c 1 t) (iblk m c 2 t) j r) y := by
  by_cases h : t.val % 32 = 0
  · rw [outsAt0_A m c t h, if_pos h]
    frame_out
    refine (pay_dg _ _ _ _).trans (congrArg (fun b : EReal => b + _) ?_)
    pointwise [k0_pay11]
  · rw [outsAt0_B m c t h, if_neg h]
    frame_out
    exact pay_dg _ _ _ _

theorem step_db (c : Dev nD) (t : Fin cfg0.N) (y : S8x1024.Idx) : (outsAt0 m c t.val t.isLt).2.2.2.1 y
    = (if t.val % 32 = 0 then 0 else (outsAt0 m c (t.val - 1) (Nat.lt_of_le_of_lt (Nat.sub_le _ _) t.isLt)).2.2.2.1 y)
      + fold (fun r j => gterm (M := 256) (blk m c t) (iblk m c 3 t) j r) y := by
  by_cases h : t.val % 32 = 0
  · rw [outsAt0_A m c t h, if_pos h]
    frame_out
    rw [pay_dx]
    refine (pay_db _ _ _ _).trans (congrArg (fun b : EReal => b + _) ?_)
    pointwise [k0_pay12]
  · rw [outsAt0_B m c t h, if_neg h]
    frame_out
    rw [pay_dx]
    exact pay_db _ _ _ _

theorem step_sum (c : Dev nD) (t : Fin cfg0.N) (y : S8x1024.Idx) : (outsAt0 m c t.val t.isLt).2.2.2.2 y
    = (if t.val % 32 = 0 then 0 else (outsAt0 m c (t.val - 1) (Nat.lt_of_le_of_lt (Nat.sub_le _ _) t.isLt)).2.2.2.2 y)
      + fold (fun r j => dt (M := 256) (blk m c t) (iblk m c 3 t) (iblk m c 5 t) (ix2 r j)) y := by
  by_cases h : t.val % 32 = 0
  · rw [outsAt0_A m c t h, if_pos h]
    frame_out
    rw [pay_dx]
    refine (pay_sum _ _ _ _ _).trans (congrArg (fun b : EReal => b + _) ?_)
    pointwise [k0_pay13]
  · rw [outsAt0_B m c t h, if_neg h]
    frame_out
    rw [pay_dx]
    exact pay_sum _ _ _ _ _

/-- The rows' gradients after the run. -/
theorem arr_dx (c : Dev nD) : (dats m 0 c).arrAt 6 cfg0.N = mid m c := by
  refine (dats m 0 c).arrAt_eq_of_covers 6 _ (by decide +kernel) fun t hf y => ?_
  blk_simp
  rw [after0_6, step_dx m c t]
  refine blk_eq m c t _ _ ?_ ?_
  all_goals blk_ext [idx t]

theorem arr_dt (c : Dev nD) : (dats m 0 c).arrAt 7 cfg0.N = dt (mid m c) (argT m c) (argB m c) := by
  refine (dats m 0 c).arrAt_eq_of_covers 7 _ (by decide +kernel) fun t hf y => ?_
  blk_simp
  rw [after0_7, step_dt m c t]
  refine dt_at m c t _ _ ?_ ?_
  all_goals blk_ext [idx t]

/-- The folded sums after the run. -/
theorem arr_dg (c : Dev nD) : (dats m 0 c).arrAt 8 cfg0.N = folded fun n j => gterm (argD m c) (argX m c) j n := by
  refine (dats m 0 c).arrAt_eq_of_covers 8 _ (by decide +kernel) fun t hf y => ?_
  blk_simp
  rw [after0_8]
  refine (acc_of (fun n h => (outsAt0 m c n h).2.2.1) _ _ (step_dg m c) (first_eq m c) t ((flush0_8 t).mp hf) _).trans (folded_congr _ ?_ ?_)
  all_goals blk_ext [idx t]

theorem arr_db (c : Dev nD) : (dats m 0 c).arrAt 9 cfg0.N = folded fun n j => gterm (mid m c) (argT m c) j n := by
  refine (dats m 0 c).arrAt_eq_of_covers 9 _ (by decide +kernel) fun t hf y => ?_
  blk_simp
  rw [after0_9]
  refine (acc_of (fun n h => (outsAt0 m c n h).2.2.2.1) _ _ (step_db m c) (second_eq m c) t ((flush0_9 t).mp hf) _).trans (folded_congr _ ?_ ?_)
  all_goals blk_ext [idx t]

theorem arr_sum (c : Dev nD) : (dats m 0 c).arrAt 10 cfg0.N = folded fun n j => dt (mid m c) (argT m c) (argB m c) (ix2 n j) := by
  refine (dats m 0 c).arrAt_eq_of_covers 10 _ (by decide +kernel) fun t hf y => ?_
  blk_simp
  rw [after0_10]
  refine (acc_of (fun n h => (outsAt0 m c n h).2.2.2.2) _ _ (step_sum m c) (fun t r j n h => dt_at m c t _ _ h rfl) t ((flush0_10 t).mp hf) _).trans (folded_congr _ ?_ ?_)
  all_goals blk_ext [idx t]

/-- The host's sum of folded rows. -/
theorem sum8 (T : Fin 8192 → Fin 1024 → EReal) (z : FVec Ideal S8x1024 .f32) (hz : z = folded T) :
    (Host.reduceAdd z (constant S_ .f32 0x00000000#32) reducesTo_S8x1024_S1024_d0 h_S_ : FVec Ideal S1024 .f32) = fun j => ∑ n : Fin 8192, T n (j 0) := by
  subst hz
  funext j
  pointwise [folded]
  rw [Finset.sum_comm]
  exact Fin.sum_mul_add_congr fun s k hl => rfl

theorem tail_dg (c : Dev nD) : Pipeline.afterTail₀ cfgs (dats m) 0 (V0 m) [hostOps1] c main_v1
    = fun j : S1024.Idx => ∑ n : Fin 8192, gterm (argD m c) (argX m c) (j 0) n := by
  unfold Pipeline.afterTail₀
  simp only [List.flatten_cons, List.flatten_nil, List.append_nil]
  after_results
  exact sum8 (fun n j => gterm (argD m c) (argX m c) j n) _ ((Pipeline.withArrays_arr (cfgs 0).spec (by decide) c (V0 m c) _ 8).trans (arr_dg m c))

theorem tail_db (c : Dev nD) : Pipeline.afterTail₀ cfgs (dats m) 0 (V0 m) [hostOps1] c main_v2
    = fun j : S1024.Idx => ∑ n : Fin 8192, gterm (mid m c) (argT m c) (j 0) n := by
  unfold Pipeline.afterTail₀
  simp only [List.flatten_cons, List.flatten_nil, List.append_nil]
  after_results
  exact sum8 (fun n j => gterm (mid m c) (argT m c) j n) _ ((Pipeline.withArrays_arr (cfgs 0).spec (by decide) c (V0 m c) _ 9).trans (arr_db m c))

theorem tail_sum (c : Dev nD) : Pipeline.afterTail₀ cfgs (dats m) 0 (V0 m) [hostOps1] c main_v3
    = fun j : S1024.Idx => ∑ n : Fin 8192, dt (mid m c) (argT m c) (argB m c) (ix2 n (j 0)) := by
  unfold Pipeline.afterTail₀
  simp only [List.flatten_cons, List.flatten_nil, List.append_nil]
  after_results
  exact sum8 (fun n j => dt (mid m c) (argT m c) (argB m c) (ix2 n j)) _ ((Pipeline.withArrays_arr (cfgs 0).spec (by decide) c (V0 m c) _ 10).trans (arr_sum m c))

end Cert.Kernel27Ideal.Mlp

namespace Cert.Reference27Ideal.Mlp

open Cert.Norm Cert.Reference21Ideal.Mlp Cert.Reference27Ideal Cert.Reference27Ideal.Gen Idealize.ShloMosaic Idealize.ShloMosaic.TcCoe Idealize.SL.Sem

variable (m : (ℓ : Loc nD τ sig) → Buf (Elt Ideal) ℓ)

abbrev argA (c : Dev nD) : FVec Ideal S8192x1024 .f32 := m ((c : Thread nD τ).loc main_arg0)
abbrev argD (c : Dev nD) : FVec Ideal S8192x1024 .f32 := m ((c : Thread nD τ).loc main_arg1)
abbrev argX (c : Dev nD) : FVec Ideal S8192x1024 .f32 := m ((c : Thread nD τ).loc main_arg2)
abbrev argT (c : Dev nD) : FVec Ideal S8192x1024 .f32 := m ((c : Thread nD τ).loc main_arg3)
abbrev argG (c : Dev nD) : FVec Ideal S1x1024 .f32 := m ((c : Thread nD τ).loc main_arg4)
abbrev argB (c : Dev nD) : FVec Ideal S1x1024 .f32 := m ((c : Thread nD τ).loc main_arg5)

abbrev mid (c : Dev nD) : FVec Ideal S8192x1024 .f32 := dx (argA m c) (argD m c) (argX m c) (argG m c)

/-- The rows below with the bias of zeros, at which the gradient is taken. -/
def biased (T : FVec Ideal S8192x1024 .f32) : FVec Ideal S8192x1024 .f32 :=
  addf T (broadcastInDim S8192x1024 ![0, 1] bcast_S1x1024_S8192x1024_0_1 (broadcastInDim S1x1024 ![1] bcast_S1024_S1x1024_1 (broadcastInDim S1024 ![] bcast_S_S1024 (constant S_ .f32 0x00000000#32))))

theorem biased_eq (T : FVec Ideal S8192x1024 .f32) : biased T = T := by
  funext i
  pointwise [biased]

theorem mid_eq (c : Dev nD) : addf (argA m c) (rdt (argD m c) (argX m c) (argG m c)) = mid m c := value_dx _ _ _ _

theorem out_dx (c : Dev nD) : Value.res_main_v37 m c = mid m c := (mid_eq m c)

theorem out_dt (c : Dev nD) : Value.res_main_v82 m c = dt (mid m c) (argT m c) (argB m c) := by
  have e : Value.res_main_v82 m c = rdt (addf (argA m c) (rdt (argD m c) (argX m c) (argG m c))) (biased (argT m c)) (argB m c) := rfl
  rw [e, mid_eq, biased_eq, rdt_eq]

theorem out_db (c : Dev nD) : Value.res_main_v64 m c = fun j : S1024.Idx => ∑ n : Fin 8192, gterm (mid m c) (argT m c) (j 0) n := by
  have e : Value.res_main_v64 m c = rdg (addf (argA m c) (rdt (argD m c) (argX m c) (argG m c))) (biased (argT m c)) := rfl
  rw [e, mid_eq, biased_eq, rdg_eq]

theorem sum_eq (z : FVec Ideal S8192x1024 .f32) :
    (Host.reduceAdd (shapeCast S1x1024 (Host.reduceAdd z (constant S_ .f32 0x00000000#32) reducesTo_S8192x1024_S1024_d0 h_S_) shapeCasts_S1024_S1x1024) (constant S_ .f32 0x00000000#32) reducesTo_S1x1024_S1024_d0 h_S_ : FVec Ideal S1024 .f32)
      = fun j => ∑ n : Fin 8192, z (ix2 n (j 0)) := by
  funext i
  pointwise
  exact Fintype.sum_unique _

theorem out_sum (c : Dev nD) : Value.res_main_v81 m c = fun j : S1024.Idx => ∑ n : Fin 8192, dt (mid m c) (argT m c) (argB m c) (ix2 n (j 0)) := by
  refine (sum_eq (rdt (addf (argA m c) (rdt (argD m c) (argX m c) (argG m c))) (biased (argT m c)) (argB m c))).trans ?_
  rw [mid_eq, biased_eq, rdt_eq]

theorem frame (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => (h c).2.2.2.2.2, sem_eq_zero_of_no_sems rfl r.2⟩) (Value.run m ρ)

end Cert.Reference27Ideal.Mlp

namespace Cert.Mlp

open Idealize.ShloMosaic Idealize.SL.Sem

/-- The first norm's results agree where the arguments do. -/
theorem mid_agree {m : (ℓ : Loc Kernel27Ideal.nD Kernel27Ideal.τ Kernel27Ideal.sig) → Buf (Elt Ideal) ℓ}
    {m' : (ℓ : Loc Reference27Ideal.nD Reference27Ideal.τ Reference27Ideal.sig) → Buf (Elt Ideal) ℓ} (c : Dev Kernel27Ideal.nD)
    (hA : Reference27Ideal.Mlp.argA m' c = Kernel27Ideal.Mlp.argA m c) (hD : Reference27Ideal.Mlp.argD m' c = Kernel27Ideal.Mlp.argD m c)
    (hX : Reference27Ideal.Mlp.argX m' c = Kernel27Ideal.Mlp.argX m c) (hG : Reference27Ideal.Mlp.argG m' c = Kernel27Ideal.Mlp.argG m c) :
    Reference27Ideal.Mlp.mid m' c = Kernel27Ideal.Mlp.mid m c := by
  unfold Reference27Ideal.Mlp.mid
  rw [hA, hD, hX, hG]

theorem dt_agree {m : (ℓ : Loc Kernel27Ideal.nD Kernel27Ideal.τ Kernel27Ideal.sig) → Buf (Elt Ideal) ℓ}
    {m' : (ℓ : Loc Reference27Ideal.nD Reference27Ideal.τ Reference27Ideal.sig) → Buf (Elt Ideal) ℓ} (c : Dev Kernel27Ideal.nD)
    (hA : Reference27Ideal.Mlp.argA m' c = Kernel27Ideal.Mlp.argA m c) (hD : Reference27Ideal.Mlp.argD m' c = Kernel27Ideal.Mlp.argD m c)
    (hX : Reference27Ideal.Mlp.argX m' c = Kernel27Ideal.Mlp.argX m c) (hG : Reference27Ideal.Mlp.argG m' c = Kernel27Ideal.Mlp.argG m c)
    (hT : Reference27Ideal.Mlp.argT m' c = Kernel27Ideal.Mlp.argT m c) (hB : Reference27Ideal.Mlp.argB m' c = Kernel27Ideal.Mlp.argB m c) :
    Norm.dt (Reference27Ideal.Mlp.mid m' c) (Reference27Ideal.Mlp.argT m' c) (Reference27Ideal.Mlp.argB m' c)
      = Norm.dt (Kernel27Ideal.Mlp.mid m c) (Kernel27Ideal.Mlp.argT m c) (Kernel27Ideal.Mlp.argB m c) := by
  rw [mid_agree c hA hD hX hG, hT, hB]

set_option maxHeartbeats 1600000 in
theorem dnorms : Cert.algebraic_Kernel27Ideal_Reference27Ideal := by
  pair_intro
  · run_from Kernel27Ideal.Gen.run_main m g
  · run_from Reference27Ideal.Value.run m' g'
    all_goals obtain ⟨hA, hD, hX, hT, hG, hB⟩ := hagree c
    · exact (Reference27Ideal.Mlp.out_dx m' c).trans ((mid_agree c hA hD hX hG).trans (Kernel27Ideal.Mlp.arr_dx m c).symm)
    · refine (Reference27Ideal.Mlp.out_dt m' c).trans (Eq.trans ?_ (Kernel27Ideal.Mlp.arr_dt m c).symm)
      exact dt_agree c hA hD hX hG hT hB
    · exact (Reference21Ideal.Mlp.rdg_eq _ _).trans (Kernel27Ideal.Mlp.tail_dg m c).symm
    · refine (Reference27Ideal.Mlp.out_db m' c).trans (Eq.trans ?_ (Kernel27Ideal.Mlp.tail_db m c).symm)
      rw [mid_agree c hA hD hX hG, show Reference27Ideal.Mlp.argT m' c = Kernel27Ideal.Mlp.argT m c from hT]
    · refine (Reference27Ideal.Mlp.out_sum m' c).trans (Eq.trans ?_ (Kernel27Ideal.Mlp.tail_sum m c).symm)
      exact funext fun j => Finset.sum_congr rfl fun n _ => congrFun (dt_agree c hA hD hX hG hT hB) _

end Cert.Mlp

end
-- ==== Proof.Keep.lean ====
/- Two steps that the claims of a program with one result share. -/
module

public import Idealize.ShloMosaic.Lib.Pipeline.ValueKit
public import Idealize.ShloMosaic.Lib.Quiescent

@[expose] public section

namespace Cert.Keep

open Idealize.ShloMosaic Idealize.SL.Sem

variable {nD : ℕ} {τ : Topo} {sig : RefSig} {Val : EltTy → Type} {Λ : Labels} {d : Defs nD τ sig Val Λ}
  {p : (c : Thread nD τ) → Prog (TpuEff nD τ sig Val Λ c.2) PUnit.{1}} {s : MemSt nD τ sig Val}
  {R : PUnit.{1} × MemSt nD τ sig Val → Dev nD → Prop}

/-- A run that ends with a value and the arguments unchanged ends with the arguments unchanged, and no counter is ever set. -/
theorem frame {A : PUnit.{1} × MemSt nD τ sig Val → Dev nD → Prop} (h0 : sig.nSem + sig.nDmaSem = 0)
    (h : (θ_run d p s) fun r => ∀ c, A r c ∧ R r c) : (θ_run d p s) fun r => (∀ c, R r c) ∧ r.2.sem = fun _ => 0 :=
  (θ_run d _ _).mono (fun r h => ⟨fun c => (h c).2, sem_eq_zero_of_no_sems h0 r.2⟩) h

/-- The same for a run that ends with two values. -/
theorem frame₂ {A B : PUnit.{1} × MemSt nD τ sig Val → Dev nD → Prop} (h0 : sig.nSem + sig.nDmaSem = 0)
    (h : (θ_run d p s) fun r => ∀ c, A r c ∧ B r c ∧ R r c) : (θ_run d p s) fun r => (∀ c, R r c) ∧ r.2.sem = fun _ => 0 :=
  (θ_run d _ _).mono (fun r h => ⟨fun c => (h c).2.2, sem_eq_zero_of_no_sems h0 r.2⟩) h

/-- The same for a run that ends with three values. -/
theorem frame₃ {A B C : PUnit.{1} × MemSt nD τ sig Val → Dev nD → Prop} (h0 : sig.nSem + sig.nDmaSem = 0)
    (h : (θ_run d p s) fun r => ∀ c, A r c ∧ B r c ∧ C r c ∧ R r c) : (θ_run d p s) fun r => (∀ c, R r c) ∧ r.2.sem = fun _ => 0 :=
  (θ_run d _ _).mono (fun r h => ⟨fun c => (h c).2.2.2, sem_eq_zero_of_no_sems h0 r.2⟩) h

/-- The value may be stated as any equal one. -/
theorem value {α : Dev nD → Type} {get : PUnit.{1} × MemSt nD τ sig Val → (c : Dev nD) → α c} {v w : (c : Dev nD) → α c}
    (h : (θ_run d p s) fun r => ∀ c, get r c = v c ∧ R r c) (e : ∀ c, v c = w c) : (θ_run d p s) fun r => ∀ c, get r c = w c ∧ R r c :=
  (θ_run d _ _).mono (fun r h c => ⟨(h c).1.trans (e c), (h c).2⟩) h

end Cert.Keep
-- ==== Proof.Lora.lean ====
/- The gradients of the products of rank 64: of both weights and of both products' inputs. -/
module

public import proofs.«01_k».proof.Defs
public import proofs.«01_k».proof.Proof.Keep
public import proofs.«01_k».proof.Proof.Mm
public import proofs.«01_k».proof.Proof.Gen.Kernel28Ideal.Value
public import proofs.«01_k».proof.Proof.Gen.Reference28Ideal.Run
public import proofs.«01_k».proof.Proof.Gen.Kernel29Ideal.Value
public import proofs.«01_k».proof.Proof.Gen.Reference29Ideal.Run
public import proofs.«01_k».proof.Proof.Gen.Kernel30Ideal.Value
public import proofs.«01_k».proof.Proof.Gen.Reference30Ideal.Run
public import proofs.«01_k».proof.Proof.Gen.Kernel31Ideal.Value
public import proofs.«01_k».proof.Proof.Gen.Reference31Ideal.Run
public import proofs.«01_k».proof.Proof.Gen.Kernel32Ideal.Value
public import proofs.«01_k».proof.Proof.Gen.Reference32Ideal.Run
public import Idealize.ShloMosaic.Lib.Pipeline.ValueKit
public import Idealize.ShloMosaic.Lib.Pipeline.ReadBack

@[expose] public section

set_option maxRecDepth 16384

noncomputable section

open Cert.Mm Idealize.ShloMosaic Idealize.ShloMosaic.TcCoe Idealize.SL.Sem

namespace Cert.Kernel28Ideal.Mlp

open Cert.Kernel28Ideal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] :=
  (by decide +kernel : ∀ t : Fin grid0.N, _)

theorem step (t : Fin cfg0.N) (y) : (outsAt0 m c t.val t.isLt).2 y
    = (if t.val % 8 = 0 then 0 else (outsAt0 m c (t.val - 1) (Nat.lt_of_le_of_lt (Nat.sub_le _ _) t.isLt)).2 y)
      + tn (M := 64) (N := 1024) (φ := .bf16) (ψ := .bf16) (iblk m c 0 t) (iblk m c 1 t) y := by
  have ht := lt_of_lt_of_eq t.isLt N_0
  have next (acc) : k0_pay3 (F := Ideal) (iblk m c 0 t) (iblk m c 1 t) acc y = acc y + tn (M := 64) (N := 1024) (φ := .bf16) (ψ := .bf16) (iblk m c 0 t) (iblk m c 1 t) y := by
    pointwise [k0_pay3, k0_pay1, tn]
  by_cases h : t.val % 8 = 0
  · rw [outsAt0_A m c t h (by omega) (by omega), if_pos h, zero_add]; frame_out; pointwise [k0_pay2, k0_pay1, tn]
  by_cases h3 : t.val % 8 = 7
  · rw [outsAt0_C m c t h (by omega) h3, if_neg h]; frame_out; rw [next, (Memref.isWhole_whole cc0_scratch0).read_unread]
  · rw [outsAt0_B m c t h (by omega) h3, if_neg h]; frame_out; rw [next, (Memref.isWhole_whole cc0_scratch0).read_unread]

abbrev argX : FVec Ideal S8192x64 .bf16 := m ((c : Thread nD τ).loc main_arg0)
abbrev argW : FVec Ideal S8192x1024 .bf16 := m ((c : Thread nD τ).loc main_arg1)

/-- The second weight's gradient. -/
theorem arr : (dats m 0 c).arrAt 2 cfg0.N = tn (argX m c) (argW m c) := by
  refine (dats m 0 c).arrAt_eq_of_covers 2 _ (by decide +kernel) fun t hf y => ?_
  blk_simp
  have h3 := (flush0_2 t).mp hf
  refine ((congrFun (after0_2 m c t) y).trans ?_).trans (tn_acc (φ := .bf16) (ψ := .bf16) N_0 (fun n h => (outsAt0 m c n h).2)
    (iblk m c 0) (iblk m c 1) (argX m c) (argW m c) (step m c) (fun t k j n h => ?_) (fun t k j n h => ?_) t h3 y _ ?_ ?_)
  · rw [outsAt0_C m c t (by omega) (by omega) h3]; frame_out
  · blk_ext [iblk, V, idx t, h]
  · blk_ext [iblk, V, idx t, h]
  all_goals blk_ext [idx t]

end Cert.Kernel28Ideal.Mlp

namespace Cert.Kernel31Ideal.Mlp

open Cert.Kernel31Ideal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] :=
  (by decide +kernel : ∀ t : Fin grid0.N, _)

theorem step (t : Fin cfg0.N) (y) : (outsAt0 m c t.val t.isLt).2 y
    = (if t.val % 8 = 0 then 0 else (outsAt0 m c (t.val - 1) (Nat.lt_of_le_of_lt (Nat.sub_le _ _) t.isLt)).2 y)
      + tn (M := 1024) (N := 64) (φ := .bf16) (ψ := .bf16) (iblk m c 0 t) (iblk m c 1 t) y := by
  have ht := lt_of_lt_of_eq t.isLt N_0
  have next (acc) : k0_pay3 (F := Ideal) (iblk m c 0 t) (iblk m c 1 t) acc y = acc y + tn (M := 1024) (N := 64) (φ := .bf16) (ψ := .bf16) (iblk m c 0 t) (iblk m c 1 t) y := by
    pointwise [k0_pay3, k0_pay1, tn]
  by_cases h : t.val % 8 = 0
  · rw [outsAt0_A m c t h (by omega) (by omega), if_pos h, zero_add]; frame_out; pointwise [k0_pay2, k0_pay1, tn]
  by_cases h3 : t.val % 8 = 7
  · rw [outsAt0_C m c t h (by omega) h3, if_neg h]; frame_out; rw [next, (Memref.isWhole_whole cc0_scratch0).read_unread]
  · rw [outsAt0_B m c t h (by omega) h3, if_neg h]; frame_out; rw [next, (Memref.isWhole_whole cc0_scratch0).read_unread]

abbrev argX : FVec Ideal S8192x1024 .bf16 := m ((c : Thread nD τ).loc main_arg0)
abbrev argW : FVec Ideal S8192x64 .bf16 := m ((c : Thread nD τ).loc main_arg1)

/-- The first weight's gradient. -/
theorem arr : (dats m 0 c).arrAt 2 cfg0.N = tn (argX m c) (argW m c) := by
  refine (dats m 0 c).arrAt_eq_of_covers 2 _ (by decide +kernel) fun t hf y => ?_
  blk_simp
  have h3 := (flush0_2 t).mp hf
  refine ((congrFun (after0_2 m c t) y).trans ?_).trans (tn_acc (φ := .bf16) (ψ := .bf16) N_0 (fun n h => (outsAt0 m c n h).2)
    (iblk m c 0) (iblk m c 1) (argX m c) (argW m c) (step m c) (fun t k j n h => ?_) (fun t k j n h => ?_) t h3 y _ ?_ ?_)
  · rw [outsAt0_C m c t (by omega) (by omega) h3]; frame_out
  · blk_ext [iblk, V, idx t, h]
  · blk_ext [iblk, V, idx t, h]
  all_goals blk_ext [idx t]

end Cert.Kernel31Ideal.Mlp

namespace Cert.Kernel29Ideal.Mlp

open Cert.Kernel29Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The gradient of the rows between the two products, rounded. -/
theorem arr : (dats m 0 c).arrAt 2 cfg0.N
    = nt (M := 8192) (K := 1024) (N := 64) (φ := .bf16) (ψ := .bf16) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (?_ : _ = nt (M := 1024) (N := 64) (φ := .bf16) (ψ := .bf16) (iblk m c 0 t) (iblk m c 1 t) y).trans (nt_congr (fun k => ?_) (fun k => ?_))
  · pointwise [k0_pay1, nt]
  all_goals blk_ext [iblk, V, idx t]

end Cert.Kernel29Ideal.Mlp

namespace Cert.Kernel30Ideal.Mlp

open Cert.Kernel30Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The same, not rounded. -/
theorem arr : (dats m 0 c).arrAt 2 cfg0.N
    = nt (M := 8192) (K := 1024) (N := 64) (φ := .bf16) (ψ := .bf16) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (?_ : _ = nt (M := 1024) (N := 64) (φ := .bf16) (ψ := .bf16) (iblk m c 0 t) (iblk m c 1 t) y).trans (nt_congr (fun k => ?_) (fun k => ?_))
  · pointwise [k0_pay1, nt]
  all_goals blk_ext [iblk, V, idx t]

end Cert.Kernel30Ideal.Mlp

namespace Cert.Kernel32Ideal.Mlp

open Cert.Kernel32Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The gradient of the first product's input. -/
theorem arr : (dats m 0 c).arrAt 2 cfg0.N
    = nt (M := 8192) (K := 64) (N := 1024) (φ := .bf16) (ψ := .bf16) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (?_ : _ = nt (M := 1024) (N := 1024) (φ := .bf16) (ψ := .bf16) (iblk m c 0 t) (iblk m c 1 t) y).trans (nt_congr (fun k => ?_) (fun k => ?_))
  · pointwise [k0_pay1, nt]
  all_goals blk_ext [iblk, V, idx t]

end Cert.Kernel32Ideal.Mlp

namespace Cert.Mlp

theorem da2 : Cert.algebraic_Kernel28Ideal_Reference28Ideal := fun m g m' g' _ h =>
  ⟨_, Kernel28Ideal.Value.run_blocks m g, Keep.value (Reference28Ideal.Value.run m' g') fun c => by
    rw [Kernel28Ideal.Mlp.arr, (h c).1, (h c).2]
    funext i
    pointwise []
    exact tn_swap _ _ i⟩

theorem dla : Cert.algebraic_Kernel29Ideal_Reference29Ideal := fun m g m' g' _ h =>
  ⟨_, Kernel29Ideal.Value.run_blocks m g, Keep.value (Reference29Ideal.Value.run m' g') fun c => by
    rw [Kernel29Ideal.Mlp.arr, (h c).1, (h c).2]
    funext i
    pointwise [nt]⟩

theorem dth : Cert.algebraic_Kernel30Ideal_Reference30Ideal := fun m g m' g' _ h =>
  ⟨_, Kernel30Ideal.Value.run_blocks m g, Keep.value (Reference30Ideal.Value.run m' g') fun c => by
    rw [Kernel30Ideal.Mlp.arr, (h c).1, (h c).2]
    funext i
    pointwise [nt]⟩

theorem da1 : Cert.algebraic_Kernel31Ideal_Reference31Ideal := fun m g m' g' _ h =>
  ⟨_, Kernel31Ideal.Value.run_blocks m g, Keep.value (Reference31Ideal.Value.run m' g') fun c => by
    rw [Kernel31Ideal.Mlp.arr, (h c).1, (h c).2]
    funext i
    pointwise []
    exact tn_swap _ _ i⟩

theorem dxa : Cert.algebraic_Kernel32Ideal_Reference32Ideal := fun m g m' g' _ h =>
  ⟨_, Kernel32Ideal.Value.run_blocks m g, Keep.value (Reference32Ideal.Value.run m' g') fun c => by
    rw [Kernel32Ideal.Mlp.arr, (h c).1, (h c).2]
    funext i
    pointwise [nt]⟩

end Cert.Mlp

end
-- ==== Proof.Lorag.lean ====
/- The gradients of the products of rank 128: of both weights and of both products' inputs. -/
module

public import proofs.«01_k».proof.Defs
public import proofs.«01_k».proof.Proof.Keep
public import proofs.«01_k».proof.Proof.Mm
public import proofs.«01_k».proof.Proof.Gen.Kernel33Ideal.Value
public import proofs.«01_k».proof.Proof.Gen.Reference33Ideal.Run
public import proofs.«01_k».proof.Proof.Gen.Kernel34Ideal.Value
public import proofs.«01_k».proof.Proof.Gen.Reference34Ideal.Run
public import proofs.«01_k».proof.Proof.Gen.Kernel35Ideal.Value
public import proofs.«01_k».proof.Proof.Gen.Reference35Ideal.Run
public import proofs.«01_k».proof.Proof.Gen.Kernel36Ideal.Value
public import proofs.«01_k».proof.Proof.Gen.Reference36Ideal.Run
public import Idealize.ShloMosaic.Lib.Pipeline.ValueKit
public import Idealize.ShloMosaic.Lib.Pipeline.ReadBack

@[expose] public section

set_option maxRecDepth 16384

noncomputable section

open Cert.Mm Idealize.ShloMosaic Idealize.ShloMosaic.TcCoe Idealize.SL.Sem

namespace Cert.Kernel33Ideal.Mlp

open Cert.Kernel33Ideal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] :=
  (by decide +kernel : ∀ t : Fin grid0.N, _)

theorem step (t : Fin cfg0.N) (y) : (outsAt0 m c t.val t.isLt).2 y
    = (if t.val % 8 = 0 then 0 else (outsAt0 m c (t.val - 1) (Nat.lt_of_le_of_lt (Nat.sub_le _ _) t.isLt)).2 y)
      + tn (M := 128) (N := 1024) (φ := .bf16) (ψ := .bf16) (iblk m c 0 t) (iblk m c 1 t) y := by
  have ht := lt_of_lt_of_eq t.isLt N_0
  have next (acc) : k0_pay3 (F := Ideal) (iblk m c 0 t) (iblk m c 1 t) acc y = acc y + tn (M := 128) (N := 1024) (φ := .bf16) (ψ := .bf16) (iblk m c 0 t) (iblk m c 1 t) y := by
    pointwise [k0_pay3, k0_pay1, tn]
  by_cases h : t.val % 8 = 0
  · rw [outsAt0_A m c t h (by omega) (by omega), if_pos h, zero_add]; frame_out; pointwise [k0_pay2, k0_pay1, tn]
  by_cases h3 : t.val % 8 = 7
  · rw [outsAt0_C m c t h (by omega) h3, if_neg h]; frame_out; rw [next, (Memref.isWhole_whole cc0_scratch0).read_unread]
  · rw [outsAt0_B m c t h (by omega) h3, if_neg h]; frame_out; rw [next, (Memref.isWhole_whole cc0_scratch0).read_unread]

abbrev argX : FVec Ideal S8192x128 .bf16 := m ((c : Thread nD τ).loc main_arg0)
abbrev argW : FVec Ideal S8192x1024 .bf16 := m ((c : Thread nD τ).loc main_arg1)

/-- The second weight's gradient. -/
theorem arr : (dats m 0 c).arrAt 2 cfg0.N = tn (argX m c) (argW m c) := by
  refine (dats m 0 c).arrAt_eq_of_covers 2 _ (by decide +kernel) fun t hf y => ?_
  blk_simp
  have h3 := (flush0_2 t).mp hf
  refine ((congrFun (after0_2 m c t) y).trans ?_).trans (tn_acc (φ := .bf16) (ψ := .bf16) N_0 (fun n h => (outsAt0 m c n h).2)
    (iblk m c 0) (iblk m c 1) (argX m c) (argW m c) (step m c) (fun t k j n h => ?_) (fun t k j n h => ?_) t h3 y _ ?_ ?_)
  · rw [outsAt0_C m c t (by omega) (by omega) h3]; frame_out
  · blk_ext [iblk, V, idx t, h]
  · blk_ext [iblk, V, idx t, h]
  all_goals blk_ext [idx t]

end Cert.Kernel33Ideal.Mlp

namespace Cert.Kernel35Ideal.Mlp

open Cert.Kernel35Ideal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] :=
  (by decide +kernel : ∀ t : Fin grid0.N, _)

theorem step (t : Fin cfg0.N) (y) : (outsAt0 m c t.val t.isLt).2 y
    = (if t.val % 8 = 0 then 0 else (outsAt0 m c (t.val - 1) (Nat.lt_of_le_of_lt (Nat.sub_le _ _) t.isLt)).2 y)
      + tn (M := 1024) (N := 128) (φ := .bf16) (ψ := .bf16) (iblk m c 0 t) (iblk m c 1 t) y := by
  have ht := lt_of_lt_of_eq t.isLt N_0
  have next (acc) : k0_pay3 (F := Ideal) (iblk m c 0 t) (iblk m c 1 t) acc y = acc y + tn (M := 1024) (N := 128) (φ := .bf16) (ψ := .bf16) (iblk m c 0 t) (iblk m c 1 t) y := by
    pointwise [k0_pay3, k0_pay1, tn]
  by_cases h : t.val % 8 = 0
  · rw [outsAt0_A m c t h (by omega) (by omega), if_pos h, zero_add]; frame_out; pointwise [k0_pay2, k0_pay1, tn]
  by_cases h3 : t.val % 8 = 7
  · rw [outsAt0_C m c t h (by omega) h3, if_neg h]; frame_out; rw [next, (Memref.isWhole_whole cc0_scratch0).read_unread]
  · rw [outsAt0_B m c t h (by omega) h3, if_neg h]; frame_out; rw [next, (Memref.isWhole_whole cc0_scratch0).read_unread]

abbrev argX : FVec Ideal S8192x1024 .bf16 := m ((c : Thread nD τ).loc main_arg0)
abbrev argW : FVec Ideal S8192x128 .bf16 := m ((c : Thread nD τ).loc main_arg1)

/-- The first weight's gradient. -/
theorem arr : (dats m 0 c).arrAt 2 cfg0.N = tn (argX m c) (argW m c) := by
  refine (dats m 0 c).arrAt_eq_of_covers 2 _ (by decide +kernel) fun t hf y => ?_
  blk_simp
  have h3 := (flush0_2 t).mp hf
  refine ((congrFun (after0_2 m c t) y).trans ?_).trans (tn_acc (φ := .bf16) (ψ := .bf16) N_0 (fun n h => (outsAt0 m c n h).2)
    (iblk m c 0) (iblk m c 1) (argX m c) (argW m c) (step m c) (fun t k j n h => ?_) (fun t k j n h => ?_) t h3 y _ ?_ ?_)
  · rw [outsAt0_C m c t (by omega) (by omega) h3]; frame_out
  · blk_ext [iblk, V, idx t, h]
  · blk_ext [iblk, V, idx t, h]
  all_goals blk_ext [idx t]

end Cert.Kernel35Ideal.Mlp

namespace Cert.Kernel34Ideal.Mlp

open Cert.Kernel34Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The gradient of the rows between the two products. -/
theorem arr : (dats m 0 c).arrAt 2 cfg0.N
    = nt (M := 8192) (K := 1024) (N := 128) (φ := .bf16) (ψ := .bf16) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (?_ : _ = nt (M := 1024) (N := 128) (φ := .bf16) (ψ := .bf16) (iblk m c 0 t) (iblk m c 1 t) y).trans (nt_congr (fun k => ?_) (fun k => ?_))
  · pointwise [k0_pay1, nt]
  all_goals blk_ext [iblk, V, idx t]

end Cert.Kernel34Ideal.Mlp

namespace Cert.Kernel36Ideal.Mlp

open Cert.Kernel36Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The gradient of the first product's input. -/
theorem arr : (dats m 0 c).arrAt 2 cfg0.N
    = nt (M := 8192) (K := 128) (N := 1024) (φ := .bf16) (ψ := .bf16) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (?_ : _ = nt (M := 1024) (N := 1024) (φ := .bf16) (ψ := .bf16) (iblk m c 0 t) (iblk m c 1 t) y).trans (nt_congr (fun k => ?_) (fun k => ?_))
  · pointwise [k0_pay1, nt]
  all_goals blk_ext [iblk, V, idx t]

end Cert.Kernel36Ideal.Mlp

namespace Cert.Mlp

theorem dg2 : Cert.algebraic_Kernel33Ideal_Reference33Ideal := fun m g m' g' _ h =>
  ⟨_, Kernel33Ideal.Value.run_blocks m g, Keep.value (Reference33Ideal.Value.run m' g') fun c => by
    rw [Kernel33Ideal.Mlp.arr, (h c).1, (h c).2]
    funext i
    pointwise []
    exact tn_swap _ _ i⟩

theorem dsg : Cert.algebraic_Kernel34Ideal_Reference34Ideal := fun m g m' g' _ h =>
  ⟨_, Kernel34Ideal.Value.run_blocks m g, Keep.value (Reference34Ideal.Value.run m' g') fun c => by
    rw [Kernel34Ideal.Mlp.arr, (h c).1, (h c).2]
    funext i
    pointwise [nt]⟩

theorem dg1 : Cert.algebraic_Kernel35Ideal_Reference35Ideal := fun m g m' g' _ h =>
  ⟨_, Kernel35Ideal.Value.run_blocks m g, Keep.value (Reference35Ideal.Value.run m' g') fun c => by
    rw [Kernel35Ideal.Mlp.arr, (h c).1, (h c).2]
    funext i
    pointwise []
    exact tn_swap _ _ i⟩

theorem dxg : Cert.algebraic_Kernel36Ideal_Reference36Ideal := fun m g m' g' _ h =>
  ⟨_, Kernel36Ideal.Value.run_blocks m g, Keep.value (Reference36Ideal.Value.run m' g') fun c => by
    rw [Kernel36Ideal.Mlp.arr, (h c).1, (h c).2]
    funext i
    pointwise [nt]⟩

end Cert.Mlp

end
-- ==== Proof.Loraf.lean ====
/- The forward products of rank 64 and of rank 128. -/
module

public import proofs.«01_k».proof.Defs
public import proofs.«01_k».proof.Proof.Keep
public import proofs.«01_k».proof.Proof.Mm
public import proofs.«01_k».proof.Proof.Gen.Kernel37Ideal.Value
public import proofs.«01_k».proof.Proof.Gen.Reference37Ideal.Run
public import proofs.«01_k».proof.Proof.Gen.Kernel38Ideal.Value
public import proofs.«01_k».proof.Proof.Gen.Reference38Ideal.Run
public import proofs.«01_k».proof.Proof.Gen.Kernel39Ideal.Value
public import proofs.«01_k».proof.Proof.Gen.Reference39Ideal.Run
public import proofs.«01_k».proof.Proof.Gen.Kernel40Ideal.Value
public import proofs.«01_k».proof.Proof.Gen.Reference40Ideal.Run
public import proofs.«01_k».proof.Proof.Gen.Kernel41Ideal.Value
public import proofs.«01_k».proof.Proof.Gen.Reference41Ideal.Run
public import Idealize.ShloMosaic.Lib.Pipeline.ValueKit
public import Idealize.ShloMosaic.Lib.Pipeline.ReadBack

@[expose] public section

set_option maxRecDepth 16384

noncomputable section

open Cert.Mm Idealize.ShloMosaic Idealize.ShloMosaic.TcCoe Idealize.SL.Sem

namespace Cert.Kernel37Ideal.Mlp

open Cert.Kernel37Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The down projection of rank 64: each block of rows is written once. -/
theorem arr : (dats m 0 c).arrAt 2 cfg0.N
    = nn (M := 8192) (K := 1024) (N := 64) (φ := .bf16) (ψ := .bf16) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (?_ : _ = nn (M := 1024) (N := 64) (φ := .bf16) (ψ := .bf16) (iblk m c 0 t) (iblk m c 1 t) y).trans (nn_congr (fun k => ?_) (fun k => ?_))
  · pointwise [k0_pay1, nn]
  all_goals blk_ext [iblk, V, idx t]

end Cert.Kernel37Ideal.Mlp

namespace Cert.Kernel38Ideal.Mlp

open Cert.Kernel38Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The same, rounded. -/
theorem arr : (dats m 0 c).arrAt 2 cfg0.N
    = nn (M := 8192) (K := 1024) (N := 64) (φ := .bf16) (ψ := .bf16) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (?_ : _ = nn (M := 1024) (N := 64) (φ := .bf16) (ψ := .bf16) (iblk m c 0 t) (iblk m c 1 t) y).trans (nn_congr (fun k => ?_) (fun k => ?_))
  · pointwise [k0_pay1, nn]
  all_goals blk_ext [iblk, V, idx t]

end Cert.Kernel38Ideal.Mlp

namespace Cert.Kernel39Ideal.Mlp

open Cert.Kernel39Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The up projection of rank 64. -/
theorem arr : (dats m 0 c).arrAt 2 cfg0.N
    = nn (M := 8192) (K := 64) (N := 1024) (φ := .bf16) (ψ := .bf16) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (?_ : _ = nn (M := 1024) (N := 1024) (φ := .bf16) (ψ := .bf16) (iblk m c 0 t) (iblk m c 1 t) y).trans (nn_congr (fun k => ?_) (fun k => ?_))
  · pointwise [k0_pay1, nn]
  all_goals blk_ext [iblk, V, idx t]

end Cert.Kernel39Ideal.Mlp

namespace Cert.Kernel40Ideal.Mlp

open Cert.Kernel40Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The down projection of rank 128. -/
theorem arr : (dats m 0 c).arrAt 2 cfg0.N
    = nn (M := 8192) (K := 1024) (N := 128) (φ := .bf16) (ψ := .bf16) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (?_ : _ = nn (M := 1024) (N := 128) (φ := .bf16) (ψ := .bf16) (iblk m c 0 t) (iblk m c 1 t) y).trans (nn_congr (fun k => ?_) (fun k => ?_))
  · pointwise [k0_pay1, nn]
  all_goals blk_ext [iblk, V, idx t]

end Cert.Kernel40Ideal.Mlp

namespace Cert.Kernel41Ideal.Mlp

open Cert.Kernel41Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The up projection of rank 128. -/
theorem arr : (dats m 0 c).arrAt 2 cfg0.N
    = nn (M := 8192) (K := 128) (N := 1024) (φ := .bf16) (ψ := .bf16) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (?_ : _ = nn (M := 1024) (N := 1024) (φ := .bf16) (ψ := .bf16) (iblk m c 0 t) (iblk m c 1 t) y).trans (nn_congr (fun k => ?_) (fun k => ?_))
  · pointwise [k0_pay1, nn]
  all_goals blk_ext [iblk, V, idx t]

end Cert.Kernel41Ideal.Mlp

namespace Cert.Mlp

theorem w1 : Cert.algebraic_Kernel37Ideal_Reference37Ideal := fun m g m' g' _ h =>
  ⟨_, Kernel37Ideal.Value.run_blocks m g, Keep.value (Reference37Ideal.Value.run m' g') fun c => by
    rw [Kernel37Ideal.Mlp.arr, (h c).1, (h c).2]
    funext i
    pointwise [nn]⟩

theorem a1 : Cert.algebraic_Kernel38Ideal_Reference38Ideal := fun m g m' g' _ h =>
  ⟨_, Kernel38Ideal.Value.run_blocks m g, Keep.value (Reference38Ideal.Value.run m' g') fun c => by
    rw [Kernel38Ideal.Mlp.arr, (h c).1, (h c).2]
    funext i
    pointwise [nn]⟩

theorem w2 : Cert.algebraic_Kernel39Ideal_Reference39Ideal := fun m g m' g' _ h =>
  ⟨_, Kernel39Ideal.Value.run_blocks m g, Keep.value (Reference39Ideal.Value.run m' g') fun c => by
    rw [Kernel39Ideal.Mlp.arr, (h c).1, (h c).2]
    funext i
    pointwise [nn]⟩

theorem g1 : Cert.algebraic_Kernel40Ideal_Reference40Ideal := fun m g m' g' _ h =>
  ⟨_, Kernel40Ideal.Value.run_blocks m g, Keep.value (Reference40Ideal.Value.run m' g') fun c => by
    rw [Kernel40Ideal.Mlp.arr, (h c).1, (h c).2]
    funext i
    pointwise [nn]⟩

theorem g2 : Cert.algebraic_Kernel41Ideal_Reference41Ideal := fun m g m' g' _ h =>
  ⟨_, Kernel41Ideal.Value.run_blocks m g, Keep.value (Reference41Ideal.Value.run m' g') fun c => by
    rw [Kernel41Ideal.Mlp.arr, (h c).1, (h c).2]
    funext i
    pointwise [nn]⟩

end Cert.Mlp

end
-- ==== Proof.Fnorm.lean ====
/- The forward norms: a norm alone, and a norm behind a part of a layer, added to the residual, with the next norm of the sum. -/
module

public import proofs.«01_k».proof.Defs
public import proofs.«01_k».proof.Proof.Dnorm
public import proofs.«01_k».proof.Proof.Keep
public import proofs.«01_k».proof.Proof.Gen.Kernel42Ideal.Value
public import proofs.«01_k».proof.Proof.Gen.Reference42Ideal.Run
public import proofs.«01_k».proof.Proof.Gen.Kernel43Ideal.Value
public import proofs.«01_k».proof.Proof.Gen.Reference43Ideal.Run
public import proofs.«01_k».proof.Proof.Gen.Kernel44Ideal.Value
public import proofs.«01_k».proof.Proof.Gen.Reference44Ideal.Run
public import proofs.«01_k».proof.Proof.Gen.Kernel45Ideal.Value
public import proofs.«01_k».proof.Proof.Gen.Reference45Ideal.Run
public import proofs.«01_k».proof.Proof.Gen.Kernel46Ideal.Value
public import proofs.«01_k».proof.Proof.Gen.Reference46Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Norm

variable {M M' : ℕ}

/-- Entry `i` of the normed rows. -/
def rms (X : FVec Ideal ⟨2, ![M, 1024]⟩ .f32) (G : FVec Ideal ⟨2, ![1, 1024]⟩ .f32) (i : (⟨2, ![M, 1024]⟩ : Shape).Idx) : EReal :=
  row X (i 0) (i 1) * Ideal.rsqrt (ms (row X (i 0))) * row G 0 (i 1)

/-- Entry `i` of the residual's sum. -/
def res (X T : FVec Ideal ⟨2, ![M, 1024]⟩ .f32) (G : FVec Ideal ⟨2, ![1, 1024]⟩ .f32) (i : (⟨2, ![M, 1024]⟩ : Shape).Idx) : EReal :=
  X i + rms T G i

/-- Rows with a bias added to each. -/
def plus (T : FVec Ideal ⟨2, ![M, 1024]⟩ .f32) (B : FVec Ideal ⟨2, ![1, 1024]⟩ .f32) (i : (⟨2, ![M, 1024]⟩ : Shape).Idx) : EReal :=
  T i + row B 0 (i 1)

theorem rms_congr {X : FVec Ideal ⟨2, ![M, 1024]⟩ .f32} {X' : FVec Ideal ⟨2, ![M', 1024]⟩ .f32} {G G' : FVec Ideal ⟨2, ![1, 1024]⟩ .f32}
    {y : (⟨2, ![M, 1024]⟩ : Shape).Idx} {i : (⟨2, ![M', 1024]⟩ : Shape).Idx} (hX : ∀ k, X (ix2 (y 0) k) = X' (ix2 (i 0) k)) (hG : G = G')
    (hi : (y 1).val = (i 1).val) : rms X G y = rms X' G' i := by
  have e1 : row X (y 0) = row X' (i 0) := funext hX
  have e2 : (y 1 : Fin 1024) = i 1 := Fin.ext hi
  rw [rms, rms, e1, hG, e2]

theorem res_congr {X T : FVec Ideal ⟨2, ![M, 1024]⟩ .f32} {X' T' : FVec Ideal ⟨2, ![M', 1024]⟩ .f32} {G G' : FVec Ideal ⟨2, ![1, 1024]⟩ .f32}
    {y : (⟨2, ![M, 1024]⟩ : Shape).Idx} {i : (⟨2, ![M', 1024]⟩ : Shape).Idx} (hX : X y = X' i) (hT : ∀ k, T (ix2 (y 0) k) = T' (ix2 (i 0) k)) (hG : G = G')
    (hi : (y 1).val = (i 1).val) : res X T G y = res X' T' G' i :=
  congrArg₂ (fun a b : EReal => a + b) hX (rms_congr hT hG hi)

theorem plus_congr {T : FVec Ideal ⟨2, ![M, 1024]⟩ .f32} {T' : FVec Ideal ⟨2, ![M', 1024]⟩ .f32} {B B' : FVec Ideal ⟨2, ![1, 1024]⟩ .f32}
    {y : (⟨2, ![M, 1024]⟩ : Shape).Idx} {i : (⟨2, ![M', 1024]⟩ : Shape).Idx} (hT : T y = T' i) (hB : B = B') (hi : (y 1).val = (i 1).val) : plus T B y = plus T' B' i := by
  have e2 : (y 1 : Fin 1024) = i 1 := Fin.ext hi
  rw [plus, plus, hT, hB, e2]

end Cert.Norm

namespace Cert.Kernel45Ideal.Mlp

open Cert.Norm Cert.Kernel45Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The first layer's norm. -/
theorem arr : (dats m 0 c).arrAt 2 cfg0.N = rms (M := 8192) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (?_ : _ = rms (M := 512) (iblk m c 0 t) (iblk m c 1 t) y).trans (rms_congr (fun k => ?_) (funext fun k => ?_) ?_)
  · pointwise [k0_pay1, rms, ms, row]
  all_goals blk_ext [iblk, V, idx t]

end Cert.Kernel45Ideal.Mlp

namespace Cert.Kernel46Ideal.Mlp

open Cert.Norm Cert.Kernel46Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The memory's norm. -/
theorem arr : (dats m 0 c).arrAt 2 cfg0.N = rms (M := 1024) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (?_ : _ = rms (M := 512) (iblk m c 0 t) (iblk m c 1 t) y).trans (rms_congr (fun k => ?_) (funext fun k => ?_) ?_)
  · pointwise [k0_pay1, rms, ms, row]
  all_goals blk_ext [iblk, V, idx t]

end Cert.Kernel46Ideal.Mlp

namespace Cert.Kernel44Ideal.Mlp

open Cert.Norm Cert.Kernel44Ideal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The residual's sum at the end of the first layer. -/
theorem arr : (dats m 0 c).arrAt 3 cfg0.N
    = res (M := 8192) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  refine (?_ : _ = res (M := 512) (iblk m c 0 t) (iblk m c 1 t) (iblk m c 2 t) y).trans (res_congr ?_ (fun k => ?_) (funext fun k => ?_) ?_)
  · pointwise [k0_pay1, res, rms, ms, row]
  all_goals blk_ext [iblk, V, idx t]

end Cert.Kernel44Ideal.Mlp

namespace Cert.Kernel42Ideal.Mlp

open Cert.Norm Cert.Kernel42Ideal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] :=
  (by decide +kernel : ∀ t : Fin grid0.N, _)

abbrev argX : FVec Ideal S8192x1024 .f32 := m ((c : Thread nD τ).loc main_arg0)
abbrev argT : FVec Ideal S8192x1024 .f32 := m ((c : Thread nD τ).loc main_arg1)
abbrev argG : FVec Ideal S1x1024 .f32 := m ((c : Thread nD τ).loc main_arg2)
abbrev argN : FVec Ideal S1x1024 .f32 := m ((c : Thread nD τ).loc main_arg3)

/-- The residual's sum. -/
abbrev mid : FVec Ideal S8192x1024 .f32 := res (argX m c) (argT m c) (argG m c)

/-- What a point computes of it. -/
abbrev blk (t : Fin cfg0.N) : FVec Ideal S512x1024 .f32 := res (M := 512) (iblk m c 0 t) (iblk m c 1 t) (iblk m c 2 t)

theorem blk_eq (t : Fin cfg0.N) (y : S512x1024.Idx) (i : S8192x1024.Idx) (h0 : (i 0).val = t.val * 512 + (y 0).val) (h1 : (i 1).val = (y 1).val) :
    blk m c t y = mid m c i := by
  refine res_congr ?_ (fun k => ?_) (funext fun k => ?_) h1.symm
  all_goals blk_ext [iblk, V, idx t, h0, h1]

theorem arr_y : (dats m 0 c).arrAt 4 cfg0.N = mid m c := by
  refine (dats m 0 c).arrAt_eq_of_covers 4 _ (by decide +kernel) fun t hf y => ?_
  blk_simp
  rw [after0_4]
  frame_out
  refine (?_ : _ = blk m c t y).trans (blk_eq m c t _ _ ?_ ?_)
  · pointwise [k0_pay1, res, rms, ms, row]
  all_goals blk_ext [idx t]

/-- The next norm of the sum. -/
theorem arr_n : (dats m 0 c).arrAt 5 cfg0.N = rms (mid m c) (argN m c) := by
  refine (dats m 0 c).arrAt_eq_of_covers 5 _ (by decide +kernel) fun t hf y => ?_
  blk_simp
  rw [after0_5]
  frame_out
  refine (?_ : _ = rms (M := 512) (blk m c t) (iblk m c 3 t) y).trans (rms_congr (fun k => blk_eq m c t _ _ ?_ rfl) (funext fun k => ?_) ?_)
  · pointwise [k0_pay2, k0_pay1, res, rms, ms, row]
  all_goals blk_ext [iblk, V, idx t]

end Cert.Kernel42Ideal.Mlp

namespace Cert.Kernel43Ideal.Mlp

open Cert.Norm Cert.Kernel43Ideal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] :=
  (by decide +kernel : ∀ t : Fin grid0.N, _)

abbrev argX : FVec Ideal S8192x1024 .f32 := m ((c : Thread nD τ).loc main_arg0)
abbrev argT : FVec Ideal S8192x1024 .f32 := m ((c : Thread nD τ).loc main_arg1)
abbrev argG : FVec Ideal S1x1024 .f32 := m ((c : Thread nD τ).loc main_arg2)
abbrev argB : FVec Ideal S1x1024 .f32 := m ((c : Thread nD τ).loc main_arg3)
abbrev argN : FVec Ideal S1x1024 .f32 := m ((c : Thread nD τ).loc main_arg4)

/-- The residual's sum, the rows with their bias. -/
abbrev mid : FVec Ideal S8192x1024 .f32 := res (argX m c) (plus (argT m c) (argB m c)) (argG m c)

/-- What a point computes of it. -/
abbrev blk (t : Fin cfg0.N) : FVec Ideal S512x1024 .f32 := res (M := 512) (iblk m c 0 t) (plus (M := 512) (iblk m c 1 t) (iblk m c 3 t)) (iblk m c 2 t)

theorem blk_eq (t : Fin cfg0.N) (y : S512x1024.Idx) (i : S8192x1024.Idx) (h0 : (i 0).val = t.val * 512 + (y 0).val) (h1 : (i 1).val = (y 1).val) :
    blk m c t y = mid m c i := by
  refine res_congr ?_ (fun k => plus_congr ?_ (funext fun k => ?_) rfl) (funext fun k => ?_) h1.symm
  all_goals blk_ext [iblk, V, idx t, h0, h1]

theorem arr_y : (dats m 0 c).arrAt 5 cfg0.N = mid m c := by
  refine (dats m 0 c).arrAt_eq_of_covers 5 _ (by decide +kernel) fun t hf y => ?_
  blk_simp
  rw [after0_5]
  frame_out
  refine (?_ : _ = blk m c t y).trans (blk_eq m c t _ _ ?_ ?_)
  · pointwise [k0_pay1, res, plus, rms, ms, row]
  all_goals blk_ext [idx t]

/-- The next norm of the sum. -/
theorem arr_n : (dats m 0 c).arrAt 6 cfg0.N = rms (mid m c) (argN m c) := by
  refine (dats m 0 c).arrAt_eq_of_covers 6 _ (by decide +kernel) fun t hf y => ?_
  blk_simp
  rw [after0_6]
  frame_out
  refine (?_ : _ = rms (M := 512) (blk m c t) (iblk m c 4 t) y).trans (rms_congr (fun k => blk_eq m c t _ _ ?_ rfl) (funext fun k => ?_) ?_)
  · pointwise [k0_pay2, k0_pay1, res, plus, rms, ms, row]
  all_goals blk_ext [iblk, V, idx t]

end Cert.Kernel43Ideal.Mlp

namespace Cert.Reference42Ideal.Mlp

open Cert.Norm Cert.Reference42Ideal.Gen

/-- The normed rows as the reference forms them. -/
def rrms (X : FVec Ideal S8192x1024 .f32) (G : FVec Ideal S1x1024 .f32) : FVec Ideal S8192x1024 .f32 :=
  mulf (mulf X (broadcastInDim S8192x1024 ![0, 1] bcast_S8192x1_S8192x1024_0_1 (Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 (shapeCast S1024 G shapeCasts_S1x1024_S1024)))

/-- Rows with a bias as the reference forms them. -/
def rplus (T : FVec Ideal S8192x1024 .f32) (B : FVec Ideal S1x1024 .f32) : FVec Ideal S8192x1024 .f32 :=
  addf T (broadcastInDim S8192x1024 ![0, 1] bcast_S1x1024_S8192x1024_0_1 (broadcastInDim S1x1024 ![1] bcast_S1024_S1x1024_1 (shapeCast S1024 B shapeCasts_S1x1024_S1024)))

variable (X T : FVec Ideal S8192x1024 .f32) (G N : FVec Ideal S1x1024 .f32)

theorem rrms_eq : rrms X G = rms X G := by
  funext i
  pointwise [rrms, rms, ms, row]

theorem rplus_eq : rplus T G = plus T G := by
  funext i
  pointwise [rplus, plus, row]

theorem sum_eq : addf X (rrms T G) = res X T G := by
  rw [rrms_eq]
  rfl

theorem next_eq : truncf .bf16 (rrms (addf X (rrms T G)) N) bitsLt_bf16_f32 = rms (M := 8192) (res X T G) N := by
  rw [sum_eq, rrms_eq]
  rfl

end Cert.Reference42Ideal.Mlp

namespace Cert.Mlp

theorem norm : Cert.algebraic_Kernel45Ideal_Reference45Ideal := fun m g m' g' _ h =>
  ⟨_, Kernel45Ideal.Value.run_blocks m g, Keep.value (Reference45Ideal.Value.run m' g') fun c => by
    rw [Kernel45Ideal.Mlp.arr, (h c).1, (h c).2]
    funext i
    pointwise [Norm.rms, Norm.ms, Norm.row]⟩

theorem mem_norm : Cert.algebraic_Kernel46Ideal_Reference46Ideal := fun m g m' g' _ h =>
  ⟨_, Kernel46Ideal.Value.run_blocks m g, Keep.value (Reference46Ideal.Value.run m' g') fun c => by
    rw [Kernel46Ideal.Mlp.arr, (h c).1, (h c).2]
    funext i
    pointwise [Norm.rms, Norm.ms, Norm.row]⟩

theorem res_m : Cert.algebraic_Kernel44Ideal_Reference44Ideal := fun m g m' g' _ h =>
  ⟨_, Kernel44Ideal.Value.run_blocks m g, Keep.value (Reference44Ideal.Value.run m' g') fun c => by
    rw [Kernel44Ideal.Mlp.arr, (h c).1, (h c).2.1, (h c).2.2]
    funext i
    pointwise [Norm.res, Norm.rms, Norm.ms, Norm.row]⟩

theorem res : Cert.algebraic_Kernel42Ideal_Reference42Ideal := by
  pair_intro
  · run_from Kernel42Ideal.Value.run_blocks m g
  · run_from Reference42Ideal.Value.run m' g'
    · exact (Reference42Ideal.Mlp.sum_eq (Kernel42Ideal.Mlp.argX m c) (Kernel42Ideal.Mlp.argT m c) (Kernel42Ideal.Mlp.argG m c)).trans
        (Kernel42Ideal.Mlp.arr_y m c).symm
    · exact (Reference42Ideal.Mlp.next_eq (Kernel42Ideal.Mlp.argX m c) (Kernel42Ideal.Mlp.argT m c) (Kernel42Ideal.Mlp.argG m c) (Kernel42Ideal.Mlp.argN m c)).trans
        (Kernel42Ideal.Mlp.arr_n m c).symm

theorem res_a : Cert.algebraic_Kernel43Ideal_Reference43Ideal := by
  pair_intro
  · run_from Kernel43Ideal.Value.run_blocks m g
  · run_from Reference43Ideal.Value.run m' g'
    · refine (Reference42Ideal.Mlp.sum_eq (Kernel43Ideal.Mlp.argX m c) (Reference42Ideal.Mlp.rplus (Kernel43Ideal.Mlp.argT m c) (Kernel43Ideal.Mlp.argB m c))
        (Kernel43Ideal.Mlp.argG m c)).trans (Eq.trans ?_ (Kernel43Ideal.Mlp.arr_y m c).symm)
      rw [Reference42Ideal.Mlp.rplus_eq]
    · obtain ⟨hX, hT, hG, hB, hN⟩ := hagree c
      unfold Reference43Ideal.Value.res_main_v33
      rw [hX, hT, hG, hB, hN]
      refine (Reference42Ideal.Mlp.next_eq (Kernel43Ideal.Mlp.argX m c) (Reference42Ideal.Mlp.rplus (Kernel43Ideal.Mlp.argT m c) (Kernel43Ideal.Mlp.argB m c))
        (Kernel43Ideal.Mlp.argG m c) (Kernel43Ideal.Mlp.argN m c)).trans (Eq.trans ?_ (Kernel43Ideal.Mlp.arr_n m c).symm)
      rw [Reference42Ideal.Mlp.rplus_eq]

end Cert.Mlp

end
-- ==== Proof.Point.lean ====
/- Two forward calls without sums: the hyperbolic tangent and the logistic function of the rows between the products of low rank. -/
module

public import proofs.«01_k».proof.Defs
public import proofs.«01_k».proof.Proof.Keep
public import proofs.«01_k».proof.Proof.Gen.Kernel47Ideal.Value
public import proofs.«01_k».proof.Proof.Gen.Reference47Ideal.Run
public import proofs.«01_k».proof.Proof.Gen.Kernel48Ideal.Value
public import proofs.«01_k».proof.Proof.Gen.Reference48Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel47Ideal.Mlp

open Cert.Kernel47Ideal.Gen

variable (m : (ℓ : Loc nD τ sig) → Buf (Elt Ideal) ℓ) (c : Dev nD)

theorem idx : ∀ t : Fin cfg0.N, win0_0.index t = ![t.val, 0] ∧ win0_1.index t = ![t.val, 0] :=
  (by decide +kernel : ∀ t : Fin grid0.N, _)

abbrev argX : FVec Ideal S8192x64 .f32 := m ((c : Thread nD τ).loc main_arg0)

theorem arr : (dats m 0 c).arrAt 1 cfg0.N = fun i => Ideal.tanh (argX m c i) := by
  refine (dats m 0 c).arrAt_eq_of_covers 1 _ (by decide +kernel) fun t hf y => ?_
  blk_simp
  rw [after0_1]
  frame_out
  refine (?_ : _ = Ideal.tanh ((iblk m c 0 t : FVec Ideal S512x64 .f32) y)).trans (congrArg Ideal.tanh ?_)
  · pointwise [k0_pay1]
  · blk_ext [iblk, V, idx t]

end Cert.Kernel47Ideal.Mlp

namespace Cert.Kernel48Ideal.Mlp

open Cert.Kernel48Ideal.Gen

variable (m : (ℓ : Loc nD τ sig) → Buf (Elt Ideal) ℓ) (c : Dev nD)

theorem idx : ∀ t : Fin cfg0.N, win0_0.index t = ![t.val, 0] ∧ win0_1.index t = ![t.val, 0] :=
  (by decide +kernel : ∀ t : Fin grid0.N, _)

abbrev argX : FVec Ideal S8192x128 .f32 := m ((c : Thread nD τ).loc main_arg0)

theorem arr : (dats m 0 c).arrAt 1 cfg0.N = fun i => Ideal.logistic (argX m c i) := by
  refine (dats m 0 c).arrAt_eq_of_covers 1 _ (by decide +kernel) fun t hf y => ?_
  blk_simp
  rw [after0_1]
  frame_out
  refine (?_ : _ = Ideal.logistic ((iblk m c 0 t : FVec Ideal S512x128 .f32) y)).trans (congrArg Ideal.logistic ?_)
  · pointwise [k0_pay1]
  · blk_ext [iblk, V, idx t]

end Cert.Kernel48Ideal.Mlp

namespace Cert.Mlp

theorem tanh : Cert.algebraic_Kernel47Ideal_Reference47Ideal := fun m g m' g' _ h =>
  ⟨_, Kernel47Ideal.Value.run_blocks m g, Keep.value (Reference47Ideal.Value.run m' g') fun c => by
    rw [Kernel47Ideal.Mlp.arr, h c]
    rfl⟩

theorem sig : Cert.algebraic_Kernel48Ideal_Reference48Ideal := fun m g m' g' _ h =>
  ⟨_, Kernel48Ideal.Value.run_blocks m g, Keep.value (Reference48Ideal.Value.run m' g') fun c => by
    rw [Kernel48Ideal.Mlp.arr, h c]
    funext i
    pointwise [Ideal.logistic]⟩

end Cert.Mlp

end
-- ==== Proof.Head.lean ====
/- The last call of the forward pass with the loss: the residual's last sum against the target, the loss's gradient in that sum, and the
   loss, which the call folds to eight rows of squares and the host sums up. -/
module

public import proofs.«01_k».proof.Defs
public import proofs.«01_k».proof.Proof.Fnorm
public import proofs.«01_k».proof.Proof.Gen.Kernel49Ideal.Frame
public import proofs.«01_k».proof.Proof.Gen.Reference49Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Norm

variable {M M' : ℕ}

/-- How far entry `i` of the last sum is from the target. -/
def err (X T Y : FVec Ideal ⟨2, ![M, 1024]⟩ .f32) (G : FVec Ideal ⟨2, ![1, 1024]⟩ .f32) (i : (⟨2, ![M, 1024]⟩ : Shape).Idx) : EReal :=
  res X T G i - Y i

theorem err_congr {X T Y : FVec Ideal ⟨2, ![M, 1024]⟩ .f32} {X' T' Y' : FVec Ideal ⟨2, ![M', 1024]⟩ .f32} {G G' : FVec Ideal ⟨2, ![1, 1024]⟩ .f32}
    {y : (⟨2, ![M, 1024]⟩ : Shape).Idx} {i : (⟨2, ![M', 1024]⟩ : Shape).Idx} (hX : X y = X' i) (hT : ∀ k, T (ix2 (y 0) k) = T' (ix2 (i 0) k)) (hY : Y y = Y' i)
    (hG : G = G') (hi : (y 1).val = (i 1).val) : err X T Y G y = err X' T' Y' G' i :=
  congrArg₂ (fun a b : EReal => a - b) (res_congr hX hT hG hi) hY

theorem cone : Ideal.ofBits .f32 0x3F800000#32 = ((1 : ℝ) : EReal) := by
  have h : ((8388608 * (2 ^ 23)⁻¹ : ℝ) : EReal) = ((1 : ℝ) : EReal) := by norm_num
  rw [← h, EReal.coe_mul]
  simp [Ideal.ofBits, Ideal.ieee]

theorem chalf' : Ideal.ofBits .f32 0x3F000000#32 = ((1 / 2 : ℝ) : EReal) := by
  have h : ((8388608 * (2 ^ 24)⁻¹ : ℝ) : EReal) = ((1 / 2 : ℝ) : EReal) := by norm_num
  rw [← h, EReal.coe_mul]
  simp [Ideal.ofBits, Ideal.ieee]

theorem ctwo : Ideal.ofBits .f32 0x40000000#32 = ((2 : ℝ) : EReal) := by
  have h : ((8388608 * (2 ^ 22)⁻¹ : ℝ) : EReal) = ((2 : ℝ) : EReal) := by norm_num
  rw [← h, EReal.coe_mul]
  simp [Ideal.ofBits, Ideal.ieee]

theorem cinv : Ideal.ofBits .f32 0x3A800000#32 = ((1024⁻¹ : ℝ) : EReal) := by
  have h : ((8388608 * (2 ^ 33)⁻¹ : ℝ) : EReal) = ((1024⁻¹ : ℝ) : EReal) := by norm_num
  rw [← h, EReal.coe_mul]
  simp [Ideal.ofBits, Ideal.ieee]

theorem chinv : Ideal.ofBits .f32 0x3A000000#32 = ((1 / 2 * 1024⁻¹ : ℝ) : EReal) := by
  have h : ((8388608 * (2 ^ 34)⁻¹ : ℝ) : EReal) = ((1 / 2 * 1024⁻¹ : ℝ) : EReal) := by norm_num
  rw [← h, EReal.coe_mul]
  simp [Ideal.ofBits, Ideal.ieee]

/-- The loss's gradient, in the kernel's form and in the derivative's. -/
theorem dloss_eq (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [chalf', cone, ctwo, cinv, c1024, Ideal.div_coe (by norm_num), ← mul_assoc, ← EReal.coe_mul, ← EReal.coe_mul, ← EReal.coe_mul, mul_comm e]
  norm_num

/-- The loss, with one factor for all rows or with a mean of each row. -/
theorem loss_eq {n : ℕ} (s : Fin n → EReal) : Ideal.ofBits .f32 0x3F000000#32 * ∑ r, Ideal.div (s r) (Ideal.ofBits .f32 0x44800000#32)
    = Ideal.ofBits .f32 0x3A000000#32 * ∑ r, s r := by
  rw [chalf', chinv, c1024, EReal.coe_mul, mul_assoc]
  refine congrArg _ ?_
  rw [mul_comm, sum_mul_real _ (by norm_num)]
  exact Finset.sum_congr rfl fun r _ => by rw [Ideal.div_coe (by norm_num), one_div]

end Cert.Norm

namespace Cert.Kernel49Ideal.Mlp

open Cert.Norm Cert.Kernel49Ideal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![0, 0] :=
  (by decide +kernel : ∀ t : Fin grid0.N, _)

abbrev argX : FVec Ideal S8192x1024 .f32 := m ((c : Thread nD τ).loc main_arg0)
abbrev argT : FVec Ideal S8192x1024 .f32 := m ((c : Thread nD τ).loc main_arg1)
abbrev argY : FVec Ideal S8192x1024 .f32 := m ((c : Thread nD τ).loc main_arg2)
abbrev argG : FVec Ideal S1x1024 .f32 := m ((c : Thread nD τ).loc main_arg3)

abbrev all : FVec Ideal S8192x1024 .f32 := err (argX m c) (argT m c) (argY m c) (argG m c)

/-- What a point computes. -/
abbrev blk (t : Fin cfg0.N) : FVec Ideal S512x1024 .f32 := err (M := 512) (iblk m c 0 t) (iblk m c 1 t) (iblk m c 2 t) (iblk m c 3 t)

theorem blk_eq (t : Fin cfg0.N) (y : S512x1024.Idx) (i : S8192x1024.Idx) (h0 : (i 0).val = t.val * 512 + (y 0).val) (h1 : (i 1).val = (y 1).val) :
    blk m c t y = all m c i := by
  refine err_congr ?_ (fun k => ?_) ?_ (funext fun k => ?_) h1.symm
  all_goals blk_ext [iblk, V, idx t, h0, h1]

theorem pay (X T Y : FVec Ideal S512x1024 .f32) (G : FVec Ideal S1x1024 .f32) : k0_pay1 (F := Ideal) X T Y G = err X T Y G := by
  funext y
  pointwise [k0_pay1, err, res, rms, ms, row]

/-- The squares of a point's rows, folded. -/
def fold (f : FVec Ideal S512x1024 .f32) (y : S8x1024.Idx) : EReal :=
  ∑ q : Fin 64, f (ix2 ⟨q.val * 8 + (y 0).val, by have := ValueIdx.idx2_lt0 y; omega⟩ (y 1)) * f (ix2 ⟨q.val * 8 + (y 0).val, by have := ValueIdx.idx2_lt0 y; omega⟩ (y 1))

theorem pay_sq (X T Y : FVec Ideal S512x1024 .f32) (G : FVec Ideal S1x1024 .f32) (acc : FVec Ideal S8x1024 .f32) (y : S8x1024.Idx) :
    k0_pay4 (F := Ideal) X T Y G acc y = acc y + fold (err X T Y G) y := by
  unfold k0_pay4
  rw [pay]
  pointwise [fold]

theorem step_dy (t : Fin cfg0.N) (y : S512x1024.Idx) : (outsAt0 m c t.val t.isLt).1 y = blk m c t y * Ideal.ofBits .f32 0x3A800000#32 := by
  by_cases h : t.val % 16 = 0
  · rw [outsAt0_A m c t h]
    frame_out
    unfold k0_pay2
    rw [pay]
    pointwise []
  · rw [outsAt0_B m c t h]
    frame_out
    unfold k0_pay2
    rw [pay]
    pointwise []

theorem step_sq (t : Fin cfg0.N) (y : S8x1024.Idx) : (outsAt0 m c t.val t.isLt).2 y
    = (if t.val % 16 = 0 then 0 else (outsAt0 m c (t.val - 1) (Nat.lt_of_le_of_lt (Nat.sub_le _ _) t.isLt)).2 y) + fold (blk m c t) y := by
  by_cases h : t.val % 16 = 0
  · rw [outsAt0_A m c t h, if_pos h]
    frame_out
    refine (pay_sq _ _ _ _ _ _).trans (congrArg (fun b : EReal => b + _) ?_)
    pointwise [k0_pay3]
  · rw [outsAt0_B m c t h, if_neg h]
    frame_out
    exact pay_sq _ _ _ _ _ _

/-- The loss's gradient after the run. -/
theorem arr_dy : (dats m 0 c).arrAt 4 cfg0.N = fun i => all m c i * Ideal.ofBits .f32 0x3A800000#32 := by
  refine (dats m 0 c).arrAt_eq_of_covers 4 _ (by decide +kernel) fun t hf y => ?_
  blk_simp
  rw [after0_4, step_dy m c t]
  refine congrArg (fun b : EReal => b * Ideal.ofBits .f32 0x3A800000#32) (blk_eq m c t _ _ ?_ ?_)
  all_goals blk_ext [idx t]

/-- The folded squares of all rows. -/
def folded (f : FVec Ideal S8192x1024 .f32) : FVec Ideal S8x1024 .f32 :=
  fun y => ∑ l : Fin 1024, f (ix2 ⟨l.val * 8 + (y 0).val, by have := ValueIdx.idx2_lt0 y; omega⟩ (y 1)) * f (ix2 ⟨l.val * 8 + (y 0).val, by have := ValueIdx.idx2_lt0 y; omega⟩ (y 1))

theorem acc_of (t : Fin cfg0.N) (h3 : t.val % 16 = 16 - 1) (y i : S8x1024.Idx) (h0 : (y 0).val = (i 0).val) (h1 : (y 1).val = (i 1).val) :
    (outsAt0 m c t.val t.isLt).2 y = folded (all m c) i := by
  have e : y = i := funext fun a => by fin_cases a; exacts [Fin.ext h0, Fin.ext h1]
  subst e
  have ht := lt_of_lt_of_eq t.isLt N_0
  refine (Pipeline.eq_sum_fin_of_reset_step_apply_of_flush (fun n h => (outsAt0 m c n h).2) 16 (fun _ => 0) _
    (fun t h j => by rw [step_sq m c t j, if_pos h]) (fun t h j => by rw [step_sq m c t j, if_neg h]) t h3 y).trans ?_
  rw [zero_add]
  refine Fin.sum_mul_add_congr fun s k hl => ?_
  have q := blk_eq m c ⟨16 * (t.val / 16) + s.val, by have := N_0; omega⟩ (ix2 ⟨k.val * 8 + (y 0).val, by have := ValueIdx.idx2_lt0 y; omega⟩ (y 1))
    (ix2 ⟨(s.val * 64 + k.val) * 8 + (y 0).val, by have := ValueIdx.idx2_lt0 y; omega⟩ (y 1)) (by
      show (s.val * 64 + k.val) * 8 + (y 0).val = (16 * (t.val / 16) + s.val) * 512 + (k.val * 8 + (y 0).val)
      omega) rfl
  exact congrArg₂ (fun a b : EReal => a * b) q q

theorem arr_sq : (dats m 0 c).arrAt 5 cfg0.N = folded (all m c) := by
  refine (dats m 0 c).arrAt_eq_of_covers 5 _ (by decide +kernel) fun t hf y => ?_
  blk_simp
  rw [after0_5]
  refine acc_of m c t ((flush0_5 t).mp hf) _ _ ?_ ?_
  all_goals blk_ext [idx t]

/-- The loss after the run. -/
theorem tail : Pipeline.afterTail₀ cfgs (dats m) 0 (V0 m) [hostOps1] c main_v2
    = fun _ : S_.Idx => Ideal.ofBits .f32 0x3A000000#32 * ∑ n : Fin 8192, ∑ k : Fin 1024, all m c (ix2 n k) * all m c (ix2 n k) := by
  unfold Pipeline.afterTail₀
  simp only [List.flatten_cons, List.flatten_nil, List.append_nil]
  after_results
  refine (congrArg (fun z : FVec Ideal S8x1024 .f32 => (mulf (constant S_ .f32 0x3A000000#32) (Host.reduceAdd z (constant S_ .f32 0x00000000#32) reducesTo_S8x1024_S_d0_1 h_S_) : FVec Ideal S_ .f32))
    ((Pipeline.withArrays_arr (cfgs 0).spec (by decide) c (V0 m c) _ 5).trans (arr_sq m c))).trans (funext fun j => ?_)
  pointwise [folded]
  refine congrArg (fun b : EReal => Ideal.ofBits .f32 0x3A000000#32 * b) ?_
  refine (Finset.sum_congr rfl fun x _ => Finset.sum_comm).trans (Finset.sum_comm.trans ?_)
  exact Fin.sum_mul_add_congr fun s k hl => rfl

end Cert.Kernel49Ideal.Mlp

namespace Cert.Reference49Ideal.Mlp

open Cert.Norm Cert.Reference49Ideal.Gen Cert.Reference42Ideal.Mlp

variable (X T Y E : FVec Ideal S8192x1024 .f32) (G : FVec Ideal S1x1024 .f32)

/-- The reference's gradient of the loss. -/
def rdy : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32))))
    (mulf (broadcastInDim S8192x1024 ![] bcast_S_S8192x1024 (constant S_ .f32 0x40000000#32)) E)

/-- The reference's loss. -/
def rloss : FVec Ideal S_ .f32 :=
  mulf (constant S_ .f32 0x3F000000#32) (Host.reduceAdd (Host.divf (Host.reduceAdd (mulf E E) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)

theorem rdy_eq : rdy E = fun i => E i * Ideal.ofBits .f32 0x3A800000#32 := by
  funext i
  refine Eq.trans ?_ (dloss_eq (E i))
  pointwise [rdy]

theorem rloss_eq : rloss E = fun _ => Ideal.ofBits .f32 0x3A000000#32 * ∑ n : Fin 8192, ∑ k : Fin 1024, E (ix2 n k) * E (ix2 n k) := by
  funext i
  refine Eq.trans ?_ (loss_eq fun n : Fin 8192 => ∑ k : Fin 1024, E (ix2 n k) * E (ix2 n k))
  pointwise [rloss]

theorem err_eq : subf (addf X (rrms T G)) Y = err X T Y G := by
  rw [sum_eq]
  rfl

theorem dy_eq : rdy (subf (addf X (rrms T G)) Y) = fun i => err X T Y G i * Ideal.ofBits .f32 0x3A800000#32 := by
  rw [err_eq, rdy_eq]

theorem l_eq : rloss (subf (addf X (rrms T G)) Y)
    = fun _ => Ideal.ofBits .f32 0x3A000000#32 * ∑ n : Fin 8192, ∑ k : Fin 1024, err X T Y G (ix2 n k) * err X T Y G (ix2 n k) := by
  rw [err_eq, rloss_eq]

end Cert.Reference49Ideal.Mlp

namespace Cert.Mlp

theorem head : Cert.algebraic_Kernel49Ideal_Reference49Ideal := by
  pair_intro
  · run_from Kernel49Ideal.Gen.run_main m g
  · run_from Reference49Ideal.Value.run m' g'
    · exact (Reference49Ideal.Mlp.dy_eq (Kernel49Ideal.Mlp.argX m c) (Kernel49Ideal.Mlp.argT m c) (Kernel49Ideal.Mlp.argY m c) (Kernel49Ideal.Mlp.argG m c)).trans
        (Kernel49Ideal.Mlp.arr_dy m c).symm
    · exact (Reference49Ideal.Mlp.l_eq (Kernel49Ideal.Mlp.argX m c) (Kernel49Ideal.Mlp.argT m c) (Kernel49Ideal.Mlp.argY m c) (Kernel49Ideal.Mlp.argG m c)).trans
        (Kernel49Ideal.Mlp.tail m c).symm

end Cert.Mlp

end
-- ==== Proof.Memgrad.lean ====
/- The gradient of the memory norm's gain, whose cotangent is the sum of two layers' gradients. -/
module

public import proofs.«01_k».proof.Defs
public import proofs.«01_k».proof.Proof.Fnorm
public import proofs.«01_k».proof.Proof.Gen.Kernel50Ideal.Frame
public import proofs.«01_k».proof.Proof.Gen.Reference50Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Norm

/-- The sum of two cotangents. -/
def both {M : ℕ} (A B : FVec Ideal ⟨2, ![M, 1024]⟩ .f32) : FVec Ideal ⟨2, ![M, 1024]⟩ .f32 := fun i => A i + B i

end Cert.Norm

namespace Cert.Kernel50Ideal.Mlp

open Cert.Norm Cert.Kernel50Ideal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_4.index t = ![0, 0] :=
  (by decide +kernel : ∀ t : Fin grid0.N, _)

abbrev argX : FVec Ideal S1024x1024 .f32 := m ((c : Thread nD τ).loc main_arg0)
abbrev argA : FVec Ideal S1024x1024 .f32 := m ((c : Thread nD τ).loc main_arg1)
abbrev argB : FVec Ideal S1024x1024 .f32 := m ((c : Thread nD τ).loc main_arg2)

/-- What row `n` contributes to entry `j`. -/
abbrev term (n : Fin 1024) (j : Fin 1024) : EReal := gterm (both (argA m c) (argB m c)) (argX m c) j n

/-- A point's rows, folded. -/
def fold (A B X : FVec Ideal S512x1024 .f32) (y : S8x1024.Idx) : EReal :=
  ∑ q : Fin 64, gterm (both A B) X (y 1) ⟨q.val * 8 + (y 0).val, by have := ValueIdx.idx2_lt0 y; omega⟩

theorem pay (A B X : FVec Ideal S512x1024 .f32) (acc : FVec Ideal S8x1024 .f32) (y : S8x1024.Idx) :
    k0_pay2 (F := Ideal) X A B acc y = acc y + fold A B X y := by
  pointwise [k0_pay2, fold, both, gterm, ms, row]

theorem step (t : Fin cfg0.N) (y : S8x1024.Idx) : outsAt0 m c t.val t.isLt y
    = (if t.val % 2 = 0 then 0 else outsAt0 m c (t.val - 1) (Nat.lt_of_le_of_lt (Nat.sub_le _ _) t.isLt) y)
      + fold (iblk m c 1 t) (iblk m c 2 t) (iblk m c 0 t) y := by
  by_cases h : t.val % 2 = 0
  · rw [outsAt0_A m c t h, if_pos h]
    frame_out
    refine (pay _ _ _ _ _).trans (congrArg (fun b : EReal => b + _) ?_)
    pointwise [k0_pay1]
  · rw [outsAt0_B m c t h, if_neg h]
    frame_out
    exact pay _ _ _ _ _

theorem term_eq (t : Fin cfg0.N) (r : Fin 512) (j j' : Fin 1024) (n : Fin 1024) (h : n.val = t.val * 512 + r.val) (hj : j.val = j'.val) :
    gterm (M := 512) (both (iblk m c 1 t) (iblk m c 2 t)) (iblk m c 0 t) j r = term m c n j' := by
  refine gterm_congr (fun k => congrArg₂ (fun a b : EReal => a + b) ?_ ?_) (fun k => ?_) hj
  all_goals blk_ext [iblk, V, idx t, h]

/-- All rows, folded. -/
def folded (y : S8x1024.Idx) : EReal := ∑ l : Fin 128, term m c ⟨l.val * 8 + (y 0).val, by have := ValueIdx.idx2_lt0 y; omega⟩ (y 1)

theorem folded_congr {y i : S8x1024.Idx} (h0 : (y 0).val = (i 0).val) (h1 : (y 1).val = (i 1).val) : folded m c y = folded m c i := by
  have e : y = i := funext fun a => by fin_cases a; exacts [Fin.ext h0, Fin.ext h1]
  rw [e]

theorem acc (t : Fin cfg0.N) (h3 : t.val % 2 = 2 - 1) (y : S8x1024.Idx) : outsAt0 m c t.val t.isLt y = folded m c y := by
  have ht := lt_of_lt_of_eq t.isLt N_0
  rw [Pipeline.eq_sum_fin_of_reset_step_apply_of_flush (fun n h => outsAt0 m c n h) 2 (fun _ => 0) _
    (fun t h j => by rw [step m c t j, if_pos h]) (fun t h j => by rw [step m c t j, if_neg h]) t h3 _, zero_add]
  refine Fin.sum_mul_add_congr fun s k hl => term_eq m c _ _ _ _ _ ?_ rfl
  show (s.val * 64 + k.val) * 8 + (y 0).val = (2 * (t.val / 2) + s.val) * 512 + (k.val * 8 + (y 0).val)
  omega

/-- The eight folded rows after the run. -/
theorem arr : (dats m 0 c).arrAt 4 cfg0.N = folded m c := by
  refine (dats m 0 c).arrAt_eq_of_covers 4 _ (by decide +kernel) fun t hf y => ?_
  blk_simp
  rw [after0_4]
  refine (acc m c t ((flush0_4 t).mp hf) _).trans (folded_congr m c ?_ ?_)
  all_goals blk_ext [idx t]

/-- The gain's gradient after the run. -/
theorem tail : Pipeline.afterTail₀ cfgs (dats m) 0 (V0 m) [hostOps1] c main_v1 = fun j : S1024.Idx => ∑ n : Fin 1024, term m c n (j 0) := by
  unfold Pipeline.afterTail₀
  simp only [List.flatten_cons, List.flatten_nil, List.append_nil]
  after_results
  refine (congrArg (fun z : FVec Ideal S8x1024 .f32 => (Host.reduceAdd z (constant S_ .f32 0x00000000#32) reducesTo_S8x1024_S1024_d0 h_S_ : FVec Ideal S1024 .f32))
    ((Pipeline.withArrays_arr (cfgs 0).spec (by decide) c (V0 m c) _ 4).trans (arr m c))).trans (funext fun j => ?_)
  pointwise [folded]
  rw [Finset.sum_comm]
  exact Fin.sum_mul_add_congr fun s k hl => rfl

end Cert.Kernel50Ideal.Mlp

namespace Cert.Mlp

theorem mem_grad : Cert.algebraic_Kernel50Ideal_Reference50Ideal := by
  pair_intro
  · run_from Kernel50Ideal.Gen.run_main m g
  · run_from Reference50Ideal.Value.run m' g'
    · refine Eq.trans ?_ (Kernel50Ideal.Mlp.tail m c).symm
      funext i
      pointwise [Norm.gterm, Norm.both, Norm.ms, Norm.row]
      exact (Fintype.sum_unique _).trans (Finset.sum_congr rfl fun n _ => mul_comm _ _)

end Cert.Mlp

end
-- ==== Proof.Dres.lean ====
/- The gradient of the norm behind the last layer's part: of its rows, of its gain, and the sum of the rows. -/
module

public import proofs.«01_k».proof.Defs
public import proofs.«01_k».proof.Proof.Dnorms
public import proofs.«01_k».proof.Proof.Keep
public import proofs.«01_k».proof.Proof.Gen.Kernel51Ideal.Frame
public import proofs.«01_k».proof.Proof.Gen.Reference51Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel51Ideal.Mlp

open Cert.Norm Cert.Kernel51Ideal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] :=
  (by decide +kernel : ∀ t : Fin grid0.N, _)

abbrev argD : FVec Ideal S8192x1024 .f32 := m ((c : Thread nD τ).loc main_arg0)
abbrev argT : FVec Ideal S8192x1024 .f32 := m ((c : Thread nD τ).loc main_arg1)
abbrev argG : FVec Ideal S1x1024 .f32 := m ((c : Thread nD τ).loc main_arg2)

/-- The rows of a point, folded. -/
def fold (f : Fin 512 → Fin 1024 → EReal) (y : S8x1024.Idx) : EReal :=
  ∑ q : Fin 64, f ⟨q.val * 8 + (y 0).val, by have := ValueIdx.idx2_lt0 y; omega⟩ (y 1)

section Pays

variable (D T : FVec Ideal S512x1024 .f32) (G : FVec Ideal S1x1024 .f32) (acc : FVec Ideal S8x1024 .f32)

theorem pay_dt : k0_pay4 (F := Ideal) D T G = dt D T G := by
  funext y
  pointwise [k0_pay4, k0_pay3, k0_pay2, dt, kdx, ms, row, cot]

theorem pay_dg (y : S8x1024.Idx) : k0_pay8 (F := Ideal) D T acc y = acc y + fold (fun r j => gterm D T j r) y := by
  pointwise [k0_pay8, k0_pay3, k0_pay2, fold, gterm, ms, row]

theorem pay_sum (f : FVec Ideal S512x1024 .f32) (y : S8x1024.Idx) : k0_pay1 (F := Ideal) f acc y = acc y + fold (fun r j => f (ix2 r j)) y := by
  pointwise [k0_pay1, fold]

end Pays

/-- What a point computes. -/
abbrev blk (t : Fin cfg0.N) : FVec Ideal S512x1024 .f32 := dt (iblk m c 0 t) (iblk m c 1 t) (iblk m c 2 t)

/-- The rows' gradient. -/
abbrev all : FVec Ideal S8192x1024 .f32 := dt (argD m c) (argT m c) (argG m c)

theorem blk_eq (t : Fin cfg0.N) (y : S512x1024.Idx) (i : S8192x1024.Idx) (h0 : (i 0).val = t.val * 512 + (y 0).val) (h1 : (i 1).val = (y 1).val) :
    blk m c t y = all m c i := by
  refine dt_congr (fun k => ?_) (fun k => ?_) (funext fun k => ?_) h1.symm
  all_goals blk_ext [iblk, V, idx t, h0]

theorem gain_eq (t : Fin cfg0.N) (r : Fin 512) (j : Fin 1024) (n : Fin 8192) (h : n.val = t.val * 512 + r.val) :
    gterm (M := 512) (iblk m c 0 t) (iblk m c 1 t) j r = gterm (argD m c) (argT m c) j n := by
  refine gterm_congr (fun k => ?_) (fun k => ?_) rfl
  all_goals blk_ext [iblk, V, idx t, h]

/-- A window that is reset at the first point, and to which each point adds its folded rows, holds all of them at the last. -/
theorem acc_of (a : (n : ℕ) → n < cfg0.N → FVec Ideal S8x1024 .f32) (f : Fin cfg0.N → Fin 512 → Fin 1024 → EReal) (T : Fin 8192 → Fin 1024 → EReal)
    (ha : ∀ (t : Fin cfg0.N) y, a t.val t.isLt y = (if t.val % 16 = 0 then 0 else a (t.val - 1) (Nat.lt_of_le_of_lt (Nat.sub_le _ _) t.isLt) y) + fold (f t) y)
    (hf : ∀ (t : Fin cfg0.N) (r : Fin 512) (j : Fin 1024) (n : Fin 8192), n.val = t.val * 512 + r.val → f t r j = T n j)
    (t : Fin cfg0.N) (h3 : t.val % 16 = 16 - 1) (y : S8x1024.Idx) : a t.val t.isLt y = Kernel27Ideal.Mlp.folded T y := by
  have ht := lt_of_lt_of_eq t.isLt N_0
  rw [Pipeline.eq_sum_fin_of_reset_step_apply_of_flush a 16 (fun _ => 0) _
    (fun t h j => by rw [ha t j, if_pos h]) (fun t h j => by rw [ha t j, if_neg h]) t h3 _, zero_add]
  refine Fin.sum_mul_add_congr fun s k hl => hf _ _ _ _ ?_
  show (s.val * 64 + k.val) * 8 + (y 0).val = (16 * (t.val / 16) + s.val) * 512 + (k.val * 8 + (y 0).val)
  omega

theorem step_dt (t : Fin cfg0.N) (y) : (outsAt0 m c t.val t.isLt).1 y = blk m c t y := by
  by_cases h : t.val % 16 = 0
  · rw [outsAt0_A m c t h]
    frame_out
    exact congrFun (pay_dt _ _ _) y
  · rw [outsAt0_B m c t h]
    frame_out
    exact congrFun (pay_dt _ _ _) y

theorem step_dg (t : Fin cfg0.N) (y : S8x1024.Idx) : (outsAt0 m c t.val t.isLt).2.1 y
    = (if t.val % 16 = 0 then 0 else (outsAt0 m c (t.val - 1) (Nat.lt_of_le_of_lt (Nat.sub_le _ _) t.isLt)).2.1 y)
      + fold (fun r j => gterm (M := 512) (iblk m c 0 t) (iblk m c 1 t) j r) y := by
  by_cases h : t.val % 16 = 0
  · rw [outsAt0_A m c t h, if_pos h]
    frame_out
    refine (pay_dg _ _ _ _).trans (congrArg (fun b : EReal => b + _) ?_)
    pointwise [k0_pay6]
  · rw [outsAt0_B m c t h, if_neg h]
    frame_out
    exact pay_dg _ _ _ _

theorem step_sum (t : Fin cfg0.N) (y : S8x1024.Idx) : (outsAt0 m c t.val t.isLt).2.2 y
    = (if t.val % 16 = 0 then 0 else (outsAt0 m c (t.val - 1) (Nat.lt_of_le_of_lt (Nat.sub_le _ _) t.isLt)).2.2 y)
      + fold (fun r j => blk m c t (ix2 r j)) y := by
  by_cases h : t.val % 16 = 0
  · rw [outsAt0_A m c t h, if_pos h]
    frame_out
    rw [pay_dt]
    refine (pay_sum _ _ _).trans (congrArg (fun b : EReal => b + _) ?_)
    pointwise [k0_pay7]
  · rw [outsAt0_B m c t h, if_neg h]
    frame_out
    rw [pay_dt]
    exact pay_sum _ _ _

/-- The rows' gradient after the run. -/
theorem arr_dt : (dats m 0 c).arrAt 3 cfg0.N = all m c := by
  refine (dats m 0 c).arrAt_eq_of_covers 3 _ (by decide +kernel) fun t hf y => ?_
  blk_simp
  rw [after0_3, step_dt m c t]
  refine blk_eq m c t _ _ ?_ ?_
  all_goals blk_ext [idx t]

/-- The folded sums after the run. -/
theorem arr_dg : (dats m 0 c).arrAt 4 cfg0.N = Kernel27Ideal.Mlp.folded fun n j => gterm (argD m c) (argT m c) j n := by
  refine (dats m 0 c).arrAt_eq_of_covers 4 _ (by decide +kernel) fun t hf y => ?_
  blk_simp
  rw [after0_4]
  refine (acc_of (fun n h => (outsAt0 m c n h).2.1) _ _ (step_dg m c) (gain_eq m c) t ((flush0_4 t).mp hf) _).trans (Kernel27Ideal.Mlp.folded_congr _ ?_ ?_)
  all_goals blk_ext [idx t]

theorem arr_sum : (dats m 0 c).arrAt 5 cfg0.N = Kernel27Ideal.Mlp.folded fun n j => all m c (ix2 n j) := by
  refine (dats m 0 c).arrAt_eq_of_covers 5 _ (by decide +kernel) fun t hf y => ?_
  blk_simp
  rw [after0_5]
  refine (acc_of (fun n h => (outsAt0 m c n h).2.2) _ _ (step_sum m c) (fun t r j n h => blk_eq m c t _ _ h rfl) t ((flush0_5 t).mp hf) _).trans
    (Kernel27Ideal.Mlp.folded_congr _ ?_ ?_)
  all_goals blk_ext [idx t]

theorem tail_dg : Pipeline.afterTail₀ cfgs (dats m) 0 (V0 m) [hostOps1] c main_v1
    = fun j : S1024.Idx => ∑ n : Fin 8192, gterm (argD m c) (argT m c) (j 0) n := by
  unfold Pipeline.afterTail₀
  simp only [List.flatten_cons, List.flatten_nil, List.append_nil]
  after_results
  exact Kernel27Ideal.Mlp.sum8 (fun n j => gterm (argD m c) (argT m c) j n) _ ((Pipeline.withArrays_arr (cfgs 0).spec (by decide) c (V0 m c) _ 4).trans (arr_dg m c))

theorem tail_sum : Pipeline.afterTail₀ cfgs (dats m) 0 (V0 m) [hostOps1] c main_v2 = fun j : S1024.Idx => ∑ n : Fin 8192, all m c (ix2 n (j 0)) := by
  unfold Pipeline.afterTail₀
  simp only [List.flatten_cons, List.flatten_nil, List.append_nil]
  after_results
  exact Kernel27Ideal.Mlp.sum8 (fun n j => all m c (ix2 n j)) _ ((Pipeline.withArrays_arr (cfgs 0).spec (by decide) c (V0 m c) _ 5).trans (arr_sum m c))

end Cert.Kernel51Ideal.Mlp

namespace Cert.Reference51Ideal.Mlp

open Cert.Norm Cert.Reference21Ideal.Mlp Cert.Reference27Ideal.Mlp Cert.Reference51Ideal.Gen

variable (m : (ℓ : Loc nD τ sig) → Buf (Elt Ideal) ℓ) (c : Dev nD)

abbrev argD : FVec Ideal S8192x1024 .f32 := m ((c : Thread nD τ).loc main_arg0)
abbrev argT : FVec Ideal S8192x1024 .f32 := m ((c : Thread nD τ).loc main_arg1)
abbrev argG : FVec Ideal S1x1024 .f32 := m ((c : Thread nD τ).loc main_arg2)

theorem out_dt : Value.res_main_v44 m c = dt (argD m c) (argT m c) (argG m c) := by
  have e : Value.res_main_v44 m c = rdt (argD m c) (biased (argT m c)) (argG m c) := rfl
  rw [e, biased_eq, rdt_eq]

theorem out_sum : Value.res_main_v43 m c = fun j : S1024.Idx => ∑ n : Fin 8192, dt (argD m c) (argT m c) (argG m c) (ix2 n (j 0)) := by
  refine (sum_eq (rdt (argD m c) (biased (argT m c)) (argG m c))).trans ?_
  rw [biased_eq, rdt_eq]

theorem dg_eq (D T : FVec Ideal S8192x1024 .f32) : rdg D (biased T) = fun j : S1024.Idx => ∑ n : Fin 8192, gterm D T (j 0) n := by
  rw [biased_eq, rdg_eq]

end Cert.Reference51Ideal.Mlp

namespace Cert.Mlp

theorem dres : Cert.algebraic_Kernel51Ideal_Reference51Ideal := by
  pair_intro
  · run_from Kernel51Ideal.Gen.run_main m g
  · run_from Reference51Ideal.Value.run m' g'
    all_goals obtain ⟨hD, hT, hG⟩ := hagree c
    · refine (Reference51Ideal.Mlp.out_dt m' c).trans (Eq.trans ?_ (Kernel51Ideal.Mlp.arr_dt m c).symm)
      unfold Reference51Ideal.Mlp.argD Reference51Ideal.Mlp.argT Reference51Ideal.Mlp.argG
      rw [hD, hT, hG]
    · exact (Reference51Ideal.Mlp.dg_eq (Kernel51Ideal.Mlp.argD m c) (Kernel51Ideal.Mlp.argT m c)).trans (Kernel51Ideal.Mlp.tail_dg m c).symm
    · refine (Reference51Ideal.Mlp.out_sum m' c).trans (Eq.trans ?_ (Kernel51Ideal.Mlp.tail_sum m c).symm)
      unfold Reference51Ideal.Mlp.argD Reference51Ideal.Mlp.argT Reference51Ideal.Mlp.argG
      rw [hD, hT, hG]

end Cert.Mlp

end
-- ==== Proof.Dsig.lean ====
/- The gradient of the logistic function, whose value the call takes as saved. -/
module

public import proofs.«01_k».proof.Defs
public import proofs.«01_k».proof.Proof.Keep
public import proofs.«01_k».proof.Proof.Gen.Kernel52Ideal.Value
public import proofs.«01_k».proof.Proof.Gen.Reference52Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel52Ideal.Mlp

open Cert.Kernel52Ideal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] :=
  (by decide +kernel : ∀ t : Fin grid0.N, _)

abbrev argD : FVec Ideal S8192x128 .f32 := m ((c : Thread nD τ).loc main_arg0)
abbrev argX : FVec Ideal S8192x128 .f32 := m ((c : Thread nD τ).loc main_arg1)

/-- The gradient at one entry, `s` the saved value. -/
def grad (d s : EReal) : EReal := d * s * (1 - s)

/-- The saved value that the host forms. -/
theorem host : V m c main_v6 = fun i => Ideal.logistic (argX m c i) := by
  have e : V m c main_v6 = truncf .bf16 (Host.divf (broadcastInDim S8192x128 ![] bcast_S_S8192x128 (constant S_ .f32 0x3F800000#32))
      (addf (broadcastInDim S8192x128 ![] bcast_S_S8192x128 (constant S_ .f32 0x3F800000#32)) (Host.exp (Host.negf (argX m c))))) bitsLt_bf16_f32 := by
    show StableHlo.after hostOps0 (fun b => m (c, b)) main_v6 = _
    after_results
  rw [e]
  funext i
  pointwise [Ideal.logistic]

theorem arr : (dats m 0 c).arrAt 2 cfg0.N = fun i => grad (argD m c i) (Ideal.logistic (argX m c i)) := by
  refine (dats m 0 c).arrAt_eq_of_covers 2 _ (by decide +kernel) fun t hf y => ?_
  blk_simp
  rw [after0_2]
  frame_out
  refine (?_ : _ = grad ((iblk m c 0 t : FVec Ideal S512x128 .f32) y) ((iblk m c 1 t : FVec Ideal S512x128 .bf16) y)).trans
    (congrArg₂ grad ?_ (Eq.trans ?_ (congrFun (host m c) _)))
  · pointwise [k0_pay1, grad]
  all_goals blk_ext [iblk, V, idx t]

end Cert.Kernel52Ideal.Mlp

namespace Cert.Mlp

theorem dsig : Cert.algebraic_Kernel52Ideal_Reference52Ideal := fun m g m' g' _ h =>
  ⟨_, Kernel52Ideal.Value.run_blocks m g, Keep.value (Reference52Ideal.Value.run m' g') fun c => by
    rw [Kernel52Ideal.Mlp.arr, (h c).1, (h c).2]
    funext i
    refine Eq.trans ?_ (mul_assoc (_ : EReal) _ _).symm
    pointwise [Ideal.logistic]⟩

end Cert.Mlp

end
-- ==== Proof.Conv.lean ====
/- The causal convolution. -/
module

public import proofs.«01_k».proof.Defs
public import proofs.«01_k».proof.Proof.Gen.Kernel53Ideal.Value
public import proofs.«01_k».proof.Proof.Gen.Reference53Ideal.Run
public import proofs.«01_k».proof.Proof.Keep
public import proofs.«01_k».proof.Proof.Dconvw
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Conv

/-- The convolution of the rows `u`: each row and the three before it, weighted, and the bias. -/
def conv (u : Rows) (w : FVec Ideal ⟨2, ![4, 1024]⟩ .f32) (e : FVec Ideal ⟨2, ![1, 1024]⟩ .f32) (n : Fin 8192) (j : Fin 1024) : EReal :=
  (((e (ix2 0 j) + u n j * w (ix2 3 j)) + down 3 u n j * w (ix2 0 j)) + down 2 u n j * w (ix2 1 j)) + down 1 u n j * w (ix2 2 j)

end Cert.Conv

namespace Cert.Kernel53Ideal.Mlp

open Cert.Kernel53Ideal.Gen Cert.Conv
open Cert.Kernel20Ideal.Mlp (kdown kdown_eq sel_of)

variable (m : (ℓ : Loc nD τ sig) → Buf (Elt Ideal) ℓ) (c : Dev nD)

theorem idx : ∀ t : Fin cfg0.N, win0_0.index t = ![t.val, 1] ∧ win0_1.index t = ![0, 0] ∧ win0_2.index t = ![0, 0] ∧ win0_3.index t = ![0, 0]
    ∧ win0_4.index t = ![t.val * 64 - 1, 1] ∧ win0_5.index t = ![t.val, 0] :=
  (by decide +kernel : ∀ t : Fin grid0.N, _)

abbrev argP : FVec Ideal S8192x2048 .f32 := m ((c : Thread nD τ).loc main_arg0)
abbrev argb : FVec Ideal S1x1024 .f32 := m ((c : Thread nD τ).loc main_arg1)
abbrev argw : FVec Ideal S4x1024 .f32 := m ((c : Thread nD τ).loc main_arg2)
abbrev arge : FVec Ideal S1x1024 .f32 := m ((c : Thread nD τ).loc main_arg3)

/-- Eight rows, or zero where the bit is set. -/
def cleared (s : BitVec 1) (h : FVec Ideal S8x1024 .f32) : FVec Ideal S8x1024 .f32 := fun y => Scalar.select s (0 : EReal) (h y)

/-- The convolution on a block. -/
theorem pay3 (w : FVec Ideal S4x1024 .f32) (e : FVec Ideal S1x1024 .f32) (u : FVec Ideal S512x1024 .f32) (h : FVec Ideal S8x1024 .f32)
    (a c' : BitVec 32) (b : BitVec 1) (s : BitVec 1) (hs : s = Scalar.cmpi .eq (Scalar.select b c' a) 0#32) (y : S512x1024.Idx) :
    k0_pay3 (F := Ideal) w e u h a b c' y
      = (((e (ix2 0 (y 1)) + u y * w (ix2 3 (y 1))) + kdown 3 (cleared s h) u y * w (ix2 0 (y 1))) + kdown 2 (cleared s h) u y * w (ix2 1 (y 1)))
        + kdown 1 (cleared s h) u y * w (ix2 2 (y 1)) := by
  subst hs
  have hy := ValueIdx.idx2_lt0 y
  pointwise [k0_pay3]
  exact congrArg₂ (fun a b : EReal => a + b) (congrArg₂ (fun a b : EReal => a + b) (congrArg₂ (fun a b : EReal => a + b) rfl
    (congrArg (fun a : EReal => a * _) (kdown_eq 3 (by decide) (cleared _ h) u _ hy _))) (congrArg (fun a : EReal => a * _) (kdown_eq 2 (by decide) (cleared _ h) u _ hy _)))
    (congrArg (fun a : EReal => a * _) (kdown_eq 1 (by decide) (cleared _ h) u _ hy _))

variable (t : Fin cfg0.N)

/-- The rows before a block: zero where the block starts a sequence. -/
theorem halo (s : BitVec 1) (hs : s = if t.val % 4 = 0 then 1#1 else 0#1) (b : FVec Ideal S1x1024 .f32) (p : FVec Ideal S8x1024 .f32) (y : S8x1024.Idx) :
    cleared s (k0_pay2 (F := Ideal) (grid0.coords t) b p) y = if t.val % 4 = 0 then 0 else p y + b (ix2 0 (y 1)) := by
  refine (sel_of (t.val % 4 = 0) _ hs _ _).trans ?_
  by_cases h : t.val % 4 = 0
  · rw [if_pos h, if_pos h]
  · rw [if_neg h, if_neg h]
    pointwise [k0_pay2]
    refine congrArg (fun a : EReal => a + b (ix2 0 (y 1))) ((sel_of (t.val % 4 = 0) _ ?_ _ _).trans (if_neg h))
    clear h hs
    revert t
    change ∀ t : Fin grid0.N, _
    decide +kernel

abbrev blkP : FVec Ideal S8x1024 .f32 := iblk m c 4 t
abbrev blkb : FVec Ideal S1x1024 .f32 := iblk m c 1 t

theorem b_eq (j : Fin 1024) : (iblk m c 1 t : FVec Ideal S1x1024 .f32) (ix2 0 j) = argb m c (ix2 0 j) := by blk_ext [iblk, V, idx t]

theorem w_eq (r : Fin 4) (j : Fin 1024) : (iblk m c 2 t : FVec Ideal S4x1024 .f32) (ix2 r j) = argw m c (ix2 r j) := by blk_ext [iblk, V, idx t]

theorem e_eq (j : Fin 1024) : (iblk m c 3 t : FVec Ideal S1x1024 .f32) (ix2 0 j) = arge m c (ix2 0 j) := by blk_ext [iblk, V, idx t]

theorem u_eq (y : S512x1024.Idx) (n : Fin 8192) (hn : n.val = t.val * 512 + (y 0).val) :
    k0_pay1 (F := Ideal) (iblk m c 0 t) (iblk m c 1 t) y = us (argP m c) (argb m c) n (y 1) := by
  have e0 : (iblk m c 0 t : FVec Ideal S512x1024 .f32) y = argP m c (ix2 n ⟨1024 + (y 1).val, by have := ValueIdx.idx2_lt1 y; omega⟩) := by blk_ext [iblk, V, idx t]
  pointwise [k0_pay1]
  exact congrArg₂ (fun a b : EReal => a + b) e0 (b_eq m c t _)

theorem p_eq (y : S8x1024.Idx) (n : Fin 8192) (ht : 0 < t.val) (hn : n.val + 8 = t.val * 512 + (y 0).val) :
    blkP m c t y + blkb m c t (ix2 0 (y 1)) = us (argP m c) (argb m c) n (y 1) := by
  have e0 : (iblk m c 4 t : FVec Ideal S8x1024 .f32) y = argP m c (ix2 n ⟨1024 + (y 1).val, by have := ValueIdx.idx2_lt1 y; omega⟩) := by blk_ext [iblk, V, idx t]
  exact congrArg₂ (fun a b : EReal => a + b) e0 (b_eq m c t _)

theorem kd (k : ℕ) (hk : k = 1 ∨ k = 2 ∨ k = 3) (h : FVec Ideal S8x1024 .f32)
    (hh : ∀ y, h y = if t.val % 4 = 0 then 0 else blkP m c t y + blkb m c t (ix2 0 (y 1)))
    (y : S512x1024.Idx) (n : Fin 8192) (hn : n.val = t.val * 512 + (y 0).val) :
    kdown k h (k0_pay1 (F := Ideal) (iblk m c 0 t) (iblk m c 1 t)) y = down k (us (argP m c) (argb m c)) n (y 1) := by
  have hy := ValueIdx.idx2_lt0 y
  unfold kdown down
  by_cases h1 : (y 0).val < k
  · rw [if_pos h1, hh]
    by_cases h4 : t.val % 4 = 0
    · rw [if_pos h4, dif_neg (by omega)]
    · rw [if_neg h4, dif_pos (by omega)]
      refine p_eq m c t _ _ (by omega) ?_
      show n.val - k + 8 = t.val * 512 + ((y 0).val + 8 - k) % 8
      omega
  · rw [if_neg h1, dif_pos (by omega)]
    refine u_eq m c t _ _ ?_
    show n.val - k = t.val * 512 + ((y 0).val + 512 - k) % 512
    omega

theorem conv_eq (a c' : BitVec 32) (b : BitVec 1) (hs : Scalar.cmpi .eq (Scalar.select b c' a) 0#32 = if t.val % 4 = 0 then 1#1 else 0#1)
    (y : S512x1024.Idx) (n : Fin 8192) (hn : n.val = t.val * 512 + (y 0).val) (j : Fin 1024) (hj : j.val = (y 1).val) :
    k0_pay3 (F := Ideal) (iblk m c 2 t) (iblk m c 3 t) (k0_pay1 (iblk m c 0 t) (iblk m c 1 t)) (k0_pay2 (grid0.coords t) (iblk m c 1 t) (iblk m c 4 t)) a b c' y
      = conv (us (argP m c) (argb m c)) (argw m c) (arge m c) n j := by
  obtain rfl : j = y 1 := Fin.ext hj
  refine (pay3 _ _ _ _ _ _ _ _ rfl y).trans ?_
  have k (k : ℕ) (hk : k = 1 ∨ k = 2 ∨ k = 3) (r : Fin 4) := congrArg₂ (fun a b : EReal => a * b) (kd m c t k hk _ (halo t _ hs _ _) y n hn) (w_eq m c t r (y 1))
  exact congrArg₂ (fun a b : EReal => a + b) (congrArg₂ (fun a b : EReal => a + b) (congrArg₂ (fun a b : EReal => a + b) (congrArg₂ (fun a b : EReal => a + b) (e_eq m c t (y 1))
    (congrArg₂ (fun a b : EReal => a * b) (u_eq m c t y n hn) (w_eq m c t 3 (y 1)))) (k 3 (by decide) 0)) (k 2 (by decide) 1)) (k 1 (by decide) 2)

theorem arr : (dats m 0 c).arrAt 5 cfg0.N = fun i : S8192x1024.Idx => conv (us (argP m c) (argb m c)) (argw m c) (arge m c) (i 0) (i 1) := by
  refine (dats m 0 c).arrAt_eq_of_covers 5 _ (by decide +kernel) fun t hf y => ?_
  blk_simp
  rw [after0_5]
  frame_out
  refine conv_eq m c t _ _ _ ?_ y _ ?_ _ ?_
  · clear hf y
    revert t
    change ∀ t : Fin grid0.N, _
    decide +kernel
  all_goals blk_ext [idx t]

end Cert.Kernel53Ideal.Mlp

namespace Cert.Reference53Ideal.Mlp

open Cert.Reference53Ideal.Gen Cert.Conv
open Cert.Reference20Ideal.Mlp (seqs)

/-- The convolution as the reference forms it, the four shifted copies named. -/
theorem value (f : Rows) (w : FVec Ideal S4x1024 .f32) (e : FVec Ideal S1x1024 .f32) (g0 g1 g2 g3 : FVec Ideal S4x2048x1024 .f32)
    (h0 : g0 = seqs (down 3 f)) (h1 : g1 = seqs (down 2 f)) (h2 : g2 = seqs (down 1 f)) (h3 : g3 = seqs f) :
    (shapeCast S8192x1024 (addf (addf (addf (addf (broadcastInDim S4x2048x1024 ![0, 1, 2] bcast_S1x1x1024_S4x2048x1024_0_1_2 (broadcastInDim S1x1x1024 ![2] bcast_S1024_S1x1x1024_2 (shapeCast S1024 e shapeCasts_S1x1024_S1024)))
      (mulf g0 (broadcastInDim S4x2048x1024 ![0, 1, 2] bcast_S1x1x1024_S4x2048x1024_0_1_2 (broadcastInDim S1x1x1024 ![2] bcast_S1024_S1x1x1024_2 (shapeCast S1024 (extractStridedSlice S1x1024 ![0, 0] w slices_S4x1024_S1x1024_0_0) shapeCasts_S1x1024_S1024)))))
      (mulf g1 (broadcastInDim S4x2048x1024 ![0, 1, 2] bcast_S1x1x1024_S4x2048x1024_0_1_2 (broadcastInDim S1x1x1024 ![2] bcast_S1024_S1x1x1024_2 (shapeCast S1024 (extractStridedSlice S1x1024 ![1, 0] w slices_S4x1024_S1x1024_1_0) shapeCasts_S1x1024_S1024)))))
      (mulf g2 (broadcastInDim S4x2048x1024 ![0, 1, 2] bcast_S1x1x1024_S4x2048x1024_0_1_2 (broadcastInDim S1x1x1024 ![2] bcast_S1024_S1x1x1024_2 (shapeCast S1024 (extractStridedSlice S1x1024 ![2, 0] w slices_S4x1024_S1x1024_2_0) shapeCasts_S1x1024_S1024)))))
      (mulf g3 (broadcastInDim S4x2048x1024 ![0, 1, 2] bcast_S1x1x1024_S4x2048x1024_0_1_2 (broadcastInDim S1x1x1024 ![2] bcast_S1024_S1x1x1024_2 (shapeCast S1024 (extractStridedSlice S1x1024 ![3, 0] w slices_S4x1024_S1x1024_3_0) shapeCasts_S1x1024_S1024)))))
      shapeCasts_S4x2048x1024_S8192x1024 : FVec Ideal S8192x1024 .f32) = fun i => conv f w e (i 0) (i 1) := by
  subst h0 h1 h2 h3
  funext i
  have hi : (i 0).val < 8192 := ValueIdx.idx2_lt0 i
  have r (T : Rows) (n : Fin 8192) (hn : n.val = (i 0).val) : T n (i 1) = T (i 0) (i 1) := congrArg (fun n => T n (i 1)) (Fin.ext hn)
  pointwise [seqs]
  unfold conv
  have hd : (i 0).val / 2048 * 2048 + (i 0).val % 2048 = (i 0).val := by omega
  rw [r (down 3 f) _ hd, r (down 2 f) _ hd, r (down 1 f) _ hd, r f _ hd]
  abel

end Cert.Reference53Ideal.Mlp

namespace Cert.Mlp

theorem conv : Cert.algebraic_Kernel53Ideal_Reference53Ideal := fun m g m' g' _ h =>
  ⟨_, Kernel53Ideal.Value.run_blocks m g, Keep.value (Reference53Ideal.Value.run m' g') fun c => by
    unfold Reference53Ideal.Value.res_main_v42
    rw [Kernel53Ideal.Mlp.arr, (h c).1, (h c).2.1, (h c).2.2.1, (h c).2.2.2]
    exact Reference53Ideal.Mlp.value _ _ _ _ _ _ _
      (Reference20Ideal.Mlp.value_win0 _ _ (Reference20Ideal.Mlp.value_u _ _))
      (Reference20Ideal.Mlp.value_win1 _ _ (Reference20Ideal.Mlp.value_u _ _))
      (Reference20Ideal.Mlp.value_win2 _ _ (Reference20Ideal.Mlp.value_u _ _))
      (Reference20Ideal.Mlp.value_win3 _ _ (Reference20Ideal.Mlp.value_u _ _))⟩

end Cert.Mlp

end
-- ==== Proof.lean ====
/- The claims assembled: the frames and the runs come from the generated modules, the values from `Attn`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Kernel20
public import proofs.«01_k».proof.Proof.Gen.Kernel20.Frame
public import proofs.«01_k».proof.Kernel20Ideal
public import proofs.«01_k».proof.Proof.Gen.Kernel20Ideal.Frame
public import proofs.«01_k».proof.Proof.Gen.Reference20Ideal.Run
public import proofs.«01_k».proof.Kernel21
public import proofs.«01_k».proof.Proof.Gen.Kernel21.Frame
public import proofs.«01_k».proof.Kernel21Ideal
public import proofs.«01_k».proof.Proof.Gen.Kernel21Ideal.Frame
public import proofs.«01_k».proof.Proof.Gen.Reference21Ideal.Run
public import proofs.«01_k».proof.Kernel22
public import proofs.«01_k».proof.Proof.Gen.Kernel22.Frame
public import proofs.«01_k».proof.Kernel22Ideal
public import proofs.«01_k».proof.Proof.Gen.Kernel22Ideal.Frame
public import proofs.«01_k».proof.Proof.Gen.Reference22Ideal.Run
public import proofs.«01_k».proof.Kernel23
public import proofs.«01_k».proof.Proof.Gen.Kernel23.Frame
public import proofs.«01_k».proof.Kernel23Ideal
public import proofs.«01_k».proof.Proof.Gen.Kernel23Ideal.Frame
public import proofs.«01_k».proof.Proof.Gen.Reference23Ideal.Run
public import proofs.«01_k».proof.Proof.Attn
public import proofs.«01_k».proof.Proof.Dup
public import proofs.«01_k».proof.Proof.Dwdown
public import proofs.«01_k».proof.Proof.Dwup
public import proofs.«01_k».proof.Proof.Dhn
public import proofs.«01_k».proof.Proof.Up
public import proofs.«01_k».proof.Proof.Down
public import proofs.«01_k».proof.Proof.Dw
public import proofs.«01_k».proof.Proof.Dx
public import proofs.«01_k».proof.Proof.Do
public import proofs.«01_k».proof.Proof.Dproj
public import proofs.«01_k».proof.Proof.Dwin
public import proofs.«01_k».proof.Proof.Q
public import proofs.«01_k».proof.Proof.O
public import proofs.«01_k».proof.Proof.In
public import proofs.«01_k».proof.Proof.Dconv
public import proofs.«01_k».proof.Proof.Dwgate
public import proofs.«01_k».proof.Proof.Gate
public import proofs.«01_k».proof.Proof.AttnFwd
public import proofs.«01_k».proof.Proof.Dconvw
public import proofs.«01_k».proof.Proof.Dnorm
public import proofs.«01_k».proof.Proof.Scan
public import proofs.«01_k».proof.Proof.Mem
public import proofs.«01_k».proof.Proof.Dnorms
public import proofs.«01_k».proof.Proof.Lora
public import proofs.«01_k».proof.Proof.Lorag
public import proofs.«01_k».proof.Proof.Loraf
public import proofs.«01_k».proof.Proof.Fnorm
public import proofs.«01_k».proof.Proof.Point
public import proofs.«01_k».proof.Proof.Head
public import proofs.«01_k».proof.Proof.Memgrad
public import proofs.«01_k».proof.Proof.Dres
public import proofs.«01_k».proof.Proof.Dsig
public import proofs.«01_k».proof.Proof.Conv
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Reference27Ideal
public import proofs.«01_k».proof.Proof.Gen.Reference27Ideal.Run
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Kernel38
public import proofs.«01_k».proof.Proof.Gen.Kernel38.Frame
public import proofs.«01_k».proof.Proof.Gen.Kernel38Ideal
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Kernel39
public import proofs.«01_k».proof.Proof.Gen.Kernel39.Frame
public import proofs.«01_k».proof.Proof.Gen.Kernel39Ideal
public import proofs.«01_k».proof.Proof.Gen.Kernel39Ideal.Frame
public import proofs.«01_k».proof.Proof.Gen.Kernel39Ideal.Value
public import proofs.«01_k».proof.Proof.Gen.Reference39Ideal
public import proofs.«01_k».proof.Proof.Gen.Reference39Ideal.Run
public import proofs.«01_k».proof.Proof.Gen.Kernel40
public import proofs.«01_k».proof.Proof.Gen.Kernel40.Frame
public import proofs.«01_k».proof.Proof.Gen.Kernel40Ideal
public import proofs.«01_k».proof.Proof.Gen.Kernel40Ideal.Frame
public import proofs.«01_k».proof.Proof.Gen.Kernel40Ideal.Value
public import proofs.«01_k».proof.Proof.Gen.Reference40Ideal
public import proofs.«01_k».proof.Proof.Gen.Reference40Ideal.Run
public import proofs.«01_k».proof.Proof.Gen.Kernel41
public import proofs.«01_k».proof.Proof.Gen.Kernel41.Frame
public import proofs.«01_k».proof.Proof.Gen.Kernel41Ideal
public import proofs.«01_k».proof.Proof.Gen.Kernel41Ideal.Frame
public import proofs.«01_k».proof.Proof.Gen.Kernel41Ideal.Value
public import proofs.«01_k».proof.Proof.Gen.Reference41Ideal
public import proofs.«01_k».proof.Proof.Gen.Reference41Ideal.Run
public import proofs.«01_k».proof.Proof.Gen.Kernel42
public import proofs.«01_k».proof.Proof.Gen.Kernel42.Frame
public import proofs.«01_k».proof.Proof.Gen.Kernel42Ideal
public import proofs.«01_k».proof.Proof.Gen.Kernel42Ideal.Frame
public import proofs.«01_k».proof.Proof.Gen.Kernel42Ideal.Value
public import proofs.«01_k».proof.Proof.Gen.Reference42Ideal
public import proofs.«01_k».proof.Proof.Gen.Reference42Ideal.Run
public import proofs.«01_k».proof.Proof.Gen.Kernel43
public import proofs.«01_k».proof.Proof.Gen.Kernel43.Frame
public import proofs.«01_k».proof.Proof.Gen.Kernel43Ideal
public import proofs.«01_k».proof.Proof.Gen.Kernel43Ideal.Frame
public import proofs.«01_k».proof.Proof.Gen.Kernel43Ideal.Value
public import proofs.«01_k».proof.Proof.Gen.Reference43Ideal
public import proofs.«01_k».proof.Proof.Gen.Reference43Ideal.Run
public import proofs.«01_k».proof.Proof.Gen.Kernel44
public import proofs.«01_k».proof.Proof.Gen.Kernel44.Frame
public import proofs.«01_k».proof.Proof.Gen.Kernel44Ideal
public import proofs.«01_k».proof.Proof.Gen.Kernel44Ideal.Frame
public import proofs.«01_k».proof.Proof.Gen.Kernel44Ideal.Value
public import proofs.«01_k».proof.Proof.Gen.Reference44Ideal
public import proofs.«01_k».proof.Proof.Gen.Reference44Ideal.Run
public import proofs.«01_k».proof.Proof.Gen.Kernel45
public import proofs.«01_k».proof.Proof.Gen.Kernel45.Frame
public import proofs.«01_k».proof.Proof.Gen.Kernel45Ideal
public import proofs.«01_k».proof.Proof.Gen.Kernel45Ideal.Frame
public import proofs.«01_k».proof.Proof.Gen.Kernel45Ideal.Value
public import proofs.«01_k».proof.Proof.Gen.Reference45Ideal
public import proofs.«01_k».proof.Proof.Gen.Reference45Ideal.Run
public import proofs.«01_k».proof.Proof.Gen.Kernel46
public import proofs.«01_k».proof.Proof.Gen.Kernel46.Frame
public import proofs.«01_k».proof.Proof.Gen.Kernel46Ideal
public import proofs.«01_k».proof.Proof.Gen.Kernel46Ideal.Frame
public import proofs.«01_k».proof.Proof.Gen.Kernel46Ideal.Value
public import proofs.«01_k».proof.Proof.Gen.Reference46Ideal
public import proofs.«01_k».proof.Proof.Gen.Reference46Ideal.Run
public import proofs.«01_k».proof.Proof.Gen.Kernel47
public import proofs.«01_k».proof.Proof.Gen.Kernel47.Frame
public import proofs.«01_k».proof.Proof.Gen.Kernel47Ideal
public import proofs.«01_k».proof.Proof.Gen.Kernel47Ideal.Frame
public import proofs.«01_k».proof.Proof.Gen.Kernel47Ideal.Value
public import proofs.«01_k».proof.Proof.Gen.Reference47Ideal
public import proofs.«01_k».proof.Proof.Gen.Reference47Ideal.Run
public import proofs.«01_k».proof.Proof.Gen.Kernel48
public import proofs.«01_k».proof.Proof.Gen.Kernel48.Frame
public import proofs.«01_k».proof.Proof.Gen.Kernel48Ideal
public import proofs.«01_k».proof.Proof.Gen.Kernel48Ideal.Frame
public import proofs.«01_k».proof.Proof.Gen.Kernel48Ideal.Value
public import proofs.«01_k».proof.Proof.Gen.Reference48Ideal
public import proofs.«01_k».proof.Proof.Gen.Reference48Ideal.Run
public import proofs.«01_k».proof.Proof.Gen.Kernel49
public import proofs.«01_k».proof.Proof.Gen.Kernel49.Frame
public import proofs.«01_k».proof.Proof.Gen.Kernel49Ideal
public import proofs.«01_k».proof.Proof.Gen.Kernel49Ideal.Frame
public import proofs.«01_k».proof.Proof.Gen.Reference49Ideal
public import proofs.«01_k».proof.Proof.Gen.Reference49Ideal.Run
public import proofs.«01_k».proof.Proof.Gen.Kernel50
public import proofs.«01_k».proof.Proof.Gen.Kernel50.Frame
public import proofs.«01_k».proof.Proof.Gen.Kernel50Ideal
public import proofs.«01_k».proof.Proof.Gen.Kernel50Ideal.Frame
public import proofs.«01_k».proof.Proof.Gen.Reference50Ideal
public import proofs.«01_k».proof.Proof.Gen.Reference50Ideal.Run
public import proofs.«01_k».proof.Proof.Gen.Kernel51
public import proofs.«01_k».proof.Proof.Gen.Kernel51.Frame
public import proofs.«01_k».proof.Proof.Gen.Kernel51Ideal
public import proofs.«01_k».proof.Proof.Gen.Kernel51Ideal.Frame
public import proofs.«01_k».proof.Proof.Gen.Reference51Ideal
public import proofs.«01_k».proof.Proof.Gen.Reference51Ideal.Run
public import proofs.«01_k».proof.Proof.Gen.Kernel52
public import proofs.«01_k».proof.Proof.Gen.Kernel52.Frame
public import proofs.«01_k».proof.Proof.Gen.Kernel52Ideal
public import proofs.«01_k».proof.Proof.Gen.Kernel52Ideal.Frame
public import proofs.«01_k».proof.Proof.Gen.Kernel52Ideal.Value
public import proofs.«01_k».proof.Proof.Gen.Reference52Ideal
public import proofs.«01_k».proof.Proof.Gen.Reference52Ideal.Run
public import proofs.«01_k».proof.Proof.Gen.Kernel53
public import proofs.«01_k».proof.Proof.Gen.Kernel53.Frame
public import proofs.«01_k».proof.Proof.Gen.Kernel53Ideal
public import proofs.«01_k».proof.Proof.Gen.Kernel53Ideal.Frame
public import proofs.«01_k».proof.Proof.Gen.Kernel53Ideal.Value
public import proofs.«01_k».proof.Proof.Gen.Reference53Ideal
public import proofs.«01_k».proof.Proof.Gen.Reference53Ideal.Run
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Kernel41.Gen.facts, Cert.Kernel41Ideal.Gen.facts, Cert.Reference41Ideal.Gen.facts,
  Cert.Kernel42.Gen.facts, Cert.Kernel42Ideal.Gen.facts, Cert.Reference42Ideal.Gen.facts,
  Cert.Kernel43.Gen.facts, Cert.Kernel43Ideal.Gen.facts, Cert.Reference43Ideal.Gen.facts,
  Cert.Kernel44.Gen.facts, Cert.Kernel44Ideal.Gen.facts, Cert.Reference44Ideal.Gen.facts,
  Cert.Kernel45.Gen.facts, Cert.Kernel45Ideal.Gen.facts, Cert.Reference45Ideal.Gen.facts,
  Cert.Kernel46.Gen.facts, Cert.Kernel46Ideal.Gen.facts, Cert.Reference46Ideal.Gen.facts,
  Cert.Kernel47.Gen.facts, Cert.Kernel47Ideal.Gen.facts, Cert.Reference47Ideal.Gen.facts,
  Cert.Kernel48.Gen.facts, Cert.Kernel48Ideal.Gen.facts, Cert.Reference48Ideal.Gen.facts,
  Cert.Kernel49.Gen.facts, Cert.Kernel49Ideal.Gen.facts, Cert.Reference49Ideal.Gen.facts,
  Cert.Kernel50.Gen.facts, Cert.Kernel50Ideal.Gen.facts, Cert.Reference50Ideal.Gen.facts,
  Cert.Kernel51.Gen.facts, Cert.Kernel51Ideal.Gen.facts, Cert.Reference51Ideal.Gen.facts,
  Cert.Kernel52.Gen.facts, Cert.Kernel52Ideal.Gen.facts, Cert.Reference52Ideal.Gen.facts,
  Cert.Kernel53.Gen.facts, Cert.Kernel53Ideal.Gen.facts, Cert.Reference53Ideal.Gen.facts,
  Cert.Pre_finite_qk.Attn.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Attn.frame m ρ,
  fun m ρ _ => Cert.ReferenceIdeal.Attn.frame m ρ,
  fun m ρ _ => Cert.Kernel2.Gen.frame m ρ, fun m ρ _ => Cert.Kernel2Ideal.Gen.frame m ρ, fun m ρ _ => Cert.Reference2Ideal.Mlp.frame m ρ,
  fun m ρ _ => Cert.Kernel3.Gen.frame m ρ, fun m ρ _ => Cert.Kernel3Ideal.Gen.frame m ρ, fun m ρ _ => Cert.Reference3Ideal.Mlp.frame m ρ,
  fun m ρ _ => Cert.Kernel4.Gen.frame m ρ, fun m ρ _ => Cert.Kernel4Ideal.Gen.frame m ρ, fun m ρ _ => Cert.Reference4Ideal.Mlp.frame m ρ,
  fun m ρ _ => Cert.Kernel5.Gen.frame m ρ, fun m ρ _ => Cert.Kernel5Ideal.Gen.frame m ρ, fun m ρ _ => Cert.Reference5Ideal.Mlp.frame m ρ,
  fun m ρ _ => Cert.Kernel6.Gen.frame m ρ, fun m ρ _ => Cert.Kernel6Ideal.Gen.frame m ρ, fun m ρ _ => Cert.Reference6Ideal.Mlp.frame m ρ,
  fun m ρ _ => Cert.Kernel7.Gen.frame m ρ, fun m ρ _ => Cert.Kernel7Ideal.Gen.frame m ρ, fun m ρ _ => Cert.Reference7Ideal.Mlp.frame m ρ,
  fun m ρ _ => Cert.Kernel8.Gen.frame m ρ, fun m ρ _ => Cert.Kernel8Ideal.Gen.frame m ρ, fun m ρ _ => Cert.Reference8Ideal.Mlp.frame m ρ,
  fun m ρ _ => Cert.Kernel9.Gen.frame m ρ, fun m ρ _ => Cert.Kernel9Ideal.Gen.frame m ρ, fun m ρ _ => Cert.Reference9Ideal.Mlp.frame m ρ,
  fun m ρ _ => Cert.Kernel10.Gen.frame m ρ, fun m ρ _ => Cert.Kernel10Ideal.Gen.frame m ρ, fun m ρ _ => Cert.Reference10Ideal.Mlp.frame m ρ,
  fun m ρ _ => Cert.Kernel11.Gen.frame m ρ, fun m ρ _ => Cert.Kernel11Ideal.Gen.frame m ρ, fun m ρ _ => Cert.Reference11Ideal.Mlp.frame m ρ,
  fun m ρ _ => Cert.Kernel12.Gen.frame m ρ, fun m ρ _ => Cert.Kernel12Ideal.Gen.frame m ρ, fun m ρ _ => Cert.Reference12Ideal.Mlp.frame m ρ,
  fun m ρ _ => Cert.Kernel13.Gen.frame m ρ, fun m ρ _ => Cert.Kernel13Ideal.Gen.frame m ρ, fun m ρ _ => Cert.Reference13Ideal.Mlp.frame m ρ,
  fun m ρ _ => Cert.Kernel14.Gen.frame m ρ, fun m ρ _ => Cert.Kernel14Ideal.Gen.frame m ρ, fun m ρ _ => Cert.Reference14Ideal.Mlp.frame m ρ,
  fun m ρ _ => Cert.Kernel15.Gen.frame m ρ, fun m ρ _ => Cert.Kernel15Ideal.Gen.frame m ρ, fun m ρ _ => Cert.Reference15Ideal.Mlp.frame m ρ,
  fun m ρ _ => Cert.Kernel16.Gen.frame m ρ, fun m ρ _ => Cert.Kernel16Ideal.Gen.frame m ρ, fun m ρ _ => Cert.Reference16Ideal.Mlp.frame m ρ,
  fun m ρ _ => Cert.Kernel17.Gen.frame m ρ, fun m ρ _ => Cert.Kernel17Ideal.Gen.frame m ρ, fun m ρ _ => Cert.Reference17Ideal.Mlp.frame m ρ,
  fun m ρ _ => Cert.Kernel18.Gen.frame m ρ, fun m ρ _ => Cert.Kernel18Ideal.Gen.frame m ρ, fun m ρ _ => Cert.Reference18Ideal.Mlp.frame m ρ,
  fun m ρ _ => Cert.Kernel19.Gen.frame m ρ, fun m ρ _ => Cert.Kernel19Ideal.Gen.frame m ρ, fun m ρ _ => Cert.Reference19Ideal.Mlp.frame m ρ,
  fun m ρ _ => Cert.Kernel20.Gen.frame m ρ, fun m ρ _ => Cert.Kernel20Ideal.Gen.frame m ρ, fun m ρ _ => Cert.Reference20Ideal.Mlp.frame m ρ,
  fun m ρ _ => Cert.Kernel21.Gen.frame m ρ, fun m ρ _ => Cert.Kernel21Ideal.Gen.frame m ρ, fun m ρ _ => Cert.Reference21Ideal.Mlp.frame m ρ,
  fun m ρ _ => Cert.Kernel22.Scan.frame m ρ, fun m ρ _ => Cert.Kernel22Ideal.Scan.frame m ρ, fun m ρ _ => Cert.Reference22Ideal.Scan.frame m ρ,
  fun m ρ _ => Cert.Kernel23.Scan.frame m ρ, fun m ρ _ => Cert.Kernel23Ideal.Scan.frame m ρ, fun m ρ _ => Cert.Reference23Ideal.Scan.frame m ρ,
  fun m ρ _ => Cert.Kernel24.Gen.frame m ρ, fun m ρ _ => Cert.Kernel24Ideal.Gen.frame m ρ, fun m ρ _ => Cert.Reference24Ideal.Mlp.frame m ρ,
  fun m ρ _ => Cert.Kernel25.Gen.frame m ρ, fun m ρ _ => Cert.Kernel25Ideal.Gen.frame m ρ, fun m ρ _ => Cert.Reference25Ideal.Mlp.frame m ρ,
  fun m ρ _ => Cert.Kernel26.Gen.frame m ρ, fun m ρ _ => Cert.Kernel26Ideal.Gen.frame m ρ, fun m ρ _ => Cert.Reference26Ideal.Mlp.frame m ρ,
  fun m ρ _ => Cert.Kernel27.Gen.frame m ρ, fun m ρ _ => Cert.Kernel27Ideal.Gen.frame m ρ, fun m ρ _ => Cert.Reference27Ideal.Mlp.frame m ρ,
  fun m ρ _ => Cert.Kernel28.Gen.frame m ρ, fun m ρ _ => Cert.Kernel28Ideal.Gen.frame m ρ, fun m ρ _ => Cert.Keep.frame rfl (Cert.Reference28Ideal.Value.run m ρ),
  fun m ρ _ => Cert.Kernel29.Gen.frame m ρ, fun m ρ _ => Cert.Kernel29Ideal.Gen.frame m ρ, fun m ρ _ => Cert.Keep.frame rfl (Cert.Reference29Ideal.Value.run m ρ),
  fun m ρ _ => Cert.Kernel30.Gen.frame m ρ, fun m ρ _ => Cert.Kernel30Ideal.Gen.frame m ρ, fun m ρ _ => Cert.Keep.frame rfl (Cert.Reference30Ideal.Value.run m ρ),
  fun m ρ _ => Cert.Kernel31.Gen.frame m ρ, fun m ρ _ => Cert.Kernel31Ideal.Gen.frame m ρ, fun m ρ _ => Cert.Keep.frame rfl (Cert.Reference31Ideal.Value.run m ρ),
  fun m ρ _ => Cert.Kernel32.Gen.frame m ρ, fun m ρ _ => Cert.Kernel32Ideal.Gen.frame m ρ, fun m ρ _ => Cert.Keep.frame rfl (Cert.Reference32Ideal.Value.run m ρ),
  fun m ρ _ => Cert.Kernel33.Gen.frame m ρ, fun m ρ _ => Cert.Kernel33Ideal.Gen.frame m ρ, fun m ρ _ => Cert.Keep.frame rfl (Cert.Reference33Ideal.Value.run m ρ),
  fun m ρ _ => Cert.Kernel34.Gen.frame m ρ, fun m ρ _ => Cert.Kernel34Ideal.Gen.frame m ρ, fun m ρ _ => Cert.Keep.frame rfl (Cert.Reference34Ideal.Value.run m ρ),
  fun m ρ _ => Cert.Kernel35.Gen.frame m ρ, fun m ρ _ => Cert.Kernel35Ideal.Gen.frame m ρ, fun m ρ _ => Cert.Keep.frame rfl (Cert.Reference35Ideal.Value.run m ρ),
  fun m ρ _ => Cert.Kernel36.Gen.frame m ρ, fun m ρ _ => Cert.Kernel36Ideal.Gen.frame m ρ, fun m ρ _ => Cert.Keep.frame rfl (Cert.Reference36Ideal.Value.run m ρ),
  fun m ρ _ => Cert.Kernel37.Gen.frame m ρ, fun m ρ _ => Cert.Kernel37Ideal.Gen.frame m ρ, fun m ρ _ => Cert.Keep.frame rfl (Cert.Reference37Ideal.Value.run m ρ),
  fun m ρ _ => Cert.Kernel38.Gen.frame m ρ, fun m ρ _ => Cert.Kernel38Ideal.Gen.frame m ρ, fun m ρ _ => Cert.Keep.frame rfl (Cert.Reference38Ideal.Value.run m ρ),
  fun m ρ _ => Cert.Kernel39.Gen.frame m ρ, fun m ρ _ => Cert.Kernel39Ideal.Gen.frame m ρ, fun m ρ _ => Cert.Keep.frame rfl (Cert.Reference39Ideal.Value.run m ρ),
  fun m ρ _ => Cert.Kernel40.Gen.frame m ρ, fun m ρ _ => Cert.Kernel40Ideal.Gen.frame m ρ, fun m ρ _ => Cert.Keep.frame rfl (Cert.Reference40Ideal.Value.run m ρ),
  fun m ρ _ => Cert.Kernel41.Gen.frame m ρ, fun m ρ _ => Cert.Kernel41Ideal.Gen.frame m ρ, fun m ρ _ => Cert.Keep.frame rfl (Cert.Reference41Ideal.Value.run m ρ),
  fun m ρ _ => Cert.Kernel42.Gen.frame m ρ, fun m ρ _ => Cert.Kernel42Ideal.Gen.frame m ρ, fun m ρ _ => Cert.Keep.frame₂ rfl (Cert.Reference42Ideal.Value.run m ρ),
  fun m ρ _ => Cert.Kernel43.Gen.frame m ρ, fun m ρ _ => Cert.Kernel43Ideal.Gen.frame m ρ, fun m ρ _ => Cert.Keep.frame₂ rfl (Cert.Reference43Ideal.Value.run m ρ),
  fun m ρ _ => Cert.Kernel44.Gen.frame m ρ, fun m ρ _ => Cert.Kernel44Ideal.Gen.frame m ρ, fun m ρ _ => Cert.Keep.frame rfl (Cert.Reference44Ideal.Value.run m ρ),
  fun m ρ _ => Cert.Kernel45.Gen.frame m ρ, fun m ρ _ => Cert.Kernel45Ideal.Gen.frame m ρ, fun m ρ _ => Cert.Keep.frame rfl (Cert.Reference45Ideal.Value.run m ρ),
  fun m ρ _ => Cert.Kernel46.Gen.frame m ρ, fun m ρ _ => Cert.Kernel46Ideal.Gen.frame m ρ, fun m ρ _ => Cert.Keep.frame rfl (Cert.Reference46Ideal.Value.run m ρ),
  fun m ρ _ => Cert.Kernel47.Gen.frame m ρ, fun m ρ _ => Cert.Kernel47Ideal.Gen.frame m ρ, fun m ρ _ => Cert.Keep.frame rfl (Cert.Reference47Ideal.Value.run m ρ),
  fun m ρ _ => Cert.Kernel48.Gen.frame m ρ, fun m ρ _ => Cert.Kernel48Ideal.Gen.frame m ρ, fun m ρ _ => Cert.Keep.frame rfl (Cert.Reference48Ideal.Value.run m ρ),
  fun m ρ _ => Cert.Kernel49.Gen.frame m ρ, fun m ρ _ => Cert.Kernel49Ideal.Gen.frame m ρ, fun m ρ _ => Cert.Keep.frame₂ rfl (Cert.Reference49Ideal.Value.run m ρ),
  fun m ρ _ => Cert.Kernel50.Gen.frame m ρ, fun m ρ _ => Cert.Kernel50Ideal.Gen.frame m ρ, fun m ρ _ => Cert.Keep.frame rfl (Cert.Reference50Ideal.Value.run m ρ),
  fun m ρ _ => Cert.Kernel51.Gen.frame m ρ, fun m ρ _ => Cert.Kernel51Ideal.Gen.frame m ρ, fun m ρ _ => Cert.Keep.frame₃ rfl (Cert.Reference51Ideal.Value.run m ρ),
  fun m ρ _ => Cert.Kernel52.Gen.frame m ρ, fun m ρ _ => Cert.Kernel52Ideal.Gen.frame m ρ, fun m ρ _ => Cert.Keep.frame rfl (Cert.Reference52Ideal.Value.run m ρ),
  fun m ρ _ => Cert.Kernel53.Gen.frame m ρ, fun m ρ _ => Cert.Kernel53Ideal.Gen.frame m ρ, fun m ρ _ => Cert.Keep.frame rfl (Cert.Reference53Ideal.Value.run m ρ),
  trivial, Cert.Attn.algebraic,
  trivial, Cert.Mlp.dup,
  trivial, Cert.Mlp.dwdown,
  trivial, Cert.Mlp.dwup,
  trivial, Cert.Mlp.dhn,
  trivial, Cert.Mlp.up,
  trivial, Cert.Mlp.down,
  trivial, Cert.Mlp.dw,
  trivial, Cert.Mlp.dx,
  trivial, Cert.Mlp.dout,
  trivial, Cert.Mlp.dproj,
  trivial, Cert.Mlp.dwin,
  trivial, Cert.Mlp.q,
  trivial, Cert.Mlp.o,
  trivial, Cert.Mlp.inp,
  trivial, Cert.Mlp.dconv,
  trivial, Cert.Mlp.dwgate,
  trivial, Cert.Mlp.gate,
  trivial, Cert.Mlp.attn,
  trivial, Cert.Mlp.dconvw,
  trivial, Cert.Mlp.dnorm,
  trivial, Cert.Mlp.rscan,
  trivial, Cert.Mlp.scan,
  trivial, Cert.Mlp.kv,
  trivial, Cert.Mlp.dwkv,
  trivial, Cert.Mlp.dmem,
  trivial, Cert.Mlp.dnorms,
  trivial, Cert.Mlp.da2,
  trivial, Cert.Mlp.dla,
  trivial, Cert.Mlp.dth,
  trivial, Cert.Mlp.da1,
  trivial, Cert.Mlp.dxa,
  trivial, Cert.Mlp.dg2,
  trivial, Cert.Mlp.dsg,
  trivial, Cert.Mlp.dg1,
  trivial, Cert.Mlp.dxg,
  trivial, Cert.Mlp.w1,
  trivial, Cert.Mlp.a1,
  trivial, Cert.Mlp.w2,
  trivial, Cert.Mlp.g1,
  trivial, Cert.Mlp.g2,
  trivial, Cert.Mlp.res,
  trivial, Cert.Mlp.res_a,
  trivial, Cert.Mlp.res_m,
  trivial, Cert.Mlp.norm,
  trivial, Cert.Mlp.mem_norm,
  trivial, Cert.Mlp.tanh,
  trivial, Cert.Mlp.sig,
  trivial, Cert.Mlp.head,
  trivial, Cert.Mlp.mem_grad,
  trivial, Cert.Mlp.dres,
  trivial, Cert.Mlp.dsig,
  trivial, Cert.Mlp.conv⟩

end Cert.Proof

end
